-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9)
      ∧ r.2.mem ((c.tc : Thread Cert.Scan.nD Cert.Scan.τ).loc Cert.Scan.main_arg10) = m ((c.tc : Thread Cert.Scan.nD Cert.Scan.τ).loc Cert.Scan.main_arg10)
      ∧ r.2.mem ((c.tc : Thread Cert.Scan.nD Cert.Scan.τ).loc Cert.Scan.main_arg11) = m ((c.tc : Thread Cert.Scan.nD Cert.Scan.τ).loc Cert.Scan.main_arg11))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9)
      ∧ r.2.mem ((c.tc : Thread Cert.ScanRefIdeal.nD Cert.ScanRefIdeal.τ).loc Cert.ScanRefIdeal.main_arg10) = m ((c.tc : Thread Cert.ScanRefIdeal.nD Cert.ScanRefIdeal.τ).loc Cert.ScanRefIdeal.main_arg10)
      ∧ r.2.mem ((c.tc : Thread Cert.ScanRefIdeal.nD Cert.ScanRefIdeal.τ).loc Cert.ScanRefIdeal.main_arg11) = m ((c.tc : Thread Cert.ScanRefIdeal.nD Cert.ScanRefIdeal.τ).loc Cert.ScanRefIdeal.main_arg11))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5)
      ∧ r.2.mem ((c.tc : Thread Cert.FfnOutRefIdeal.nD Cert.FfnOutRefIdeal.τ).loc Cert.FfnOutRefIdeal.main_arg6) = m ((c.tc : Thread Cert.FfnOutRefIdeal.nD Cert.FfnOutRefIdeal.τ).loc Cert.FfnOutRefIdeal.main_arg6))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7)
      ∧ r.2.mem ((c.tc : Thread Cert.OddOut.nD Cert.OddOut.τ).loc Cert.OddOut.main_arg8) = m ((c.tc : Thread Cert.OddOut.nD Cert.OddOut.τ).loc Cert.OddOut.main_arg8))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
      ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7)
      ∧ r.2.mem ((c.tc : Thread Cert.OddOutRefIdeal.nD Cert.OddOutRefIdeal.τ).loc Cert.OddOutRefIdeal.main_arg8) = m ((c.tc : Thread Cert.OddOutRefIdeal.nD Cert.OddOutRefIdeal.τ).loc Cert.OddOutRefIdeal.main_arg8))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8))
      ∧ r.2.sem = fun _ => 0)

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)
      ∧ m' ((c.tc : Thread Cert.ScanRefIdeal.nD Cert.ScanRefIdeal.τ).loc Cert.ScanRefIdeal.main_arg10) = m ((c.tc : Thread Cert.ScanIdeal.nD Cert.ScanIdeal.τ).loc Cert.ScanIdeal.main_arg10)
      ∧ m' ((c.tc : Thread Cert.ScanRefIdeal.nD Cert.ScanRefIdeal.τ).loc Cert.ScanRefIdeal.main_arg11) = m ((c.tc : Thread Cert.ScanIdeal.nD Cert.ScanIdeal.τ).loc Cert.ScanIdeal.main_arg11)) →
    ∃ (v0 : (c : Dev Cert.ScanIdeal.nD) → Buf (Elt Ideal) ((c.tc : Thread Cert.ScanIdeal.nD Cert.ScanIdeal.τ).loc Cert.ScanIdeal.main_v75_0)) (v1 : (c : Dev Cert.ScanIdeal.nD) → Buf (Elt Ideal) ((c.tc : Thread Cert.ScanIdeal.nD Cert.ScanIdeal.τ).loc Cert.ScanIdeal.main_v75_1)) (v2 : (c : Dev Cert.ScanIdeal.nD) → Buf (Elt Ideal) ((c.tc : Thread Cert.ScanIdeal.nD Cert.ScanIdeal.τ).loc Cert.ScanIdeal.main_v75_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v75_0) = v0 c
          ∧ r.2.mem ((c.tc : Thread Cert.ScanIdeal.nD Cert.ScanIdeal.τ).loc Cert.ScanIdeal.main_v75_1) = v1 c
          ∧ r.2.mem ((c.tc : Thread Cert.ScanIdeal.nD Cert.ScanIdeal.τ).loc Cert.ScanIdeal.main_v75_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
          ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
          ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v48) = v0 c
          ∧ r.2.mem ((c.tc : Thread Cert.ScanRefIdeal.nD Cert.ScanRefIdeal.τ).loc Cert.ScanRefIdeal.main_v49) = v1 c
          ∧ r.2.mem ((c.tc : Thread Cert.ScanRefIdeal.nD Cert.ScanRefIdeal.τ).loc Cert.ScanRefIdeal.main_v50) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8)
          ∧ r.2.mem ((c.tc : Thread Cert.ScanRefIdeal.nD Cert.ScanRefIdeal.τ).loc Cert.ScanRefIdeal.main_arg9) = m' ((c.tc : Thread Cert.ScanRefIdeal.nD Cert.ScanRefIdeal.τ).loc Cert.ScanRefIdeal.main_arg9)
          ∧ r.2.mem ((c.tc : Thread Cert.ScanRefIdeal.nD Cert.ScanRefIdeal.τ).loc Cert.ScanRefIdeal.main_arg10) = m' ((c.tc : Thread Cert.ScanRefIdeal.nD Cert.ScanRefIdeal.τ).loc Cert.ScanRefIdeal.main_arg10)
          ∧ r.2.mem ((c.tc : Thread Cert.ScanRefIdeal.nD Cert.ScanRefIdeal.τ).loc Cert.ScanRefIdeal.main_arg11) = m' ((c.tc : Thread Cert.ScanRefIdeal.nD Cert.ScanRefIdeal.τ).loc Cert.ScanRefIdeal.main_arg11))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v8) = v0 c
          ∧ r.2.mem ((c.tc : Thread Cert.FfnInRefIdeal.nD Cert.FfnInRefIdeal.τ).loc Cert.FfnInRefIdeal.main_v17) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)
      ∧ m' ((c.tc : Thread Cert.FfnOutRefIdeal.nD Cert.FfnOutRefIdeal.τ).loc Cert.FfnOutRefIdeal.main_arg6) = m ((c.tc : Thread Cert.FfnOutIdeal.nD Cert.FfnOutIdeal.τ).loc Cert.FfnOutIdeal.main_arg6)) →
    ∃ (v0 : (c : Dev Cert.FfnOutIdeal.nD) → Buf (Elt Ideal) ((c.tc : Thread Cert.FfnOutIdeal.nD Cert.FfnOutIdeal.τ).loc Cert.FfnOutIdeal.main_v8_0)) (v1 : (c : Dev Cert.FfnOutIdeal.nD) → Buf (Elt Ideal) ((c.tc : Thread Cert.FfnOutIdeal.nD Cert.FfnOutIdeal.τ).loc Cert.FfnOutIdeal.main_v8_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v8_0) = v0 c
          ∧ r.2.mem ((c.tc : Thread Cert.FfnOutIdeal.nD Cert.FfnOutIdeal.τ).loc Cert.FfnOutIdeal.main_v8_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v14) = v0 c
          ∧ r.2.mem ((c.tc : Thread Cert.FfnOutRefIdeal.nD Cert.FfnOutRefIdeal.τ).loc Cert.FfnOutRefIdeal.main_v29) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5)
          ∧ r.2.mem ((c.tc : Thread Cert.FfnOutRefIdeal.nD Cert.FfnOutRefIdeal.τ).loc Cert.FfnOutRefIdeal.main_arg6) = m' ((c.tc : Thread Cert.FfnOutRefIdeal.nD Cert.FfnOutRefIdeal.τ).loc Cert.FfnOutRefIdeal.main_arg6))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v2_0)) (v1 : (c : Dev Cert.OddInIdeal.nD) → Buf (Elt Ideal) ((c.tc : Thread Cert.OddInIdeal.nD Cert.OddInIdeal.τ).loc Cert.OddInIdeal.main_v2_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2_0) = v0 c
          ∧ r.2.mem ((c.tc : Thread Cert.OddInIdeal.nD Cert.OddInIdeal.τ).loc Cert.OddInIdeal.main_v2_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v3) = v0 c
          ∧ r.2.mem ((c.tc : Thread Cert.OddInRefIdeal.nD Cert.OddInRefIdeal.τ).loc Cert.OddInRefIdeal.main_v7) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v0_0)) (v1 : (c : Dev Cert.EvenInIdeal.nD) → Buf (Elt Ideal) ((c.tc : Thread Cert.EvenInIdeal.nD Cert.EvenInIdeal.τ).loc Cert.EvenInIdeal.main_v0_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0_0) = v0 c
          ∧ r.2.mem ((c.tc : Thread Cert.EvenInIdeal.nD Cert.EvenInIdeal.τ).loc Cert.EvenInIdeal.main_v0_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v1) = v0 c
          ∧ r.2.mem ((c.tc : Thread Cert.EvenInRefIdeal.nD Cert.EvenInRefIdeal.τ).loc Cert.EvenInRefIdeal.main_v3) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)
      ∧ m' ((c.tc : Thread Cert.OddOutRefIdeal.nD Cert.OddOutRefIdeal.τ).loc Cert.OddOutRefIdeal.main_arg8) = m ((c.tc : Thread Cert.OddOutIdeal.nD Cert.OddOutIdeal.τ).loc Cert.OddOutIdeal.main_arg8)) →
    ∃ (v0 : (c : Dev Cert.OddOutIdeal.nD) → Buf (Elt Ideal) ((c.tc : Thread Cert.OddOutIdeal.nD Cert.OddOutIdeal.τ).loc Cert.OddOutIdeal.main_v8_0)) (v1 : (c : Dev Cert.OddOutIdeal.nD) → Buf (Elt Ideal) ((c.tc : Thread Cert.OddOutIdeal.nD Cert.OddOutIdeal.τ).loc Cert.OddOutIdeal.main_v8_1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v8_0) = v0 c
          ∧ r.2.mem ((c.tc : Thread Cert.OddOutIdeal.nD Cert.OddOutIdeal.τ).loc Cert.OddOutIdeal.main_v8_1) = v1 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
          ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v12) = v0 c
          ∧ r.2.mem ((c.tc : Thread Cert.OddOutRefIdeal.nD Cert.OddOutRefIdeal.τ).loc Cert.OddOutRefIdeal.main_v25) = v1 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7)
          ∧ r.2.mem ((c.tc : Thread Cert.OddOutRefIdeal.nD Cert.OddOutRefIdeal.τ).loc Cert.OddOutRefIdeal.main_arg8) = m' ((c.tc : Thread Cert.OddOutRefIdeal.nD Cert.OddOutRefIdeal.τ).loc Cert.OddOutRefIdeal.main_arg8))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)) →
    ∃ (v0 : (c : Dev Cert.EvenOutIdeal.nD) → Buf (Elt Ideal) ((c.tc : Thread Cert.EvenOutIdeal.nD Cert.EvenOutIdeal.τ).loc Cert.EvenOutIdeal.main_v8_0)) (v1 : (c : Dev Cert.EvenOutIdeal.nD) → Buf (Elt Ideal) ((c.tc : Thread Cert.EvenOutIdeal.nD Cert.EvenOutIdeal.τ).loc Cert.EvenOutIdeal.main_v8_1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v8_0) = v0 c
          ∧ r.2.mem ((c.tc : Thread Cert.EvenOutIdeal.nD Cert.EvenOutIdeal.τ).loc Cert.EvenOutIdeal.main_v8_1) = v1 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v11) = v0 c
          ∧ r.2.mem ((c.tc : Thread Cert.EvenOutRefIdeal.nD Cert.EvenOutRefIdeal.τ).loc Cert.EvenOutRefIdeal.main_v23) = v1 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8))

def Claim : Prop :=
  ∃ (hScan : Cert.Scan.Facts) (hScanIdeal : Cert.ScanIdeal.Facts) (hScanRefIdeal : Cert.ScanRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts),
    quiescent_Scan (hScan := hScan)
    ∧ quiescent_ScanIdeal (hScanIdeal := hScanIdeal)
    ∧ quiescent_ScanRefIdeal (hScanRefIdeal := hScanRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ preserves_Scan_ScanIdeal
    ∧ algebraic_ScanIdeal_ScanRefIdeal (hScanIdeal := hScanIdeal) (hScanRefIdeal := hScanRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
-- ==== Scan.lean ====
abbrev S4x4096x8960 : Shape := ⟨3, ![4, 4096, 8960]⟩
abbrev S128x64 : Shape := ⟨2, ![128, 64]⟩
abbrev S16x128x64 : Shape := ⟨3, ![16, 128, 64]⟩
abbrev S128x16x64 : Shape := ⟨3, ![128, 16, 64]⟩
abbrev S128x16 : Shape := ⟨2, ![128, 16]⟩
abbrev S128x16x16 : Shape := ⟨3, ![128, 16, 16]⟩
abbrev S4x128x64 : Shape := ⟨3, ![4, 128, 64]⟩
abbrev S16x8x16x64 : Shape := ⟨4, ![16, 8, 16, 64]⟩
abbrev S8x8 : Shape := ⟨2, ![8, 8]⟩
abbrev S_ : Shape := ⟨0, ![]⟩
abbrev S16x8x16x1x64 : Shape := ⟨5, ![16, 8, 16, 1, 64]⟩
abbrev S1x8x1x8x1 : Shape := ⟨5, ![1, 8, 1, 8, 1]⟩
abbrev S16x8x16x8x64 : Shape := ⟨5, ![16, 8, 16, 8, 64]⟩
abbrev S16x128x512 : Shape := ⟨3, ![16, 128, 512]⟩
abbrev S128x64x16 : Shape := ⟨3, ![128, 64, 16]⟩
abbrev S16x8x64x16 : Shape := ⟨4, ![16, 8, 64, 16]⟩
abbrev S16x8x64x1x16 : Shape := ⟨5, ![16, 8, 64, 1, 16]⟩
abbrev S16x8x64x8x16 : Shape := ⟨5, ![16, 8, 64, 8, 16]⟩
abbrev S16x512x128 : Shape := ⟨3, ![16, 512, 128]⟩
abbrev S16x8x16x16 : Shape := ⟨4, ![16, 8, 16, 16]⟩
abbrev S16x8x16x1x16 : Shape := ⟨5, ![16, 8, 16, 1, 16]⟩
abbrev S16x8x16x8x16 : Shape := ⟨5, ![16, 8, 16, 8, 16]⟩
abbrev S16x128x128 : Shape := ⟨3, ![16, 128, 128]⟩
abbrev S16x1x128 : Shape := ⟨3, ![16, 1, 128]⟩
abbrev S16x1x512 : Shape := ⟨3, ![16, 1, 512]⟩
abbrev S4x8192 : Shape := ⟨2, ![4, 8192]⟩
abbrev S4x4096x2048 : Shape := ⟨3, ![4, 4096, 2048]⟩
abbrev S4x256x128 : Shape := ⟨3, ![4, 256, 128]⟩
abbrev S1x128x512 : Shape := ⟨3, ![1, 128, 512]⟩
abbrev S1x512x128 : Shape := ⟨3, ![1, 512, 128]⟩
abbrev S1x1x128 : Shape := ⟨3, ![1, 1, 128]⟩
abbrev S1x128x128 : Shape := ⟨3, ![1, 128, 128]⟩
abbrev S1x1x512 : Shape := ⟨3, ![1, 1, 512]⟩
abbrev S4x512 : Shape := ⟨2, ![4, 512]⟩
abbrev S1056x128 : Shape := ⟨2, ![1056, 128]⟩
abbrev S4x1056x128 : Shape := ⟨3, ![4, 1056, 128]⟩
abbrev S1x256x128 : Shape := ⟨3, ![1, 256, 128]⟩
abbrev S256x128 : Shape := ⟨2, ![256, 128]⟩
abbrev S8x128 : Shape := ⟨2, ![8, 128]⟩
abbrev S128x512 : Shape := ⟨2, ![128, 512]⟩
abbrev S1056x512 : Shape := ⟨2, ![1056, 512]⟩
abbrev S1x1056x128 : Shape := ⟨3, ![1, 1056, 128]⟩
abbrev S1x128 : Shape := ⟨2, ![1, 128]⟩
abbrev S4x128 : Shape := ⟨2, ![4, 128]⟩
abbrev S1x4x128 : Shape := ⟨3, ![1, 4, 128]⟩
abbrev S512x128 : Shape := ⟨2, ![512, 128]⟩
abbrev S128x128 : Shape := ⟨2, ![128, 128]⟩

abbrev nBuf : Space → Nat
  | .hbm => 95
  | .vmem => 33
  | .smem => 0
  | _ => 0

abbrev bufTy : (tb : Table) → Fin (tcTables nBuf tb) → BufTy
  | .hbm, ⟨0, _⟩ => ⟨S4x4096x8960, .f32⟩
  | .hbm, ⟨1, _⟩ => ⟨S128x64, .f32⟩
  | .hbm, ⟨2, _⟩ => ⟨S128x64, .f32⟩
  | .hbm, ⟨3, _⟩ => ⟨S16x128x64, .f32⟩
  | .hbm, ⟨4, _⟩ => ⟨S16x128x64, .f32⟩
  | .hbm, ⟨5, _⟩ => ⟨S128x16x64, .f32⟩
  | .hbm, ⟨6, _⟩ => ⟨S128x16x64, .f32⟩
  | .hbm, ⟨7, _⟩ => ⟨S128x16, .f32⟩
  | .hbm, ⟨8, _⟩ => ⟨S128x16x16, .f32⟩
  | .hbm, ⟨9, _⟩ => ⟨S128x16, .f32⟩
  | .hbm, ⟨10, _⟩ => ⟨S4x128x64, .f32⟩
  | .hbm, ⟨11, _⟩ => ⟨S4x128x64, .f32⟩
  | .hbm, ⟨12, _⟩ => ⟨S128x16x64, .f32⟩
  | .hbm, ⟨13, _⟩ => ⟨S16x8x16x64, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S16x8x16x1x64, .f32⟩
  | .hbm, ⟨22, _⟩ => ⟨S1x8x1x8x1, .f32⟩
  | .hbm, ⟨23, _⟩ => ⟨S16x8x16x8x64, .f32⟩
  | .hbm, ⟨24, _⟩ => ⟨S16x8x16x8x64, .f32⟩
  | .hbm, ⟨25, _⟩ => ⟨S16x8x16x8x64, .f32⟩
  | .hbm, ⟨26, _⟩ => ⟨S16x128x512, .f32⟩
  | .hbm, ⟨27, _⟩ => ⟨S128x16x64, .f32⟩
  | .hbm, ⟨28, _⟩ => ⟨S16x8x16x64, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S16x8x16x1x64, .f32⟩
  | .hbm, ⟨37, _⟩ => ⟨S1x8x1x8x1, .f32⟩
  | .hbm, ⟨38, _⟩ => ⟨S16x8x16x8x64, .f32⟩
  | .hbm, ⟨39, _⟩ => ⟨S16x8x16x8x64, .f32⟩
  | .hbm, ⟨40, _⟩ => ⟨S16x8x16x8x64, .f32⟩
  | .hbm, ⟨41, _⟩ => ⟨S16x128x512, .f32⟩
  | .hbm, ⟨42, _⟩ => ⟨S128x64x16, .f32⟩
  | .hbm, ⟨43, _⟩ => ⟨S16x8x64x16, .f32⟩
  | .hbm, ⟨44, _⟩ => ⟨S8x8, .i32⟩
  | .hbm, ⟨45, _⟩ => ⟨S8x8, .i32⟩
  | .hbm, ⟨46, _⟩ => ⟨S_, .i32⟩
  | .hbm, ⟨47, _⟩ => ⟨S8x8, .i32⟩
  | .hbm, ⟨48, _⟩ => ⟨S8x8, .i32⟩
  | .hbm, ⟨49, _⟩ => ⟨S8x8, .i1⟩
  | .hbm, ⟨50, _⟩ => ⟨S8x8, .f32⟩
  | .hbm, ⟨51, _⟩ => ⟨S16x8x64x1x16, .f32⟩
  | .hbm, ⟨52, _⟩ => ⟨S1x8x1x8x1, .f32⟩
  | .hbm, ⟨53, _⟩ => ⟨S16x8x64x8x16, .f32⟩
  | .hbm, ⟨54, _⟩ => ⟨S16x8x64x8x16, .f32⟩
  | .hbm, ⟨55, _⟩ => ⟨S16x8x64x8x16, .f32⟩
  | .hbm, ⟨56, _⟩ => ⟨S16x512x128, .f32⟩
  | .hbm, ⟨57, _⟩ => ⟨S128x64x16, .f32⟩
  | .hbm, ⟨58, _⟩ => ⟨S16x8x64x16, .f32⟩
  | .hbm, ⟨59, _⟩ => ⟨S8x8, .i32⟩
  | .hbm, ⟨60, _⟩ => ⟨S8x8, .i32⟩
  | .hbm, ⟨61, _⟩ => ⟨S_, .i32⟩
  | .hbm, ⟨62, _⟩ => ⟨S8x8, .i32⟩
  | .hbm, ⟨63, _⟩ => ⟨S8x8, .i32⟩
  | .hbm, ⟨64, _⟩ => ⟨S8x8, .i1⟩
  | .hbm, ⟨65, _⟩ => ⟨S8x8, .f32⟩
  | .hbm, ⟨66, _⟩ => ⟨S16x8x64x1x16, .f32⟩
  | .hbm, ⟨67, _⟩ => ⟨S1x8x1x8x1, .f32⟩
  | .hbm, ⟨68, _⟩ => ⟨S16x8x64x8x16, .f32⟩
  | .hbm, ⟨69, _⟩ => ⟨S16x8x64x8x16, .f32⟩
  | .hbm, ⟨70, _⟩ => ⟨S16x8x64x8x16, .f32⟩
  | .hbm, ⟨71, _⟩ => ⟨S16x512x128, .f32⟩
  | .hbm, ⟨72, _⟩ => ⟨S16x8x16x16, .f32⟩
  | .hbm, ⟨73, _⟩ => ⟨S8x8, .i32⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S8x8, .i1⟩
  | .hbm, ⟨79, _⟩ => ⟨S8x8, .f32⟩
  | .hbm, ⟨80, _⟩ => ⟨S16x8x16x1x16, .f32⟩
  | .hbm, ⟨81, _⟩ => ⟨S1x8x1x8x1, .f32⟩
  | .hbm, ⟨82, _⟩ => ⟨S16x8x16x8x16, .f32⟩
  | .hbm, ⟨83, _⟩ => ⟨S16x8x16x8x16, .f32⟩
  | .hbm, ⟨84, _⟩ => ⟨S16x8x16x8x16, .f32⟩
  | .hbm, ⟨85, _⟩ => ⟨S16x128x128, .f32⟩
  | .hbm, ⟨86, _⟩ => ⟨S16x1x128, .f32⟩
  | .hbm, ⟨87, _⟩ => ⟨S16x1x128, .f32⟩
  | .hbm, ⟨88, _⟩ => ⟨S16x1x512, .f32⟩
  | .hbm, ⟨89, _⟩ => ⟨S16x1x512, .f32⟩
  | .hbm, ⟨90, _⟩ => ⟨S4x8192, .f32⟩
  | .hbm, ⟨91, _⟩ => ⟨S4x8192, .f32⟩
  | .hbm, ⟨92, _⟩ => ⟨S4x4096x2048, .bf16⟩
  | .hbm, ⟨93, _⟩ => ⟨S4x8192, .f32⟩
  | .hbm, ⟨94, _⟩ => ⟨S4x8192, .f32⟩
  | .local _ .vmem, ⟨0, _⟩ => ⟨S4x256x128, .f32⟩
  | .local _ .vmem, ⟨1, _⟩ => ⟨S4x256x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1x128, .f32⟩
  | .local _ .vmem, ⟨11, _⟩ => ⟨S1x1x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S4x512, .f32⟩
  | .local _ .vmem, ⟨21, _⟩ => ⟨S4x512, .f32⟩
  | .local _ .vmem, ⟨22, _⟩ => ⟨S4x512, .f32⟩
  | .local _ .vmem, ⟨23, _⟩ => ⟨S4x512, .f32⟩
  | .local _ .vmem, ⟨24, _⟩ => ⟨S4x256x128, .bf16⟩
  | .local _ .vmem, ⟨25, _⟩ => ⟨S4x256x128, .bf16⟩
  | .local _ .vmem, ⟨26, _⟩ => ⟨S4x512, .f32⟩
  | .local _ .vmem, ⟨27, _⟩ => ⟨S4x512, .f32⟩
  | .local _ .vmem, ⟨28, _⟩ => ⟨S4x512, .f32⟩
  | .local _ .vmem, ⟨29, _⟩ => ⟨S4x512, .f32⟩
  | .local _ .vmem, ⟨30, _⟩ => ⟨S1056x128, .f32⟩
  | .local _ .vmem, ⟨31, _⟩ => ⟨S4x1056x128, .f32⟩
  | .local _ .vmem, ⟨32, _⟩ => ⟨S4x1056x128, .f32⟩
  | _, _ => ⟨S4x4096x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_3 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75_0 : Ref sig .tc := ⟨.hbm, 92, rfl⟩
abbrev main_v75_1 : Ref sig .tc := ⟨.hbm, 93, rfl⟩
abbrev main_v75_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_93 : BitVec 32 := 0#32
  let c256_i32 : BitVec 32 := 256#32
  let v114 : BitVec 32 := Scalar.addi c0_i32_93 c256_i32
  let c1_i32 : BitVec 32 := 1#32
  ⟨c0_i32_93, v114, c1_i32⟩
def k0_off1 (k0_t1 : Fin k0_t1_loop.trips) : Fin 3 → Nat :=
  let c0_172 : Index := 0#32
  let c0_i32_93 : BitVec 32 := 0#32
  let c1_i32 : BitVec 32 := 1#32
  let arg20 : BitVec 32 := Scf.iv c0_i32_93 c1_i32 k0_t1
  let v213 : Index := Scalar.indexCast arg20
  let c0_173 : Index := 0#32
  ![0, v213.toNat, 0]
def k0_off2 (k0_t1 : Fin k0_t1_loop.trips) : Fin 3 → Nat :=
  let c1_180 : Index := 1#32
  let c0_i32_93 : BitVec 32 := 0#32
  let c1_i32 : BitVec 32 := 1#32
  let arg20 : BitVec 32 := Scf.iv c0_i32_93 c1_i32 k0_t1
  let v239 : Index := Scalar.indexCast arg20
  let c0_181 : Index := 0#32
  ![1, v239.toNat, 0]
def k0_off3 (k0_t1 : Fin k0_t1_loop.trips) : Fin 3 → Nat :=
  let c2_188 : Index := 2#32
  let c0_i32_93 : BitVec 32 := 0#32
  let c1_i32 : BitVec 32 := 1#32
  let arg20 : BitVec 32 := Scf.iv c0_i32_93 c1_i32 k0_t1
  let v265 : Index := Scalar.indexCast arg20
  let c0_189 : Index := 0#32
  ![2, v265.toNat, 0]
def k0_off4 (k0_t1 : Fin k0_t1_loop.trips) : Fin 3 → Nat :=
  let c3_196 : Index := 3#32
  let c0_i32_93 : BitVec 32 := 0#32
  let c1_i32 : BitVec 32 := 1#32
  let arg20 : BitVec 32 := Scf.iv c0_i32_93 c1_i32 k0_t1
  let v291 : Index := Scalar.indexCast arg20
  let c0_197 : Index := 0#32
  ![3, v291.toNat, 0]
def cc0_transform_0 (i : grid0.Coords) : Fin 3 → Nat :=
  let arg0 : BitVec 32 := BitVec.ofNat 32 (i 0).val
  let arg1 : BitVec 32 := BitVec.ofNat 32 (i 1).val
  let c54_i32 : BitVec 32 := 54#32
  let v0 : BitVec 32 := Scalar.addi c54_i32 arg0
  let c0_i32 : BitVec 32 := 0#32
  let c0_i32_0 : BitVec 32 := 0#32
  ![c0_i32.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ScanRefIdeal.lean ====
abbrev S4x4096x8960 : Shape := ⟨3, ![4, 4096, 8960]⟩
abbrev S128x64 : Shape := ⟨2, ![128, 64]⟩
abbrev S16x128x64 : Shape := ⟨3, ![16, 128, 64]⟩
abbrev S128x16x64 : Shape := ⟨3, ![128, 16, 64]⟩
abbrev S128x16 : Shape := ⟨2, ![128, 16]⟩
abbrev S128x16x16 : Shape := ⟨3, ![128, 16, 16]⟩
abbrev S4x128x64 : Shape := ⟨3, ![4, 128, 64]⟩
abbrev S4x4096x2048 : Shape := ⟨3, ![4, 4096, 2048]⟩
abbrev S4x4096x128x16 : Shape := ⟨4, ![4, 4096, 128, 16]⟩
abbrev S128x64x4x4096 : Shape := ⟨4, ![128, 64, 4, 4096]⟩
abbrev S4x4096x128x64 : Shape := ⟨4, ![4, 4096, 128, 64]⟩
abbrev S4096x4x128x64 : Shape := ⟨4, ![4096, 4, 128, 64]⟩
abbrev S_ : Shape := ⟨0, ![]⟩
abbrev S1x4x128x64 : Shape := ⟨4, ![1, 4, 128, 64]⟩
abbrev S1x128x64 : Shape := ⟨3, ![1, 128, 64]⟩
abbrev S128x16x4x4096 : Shape := ⟨4, ![128, 16, 4, 4096]⟩
abbrev S1x1x128x16 : Shape := ⟨4, ![1, 1, 128, 16]⟩
abbrev S4x8192 : Shape := ⟨2, ![4, 8192]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x8960, .f32⟩
  | .hbm, ⟨1, _⟩ => ⟨S128x64, .f32⟩
  | .hbm, ⟨2, _⟩ => ⟨S128x64, .f32⟩
  | .hbm, ⟨3, _⟩ => ⟨S16x128x64, .f32⟩
  | .hbm, ⟨4, _⟩ => ⟨S16x128x64, .f32⟩
  | .hbm, ⟨5, _⟩ => ⟨S128x16x64, .f32⟩
  | .hbm, ⟨6, _⟩ => ⟨S128x16x64, .f32⟩
  | .hbm, ⟨7, _⟩ => ⟨S128x16, .f32⟩
  | .hbm, ⟨8, _⟩ => ⟨S128x16x16, .f32⟩
  | .hbm, ⟨9, _⟩ => ⟨S128x16, .f32⟩
  | .hbm, ⟨10, _⟩ => ⟨S4x128x64, .f32⟩
  | .hbm, ⟨11, _⟩ => ⟨S4x128x64, .f32⟩
  | .hbm, ⟨12, _⟩ => ⟨S4x4096x2048, .f32⟩
  | .hbm, ⟨13, _⟩ => ⟨S4x4096x128x16, .f32⟩
  | .hbm, ⟨14, _⟩ => ⟨S128x64x4x4096, .f32⟩
  | .hbm, ⟨15, _⟩ => ⟨S4x4096x128x64, .f32⟩
  | .hbm, ⟨16, _⟩ => ⟨S128x64x4x4096, .f32⟩
  | .hbm, ⟨17, _⟩ => ⟨S4x4096x128x64, .f32⟩
  | .hbm, ⟨18, _⟩ => ⟨S4096x4x128x64, .f32⟩
  | .hbm, ⟨19, _⟩ => ⟨S4096x4x128x64, .f32⟩
  | .hbm, ⟨20, _⟩ => ⟨S_, .f32⟩
  | .hbm, ⟨21, _⟩ => ⟨S4096x4x128x64, .f32⟩
  | .hbm, ⟨22, _⟩ => ⟨S_, .f32⟩
  | .hbm, ⟨23, _⟩ => ⟨S4096x4x128x64, .f32⟩
  | .hbm, ⟨24, _⟩ => ⟨S_, .i32⟩
  | .hbm, ⟨25, _⟩ => ⟨S4096x4x128x64, .f32⟩
  | .hbm, ⟨26, _⟩ => ⟨S4096x4x128x64, .f32⟩
  | .hbm, ⟨27, _⟩ => ⟨S128x64, .f32⟩
  | .hbm, ⟨28, _⟩ => ⟨S128x64, .f32⟩
  | .hbm, ⟨29, _⟩ => ⟨S_, .i32⟩
  | .hbm, ⟨30, _⟩ => ⟨S4x128x64, .f32⟩
  | .hbm, ⟨31, _⟩ => ⟨S4x128x64, .f32⟩
  | .hbm, ⟨32, _⟩ => ⟨S4096x4x128x64, .f32⟩
  | .hbm, ⟨33, _⟩ => ⟨S4096x4x128x64, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4x128x64, .f32⟩
  | .hbm, ⟨40, _⟩ => ⟨S4x128x64, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x128x64, .f32⟩
  | .hbm, ⟨45, _⟩ => ⟨S4x128x64, .f32⟩
  | .hbm, ⟨46, _⟩ => ⟨S1x128x64, .f32⟩
  | .hbm, ⟨47, _⟩ => ⟨S4x128x64, .f32⟩
  | .hbm, ⟨48, _⟩ => ⟨S4x128x64, .f32⟩
  | .hbm, ⟨49, _⟩ => ⟨S1x128x64, .f32⟩
  | .hbm, ⟨50, _⟩ => ⟨S4x128x64, .f32⟩
  | .hbm, ⟨51, _⟩ => ⟨S4x128x64, .f32⟩
  | .hbm, ⟨52, _⟩ => ⟨S4x128x64, .f32⟩
  | .hbm, ⟨53, _⟩ => ⟨S4x128x64, .f32⟩
  | .hbm, ⟨54, _⟩ => ⟨S1x128x64, .f32⟩
  | .hbm, ⟨55, _⟩ => ⟨S4x128x64, .f32⟩
  | .hbm, ⟨56, _⟩ => ⟨S4x128x64, .f32⟩
  | .hbm, ⟨57, _⟩ => ⟨S1x128x64, .f32⟩
  | .hbm, ⟨58, _⟩ => ⟨S4x128x64, .f32⟩
  | .hbm, ⟨59, _⟩ => ⟨S4x128x64, .f32⟩
  | .hbm, ⟨60, _⟩ => ⟨S4x128x64, .f32⟩
  | .hbm, ⟨61, _⟩ => ⟨S4x128x64, .f32⟩
  | .hbm, ⟨62, _⟩ => ⟨S1x4x128x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S4096x4x128x64, .f32⟩
  | .hbm, ⟨67, _⟩ => ⟨S1x4x128x64, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S4096x4x128x64, .f32⟩
  | .hbm, ⟨72, _⟩ => ⟨S_, .i32⟩
  | .hbm, ⟨73, _⟩ => ⟨S_, .i32⟩
  | .hbm, ⟨74, _⟩ => ⟨S4x4096x128x64, .f32⟩
  | .hbm, ⟨75, _⟩ => ⟨S4x4096x128x64, .f32⟩
  | .hbm, ⟨76, _⟩ => ⟨S128x16x4x4096, .f32⟩
  | .hbm, ⟨77, _⟩ => ⟨S4x4096x128x16, .f32⟩
  | .hbm, ⟨78, _⟩ => ⟨S128x16x4x4096, .f32⟩
  | .hbm, ⟨79, _⟩ => ⟨S4x4096x128x16, .f32⟩
  | .hbm, ⟨80, _⟩ => ⟨S4x4096x128x16, .f32⟩
  | .hbm, ⟨81, _⟩ => ⟨S1x1x128x16, .f32⟩
  | .hbm, ⟨82, _⟩ => ⟨S4x4096x128x16, .f32⟩
  | .hbm, ⟨83, _⟩ => ⟨S4x4096x128x16, .f32⟩
  | .hbm, ⟨84, _⟩ => ⟨S4x4096x128x16, .f32⟩
  | .hbm, ⟨85, _⟩ => ⟨S4x4096x128x16, .f32⟩
  | .hbm, ⟨86, _⟩ => ⟨S4x4096x128x16, .f32⟩
  | .hbm, ⟨87, _⟩ => ⟨S_, .f32⟩
  | .hbm, ⟨88, _⟩ => ⟨S4x4096x128x16, .f32⟩
  | .hbm, ⟨89, _⟩ => ⟨S4x4096x128x16, .f32⟩
  | .hbm, ⟨90, _⟩ => ⟨S4x4096x128x16, .f32⟩
  | .hbm, ⟨91, _⟩ => ⟨S_, .f32⟩
  | .hbm, ⟨92, _⟩ => ⟨S4x4096x128x16, .f32⟩
  | .hbm, ⟨93, _⟩ => ⟨S4x4096x128x16, .f32⟩
  | .hbm, ⟨94, _⟩ => ⟨S4x4096x128x16, .f32⟩
  | .hbm, ⟨95, _⟩ => ⟨S_, .f32⟩
  | .hbm, ⟨96, _⟩ => ⟨S4x4096x128x16, .f32⟩
  | .hbm, ⟨97, _⟩ => ⟨S4x4096x128x16, .f32⟩
  | .hbm, ⟨98, _⟩ => ⟨S_, .f32⟩
  | .hbm, ⟨99, _⟩ => ⟨S4x4096x128x16, .f32⟩
  | .hbm, ⟨100, _⟩ => ⟨S4x4096x128x16, .f32⟩
  | .hbm, ⟨101, _⟩ => ⟨S4x4096x128x16, .f32⟩
  | .hbm, ⟨102, _⟩ => ⟨S128x16x4x4096, .f32⟩
  | .hbm, ⟨103, _⟩ => ⟨S4x4096x128x16, .f32⟩
  | .hbm, ⟨104, _⟩ => ⟨S1x1x128x16, .f32⟩
  | .hbm, ⟨105, _⟩ => ⟨S4x4096x128x16, .f32⟩
  | .hbm, ⟨106, _⟩ => ⟨S4x4096x128x16, .f32⟩
  | .hbm, ⟨107, _⟩ => ⟨S4x4096x128x16, .f32⟩
  | .hbm, ⟨108, _⟩ => ⟨S4x4096x128x16, .f32⟩
  | .hbm, ⟨109, _⟩ => ⟨S_, .f32⟩
  | .hbm, ⟨110, _⟩ => ⟨S4x4096x128x16, .f32⟩
  | .hbm, ⟨111, _⟩ => ⟨S4x4096x128x16, .f32⟩
  | .hbm, ⟨112, _⟩ => ⟨S_, .f32⟩
  | .hbm, ⟨113, _⟩ => ⟨S4x4096x128x16, .f32⟩
  | .hbm, ⟨114, _⟩ => ⟨S4x4096x128x16, .f32⟩
  | .hbm, ⟨115, _⟩ => ⟨S4x4096x128x16, .f32⟩
  | .hbm, ⟨116, _⟩ => ⟨S4x4096x2048, .f32⟩
  | .hbm, ⟨117, _⟩ => ⟨S4x4096x2048, .bf16⟩
  | .hbm, ⟨118, _⟩ => ⟨S4x8192, .f32⟩
  | .hbm, ⟨119, _⟩ => ⟨S4x8192, .f32⟩
  | _, _ => ⟨S4x4096x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_c : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev main_v10_6 : Ref sig .tc := ⟨.hbm, 31, rfl⟩
abbrev main_v10_7 : Ref sig .tc := ⟨.hbm, 32, rfl⟩
abbrev main_v10_8 : Ref sig .tc := ⟨.hbm, 33, rfl⟩
abbrev main_while0c_c_15 : Ref sig .tc := ⟨.hbm, 34, rfl⟩
abbrev main_while0c_v51 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_v0 : Ref sig .tc := ⟨.hbm, 39, rfl⟩
abbrev main_while0b_v51 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v52 : Ref sig .tc := ⟨.hbm, 45, rfl⟩
abbrev main_while0b_v53 : Ref sig .tc := ⟨.hbm, 46, rfl⟩
abbrev main_while0b_v54 : Ref sig .tc := ⟨.hbm, 47, rfl⟩
abbrev main_while0b_v55 : Ref sig .tc := ⟨.hbm, 48, rfl⟩
abbrev main_while0b_v56 : Ref sig .tc := ⟨.hbm, 49, rfl⟩
abbrev main_while0b_v57 : Ref sig .tc := ⟨.hbm, 50, rfl⟩
abbrev main_while0b_v58 : Ref sig .tc := ⟨.hbm, 51, rfl⟩
abbrev main_while0b_v59 : Ref sig .tc := ⟨.hbm, 52, rfl⟩
abbrev main_while0b_v60 : Ref sig .tc := ⟨.hbm, 53, rfl⟩
abbrev main_while0b_v61 : Ref sig .tc := ⟨.hbm, 54, rfl⟩
abbrev main_while0b_v62 : Ref sig .tc := ⟨.hbm, 55, rfl⟩
abbrev main_while0b_v63 : Ref sig .tc := ⟨.hbm, 56, rfl⟩
abbrev main_while0b_v64 : Ref sig .tc := ⟨.hbm, 57, rfl⟩
abbrev main_while0b_v65 : Ref sig .tc := ⟨.hbm, 58, rfl⟩
abbrev main_while0b_v66 : Ref sig .tc := ⟨.hbm, 59, rfl⟩
abbrev main_while0b_v67 : Ref sig .tc := ⟨.hbm, 60, rfl⟩
abbrev main_while0b_v68 : Ref sig .tc := ⟨.hbm, 61, rfl⟩
abbrev main_while0b_call2_v0 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_v69 : Ref sig .tc := ⟨.hbm, 66, rfl⟩
abbrev main_while0b_call3_v0 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_v70 : Ref sig .tc := ⟨.hbm, 71, rfl⟩
abbrev main_while0b_c_15 : Ref sig .tc := ⟨.hbm, 72, rfl⟩
abbrev main_while0b_v71 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_1 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_cst_2 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_3 : Ref sig .tc := ⟨.hbm, 95, rfl⟩
abbrev main_v30 : Ref sig .tc := ⟨.hbm, 96, rfl⟩
abbrev main_v31 : Ref sig .tc := ⟨.hbm, 97, rfl⟩
abbrev main_cst_4 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_5 : Ref sig .tc := ⟨.hbm, 109, rfl⟩
abbrev main_v42 : Ref sig .tc := ⟨.hbm, 110, rfl⟩
abbrev main_v43 : Ref sig .tc := ⟨.hbm, 111, rfl⟩
abbrev main_cst_6 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩

abbrev nD : Nat := 1
abbrev τ : Topo := Topo.v7x

variable {F : FTy → Type} [FloatOps F]

abbrev main_while0_count : Scf.Loop 32 := ⟨0#32, 4096#32, 1#32⟩
-- ==== FfnIn.lean ====
abbrev S16384x4096 : Shape := ⟨2, ![16384, 4096]⟩
abbrev S128x4096 : Shape := ⟨2, ![128, 4096]⟩
abbrev S2x2x4096x16384 : Shape := ⟨4, ![2, 2, 4096, 16384]⟩
abbrev S16384x8192 : Shape := ⟨2, ![16384, 8192]⟩
abbrev S128x8192 : Shape := ⟨2, ![128, 8192]⟩
abbrev S1024x4096 : Shape := ⟨2, ![1024, 4096]⟩
abbrev S1x1x4096x512 : Shape := ⟨4, ![1, 1, 4096, 512]⟩
abbrev S1024x512 : Shape := ⟨2, ![1024, 512]⟩
abbrev S128x512 : Shape := ⟨2, ![128, 512]⟩
abbrev S4096x512 : Shape := ⟨2, ![4096, 512]⟩
abbrev S256x4096 : Shape := ⟨2, ![256, 4096]⟩
abbrev S256x512 : Shape := ⟨2, ![256, 512]⟩

abbrev nBuf : Space → Nat
  | .hbm => 5
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S128x4096, .bf16⟩
  | .hbm, ⟨2, _⟩ => ⟨S2x2x4096x16384, .f32⟩
  | .hbm, ⟨3, _⟩ => ⟨S16384x8192, .bf16⟩
  | .hbm, ⟨4, _⟩ => ⟨S128x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S128x4096, .bf16⟩
  | .local _ .vmem, ⟨5, _⟩ => ⟨S1024x512, .bf16⟩
  | .local _ .vmem, ⟨6, _⟩ => ⟨S1024x512, .bf16⟩
  | .local _ .vmem, ⟨7, _⟩ => ⟨S128x512, .bf16⟩
  | .local _ .vmem, ⟨8, _⟩ => ⟨S128x512, .bf16⟩
  | .local _ .vmem, ⟨9, _⟩ => ⟨S4096x512, .bf16⟩
  | .local _ .vmem, ⟨10, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnInRefIdeal.lean ====
abbrev S16384x4096 : Shape := ⟨2, ![16384, 4096]⟩
abbrev S128x4096 : Shape := ⟨2, ![128, 4096]⟩
abbrev S2x2x4096x16384 : Shape := ⟨4, ![2, 2, 4096, 16384]⟩
abbrev S1x1x4096x16384 : Shape := ⟨4, ![1, 1, 4096, 16384]⟩
abbrev S4096x16384 : Shape := ⟨2, ![4096, 16384]⟩
abbrev S16384x16384 : Shape := ⟨2, ![16384, 16384]⟩
abbrev S16384x8192 : Shape := ⟨2, ![16384, 8192]⟩
abbrev S_ : Shape := ⟨0, ![]⟩
abbrev S128x16384 : Shape := ⟨2, ![128, 16384]⟩
abbrev S128x8192 : Shape := ⟨2, ![128, 8192]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S128x4096, .bf16⟩
  | .hbm, ⟨2, _⟩ => ⟨S2x2x4096x16384, .f32⟩
  | .hbm, ⟨3, _⟩ => ⟨S1x1x4096x16384, .f32⟩
  | .hbm, ⟨4, _⟩ => ⟨S4096x16384, .f32⟩
  | .hbm, ⟨5, _⟩ => ⟨S16384x4096, .f32⟩
  | .hbm, ⟨6, _⟩ => ⟨S16384x16384, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .bf16⟩
  | .hbm, ⟨20, _⟩ => ⟨S1x1x4096x16384, .f32⟩
  | .hbm, ⟨21, _⟩ => ⟨S4096x16384, .f32⟩
  | .hbm, ⟨22, _⟩ => ⟨S128x4096, .f32⟩
  | .hbm, ⟨23, _⟩ => ⟨S128x16384, .f32⟩
  | .hbm, ⟨24, _⟩ => ⟨S128x8192, .f32⟩
  | .hbm, ⟨25, _⟩ => ⟨S128x8192, .f32⟩
  | .hbm, ⟨26, _⟩ => ⟨S128x8192, .f32⟩
  | .hbm, ⟨27, _⟩ => ⟨S_, .f32⟩
  | .hbm, ⟨28, _⟩ => ⟨S128x8192, .f32⟩
  | .hbm, ⟨29, _⟩ => ⟨S128x8192, .f32⟩
  | .hbm, ⟨30, _⟩ => ⟨S_, .f32⟩
  | .hbm, ⟨31, _⟩ => ⟨S128x8192, .f32⟩
  | .hbm, ⟨32, _⟩ => ⟨S128x8192, .f32⟩
  | .hbm, ⟨33, _⟩ => ⟨S128x8192, .f32⟩
  | .hbm, ⟨34, _⟩ => ⟨S128x8192, .f32⟩
  | .hbm, ⟨35, _⟩ => ⟨S128x8192, .f32⟩
  | .hbm, ⟨36, _⟩ => ⟨S128x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== FfnOut.lean ====
abbrev S16384x8192 : Shape := ⟨2, ![16384, 8192]⟩
abbrev S128x8192 : Shape := ⟨2, ![128, 8192]⟩
abbrev S2x2x8192x4096 : Shape := ⟨4, ![2, 2, 8192, 4096]⟩
abbrev S16384x4096 : Shape := ⟨2, ![16384, 4096]⟩
abbrev S128x4096 : Shape := ⟨2, ![128, 4096]⟩
abbrev S4x9x4096 : Shape := ⟨3, ![4, 9, 4096]⟩
abbrev S8x9x4096 : Shape := ⟨3, ![8, 9, 4096]⟩
abbrev S4x1x4096 : Shape := ⟨3, ![4, 1, 4096]⟩
abbrev S4x4096 : Shape := ⟨2, ![4, 4096]⟩
abbrev S8x1x4096 : Shape := ⟨3, ![8, 1, 4096]⟩
abbrev S8x4096 : Shape := ⟨2, ![8, 4096]⟩
abbrev S8x16x4096 : Shape := ⟨3, ![8, 16, 4096]⟩
abbrev S1x128x4096 : Shape := ⟨3, ![1, 128, 4096]⟩
abbrev S512x8192 : Shape := ⟨2, ![512, 8192]⟩
abbrev S1x1x8192x512 : Shape := ⟨4, ![1, 1, 8192, 512]⟩
abbrev S512x512 : Shape := ⟨2, ![512, 512]⟩
abbrev S1x1x512 : Shape := ⟨3, ![1, 1, 512]⟩
abbrev S128x512 : Shape := ⟨2, ![128, 512]⟩
abbrev S1x128x512 : Shape := ⟨3, ![1, 128, 512]⟩
abbrev S8192x512 : Shape := ⟨2, ![8192, 512]⟩
abbrev S256x8192 : Shape := ⟨2, ![256, 8192]⟩
abbrev S256x512 : Shape := ⟨2, ![256, 512]⟩
abbrev S1x512 : Shape := ⟨2, ![1, 512]⟩

abbrev nBuf : Space → Nat
  | .hbm => 17
  | .vmem => 17
  | .smem => 0
  | _ => 0

abbrev bufTy : (tb : Table) → Fin (tcTables nBuf tb) → BufTy
  | .hbm, ⟨0, _⟩ => ⟨S16384x8192, .bf16⟩
  | .hbm, ⟨1, _⟩ => ⟨S128x8192, .bf16⟩
  | .hbm, ⟨2, _⟩ => ⟨S2x2x8192x4096, .f32⟩
  | .hbm, ⟨3, _⟩ => ⟨S16384x4096, .f32⟩
  | .hbm, ⟨4, _⟩ => ⟨S128x4096, .f32⟩
  | .hbm, ⟨5, _⟩ => ⟨S4x9x4096, .f32⟩
  | .hbm, ⟨6, _⟩ => ⟨S8x9x4096, .f32⟩
  | .hbm, ⟨7, _⟩ => ⟨S4x1x4096, .f32⟩
  | .hbm, ⟨8, _⟩ => ⟨S4x4096, .f32⟩
  | .hbm, ⟨9, _⟩ => ⟨S4x1x4096, .f32⟩
  | .hbm, ⟨10, _⟩ => ⟨S8x1x4096, .f32⟩
  | .hbm, ⟨11, _⟩ => ⟨S8x4096, .f32⟩
  | .hbm, ⟨12, _⟩ => ⟨S8x16x4096, .f32⟩
  | .hbm, ⟨13, _⟩ => ⟨S128x4096, .f32⟩
  | .hbm, ⟨14, _⟩ => ⟨S1x128x4096, .f32⟩
  | .hbm, ⟨15, _⟩ => ⟨S16384x4096, .f32⟩
  | .hbm, ⟨16, _⟩ => ⟨S128x4096, .f32⟩
  | .local _ .vmem, ⟨0, _⟩ => ⟨S512x8192, .bf16⟩
  | .local _ .vmem, ⟨1, _⟩ => ⟨S512x8192, .bf16⟩
  | .local _ .vmem, ⟨2, _⟩ => ⟨S1x1x8192x512, .f32⟩
  | .local _ .vmem, ⟨3, _⟩ => ⟨S512x512, .f32⟩
  | .local _ .vmem, ⟨4, _⟩ => ⟨S512x512, .f32⟩
  | .local _ .vmem, ⟨5, _⟩ => ⟨S1x1x512, .f32⟩
  | .local _ .vmem, ⟨6, _⟩ => ⟨S1x1x512, .f32⟩
  | .local _ .vmem, ⟨7, _⟩ => ⟨S128x8192, .bf16⟩
  | .local _ .vmem, ⟨8, _⟩ => ⟨S128x512, .f32⟩
  | .local _ .vmem, ⟨9, _⟩ => ⟨S128x512, .f32⟩
  | .local _ .vmem, ⟨10, _⟩ => ⟨S1x128x512, .f32⟩
  | .local _ .vmem, ⟨11, _⟩ => ⟨S1x128x512, .f32⟩
  | .local _ .vmem, ⟨12, _⟩ => ⟨S512x512, .f32⟩
  | .local _ .vmem, ⟨13, _⟩ => ⟨S512x512, .f32⟩
  | .local _ .vmem, ⟨14, _⟩ => ⟨S128x512, .f32⟩
  | .local _ .vmem, ⟨15, _⟩ => ⟨S128x512, .f32⟩
  | .local _ .vmem, ⟨16, _⟩ => ⟨S8192x512, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnOutRefIdeal.lean ====
abbrev S16384x8192 : Shape := ⟨2, ![16384, 8192]⟩
abbrev S128x8192 : Shape := ⟨2, ![128, 8192]⟩
abbrev S2x2x8192x4096 : Shape := ⟨4, ![2, 2, 8192, 4096]⟩
abbrev S16384x4096 : Shape := ⟨2, ![16384, 4096]⟩
abbrev S128x4096 : Shape := ⟨2, ![128, 4096]⟩
abbrev S4x9x4096 : Shape := ⟨3, ![4, 9, 4096]⟩
abbrev S8x9x4096 : Shape := ⟨3, ![8, 9, 4096]⟩
abbrev S1x1x8192x4096 : Shape := ⟨4, ![1, 1, 8192, 4096]⟩
abbrev S8192x4096 : Shape := ⟨2, ![8192, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S_ : Shape := ⟨0, ![]⟩
abbrev S4x4096x8192 : Shape := ⟨3, ![4, 4096, 8192]⟩
abbrev S8x16x4096 : Shape := ⟨3, ![8, 16, 4096]⟩
abbrev S8x1x4096 : Shape := ⟨3, ![8, 1, 4096]⟩
abbrev S8x4096 : Shape := ⟨2, ![8, 4096]⟩
abbrev S8x16x8192 : Shape := ⟨3, ![8, 16, 8192]⟩

abbrev nBuf : Space → Nat
  | .hbm => 39
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S128x8192, .bf16⟩
  | .hbm, ⟨2, _⟩ => ⟨S2x2x8192x4096, .f32⟩
  | .hbm, ⟨3, _⟩ => ⟨S16384x4096, .f32⟩
  | .hbm, ⟨4, _⟩ => ⟨S128x4096, .f32⟩
  | .hbm, ⟨5, _⟩ => ⟨S4x9x4096, .f32⟩
  | .hbm, ⟨6, _⟩ => ⟨S8x9x4096, .f32⟩
  | .hbm, ⟨7, _⟩ => ⟨S1x1x8192x4096, .f32⟩
  | .hbm, ⟨8, _⟩ => ⟨S8192x4096, .f32⟩
  | .hbm, ⟨9, _⟩ => ⟨S4x4096x4096, .f32⟩
  | .hbm, ⟨10, _⟩ => ⟨S4x1x4096, .f32⟩
  | .hbm, ⟨11, _⟩ => ⟨S4x4096, .f32⟩
  | .hbm, ⟨12, _⟩ => ⟨S4x1x4096, .f32⟩
  | .hbm, ⟨13, _⟩ => ⟨S_, .f32⟩
  | .hbm, ⟨14, _⟩ => ⟨S4x1x4096, .f32⟩
  | .hbm, ⟨15, _⟩ => ⟨S4x1x4096, .f32⟩
  | .hbm, ⟨16, _⟩ => ⟨S16384x8192, .f32⟩
  | .hbm, ⟨17, _⟩ => ⟨S4x4096x8192, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S16384x4096, .f32⟩
  | .hbm, ⟨23, _⟩ => ⟨S1x1x8192x4096, .f32⟩
  | .hbm, ⟨24, _⟩ => ⟨S8192x4096, .f32⟩
  | .hbm, ⟨25, _⟩ => ⟨S8x16x4096, .f32⟩
  | .hbm, ⟨26, _⟩ => ⟨S8x1x4096, .f32⟩
  | .hbm, ⟨27, _⟩ => ⟨S8x4096, .f32⟩
  | .hbm, ⟨28, _⟩ => ⟨S8x1x4096, .f32⟩
  | .hbm, ⟨29, _⟩ => ⟨S_, .f32⟩
  | .hbm, ⟨30, _⟩ => ⟨S8x1x4096, .f32⟩
  | .hbm, ⟨31, _⟩ => ⟨S8x1x4096, .f32⟩
  | .hbm, ⟨32, _⟩ => ⟨S128x8192, .f32⟩
  | .hbm, ⟨33, _⟩ => ⟨S8x16x8192, .f32⟩
  | .hbm, ⟨34, _⟩ => ⟨S8x16x4096, .f32⟩
  | .hbm, ⟨35, _⟩ => ⟨S8x16x4096, .f32⟩
  | .hbm, ⟨36, _⟩ => ⟨S8x16x4096, .f32⟩
  | .hbm, ⟨37, _⟩ => ⟨S8x16x4096, .f32⟩
  | .hbm, ⟨38, _⟩ => ⟨S128x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== OddIn.lean ====
abbrev S16384x4096 : Shape := ⟨2, ![16384, 4096]⟩
abbrev S128x4096 : Shape := ⟨2, ![128, 4096]⟩
abbrev S1x4096x16416 : Shape := ⟨3, ![1, 4096, 16416]⟩
abbrev S4096x16416 : Shape := ⟨2, ![4096, 16416]⟩
abbrev S4096x8192 : Shape := ⟨2, ![4096, 8192]⟩
abbrev S16384x8192 : Shape := ⟨2, ![16384, 8192]⟩
abbrev S128x8192 : Shape := ⟨2, ![128, 8192]⟩
abbrev S1024x4096 : Shape := ⟨2, ![1024, 4096]⟩
abbrev S4096x1024 : Shape := ⟨2, ![4096, 1024]⟩
abbrev S1024x1024 : Shape := ⟨2, ![1024, 1024]⟩
abbrev S128x1024 : Shape := ⟨2, ![128, 1024]⟩
abbrev S256x4096 : Shape := ⟨2, ![256, 4096]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S128x4096, .bf16⟩
  | .hbm, ⟨2, _⟩ => ⟨S1x4096x16416, .f32⟩
  | .hbm, ⟨3, _⟩ => ⟨S4096x16416, .f32⟩
  | .hbm, ⟨4, _⟩ => ⟨S4096x8192, .f32⟩
  | .hbm, ⟨5, _⟩ => ⟨S16384x8192, .f32⟩
  | .hbm, ⟨6, _⟩ => ⟨S128x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .f32⟩
  | .local _ .vmem, ⟨3, _⟩ => ⟨S128x4096, .bf16⟩
  | .local _ .vmem, ⟨4, _⟩ => ⟨S1024x1024, .f32⟩
  | .local _ .vmem, ⟨5, _⟩ => ⟨S1024x1024, .f32⟩
  | .local _ .vmem, ⟨6, _⟩ => ⟨S128x1024, .f32⟩
  | .local _ .vmem, ⟨7, _⟩ => ⟨S128x1024, .f32⟩
  | .local _ .vmem, ⟨8, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OddInRefIdeal.lean ====
abbrev S16384x4096 : Shape := ⟨2, ![16384, 4096]⟩
abbrev S128x4096 : Shape := ⟨2, ![128, 4096]⟩
abbrev S1x4096x16416 : Shape := ⟨3, ![1, 4096, 16416]⟩
abbrev S4096x16416 : Shape := ⟨2, ![4096, 16416]⟩
abbrev S16384x16416 : Shape := ⟨2, ![16384, 16416]⟩
abbrev S16384x8192 : Shape := ⟨2, ![16384, 8192]⟩
abbrev S128x16416 : Shape := ⟨2, ![128, 16416]⟩
abbrev S128x8192 : Shape := ⟨2, ![128, 8192]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S128x4096, .bf16⟩
  | .hbm, ⟨2, _⟩ => ⟨S1x4096x16416, .f32⟩
  | .hbm, ⟨3, _⟩ => ⟨S16384x4096, .f32⟩
  | .hbm, ⟨4, _⟩ => ⟨S4096x16416, .f32⟩
  | .hbm, ⟨5, _⟩ => ⟨S16384x16416, .f32⟩
  | .hbm, ⟨6, _⟩ => ⟨S16384x8192, .f32⟩
  | .hbm, ⟨7, _⟩ => ⟨S128x4096, .f32⟩
  | .hbm, ⟨8, _⟩ => ⟨S4096x16416, .f32⟩
  | .hbm, ⟨9, _⟩ => ⟨S128x16416, .f32⟩
  | .hbm, ⟨10, _⟩ => ⟨S128x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenIn.lean ====
abbrev S16384x4096 : Shape := ⟨2, ![16384, 4096]⟩
abbrev S128x4096 : Shape := ⟨2, ![128, 4096]⟩
abbrev S4096x8960 : Shape := ⟨2, ![4096, 8960]⟩
abbrev S16384x8960 : Shape := ⟨2, ![16384, 8960]⟩
abbrev S128x8960 : Shape := ⟨2, ![128, 8960]⟩
abbrev S512x4096 : Shape := ⟨2, ![512, 4096]⟩
abbrev S4096x1280 : Shape := ⟨2, ![4096, 1280]⟩
abbrev S512x1280 : Shape := ⟨2, ![512, 1280]⟩
abbrev S128x1280 : Shape := ⟨2, ![128, 1280]⟩
abbrev S256x4096 : Shape := ⟨2, ![256, 4096]⟩
abbrev S256x1280 : Shape := ⟨2, ![256, 1280]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S128x4096, .bf16⟩
  | .hbm, ⟨2, _⟩ => ⟨S4096x8960, .f32⟩
  | .hbm, ⟨3, _⟩ => ⟨S16384x8960, .f32⟩
  | .hbm, ⟨4, _⟩ => ⟨S128x8960, .f32⟩
  | .local _ .vmem, ⟨0, _⟩ => ⟨S512x4096, .bf16⟩
  | .local _ .vmem, ⟨1, _⟩ => ⟨S512x4096, .bf16⟩
  | .local _ .vmem, ⟨2, _⟩ => ⟨S4096x1280, .f32⟩
  | .local _ .vmem, ⟨3, _⟩ => ⟨S128x4096, .bf16⟩
  | .local _ .vmem, ⟨4, _⟩ => ⟨S512x1280, .f32⟩
  | .local _ .vmem, ⟨5, _⟩ => ⟨S512x1280, .f32⟩
  | .local _ .vmem, ⟨6, _⟩ => ⟨S128x1280, .f32⟩
  | .local _ .vmem, ⟨7, _⟩ => ⟨S128x1280, .f32⟩
  | .local _ .vmem, ⟨8, _⟩ => ⟨S4096x1280, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![7, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== EvenInRefIdeal.lean ====
abbrev S16384x4096 : Shape := ⟨2, ![16384, 4096]⟩
abbrev S128x4096 : Shape := ⟨2, ![128, 4096]⟩
abbrev S4096x8960 : Shape := ⟨2, ![4096, 8960]⟩
abbrev S16384x8960 : Shape := ⟨2, ![16384, 8960]⟩
abbrev S128x8960 : Shape := ⟨2, ![128, 8960]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S128x4096, .bf16⟩
  | .hbm, ⟨2, _⟩ => ⟨S4096x8960, .f32⟩
  | .hbm, ⟨3, _⟩ => ⟨S16384x4096, .f32⟩
  | .hbm, ⟨4, _⟩ => ⟨S16384x8960, .f32⟩
  | .hbm, ⟨5, _⟩ => ⟨S128x4096, .f32⟩
  | .hbm, ⟨6, _⟩ => ⟨S128x8960, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddOut.lean ====
abbrev S16384x2048 : Shape := ⟨2, ![16384, 2048]⟩
abbrev S128x2048 : Shape := ⟨2, ![128, 2048]⟩
abbrev S1x4096x4096 : Shape := ⟨3, ![1, 4096, 4096]⟩
abbrev S16384x4096 : Shape := ⟨2, ![16384, 4096]⟩
abbrev S128x4096 : Shape := ⟨2, ![128, 4096]⟩
abbrev S4x9x4096 : Shape := ⟨3, ![4, 9, 4096]⟩
abbrev S8x9x4096 : Shape := ⟨3, ![8, 9, 4096]⟩
abbrev S4x1x4096 : Shape := ⟨3, ![4, 1, 4096]⟩
abbrev S4x4096 : Shape := ⟨2, ![4, 4096]⟩
abbrev S8x1x4096 : Shape := ⟨3, ![8, 1, 4096]⟩
abbrev S8x4096 : Shape := ⟨2, ![8, 4096]⟩
abbrev S8x16x4096 : Shape := ⟨3, ![8, 16, 4096]⟩
abbrev S1x128x4096 : Shape := ⟨3, ![1, 128, 4096]⟩
abbrev S1024x2048 : Shape := ⟨2, ![1024, 2048]⟩
abbrev S1x4096x512 : Shape := ⟨3, ![1, 4096, 512]⟩
abbrev S1024x512 : Shape := ⟨2, ![1024, 512]⟩
abbrev S1x1x512 : Shape := ⟨3, ![1, 1, 512]⟩
abbrev S128x512 : Shape := ⟨2, ![128, 512]⟩
abbrev S1x128x512 : Shape := ⟨3, ![1, 128, 512]⟩
abbrev S4096x512 : Shape := ⟨2, ![4096, 512]⟩
abbrev S2048x512 : Shape := ⟨2, ![2048, 512]⟩
abbrev S256x2048 : Shape := ⟨2, ![256, 2048]⟩
abbrev S256x512 : Shape := ⟨2, ![256, 512]⟩
abbrev S1x512 : Shape := ⟨2, ![1, 512]⟩

abbrev nBuf : Space → Nat
  | .hbm => 19
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S128x2048, .bf16⟩
  | .hbm, ⟨3, _⟩ => ⟨S128x2048, .bf16⟩
  | .hbm, ⟨4, _⟩ => ⟨S1x4096x4096, .f32⟩
  | .hbm, ⟨5, _⟩ => ⟨S16384x4096, .f32⟩
  | .hbm, ⟨6, _⟩ => ⟨S128x4096, .f32⟩
  | .hbm, ⟨7, _⟩ => ⟨S4x9x4096, .f32⟩
  | .hbm, ⟨8, _⟩ => ⟨S8x9x4096, .f32⟩
  | .hbm, ⟨9, _⟩ => ⟨S4x1x4096, .f32⟩
  | .hbm, ⟨10, _⟩ => ⟨S4x4096, .f32⟩
  | .hbm, ⟨11, _⟩ => ⟨S4x1x4096, .f32⟩
  | .hbm, ⟨12, _⟩ => ⟨S8x1x4096, .f32⟩
  | .hbm, ⟨13, _⟩ => ⟨S8x4096, .f32⟩
  | .hbm, ⟨14, _⟩ => ⟨S8x16x4096, .f32⟩
  | .hbm, ⟨15, _⟩ => ⟨S128x4096, .f32⟩
  | .hbm, ⟨16, _⟩ => ⟨S1x128x4096, .f32⟩
  | .hbm, ⟨17, _⟩ => ⟨S16384x4096, .f32⟩
  | .hbm, ⟨18, _⟩ => ⟨S128x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .f32⟩
  | .local _ .vmem, ⟨5, _⟩ => ⟨S1x4096x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S128x2048, .bf16⟩
  | .local _ .vmem, ⟨11, _⟩ => ⟨S128x2048, .bf16⟩
  | .local _ .vmem, ⟨12, _⟩ => ⟨S128x512, .f32⟩
  | .local _ .vmem, ⟨13, _⟩ => ⟨S128x512, .f32⟩
  | .local _ .vmem, ⟨14, _⟩ => ⟨S1x128x512, .f32⟩
  | .local _ .vmem, ⟨15, _⟩ => ⟨S1x128x512, .f32⟩
  | .local _ .vmem, ⟨16, _⟩ => ⟨S1024x512, .f32⟩
  | .local _ .vmem, ⟨17, _⟩ => ⟨S1024x512, .f32⟩
  | .local _ .vmem, ⟨18, _⟩ => ⟨S128x512, .f32⟩
  | .local _ .vmem, ⟨19, _⟩ => ⟨S128x512, .f32⟩
  | .local _ .vmem, ⟨20, _⟩ => ⟨S4096x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== OddOutRefIdeal.lean ====
abbrev S16384x2048 : Shape := ⟨2, ![16384, 2048]⟩
abbrev S128x2048 : Shape := ⟨2, ![128, 2048]⟩
abbrev S1x4096x4096 : Shape := ⟨3, ![1, 4096, 4096]⟩
abbrev S16384x4096 : Shape := ⟨2, ![16384, 4096]⟩
abbrev S128x4096 : Shape := ⟨2, ![128, 4096]⟩
abbrev S4x9x4096 : Shape := ⟨3, ![4, 9, 4096]⟩
abbrev S8x9x4096 : Shape := ⟨3, ![8, 9, 4096]⟩
abbrev S4096x4096 : Shape := ⟨2, ![4096, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S8x16x4096 : Shape := ⟨3, ![8, 16, 4096]⟩
abbrev S8x1x4096 : Shape := ⟨3, ![8, 1, 4096]⟩
abbrev S8x4096 : Shape := ⟨2, ![8, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S128x2048, .bf16⟩
  | .hbm, ⟨3, _⟩ => ⟨S128x2048, .bf16⟩
  | .hbm, ⟨4, _⟩ => ⟨S1x4096x4096, .f32⟩
  | .hbm, ⟨5, _⟩ => ⟨S16384x4096, .f32⟩
  | .hbm, ⟨6, _⟩ => ⟨S128x4096, .f32⟩
  | .hbm, ⟨7, _⟩ => ⟨S4x9x4096, .f32⟩
  | .hbm, ⟨8, _⟩ => ⟨S8x9x4096, .f32⟩
  | .hbm, ⟨9, _⟩ => ⟨S4096x4096, .f32⟩
  | .hbm, ⟨10, _⟩ => ⟨S16384x4096, .bf16⟩
  | .hbm, ⟨11, _⟩ => ⟨S16384x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x1x4096, .f32⟩
  | .hbm, ⟨16, _⟩ => ⟨S4x4096, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S16384x4096, .f32⟩
  | .hbm, ⟨22, _⟩ => ⟨S4096x4096, .f32⟩
  | .hbm, ⟨23, _⟩ => ⟨S128x4096, .bf16⟩
  | .hbm, ⟨24, _⟩ => ⟨S128x4096, .f32⟩
  | .hbm, ⟨25, _⟩ => ⟨S8x16x4096, .f32⟩
  | .hbm, ⟨26, _⟩ => ⟨S8x16x4096, .f32⟩
  | .hbm, ⟨27, _⟩ => ⟨S8x16x4096, .f32⟩
  | .hbm, ⟨28, _⟩ => ⟨S8x1x4096, .f32⟩
  | .hbm, ⟨29, _⟩ => ⟨S8x4096, .f32⟩
  | .hbm, ⟨30, _⟩ => ⟨S8x1x4096, .f32⟩
  | .hbm, ⟨31, _⟩ => ⟨S8x16x4096, .f32⟩
  | .hbm, ⟨32, _⟩ => ⟨S8x16x4096, .f32⟩
  | .hbm, ⟨33, _⟩ => ⟨S8x16x4096, .f32⟩
  | .hbm, ⟨34, _⟩ => ⟨S128x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== EvenOut.lean ====
abbrev S16384x2048 : Shape := ⟨2, ![16384, 2048]⟩
abbrev S128x2048 : Shape := ⟨2, ![128, 2048]⟩
abbrev S4096x4096 : Shape := ⟨2, ![4096, 4096]⟩
abbrev S16384x4096 : Shape := ⟨2, ![16384, 4096]⟩
abbrev S128x4096 : Shape := ⟨2, ![128, 4096]⟩
abbrev S4x9x4096 : Shape := ⟨3, ![4, 9, 4096]⟩
abbrev S8x9x4096 : Shape := ⟨3, ![8, 9, 4096]⟩
abbrev S4x1x4096 : Shape := ⟨3, ![4, 1, 4096]⟩
abbrev S4x4096 : Shape := ⟨2, ![4, 4096]⟩
abbrev S8x1x4096 : Shape := ⟨3, ![8, 1, 4096]⟩
abbrev S8x4096 : Shape := ⟨2, ![8, 4096]⟩
abbrev S8x16x4096 : Shape := ⟨3, ![8, 16, 4096]⟩
abbrev S1x128x4096 : Shape := ⟨3, ![1, 128, 4096]⟩
abbrev S1024x2048 : Shape := ⟨2, ![1024, 2048]⟩
abbrev S4096x512 : Shape := ⟨2, ![4096, 512]⟩
abbrev S1024x512 : Shape := ⟨2, ![1024, 512]⟩
abbrev S1x1x512 : Shape := ⟨3, ![1, 1, 512]⟩
abbrev S128x512 : Shape := ⟨2, ![128, 512]⟩
abbrev S1x128x512 : Shape := ⟨3, ![1, 128, 512]⟩
abbrev S2048x512 : Shape := ⟨2, ![2048, 512]⟩
abbrev S256x2048 : Shape := ⟨2, ![256, 2048]⟩
abbrev S256x512 : Shape := ⟨2, ![256, 512]⟩
abbrev S1x512 : Shape := ⟨2, ![1, 512]⟩

abbrev nBuf : Space → Nat
  | .hbm => 19
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S128x2048, .bf16⟩
  | .hbm, ⟨3, _⟩ => ⟨S128x2048, .bf16⟩
  | .hbm, ⟨4, _⟩ => ⟨S4096x4096, .f32⟩
  | .hbm, ⟨5, _⟩ => ⟨S16384x4096, .f32⟩
  | .hbm, ⟨6, _⟩ => ⟨S128x4096, .f32⟩
  | .hbm, ⟨7, _⟩ => ⟨S4x9x4096, .f32⟩
  | .hbm, ⟨8, _⟩ => ⟨S8x9x4096, .f32⟩
  | .hbm, ⟨9, _⟩ => ⟨S4x1x4096, .f32⟩
  | .hbm, ⟨10, _⟩ => ⟨S4x4096, .f32⟩
  | .hbm, ⟨11, _⟩ => ⟨S4x1x4096, .f32⟩
  | .hbm, ⟨12, _⟩ => ⟨S8x1x4096, .f32⟩
  | .hbm, ⟨13, _⟩ => ⟨S8x4096, .f32⟩
  | .hbm, ⟨14, _⟩ => ⟨S8x16x4096, .f32⟩
  | .hbm, ⟨15, _⟩ => ⟨S128x4096, .f32⟩
  | .hbm, ⟨16, _⟩ => ⟨S1x128x4096, .f32⟩
  | .hbm, ⟨17, _⟩ => ⟨S16384x4096, .f32⟩
  | .hbm, ⟨18, _⟩ => ⟨S128x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S128x2048, .bf16⟩
  | .local _ .vmem, ⟨11, _⟩ => ⟨S128x2048, .bf16⟩
  | .local _ .vmem, ⟨12, _⟩ => ⟨S128x512, .f32⟩
  | .local _ .vmem, ⟨13, _⟩ => ⟨S128x512, .f32⟩
  | .local _ .vmem, ⟨14, _⟩ => ⟨S1x128x512, .f32⟩
  | .local _ .vmem, ⟨15, _⟩ => ⟨S1x128x512, .f32⟩
  | .local _ .vmem, ⟨16, _⟩ => ⟨S1024x512, .f32⟩
  | .local _ .vmem, ⟨17, _⟩ => ⟨S1024x512, .f32⟩
  | .local _ .vmem, ⟨18, _⟩ => ⟨S128x512, .f32⟩
  | .local _ .vmem, ⟨19, _⟩ => ⟨S128x512, .f32⟩
  | .local _ .vmem, ⟨20, _⟩ => ⟨S4096x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== EvenOutRefIdeal.lean ====
abbrev S16384x2048 : Shape := ⟨2, ![16384, 2048]⟩
abbrev S128x2048 : Shape := ⟨2, ![128, 2048]⟩
abbrev S4096x4096 : Shape := ⟨2, ![4096, 4096]⟩
abbrev S16384x4096 : Shape := ⟨2, ![16384, 4096]⟩
abbrev S128x4096 : Shape := ⟨2, ![128, 4096]⟩
abbrev S4x9x4096 : Shape := ⟨3, ![4, 9, 4096]⟩
abbrev S8x9x4096 : Shape := ⟨3, ![8, 9, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S8x16x4096 : Shape := ⟨3, ![8, 16, 4096]⟩
abbrev S8x1x4096 : Shape := ⟨3, ![8, 1, 4096]⟩
abbrev S8x4096 : Shape := ⟨2, ![8, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S128x2048, .bf16⟩
  | .hbm, ⟨3, _⟩ => ⟨S128x2048, .bf16⟩
  | .hbm, ⟨4, _⟩ => ⟨S4096x4096, .f32⟩
  | .hbm, ⟨5, _⟩ => ⟨S16384x4096, .f32⟩
  | .hbm, ⟨6, _⟩ => ⟨S128x4096, .f32⟩
  | .hbm, ⟨7, _⟩ => ⟨S4x9x4096, .f32⟩
  | .hbm, ⟨8, _⟩ => ⟨S8x9x4096, .f32⟩
  | .hbm, ⟨9, _⟩ => ⟨S16384x4096, .bf16⟩
  | .hbm, ⟨10, _⟩ => ⟨S16384x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x1x4096, .f32⟩
  | .hbm, ⟨15, _⟩ => ⟨S4x4096, .f32⟩
  | .hbm, ⟨16, _⟩ => ⟨S4x1x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S16384x4096, .f32⟩
  | .hbm, ⟨21, _⟩ => ⟨S128x4096, .bf16⟩
  | .hbm, ⟨22, _⟩ => ⟨S128x4096, .f32⟩
  | .hbm, ⟨23, _⟩ => ⟨S8x16x4096, .f32⟩
  | .hbm, ⟨24, _⟩ => ⟨S8x16x4096, .f32⟩
  | .hbm, ⟨25, _⟩ => ⟨S8x16x4096, .f32⟩
  | .hbm, ⟨26, _⟩ => ⟨S8x1x4096, .f32⟩
  | .hbm, ⟨27, _⟩ => ⟨S8x4096, .f32⟩
  | .hbm, ⟨28, _⟩ => ⟨S8x1x4096, .f32⟩
  | .hbm, ⟨29, _⟩ => ⟨S8x16x4096, .f32⟩
  | .hbm, ⟨30, _⟩ => ⟨S8x16x4096, .f32⟩
  | .hbm, ⟨31, _⟩ => ⟨S8x16x4096, .f32⟩
  | .hbm, ⟨32, _⟩ => ⟨S128x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.ScanIdealLoop.lean ====
/- The counted loop of the scan: what its two buffers and its eight carried values hold before each step.

   One grid point runs the recurrence `h ← a · h + u` over 256 positions of 4 rows, for 512 states held as four lanes
   of 128. The two scratch buffers hold `u` (real part, imaginary part), and each position's row is overwritten by the
   state reached there. -/
module

public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import Idealize.ShloMosaic.Lib.Exec
public import Idealize.ShloMosaic.Lib.Tactic
public import Idealize.ShloMosaic.Lib.Pipeline.Kit
public import Idealize.ShloMosaic.Lib.Pipeline.Value

@[expose] public section

set_option maxRecDepth 16384

noncomputable section

namespace Cert.Proof.ScanIdeal

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The recurrence -/

/-- A state of one lane: its real and its imaginary part, 4 rows by 128 states. -/
abbrev Lane (F : FTy → Type) : Type := FVec F S4x128 .f32 × FVec F S4x128 .f32

/-- Row `t` of lane `l` for the four batch rows: the buffer holds row `b`'s position `t` at `264 b + t`. -/
def rowAt (X : Vec F S4x1056x128 .f32) (l : Fin 4) (t : ℕ) : Vec F S1x4x128 .f32 :=
  fun x => X (fun d => match d with
    | ⟨0, _⟩ => (l : Fin 4)
    | ⟨1, _⟩ => (⟨(264 * (x 1).val + t) % 1056, Nat.mod_lt _ (by decide)⟩ : Fin 1056)
    | ⟨2, _⟩ => (x 2 : Fin 128))

/-- One step of one lane: `h ← a · h + u` in complex arithmetic. -/
def laneStep (aR aI : FVec F S1x128 .f32) (h : Lane F) (uR uI : Vec F S1x4x128 .f32) : Lane F :=
  (k0_pay2 aR aI h.1 h.2 uR, k0_pay3 aR aI h.1 h.2 uI)

/-- The four lanes' states after `k` steps. -/
def states (aR aI : Fin 4 → FVec F S1x128 .f32) (XR XI : Vec F S4x1056x128 .f32) (h0 : Fin 4 → Lane F) : ℕ → Fin 4 → Lane F
  | 0 => h0
  | k + 1 => fun l => laneStep (aR l) (aI l) (states aR aI XR XI h0 k l) (rowAt XR l k) (rowAt XI l k)

/-- A buffer of rows after `k` steps: the rows passed hold the states reached, the others what they held. -/
def filled (X : Vec F S4x1056x128 .f32) (H : ℕ → Fin 4 → FVec F S4x128 .f32) (k : ℕ) : Vec F S4x1056x128 .f32 :=
  fun j => if (j 1).val % 264 < k then
      H ((j 1).val % 264 + 1) (j 0) (fun d => match d with
        | ⟨0, _⟩ => (⟨(j 1).val / 264 % 4, Nat.mod_lt _ (by decide)⟩ : Fin 4)
        | ⟨1, _⟩ => (j 2 : Fin 128))
    else X j

theorem filled_zero (X : Vec F S4x1056x128 .f32) (H : ℕ → Fin 4 → FVec F S4x128 .f32) : filled X H 0 = X := by
  funext j; simp [filled]

/-- The carried values as the loop passes them. -/
abbrev tup (h : Fin 4 → Lane F) : FVec F S4x128 .f32 × FVec F S4x128 .f32 × FVec F S4x128 .f32 × FVec F S4x128 .f32 × FVec F S4x128 .f32 × FVec F S4x128 .f32 × FVec F S4x128 .f32 × FVec F S4x128 .f32 :=
  ((h 0).1, (h 0).2, (h 1).1, (h 1).2, (h 2).1, (h 2).2, (h 3).1, (h 3).2)

abbrev untup (i : FVec F S4x128 .f32 × FVec F S4x128 .f32 × FVec F S4x128 .f32 × FVec F S4x128 .f32 × FVec F S4x128 .f32 × FVec F S4x128 .f32 × FVec F S4x128 .f32 × FVec F S4x128 .f32) : Fin 4 → Lane F :=
  ![(i.1, i.2.1), (i.2.2.1, i.2.2.2.1), (i.2.2.2.2.1, i.2.2.2.2.2.1), (i.2.2.2.2.2.2.1, i.2.2.2.2.2.2.2)]

theorem trips_eq : k0_t1_loop.trips = 256 := by decide +kernel

/-! ## One step's rectangles -/

/-- The four rows one store goes to, by coordinates. -/
theorem rect_mem {l t : ℕ} {off : Fin 3 → ℕ} (ho : off = ![l, t, 0]) (inb) (j : S4x1056x128.Idx) :
    j ∈ (⟨off, S1x4x128.size, ![1, 264, 1], inb⟩ : LoadRect S4x1056x128).set ↔ (j 0).val = l ∧ ∃ b < 4, (j 1).val = t + 264 * b := by
  subst ho
  rw [LoadRect.mem_set]
  constructor
  · intro h
    obtain ⟨x0, h0, e0⟩ := h 0
    obtain ⟨x1, h1, e1⟩ := h 1
    change x0 < 1 at h0
    change x1 < 4 at h1
    change (j 0).val = l + 1 * x0 at e0
    change (j 1).val = t + 264 * x1 at e1
    exact ⟨by omega, x1, h1, e1⟩
  · rintro ⟨h0, b, hb, hb'⟩ a
    fin_cases a
    · exact ⟨0, Nat.zero_lt_one, by simpa using h0⟩
    · exact ⟨b, hb, hb'⟩
    · exact ⟨(j 2).val, (j 2).isLt, by show (j 2).val = 0 + 1 * (j 2).val; omega⟩

/-- What a load of those rows reads off a half-filled buffer, before the position is passed. -/
theorem load_filled (X : Vec F S4x1056x128 .f32) (H : ℕ → Fin 4 → FVec F S4x128 .f32) (l : Fin 4) (k : ℕ) (hk : k < 256)
    {off : Fin 3 → ℕ} (ho : off = ![l.val, k, 0]) (inb) (x : S1x4x128.Idx) :
    filled X H k ((⟨off, S1x4x128.size, ![1, 264, 1], inb⟩ : LoadRect S4x1056x128).idx x) = rowAt X l k x := by
  subst ho
  have hx1 : (x 1).val < 4 := (x 1).isLt
  have hx0 : (x 0).val < 1 := (x 0).isLt
  have e1 : (((⟨![l.val, k, 0], S1x4x128.size, ![1, 264, 1], inb⟩ : LoadRect S4x1056x128).idx x) 1).val = k + 264 * (x 1).val := rfl
  unfold filled
  rw [if_neg (by rw [e1]; omega)]
  unfold rowAt
  congr 1
  funext d
  fin_cases d <;> apply Fin.ext
  · show l.val + 1 * (x 0).val = l.val; omega
  · show k + 264 * (x 1).val = (264 * (x 1).val + k) % 1056; omega
  · show 0 + 1 * (x 2).val = (x 2).val; omega

/-! ## The two buffers across the loop -/

section Trip

variable (c : Dev nD)

/-- A buffer of rows at step `k`: at entry what it held, later the rows passed overwritten. -/
def fillBuf (M : Memref sig .tc .vmem S4x1056x128 .f32) (hM : M.IsWhole) (G : M.view.ty.Contents (Elt F))
    (H : ℕ → Fin 4 → FVec F S4x128 .f32) : ℕ → M.view.ty.Contents (Elt F)
  | 0 => G
  | k + 1 => hM.unread (filled (M.view.read (Elt F) G) H (k + 1))

theorem read_fillBuf (M : Memref sig .tc .vmem S4x1056x128 .f32) (hM : M.IsWhole) (G : M.view.ty.Contents (Elt F))
    (H : ℕ → Fin 4 → FVec F S4x128 .f32) (k : ℕ) :
    M.view.read (Elt F) (fillBuf M hM G H k) = filled (M.view.read (Elt F) G) H k := by
  cases k with
  | zero => rw [filled_zero]; rfl
  | succ k => exact hM.read_unread _

/-- Four stores, one per lane, of the states reached at step `k` take the buffer from step `k` to step `k + 1`. -/
theorem fillBuf_step (M : Memref sig .tc .vmem S4x1056x128 .f32) (hM : M.IsWhole) (G : M.view.ty.Contents (Elt F))
    (H : ℕ → Fin 4 → FVec F S4x128 .f32) (k : ℕ) (hk : k < 256) {o0 o1 o2 o3 : Fin 3 → ℕ}
    (e0 : o0 = ![0, k, 0]) (e1 : o1 = ![1, k, 0]) (e2 : o2 = ![2, k, 0]) (e3 : o3 = ![3, k, 0]) (i0 i1 i2 i3)
    (s0 s1 s2 s3) (p0 p1 p2 p3 : Vec F S1x4x128 .f32)
    (q0 : ∀ x, p0 x = H (k + 1) 0 (fun d => match d with | ⟨0, _⟩ => (x 1 : Fin 4) | ⟨1, _⟩ => (x 2 : Fin 128)))
    (q1 : ∀ x, p1 x = H (k + 1) 1 (fun d => match d with | ⟨0, _⟩ => (x 1 : Fin 4) | ⟨1, _⟩ => (x 2 : Fin 128)))
    (q2 : ∀ x, p2 x = H (k + 1) 2 (fun d => match d with | ⟨0, _⟩ => (x 1 : Fin 4) | ⟨1, _⟩ => (x 2 : Fin 128)))
    (q3 : ∀ x, p3 x = H (k + 1) 3 (fun d => match d with | ⟨0, _⟩ => (x 1 : Fin 4) | ⟨1, _⟩ => (x 2 : Fin 128))) :
    M.view.writes (Elt F) (fillBuf M hM G H k)
      [⟨⟨⟨o3, S1x4x128.size, ![1, 264, 1], i3⟩, s3⟩, p3⟩, ⟨⟨⟨o2, S1x4x128.size, ![1, 264, 1], i2⟩, s2⟩, p2⟩,
       ⟨⟨⟨o1, S1x4x128.size, ![1, 264, 1], i1⟩, s1⟩, p1⟩, ⟨⟨⟨o0, S1x4x128.size, ![1, 264, 1], i0⟩, s0⟩, p0⟩]
      = fillBuf M hM G H (k + 1) := by
  refine hM.eq_unread ?_
  funext j
  have hj1 : (j 1).val < 1056 := (j 1).isLt
  have hj0 : (j 0).val < 4 := (j 0).isLt
  by_cases hj : (j 1).val % 264 = k
  · refine View.read_writes_apply_of_pieces _ _ (filled (M.view.read (Elt F) G) H (k + 1)) _ ?_ j ?_
    · have key : ∀ (l : Fin 4) (o : Fin 3 → ℕ) (e : o = ![l.val, k, 0]) (i) (s) (p : Vec F S1x4x128 .f32)
          (q : ∀ x, p x = H (k + 1) l (fun d => match d with | ⟨0, _⟩ => (x 1 : Fin 4) | ⟨1, _⟩ => (x 2 : Fin 128)))
          (x : S1x4x128.Idx), p x = filled (M.view.read (Elt F) G) H (k + 1)
            ((⟨⟨o, S1x4x128.size, ![1, 264, 1], i⟩, s⟩ : Rect S4x1056x128).emb x) := by
        intro l o e i s p q x
        subst e
        have hx1 : (x 1).val < 4 := (x 1).isLt
        have hx0 : (x 0).val < 1 := (x 0).isLt
        rw [q]
        unfold filled
        have e1 : ((((⟨⟨![l.val, k, 0], S1x4x128.size, ![1, 264, 1], i⟩, s⟩ : Rect S4x1056x128).emb x) 1)).val = k + 264 * (x 1).val := rfl
        rw [if_pos (by rw [e1]; omega)]
        have e2 : (((⟨⟨![l.val, k, 0], S1x4x128.size, ![1, 264, 1], i⟩, s⟩ : Rect S4x1056x128).emb x) 0) = l := by
          apply Fin.ext
          show l.val + 1 * (x 0).val = l.val
          omega
        refine congr (congr (congrArg H (?_ : k + 1 = _)) e2.symm) ?_
        · rw [e1]; omega
        · funext d
          fin_cases d <;> apply Fin.ext
          · show (x 1).val = (k + 264 * (x 1).val) / 264 % 4; omega
          · show (x 2).val = 0 + 1 * (x 2).val; omega
      intro p hp
      simp only [List.mem_cons, List.not_mem_nil, _root_.or_false] at hp
      rcases hp with rfl | rfl | rfl | rfl
      · exact key 3 _ e3 _ _ _ q3
      · exact key 2 _ e2 _ _ _ q2
      · exact key 1 _ e1 _ _ _ q1
      · exact key 0 _ e0 _ _ _ q0
    · have hb : ∃ b < 4, (j 1).val = k + 264 * b := ⟨(j 1).val / 264, by omega, by omega⟩
      have c0 := rect_mem (l := 0) e0 i0 j
      have c1 := rect_mem (l := 1) e1 i1 j
      have c2 := rect_mem (l := 2) e2 i2 j
      have c3 := rect_mem (l := 3) e3 i3 j
      rcases (show (j 0).val = 0 ∨ (j 0).val = 1 ∨ (j 0).val = 2 ∨ (j 0).val = 3 by omega) with h | h | h | h
      · exact ⟨_, List.mem_cons_of_mem _ (List.mem_cons_of_mem _ (List.mem_cons_of_mem _ (List.mem_cons_self ..))), c0.2 ⟨h, hb⟩⟩
      · exact ⟨_, List.mem_cons_of_mem _ (List.mem_cons_of_mem _ (List.mem_cons_self ..)), c1.2 ⟨h, hb⟩⟩
      · exact ⟨_, List.mem_cons_of_mem _ (List.mem_cons_self ..), c2.2 ⟨h, hb⟩⟩
      · exact ⟨_, List.mem_cons_self .., c3.2 ⟨h, hb⟩⟩
  · rw [View.read_writes_apply_of_forall_not_mem]
    · rw [read_fillBuf]
      unfold filled
      by_cases h : (j 1).val % 264 < k
      · rw [if_pos h, if_pos (by omega)]
      · rw [if_neg h, if_neg (by omega)]
    · have key : ∀ (l : ℕ) (o : Fin 3 → ℕ) (e : o = ![l, k, 0]) (i), ¬ j ∈ (⟨o, S1x4x128.size, ![1, 264, 1], i⟩ : LoadRect S4x1056x128).set := by
        intro l o e i hm
        obtain ⟨_, b, hb, hb'⟩ := (rect_mem e i j).1 hm
        omega
      intro p hp
      simp only [List.mem_cons, List.not_mem_nil, _root_.or_false] at hp
      rcases hp with rfl | rfl | rfl | rfl
      · exact key _ _ e3 _
      · exact key _ _ e2 _
      · exact key _ _ e1 _
      · exact key _ _ e0 _

/-- The states the loop goes through from what its buffers hold at entry and the carried values it starts from. -/
abbrev loopStates (M18 M19 : Memref sig .tc .vmem S4x1056x128 .f32) (G18 : M18.view.ty.Contents (Elt F)) (G19 : M19.view.ty.Contents (Elt F))
    (aR aI : Fin 4 → FVec F S1x128 .f32) (h0 : Fin 4 → Lane F) : ℕ → Fin 4 → Lane F :=
  states aR aI (M18.view.read (Elt F) G18) (M19.view.read (Elt F) G19) h0

variable (i : grid0.Coords) (arg2 : Memref sig .tc .vmem S4x256x128 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S4x512 .f32) (harg12 : arg12.IsWhole) (arg13 : Memref sig .tc .vmem S4x512 .f32) (harg13 : arg13.IsWhole) (arg14 : Memref sig .tc .vmem S4x256x128 .bf16) (harg14 : arg14.IsWhole) (arg15 : Memref sig .tc .vmem S4x512 .f32) (harg15 : arg15.IsWhole) (arg16 : Memref sig .tc .vmem S4x512 .f32) (harg16 : arg16.IsWhole) (arg17 : Memref sig .tc .vmem S1056x128 .f32) (harg17 : arg17.IsWhole) (arg18 : Memref sig .tc .vmem S4x1056x128 .f32) (harg18 : arg18.IsWhole) (arg19 : Memref sig .tc .vmem S4x1056x128 .f32) (harg19 : arg19.IsWhole) (v83 : FVec F S1x128 .f32) (v85 : FVec F S1x128 .f32) (v87 : FVec F S1x128 .f32) (v89 : FVec F S1x128 .f32) (v91 : FVec F S1x128 .f32) (v93 : FVec F S1x128 .f32) (v95 : FVec F S1x128 .f32) (v97 : FVec F S1x128 .f32) (v99 : FVec F S4x128 .f32) (v101 : FVec F S4x128 .f32) (v103 : FVec F S4x128 .f32) (v105 : FVec F S4x128 .f32) (v107 : FVec F S4x128 .f32) (v109 : FVec F S4x128 .f32) (v111 : FVec F S4x128 .f32) (v112 : Vec F S4x128 .f32)

set_option maxHeartbeats 1000000 in
set_option warn.classDefReducibility false in
/-- The loop's invariant: before step `k` the two buffers hold the states reached at the positions passed, and the
    carried values are the four lanes' states. -/
@[sl_loop] def loopInv (G18 : arg18.view.ty.Contents (Elt F)) (G19 : arg19.view.ty.Contents (Elt F)) (init : FVec F S4x128 .f32 × FVec F S4x128 .f32 × FVec F S4x128 .f32 × FVec F S4x128 .f32 × FVec F S4x128 .f32 × FVec F S4x128 .f32 × FVec F S4x128 .f32 × FVec F S4x128 .f32) :
    Cert.ScanIdeal.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v83 v85 v87 v89 v91 v93 v95 v97 v99 v101 v103 v105 v107 v109 v111 v112 init where
  inv k acc := iprop(
    (arg18.view.loc (c : Thread nD τ) ↦[arg18.view.set]{fullShare} fillBuf arg18 harg18 G18 (fun k l => (loopStates arg18 arg19 G18 G19 ![v83, v85, v87, v89] ![v91, v93, v95, v97] (untup init) k l).1) k)
    ∗ (arg19.view.loc (c : Thread nD τ) ↦[arg19.view.set]{fullShare} fillBuf arg19 harg19 G19 (fun k l => (loopStates arg18 arg19 G18 G19 ![v83, v85, v87, v89] ![v91, v93, v95, v97] (untup init) k l).2) k)
    ∗ ⌜acc = tup (loopStates arg18 arg19 G18 G19 ![v83, v85, v87, v89] ![v91, v93, v95, v97] (untup init) k)⌝)
  step k acc := by
    have hk : k.val < 256 := lt_of_lt_of_eq k.isLt trips_eq
    set S := loopStates arg18 arg19 G18 G19 ![v83, v85, v87, v89] ![v91, v93, v95, v97] (untup init) with hS
    iintro ⟨H18, H19, %hacc⟩
    subst hacc
    sl_unfold [k0_t1_body]
    sl_exec
    sl_step
    have rd : ∀ (M : Memref sig .tc .vmem S4x1056x128 .f32) (hM : M.IsWhole) (G : M.view.ty.Contents (Elt F)) (H : ℕ → Fin 4 → FVec F S4x128 .f32)
        (l : Fin 4) (off : Fin 3 → ℕ) (ho : off = ![l.val, k.val, 0]) (inb),
        M.view.readAt (Elt F) (⟨off, S1x4x128.size, ![1, 264, 1], inb⟩ : LoadRect S4x1056x128) (fillBuf M hM G H k.val)
          = rowAt (M.view.read (Elt F) G) l k.val := by
      intro M hM G H l off ho inb
      funext x
      show M.view.read (Elt F) (fillBuf M hM G H k.val) ((⟨off, S1x4x128.size, ![1, 264, 1], inb⟩ : LoadRect S4x1056x128).idx x) = _
      rw [read_fillBuf]
      exact load_filled _ H l k.val hk ho inb x
    have row : ∀ (v : FVec F S4x128 .f32) (x : S1x4x128.Idx), shapeCast S1x4x128 v shapeCasts_S4x128_S1x4x128 x
        = v (fun d => match d with | ⟨0, _⟩ => (x 1 : Fin 4) | ⟨1, _⟩ => (x 2 : Fin 128)) := by
      intro v x
      refine (shapeCast_addUnit_apply ![4, 128] v _ x).trans (congrArg v ?_)
      funext d; fin_cases d <;> rfl
    have r0 := rd arg18 harg18 G18 (fun k l => (S k l).1) 0 _ (k0_off1_eq k) (k0_off1_inb k)
    have r1 := rd arg18 harg18 G18 (fun k l => (S k l).1) 1 _ (k0_off2_eq k) (k0_off2_inb k)
    have r2 := rd arg18 harg18 G18 (fun k l => (S k l).1) 2 _ (k0_off3_eq k) (k0_off3_inb k)
    have r3 := rd arg18 harg18 G18 (fun k l => (S k l).1) 3 _ (k0_off4_eq k) (k0_off4_inb k)
    have i0 := rd arg19 harg19 G19 (fun k l => (S k l).2) 0 _ (k0_off1_eq k) (k0_off1_inb k)
    have i1 := rd arg19 harg19 G19 (fun k l => (S k l).2) 1 _ (k0_off2_eq k) (k0_off2_inb k)
    have i2 := rd arg19 harg19 G19 (fun k l => (S k l).2) 2 _ (k0_off3_eq k) (k0_off3_inb k)
    have i3 := rd arg19 harg19 G19 (fun k l => (S k l).2) 3 _ (k0_off4_eq k) (k0_off4_inb k)
    have sR : ∀ l, (S (k.val + 1) l).1 = k0_pay2 (![v83, v85, v87, v89] l) (![v91, v93, v95, v97] l) (S k.val l).1 (S k.val l).2 (rowAt (arg18.view.read (Elt F) G18) l k.val) := fun _ => rfl
    have sI : ∀ l, (S (k.val + 1) l).2 = k0_pay3 (![v83, v85, v87, v89] l) (![v91, v93, v95, v97] l) (S k.val l).1 (S k.val l).2 (rowAt (arg19.view.read (Elt F) G19) l k.val) := fun _ => rfl
    have R0 : ∀ X, X = rowAt (arg18.view.read (Elt F) G18) 0 k.val → k0_pay2 v83 v91 (S k.val 0).1 (S k.val 0).2 X = (S (k.val + 1) 0).1 := by rintro _ rfl; rfl
    have R1 : ∀ X, X = rowAt (arg18.view.read (Elt F) G18) 1 k.val → k0_pay6 v85 v93 (S k.val 1).1 (S k.val 1).2 X = (S (k.val + 1) 1).1 := by rintro _ rfl; rfl
    have R2 : ∀ X, X = rowAt (arg18.view.read (Elt F) G18) 2 k.val → k0_pay10 v87 v95 (S k.val 2).1 (S k.val 2).2 X = (S (k.val + 1) 2).1 := by rintro _ rfl; rfl
    have R3 : ∀ X, X = rowAt (arg18.view.read (Elt F) G18) 3 k.val → k0_pay14 v89 v97 (S k.val 3).1 (S k.val 3).2 X = (S (k.val + 1) 3).1 := by rintro _ rfl; rfl
    have I0 : ∀ X, X = rowAt (arg19.view.read (Elt F) G19) 0 k.val → k0_pay3 v83 v91 (S k.val 0).1 (S k.val 0).2 X = (S (k.val + 1) 0).2 := by rintro _ rfl; rfl
    have I1 : ∀ X, X = rowAt (arg19.view.read (Elt F) G19) 1 k.val → k0_pay7 v85 v93 (S k.val 1).1 (S k.val 1).2 X = (S (k.val + 1) 1).2 := by rintro _ rfl; rfl
    have I2 : ∀ X, X = rowAt (arg19.view.read (Elt F) G19) 2 k.val → k0_pay11 v87 v95 (S k.val 2).1 (S k.val 2).2 X = (S (k.val + 1) 2).2 := by rintro _ rfl; rfl
    have I3 : ∀ X, X = rowAt (arg19.view.read (Elt F) G19) 3 k.val → k0_pay52 v89 v97 (S k.val 3).1 (S k.val 3).2 X = (S (k.val + 1) 3).2 := by rintro _ rfl; rfl
    isplitl [H18]
    · irw [← fillBuf_step arg18 harg18 G18 (fun k l => (S k l).1) k.val hk (k0_off1_eq k) (k0_off2_eq k) (k0_off3_eq k) (k0_off4_eq k) (k0_off1_inb k) (k0_off2_inb k) (k0_off3_inb k) (k0_off4_inb k) spos_1_264_1 spos_1_264_1 spos_1_264_1 spos_1_264_1 _ _ _ _
        (fun x => (row _ x).trans (congrFun (R0 _ r0) _)) (fun x => (row _ x).trans (congrFun (R1 _ r1) _))
        (fun x => (row _ x).trans (congrFun (R2 _ r2) _)) (fun x => (row _ x).trans (congrFun (R3 _ r3) _))]
      iexact H18
    isplitl [H19]
    · irw [← fillBuf_step arg19 harg19 G19 (fun k l => (S k l).2) k.val hk (k0_off1_eq k) (k0_off2_eq k) (k0_off3_eq k) (k0_off4_eq k) (k0_off1_inb k) (k0_off2_inb k) (k0_off3_inb k) (k0_off4_inb k) spos_1_264_1 spos_1_264_1 spos_1_264_1 spos_1_264_1 _ _ _ _
        (fun x => (row _ x).trans (congrFun (I0 _ i0) _)) (fun x => (row _ x).trans (congrFun (I1 _ i1) _))
        (fun x => (row _ x).trans (congrFun (I2 _ i2) _)) (fun x => (row _ x).trans (congrFun (I3 _ i3) _))]
      iexact H19
    ipureintro
    exact Prod.ext (R0 _ r0) (Prod.ext (I0 _ i0) (Prod.ext (R1 _ r1) (Prod.ext (I1 _ i1) (Prod.ext (R2 _ r2) (Prod.ext (I2 _ i2) (Prod.ext (R3 _ r3) (I3 _ i3)))))))

end Trip

end Cert.Proof.ScanIdeal
-- ==== Proof.ScanIdealPoint.lean ====
/- What one grid point of the scan computes, as functions of the blocks it reads, and that its stores leave them. -/
module

public import proofs.«01_k».proof.Proof.ScanIdealLoop
public import proofs.«01_k».proof.Proof.Gen.ScanIdeal.Skeleton
public import Idealize.ShloMosaic.Lib.ValueIdxCore
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import Idealize.ShloMosaic.Lib.Exec
public import Idealize.ShloMosaic.Lib.Tactic
public import Idealize.ShloMosaic.Lib.Pipeline.Kit
public import Idealize.ShloMosaic.Lib.Pipeline.Value

@[expose] public section

set_option maxRecDepth 16384

noncomputable section

namespace Cert.Proof.ScanIdeal

open Cert.ScanIdeal Cert.ScanIdeal.Gen
open Idealize.ShloMosaic.ValueIdx (ix2 ix3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The blocks as functions -/

/-- The input block with its four rows below one another, each followed by 8 rows of zeros. -/
def uBlk (x : Vec F S4x256x128 .f32) : Vec F S1056x128 .f32 := fun j =>
  if (j 0).val % 264 < 256 then
    x (ix3 (⟨(j 0).val / 264 % 4, Nat.mod_lt _ (by decide)⟩ : Fin 4) (⟨(j 0).val % 264 % 256, Nat.mod_lt _ (by decide)⟩ : Fin 256) (j 1 : Fin 128))
  else (Scalar.ofBits .f32 0x00000000#32 : F .f32)

/-- A matrix of 512 columns as four lanes of 128. -/
def lanesOf (v : Vec F S1056x512 .f32) : Vec F S4x1056x128 .f32 := fun j =>
  v (ix2 (j 1 : Fin 1056) (⟨(128 * (j 0).val + (j 2).val) % 512, Nat.mod_lt _ (by decide)⟩ : Fin 512))

/-- One lane of the decay. -/
def aLane (x : Vec F S1x1x512 .f32) (l : Fin 4) : FVec F S1x128 .f32 := fun i =>
  x (ix3 (0 : Fin 1) (0 : Fin 1) (⟨(128 * l.val + (i 1).val) % 512, Nat.mod_lt _ (by decide)⟩ : Fin 512))

/-- One lane of a state. -/
def hLane (x : Vec F S4x512 .f32) (l : Fin 4) : FVec F S4x128 .f32 := fun i =>
  x (ix2 (i 0 : Fin 4) (⟨(128 * l.val + (i 1).val) % 512, Nat.mod_lt _ (by decide)⟩ : Fin 512))

/-- The four lanes side by side. -/
def ofLanes (h : Fin 4 → FVec F S4x128 .f32) : Vec F S4x512 .f32 := fun j =>
  h (⟨(j 1).val / 128 % 4, Nat.mod_lt _ (by decide)⟩ : Fin 4) (ix2 (j 0 : Fin 4) (⟨(j 1).val % 128, Nat.mod_lt _ (by decide)⟩ : Fin 128))

/-- One lane of a buffer of rows. -/
def plane (X : Vec F S4x1056x128 .f32) (l : Fin 4) : Vec F S1x1056x128 .f32 := fun j => X (ix3 l (j 1 : Fin 1056) (j 2 : Fin 128))

section Fns

variable (x2 : Vec F S4x256x128 .f32) (x3 x4 : Vec F S1x128x512 .f32) (x5 x6 : Vec F S1x512x128 .f32) (x7 : Vec F S1x1x128 .f32)
  (x8 : Vec F S1x128x128 .f32) (x9 : Vec F S1x1x128 .f32) (x10 x11 : Vec F S1x1x512 .f32) (h15 h16 : Vec F S4x512 .f32)

/-- The input's rows through the two input matrices. -/
def xRe : Vec F S4x1056x128 .f32 := lanesOf (k0_pay26 (uBlk x2) x3)
def xIm : Vec F S4x1056x128 .f32 := lanesOf (k0_pay27 (uBlk x2) x4)

/-- The states the grid point goes through. -/
def ptStates : ℕ → Fin 4 → Lane F :=
  states (aLane x10) (aLane x11) (xRe x2 x3) (xIm x2 x4) (fun l => (hLane h15 l, hLane h16 l))

/-- The states it leaves. -/
def hOutR : Vec F S4x512 .f32 := ofLanes fun l => (ptStates x2 x3 x4 x10 x11 h15 h16 256 l).1
def hOutI : Vec F S4x512 .f32 := ofLanes fun l => (ptStates x2 x3 x4 x10 x11 h15 h16 256 l).2

/-- The rows of states. -/
def hsRe : Vec F S4x1056x128 .f32 := filled (xRe x2 x3) (fun k l => (ptStates x2 x3 x4 x10 x11 h15 h16 k l).1) 256
def hsIm : Vec F S4x1056x128 .f32 := filled (xIm x2 x4) (fun k l => (ptStates x2 x3 x4 x10 x11 h15 h16 k l).2) 256

/-- The rows that go to the output block. -/
def rowsOut (u : Vec F S1056x128 .f32) (XR XI : Vec F S4x1056x128 .f32) : FVec F S1056x128 .f32 :=
  k0_pay59
    (k0_pay57 u (k0_pay55 (plane XR 0) (plane XR 1) (plane XR 2) (plane XR 3)) (plane XI 0) (plane XI 1) (plane XI 2) (plane XI 3) x5 x6 x7)
    (k0_pay58 u (k0_pay55 (plane XR 0) (plane XR 1) (plane XR 2) (plane XR 3)) (plane XI 0) (plane XI 1) (plane XI 2) (plane XI 3) x5 x6 x7)
    x8 x9

/-- The output block's element of row `b`, position `t`, from the rows. -/
def pickRows (r : FVec F S1056x128 .f32) : Vec F S4x256x128 .bf16 := fun j =>
  truncf .bf16 r bitsLt_bf16_f32 (ix2 (⟨(264 * (j 0).val + (j 1).val) % 1056, Nat.mod_lt _ (by decide)⟩ : Fin 1056) (j 2 : Fin 128))

def oBlk : Vec F S4x256x128 .bf16 :=
  pickRows (rowsOut x5 x6 x7 x8 x9 (uBlk x2) (hsRe x2 x3 x4 x10 x11 h15 h16) (hsIm x2 x3 x4 x10 x11 h15 h16))

end Fns

/-! ## Reads -/

theorem unit_mem {s : Shape} {off size : Fin s.rank → ℕ} {inb : ∀ a, off a + size a ≤ s.size a} (j : s.Idx)
    (h : ∀ a, off a ≤ (j a).val ∧ (j a).val < off a + size a) : j ∈ (Rect.unit off size inb).set := by
  refine (LoadRect.mem_set _).2 fun a => ⟨(j a).val - off a, ?_, ?_⟩
  · have := h a
    show (j a).val - off a < size a
    omega
  · have := h a
    show (j a).val = off a + 1 * ((j a).val - off a)
    omega

theorem readAt_unread {s : Shape} {e : EltTy} (M : Memref sig .tc .vmem s e) (hM : M.IsWhole) (x : Vec F s e) (r : LoadRect s) :
    M.view.readAt (Elt F) r (hM.unread x) = fun i => x (r.idx i) := by
  funext i
  show M.view.read (Elt F) (hM.unread x) (r.idx i) = _
  rw [hM.read_unread]

theorem readAt_unread_whole {s : Shape} {e : EltTy} (M : Memref sig .tc .vmem s e) (hM : M.IsWhole) (x : Vec F s e) {off : Fin s.rank → ℕ}
    (h : ∀ a, off a = 0) (inb : ∀ a, off a + s.size a ≤ s.size a) :
    M.view.readAt (Elt F) (Rect.unit off s.size inb).toLoadRect (hM.unread x) = x := by
  rw [readAt_unread]
  funext i
  congr 1
  funext a
  apply Fin.ext
  show off a + 1 * (i a).val = (i a).val
  rw [h a]; omega

theorem readAt_whole {s : Shape} {e : EltTy} (M : Memref sig .tc .vmem s e) (f : M.view.ty.Contents (Elt F)) {off : Fin s.rank → ℕ}
    (h : ∀ a, off a = 0) (inb : ∀ a, off a + s.size a ≤ s.size a) :
    M.view.readAt (Elt F) (Rect.unit off s.size inb).toLoadRect f = M.view.read (Elt F) f := by
  funext i
  show M.view.read (Elt F) f ((Rect.unit off s.size inb).toLoadRect.idx i) = _
  congr 1
  funext a
  apply Fin.ext
  show off a + 1 * (i a).val = (i a).val
  rw [h a]; omega

theorem cast_drop {d0 d1 : ℕ} {α : Type} (v : (⟨3, ![1, d0, d1]⟩ : Shape).Idx → α) (h) (j : (⟨2, ![d0, d1]⟩ : Shape).Idx) :
    shapeCast ⟨2, ![d0, d1]⟩ v h j = v (ix3 (0 : Fin 1) (j 0 : Fin d0) (j 1 : Fin d1)) := by
  refine (shapeCast_dropUnit_apply ![d0, d1] v h j).trans (congrArg v ?_)
  funext d; fin_cases d <;> rfl

theorem cast_add {d0 d1 : ℕ} {α : Type} (v : (⟨2, ![d0, d1]⟩ : Shape).Idx → α) (h) (j : (⟨3, ![1, d0, d1]⟩ : Shape).Idx) :
    shapeCast ⟨3, ![1, d0, d1]⟩ v h j = v (ix2 (j 1 : Fin d0) (j 2 : Fin d1)) := by
  refine (shapeCast_addUnit_apply ![d0, d1] v h j).trans (congrArg v ?_)
  funext d; fin_cases d <;> rfl

theorem cast_drop_self (v : Vec F S1x256x128 .f32) (h h') (x : S256x128.Idx) :
    shapeCast S256x128 (shapeCast S256x128 v h) h' x = v (ix3 (0 : Fin 1) (x 0 : Fin 256) (x 1 : Fin 128)) :=
  (congrFun (shapeCast_self (shapeCast S256x128 v h) h') x).trans (cast_drop v h x)

theorem read17 (M : Memref sig .tc .vmem S1056x128 .f32) (f : M.view.ty.Contents (Elt F)) (M2 : Memref sig .tc .vmem S4x256x128 .f32) (hM2 : M2.IsWhole)
    (x2 : Vec F S4x256x128 .f32) :
    M.view.read (Elt F) (M.view.writes (Elt F) f
      [⟨Rect.unit (s := S1056x128) ![1048, 0] S8x128.size inb_S1056x128_S8x128_1048_0, k0_pay25⟩,
       ⟨Rect.unit (s := S1056x128) ![792, 0] S256x128.size inb_S1056x128_S256x128_792_0, k0_pay24 (M2.view.readAt (Elt F) (Rect.unit (s := S4x256x128) ![3, 0, 0] S1x256x128.size inb_S4x256x128_S1x256x128_3_0_0).toLoadRect (hM2.unread x2))⟩,
       ⟨Rect.unit (s := S1056x128) ![784, 0] S8x128.size inb_S1056x128_S8x128_784_0, k0_pay23 k0_pay22⟩,
       ⟨Rect.unit (s := S1056x128) ![528, 0] S256x128.size inb_S1056x128_S256x128_528_0, k0_pay21 (M2.view.readAt (Elt F) (Rect.unit (s := S4x256x128) ![2, 0, 0] S1x256x128.size inb_S4x256x128_S1x256x128_2_0_0).toLoadRect (hM2.unread x2))⟩,
       ⟨Rect.unit (s := S1056x128) ![520, 0] S8x128.size inb_S1056x128_S8x128_520_0, k0_pay20⟩,
       ⟨Rect.unit (s := S1056x128) ![264, 0] S256x128.size inb_S1056x128_S256x128_264_0, k0_pay19 (M2.view.readAt (Elt F) (Rect.unit (s := S4x256x128) ![1, 0, 0] S1x256x128.size inb_S4x256x128_S1x256x128_1_0_0).toLoadRect (hM2.unread x2))⟩,
       ⟨Rect.unit (s := S1056x128) ![256, 0] S8x128.size inb_S1056x128_S8x128_256_0, k0_pay18⟩,
       ⟨Rect.unit (s := S1056x128) ![0, 0] S256x128.size inb_S1056x128_S256x128_0_0, k0_pay17 (M2.view.readAt (Elt F) (Rect.unit (s := S4x256x128) ![0, 0, 0] S1x256x128.size inb_S4x256x128_S1x256x128_0_0_0).toLoadRect (hM2.unread x2))⟩]) = uBlk x2 := by
  have data : ∀ (b : ℕ) (hb : b < 4) (inb) (inb') (p : FVec F S256x128 .f32)
      (hp : ∀ x, p x = (M2.view.readAt (Elt F) (Rect.unit (s := S4x256x128) ![b, 0, 0] S1x256x128.size inb).toLoadRect (hM2.unread x2)) (ix3 (0 : Fin 1) (x 0 : Fin 256) (x 1 : Fin 128)))
      (x : S256x128.Idx), p x = uBlk x2 ((Rect.unit (s := S1056x128) ![264 * b, 0] S256x128.size inb').emb x) := by
    intro b hb inb inb' p hp x
    have hx : (x 0).val < 256 := (x 0).isLt
    rw [hp, readAt_unread]
    unfold uBlk
    have e : (((Rect.unit (s := S1056x128) ![264 * b, 0] S256x128.size inb').emb x) 0).val = 264 * b + 1 * (x 0).val := rfl
    rw [if_pos (by rw [e]; omega)]
    refine congrArg x2 ?_
    funext d
    fin_cases d <;> apply Fin.ext
    · show b + 1 * 0 = (264 * b + 1 * (x 0).val) / 264 % 4; omega
    · show 0 + 1 * (x 0).val = (264 * b + 1 * (x 0).val) % 264 % 256; omega
    · show 0 + 1 * (x 1).val = 0 + 1 * (x 1).val; rfl
  have zero : ∀ (b : ℕ) (inb') (p : FVec F S8x128 .f32) (hp : ∀ x, p x = (Scalar.ofBits .f32 0x00000000#32 : F .f32))
      (x : S8x128.Idx), p x = uBlk x2 ((Rect.unit (s := S1056x128) ![264 * b + 256, 0] S8x128.size inb').emb x) := by
    intro b inb' p hp x
    have hx : (x 0).val < 8 := (x 0).isLt
    rw [hp]
    unfold uBlk
    have e : (((Rect.unit (s := S1056x128) ![264 * b + 256, 0] S8x128.size inb').emb x) 0).val = 264 * b + 256 + 1 * (x 0).val := rfl
    rw [if_neg (by rw [e]; omega)]
  funext j
  have hj : (j 0).val < 1056 := (j 0).isLt
  have hj1 : (j 1).val < 128 := (j 1).isLt
  refine View.read_writes_apply_of_pieces _ _ (uBlk x2) _ ?_ j ?_
  · intro p hp
    simp only [List.mem_cons, List.not_mem_nil, _root_.or_false] at hp
    rcases hp with rfl | rfl | rfl | rfl | rfl | rfl | rfl | rfl
    · exact zero 3 inb_S1056x128_S8x128_1048_0 _ fun x => rfl
    · exact data 3 (by decide) inb_S4x256x128_S1x256x128_3_0_0 inb_S1056x128_S256x128_792_0 _ fun x => by unfold k0_pay24; exact cast_drop_self (F := F) (M2.view.readAt (Elt F) (Rect.unit (s := S4x256x128) ![3, 0, 0] S1x256x128.size inb_S4x256x128_S1x256x128_3_0_0).toLoadRect (hM2.unread x2)) _ _ x
    · exact zero 2 inb_S1056x128_S8x128_784_0 _ fun x => rfl
    · exact data 2 (by decide) inb_S4x256x128_S1x256x128_2_0_0 inb_S1056x128_S256x128_528_0 _ fun x => by unfold k0_pay21; exact cast_drop_self (F := F) (M2.view.readAt (Elt F) (Rect.unit (s := S4x256x128) ![2, 0, 0] S1x256x128.size inb_S4x256x128_S1x256x128_2_0_0).toLoadRect (hM2.unread x2)) _ _ x
    · exact zero 1 inb_S1056x128_S8x128_520_0 _ fun x => rfl
    · exact data 1 (by decide) inb_S4x256x128_S1x256x128_1_0_0 inb_S1056x128_S256x128_264_0 _ fun x => by unfold k0_pay19; exact cast_drop_self (F := F) (M2.view.readAt (Elt F) (Rect.unit (s := S4x256x128) ![1, 0, 0] S1x256x128.size inb_S4x256x128_S1x256x128_1_0_0).toLoadRect (hM2.unread x2)) _ _ x
    · exact zero 0 inb_S1056x128_S8x128_256_0 _ fun x => rfl
    · exact data 0 (by decide) inb_S4x256x128_S1x256x128_0_0_0 inb_S1056x128_S256x128_0_0 _ fun x => by unfold k0_pay17; exact cast_drop_self (F := F) (M2.view.readAt (Elt F) (Rect.unit (s := S4x256x128) ![0, 0, 0] S1x256x128.size inb_S4x256x128_S1x256x128_0_0_0).toLoadRect (hM2.unread x2)) _ _ x
  · have hm : ∀ (o n : ℕ) (inb), o ≤ (j 0).val ∧ (j 0).val < o + n → j ∈ (Rect.unit (s := S1056x128) ![o, 0] ![n, 128] inb).set := by
      intro o n inb h
      refine unit_mem j fun a => ?_
      fin_cases a
      · exact h
      · exact ⟨Nat.zero_le _, by show (j 1).val < 0 + 128; omega⟩
    rcases (show (j 0).val < 256 ∨ (256 ≤ (j 0).val ∧ (j 0).val < 264) ∨ (264 ≤ (j 0).val ∧ (j 0).val < 520) ∨ (520 ≤ (j 0).val ∧ (j 0).val < 528) ∨ (528 ≤ (j 0).val ∧ (j 0).val < 784) ∨ (784 ≤ (j 0).val ∧ (j 0).val < 792) ∨ (792 ≤ (j 0).val ∧ (j 0).val < 1048) ∨ 1048 ≤ (j 0).val by omega) with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), hm 0 256 inb_S1056x128_S256x128_0_0 (by omega)⟩
    · exact ⟨_, List.mem_cons_of_mem _ (List.mem_cons_of_mem _ (List.mem_cons_of_mem _ (List.mem_cons_of_mem _ (List.mem_cons_of_mem _ (List.mem_cons_of_mem _ (List.mem_cons_self ..)))))), hm 256 8 inb_S1056x128_S8x128_256_0 (by omega)⟩
    · exact ⟨_, List.mem_cons_of_mem _ (List.mem_cons_of_mem _ (List.mem_cons_of_mem _ (List.mem_cons_of_mem _ (List.mem_cons_of_mem _ (List.mem_cons_self ..))))), hm 264 256 inb_S1056x128_S256x128_264_0 (by omega)⟩
    · exact ⟨_, List.mem_cons_of_mem _ (List.mem_cons_of_mem _ (List.mem_cons_of_mem _ (List.mem_cons_of_mem _ (List.mem_cons_self ..)))), hm 520 8 inb_S1056x128_S8x128_520_0 (by omega)⟩
    · exact ⟨_, List.mem_cons_of_mem _ (List.mem_cons_of_mem _ (List.mem_cons_of_mem _ (List.mem_cons_self ..))), hm 528 256 inb_S1056x128_S256x128_528_0 (by omega)⟩
    · exact ⟨_, List.mem_cons_of_mem _ (List.mem_cons_of_mem _ (List.mem_cons_self ..)), hm 784 8 inb_S1056x128_S8x128_784_0 (by omega)⟩
    · exact ⟨_, List.mem_cons_of_mem _ (List.mem_cons_self ..), hm 792 256 inb_S1056x128_S256x128_792_0 (by omega)⟩
    · exact ⟨_, List.mem_cons_self .., hm 1048 8 inb_S1056x128_S8x128_1048_0 (by omega)⟩

theorem read18 (M : Memref sig .tc .vmem S4x1056x128 .f32) (f : M.view.ty.Contents (Elt F)) (v39 : Vec F S1056x128 .f32) (w : Vec F S1x128x512 .f32) :
    M.view.read (Elt F) (M.view.writes (Elt F) f
      [⟨Rect.unit (s := S4x1056x128) ![3, 0, 0] S1x1056x128.size inb_S4x1056x128_S1x1056x128_3_0_0, k0_pay34 (k0_pay26 v39 w)⟩,
       ⟨Rect.unit (s := S4x1056x128) ![2, 0, 0] S1x1056x128.size inb_S4x1056x128_S1x1056x128_2_0_0, k0_pay32 (k0_pay26 v39 w)⟩,
       ⟨Rect.unit (s := S4x1056x128) ![1, 0, 0] S1x1056x128.size inb_S4x1056x128_S1x1056x128_1_0_0, k0_pay30 (k0_pay26 v39 w)⟩,
       ⟨Rect.unit (s := S4x1056x128) ![0, 0, 0] S1x1056x128.size inb_S4x1056x128_S1x1056x128_0_0_0, k0_pay28 v39 w⟩]) = lanesOf (k0_pay26 v39 w) := by
  have data : ∀ (l : ℕ) (hl : l < 4) (inb') (p : FVec F S1x1056x128 .f32)
      (hp : ∀ x, p x = k0_pay26 v39 w (ix2 (⟨0 + (x 1).val, by have : (x 1).val < 1056 := (x 1).isLt; omega⟩ : Fin 1056) (⟨128 * l + (x 2).val, by have : (x 2).val < 128 := (x 2).isLt; omega⟩ : Fin 512)))
      (x : S1x1056x128.Idx), p x = lanesOf (k0_pay26 v39 w) ((Rect.unit (s := S4x1056x128) ![l, 0, 0] S1x1056x128.size inb').emb x) := by
    intro l hl inb' p hp x
    have hx : (x 2).val < 128 := (x 2).isLt
    have hx0 : (x 0).val < 1 := (x 0).isLt
    rw [hp]
    unfold lanesOf
    refine congrArg (k0_pay26 v39 w) ?_
    funext d
    fin_cases d <;> apply Fin.ext
    · show 0 + (x 1).val = 0 + 1 * (x 1).val; omega
    · show 128 * l + (x 2).val = (128 * (l + 1 * (x 0).val) + (0 + 1 * (x 2).val)) % 512; omega
  funext j
  have hj0 : (j 0).val < 4 := (j 0).isLt
  have hj1 : (j 1).val < 1056 := (j 1).isLt
  have hj2 : (j 2).val < 128 := (j 2).isLt
  refine View.read_writes_apply_of_pieces _ _ (lanesOf (k0_pay26 v39 w)) _ ?_ j ?_
  · intro p hp
    simp only [List.mem_cons, List.not_mem_nil, _root_.or_false] at hp
    rcases hp with rfl | rfl | rfl | rfl
    · exact data 3 (by decide) inb_S4x1056x128_S1x1056x128_3_0_0 _ fun x => by unfold k0_pay34; refine (cast_add (extractStridedSlice S1056x128 ![0, 384] (k0_pay26 v39 w) slices_S1056x512_o0_384_S1056x128) _ x).trans ?_; refine congrArg (k0_pay26 v39 w) ?_; funext d; fin_cases d <;> rfl
    · exact data 2 (by decide) inb_S4x1056x128_S1x1056x128_2_0_0 _ fun x => by unfold k0_pay32; refine (cast_add (extractStridedSlice S1056x128 ![0, 256] (k0_pay26 v39 w) slices_S1056x512_o0_256_S1056x128) _ x).trans ?_; refine congrArg (k0_pay26 v39 w) ?_; funext d; fin_cases d <;> rfl
    · exact data 1 (by decide) inb_S4x1056x128_S1x1056x128_1_0_0 _ fun x => by unfold k0_pay30; refine (cast_add (extractStridedSlice S1056x128 ![0, 128] (k0_pay26 v39 w) slices_S1056x512_o0_128_S1056x128) _ x).trans ?_; refine congrArg (k0_pay26 v39 w) ?_; funext d; fin_cases d <;> rfl
    · exact data 0 (by decide) inb_S4x1056x128_S1x1056x128_0_0_0 _ fun x => by unfold k0_pay28; refine (cast_add (extractStridedSlice S1056x128 ![0, 0] (k0_pay26 v39 w) slices_S1056x512_o0_0_S1056x128) _ x).trans ?_; refine congrArg (k0_pay26 v39 w) ?_; funext d; fin_cases d <;> rfl
  · have hm : ∀ (l : ℕ) (inb), (j 0).val = l → j ∈ (Rect.unit (s := S4x1056x128) ![l, 0, 0] S1x1056x128.size inb).set := by
      intro l inb h
      refine unit_mem j fun a => ?_
      fin_cases a
      · show l ≤ (j 0).val ∧ (j 0).val < l + 1; omega
      · exact ⟨Nat.zero_le _, by show (j 1).val < 0 + 1056; omega⟩
      · exact ⟨Nat.zero_le _, by show (j 2).val < 0 + 128; omega⟩
    rcases (show (j 0).val = 0 ∨ (j 0).val = 1 ∨ (j 0).val = 2 ∨ (j 0).val = 3 by omega) with h | h | h | h
    · exact ⟨_, List.mem_cons_of_mem _ (List.mem_cons_of_mem _ (List.mem_cons_of_mem _ (List.mem_cons_self ..))), hm 0 inb_S4x1056x128_S1x1056x128_0_0_0 h⟩
    · exact ⟨_, List.mem_cons_of_mem _ (List.mem_cons_of_mem _ (List.mem_cons_self ..)), hm 1 inb_S4x1056x128_S1x1056x128_1_0_0 h⟩
    · exact ⟨_, List.mem_cons_of_mem _ (List.mem_cons_self ..), hm 2 inb_S4x1056x128_S1x1056x128_2_0_0 h⟩
    · exact ⟨_, List.mem_cons_self .., hm 3 inb_S4x1056x128_S1x1056x128_3_0_0 h⟩

theorem read19 (M : Memref sig .tc .vmem S4x1056x128 .f32) (f : M.view.ty.Contents (Elt F)) (v39 : Vec F S1056x128 .f32) (w : Vec F S1x128x512 .f32) :
    M.view.read (Elt F) (M.view.writes (Elt F) f
      [⟨Rect.unit (s := S4x1056x128) ![3, 0, 0] S1x1056x128.size inb_S4x1056x128_S1x1056x128_3_0_0, k0_pay35 (k0_pay27 v39 w)⟩,
       ⟨Rect.unit (s := S4x1056x128) ![2, 0, 0] S1x1056x128.size inb_S4x1056x128_S1x1056x128_2_0_0, k0_pay33 (k0_pay27 v39 w)⟩,
       ⟨Rect.unit (s := S4x1056x128) ![1, 0, 0] S1x1056x128.size inb_S4x1056x128_S1x1056x128_1_0_0, k0_pay31 (k0_pay27 v39 w)⟩,
       ⟨Rect.unit (s := S4x1056x128) ![0, 0, 0] S1x1056x128.size inb_S4x1056x128_S1x1056x128_0_0_0, k0_pay29 v39 w⟩]) = lanesOf (k0_pay27 v39 w) := by
  have data : ∀ (l : ℕ) (hl : l < 4) (inb') (p : FVec F S1x1056x128 .f32)
      (hp : ∀ x, p x = k0_pay27 v39 w (ix2 (⟨0 + (x 1).val, by have : (x 1).val < 1056 := (x 1).isLt; omega⟩ : Fin 1056) (⟨128 * l + (x 2).val, by have : (x 2).val < 128 := (x 2).isLt; omega⟩ : Fin 512)))
      (x : S1x1056x128.Idx), p x = lanesOf (k0_pay27 v39 w) ((Rect.unit (s := S4x1056x128) ![l, 0, 0] S1x1056x128.size inb').emb x) := by
    intro l hl inb' p hp x
    have hx : (x 2).val < 128 := (x 2).isLt
    have hx0 : (x 0).val < 1 := (x 0).isLt
    rw [hp]
    unfold lanesOf
    refine congrArg (k0_pay27 v39 w) ?_
    funext d
    fin_cases d <;> apply Fin.ext
    · show 0 + (x 1).val = 0 + 1 * (x 1).val; omega
    · show 128 * l + (x 2).val = (128 * (l + 1 * (x 0).val) + (0 + 1 * (x 2).val)) % 512; omega
  funext j
  have hj0 : (j 0).val < 4 := (j 0).isLt
  have hj1 : (j 1).val < 1056 := (j 1).isLt
  have hj2 : (j 2).val < 128 := (j 2).isLt
  refine View.read_writes_apply_of_pieces _ _ (lanesOf (k0_pay27 v39 w)) _ ?_ j ?_
  · intro p hp
    simp only [List.mem_cons, List.not_mem_nil, _root_.or_false] at hp
    rcases hp with rfl | rfl | rfl | rfl
    · exact data 3 (by decide) inb_S4x1056x128_S1x1056x128_3_0_0 _ fun x => by unfold k0_pay35; refine (cast_add (extractStridedSlice S1056x128 ![0, 384] (k0_pay27 v39 w) slices_S1056x512_o0_384_S1056x128) _ x).trans ?_; refine congrArg (k0_pay27 v39 w) ?_; funext d; fin_cases d <;> rfl
    · exact data 2 (by decide) inb_S4x1056x128_S1x1056x128_2_0_0 _ fun x => by unfold k0_pay33; refine (cast_add (extractStridedSlice S1056x128 ![0, 256] (k0_pay27 v39 w) slices_S1056x512_o0_256_S1056x128) _ x).trans ?_; refine congrArg (k0_pay27 v39 w) ?_; funext d; fin_cases d <;> rfl
    · exact data 1 (by decide) inb_S4x1056x128_S1x1056x128_1_0_0 _ fun x => by unfold k0_pay31; refine (cast_add (extractStridedSlice S1056x128 ![0, 128] (k0_pay27 v39 w) slices_S1056x512_o0_128_S1056x128) _ x).trans ?_; refine congrArg (k0_pay27 v39 w) ?_; funext d; fin_cases d <;> rfl
    · exact data 0 (by decide) inb_S4x1056x128_S1x1056x128_0_0_0 _ fun x => by unfold k0_pay29; refine (cast_add (extractStridedSlice S1056x128 ![0, 0] (k0_pay27 v39 w) slices_S1056x512_o0_0_S1056x128) _ x).trans ?_; refine congrArg (k0_pay27 v39 w) ?_; funext d; fin_cases d <;> rfl
  · have hm : ∀ (l : ℕ) (inb), (j 0).val = l → j ∈ (Rect.unit (s := S4x1056x128) ![l, 0, 0] S1x1056x128.size inb).set := by
      intro l inb h
      refine unit_mem j fun a => ?_
      fin_cases a
      · show l ≤ (j 0).val ∧ (j 0).val < l + 1; omega
      · exact ⟨Nat.zero_le _, by show (j 1).val < 0 + 1056; omega⟩
      · exact ⟨Nat.zero_le _, by show (j 2).val < 0 + 128; omega⟩
    rcases (show (j 0).val = 0 ∨ (j 0).val = 1 ∨ (j 0).val = 2 ∨ (j 0).val = 3 by omega) with h | h | h | h
    · exact ⟨_, List.mem_cons_of_mem _ (List.mem_cons_of_mem _ (List.mem_cons_of_mem _ (List.mem_cons_self ..))), hm 0 inb_S4x1056x128_S1x1056x128_0_0_0 h⟩
    · exact ⟨_, List.mem_cons_of_mem _ (List.mem_cons_of_mem _ (List.mem_cons_self ..)), hm 1 inb_S4x1056x128_S1x1056x128_1_0_0 h⟩
    · exact ⟨_, List.mem_cons_of_mem _ (List.mem_cons_self ..), hm 2 inb_S4x1056x128_S1x1056x128_2_0_0 h⟩
    · exact ⟨_, List.mem_cons_self .., hm 3 inb_S4x1056x128_S1x1056x128_3_0_0 h⟩

theorem read15 (M : Memref sig .tc .vmem S4x512 .f32) (f : M.view.ty.Contents (Elt F)) (h : Fin 4 → FVec F S4x128 .f32) :
    M.view.read (Elt F) (M.view.writes (Elt F) f
      [⟨Rect.unit (s := S4x512) ![0, 384] S4x128.size inb_S4x512_S4x128_0_384, h 3⟩,
       ⟨Rect.unit (s := S4x512) ![0, 256] S4x128.size inb_S4x512_S4x128_0_256, h 2⟩,
       ⟨Rect.unit (s := S4x512) ![0, 128] S4x128.size inb_S4x512_S4x128_0_128, h 1⟩,
       ⟨Rect.unit (s := S4x512) ![0, 0] S4x128.size inb_S4x512_S4x128_0_0, h 0⟩]) = ofLanes h := by
  have data : ∀ (l : Fin 4) (inb') (x : S4x128.Idx), h l x = ofLanes h ((Rect.unit (s := S4x512) ![0, 128 * l.val] S4x128.size inb').emb x) := by
    intro l inb' x
    have hx : (x 1).val < 128 := (x 1).isLt
    unfold ofLanes
    refine congr (congrArg h ?_) ?_
    · apply Fin.ext
      show l.val = (128 * l.val + 1 * (x 1).val) / 128 % 4
      omega
    funext d
    fin_cases d <;> apply Fin.ext
    · show (x 0).val = 0 + 1 * (x 0).val; omega
    · show (x 1).val = (128 * l.val + 1 * (x 1).val) % 128; omega
  funext j
  have hj0 : (j 0).val < 4 := (j 0).isLt
  have hj1 : (j 1).val < 512 := (j 1).isLt
  refine View.read_writes_apply_of_pieces _ _ (ofLanes h) _ ?_ j ?_
  · intro p hp
    simp only [List.mem_cons, List.not_mem_nil, _root_.or_false] at hp
    rcases hp with rfl | rfl | rfl | rfl
    · exact data 3 inb_S4x512_S4x128_0_384
    · exact data 2 inb_S4x512_S4x128_0_256
    · exact data 1 inb_S4x512_S4x128_0_128
    · exact data 0 inb_S4x512_S4x128_0_0
  · have hm : ∀ (o : ℕ) (inb), o ≤ (j 1).val ∧ (j 1).val < o + 128 → j ∈ (Rect.unit (s := S4x512) ![0, o] S4x128.size inb).set := by
      intro o inb h
      refine unit_mem j fun a => ?_
      fin_cases a
      · exact ⟨Nat.zero_le _, by show (j 0).val < 0 + 4; omega⟩
      · exact h
    rcases (show (j 1).val < 128 ∨ (128 ≤ (j 1).val ∧ (j 1).val < 256) ∨ (256 ≤ (j 1).val ∧ (j 1).val < 384) ∨ 384 ≤ (j 1).val by omega) with h | h | h | h
    · exact ⟨_, List.mem_cons_of_mem _ (List.mem_cons_of_mem _ (List.mem_cons_of_mem _ (List.mem_cons_self ..))), hm 0 inb_S4x512_S4x128_0_0 (by omega)⟩
    · exact ⟨_, List.mem_cons_of_mem _ (List.mem_cons_of_mem _ (List.mem_cons_self ..)), hm 128 inb_S4x512_S4x128_0_128 (by omega)⟩
    · exact ⟨_, List.mem_cons_of_mem _ (List.mem_cons_self ..), hm 256 inb_S4x512_S4x128_0_256 (by omega)⟩
    · exact ⟨_, List.mem_cons_self .., hm 384 inb_S4x512_S4x128_0_384 (by omega)⟩

theorem read14 (M : Memref sig .tc .vmem S4x256x128 .bf16) (f : M.view.ty.Contents (Elt F)) (v159 v166 : FVec F S1056x128 .f32) (w8 : Vec F S1x128x128 .f32) (w9 : Vec F S1x1x128 .f32) :
    M.view.read (Elt F) (M.view.writes (Elt F) f
      [⟨Rect.unit (s := S4x256x128) ![3, 0, 0] S1x256x128.size inb_S4x256x128_S1x256x128_3_0_0, k0_pay1 (k0_pay63 v159 v166 w8 w9)⟩,
       ⟨Rect.unit (s := S4x256x128) ![2, 0, 0] S1x256x128.size inb_S4x256x128_S1x256x128_2_0_0, k0_pay62 v159 v166 w8 w9⟩,
       ⟨Rect.unit (s := S4x256x128) ![1, 0, 0] S1x256x128.size inb_S4x256x128_S1x256x128_1_0_0, k0_pay61 v159 v166 w8 w9⟩,
       ⟨Rect.unit (s := S4x256x128) ![0, 0, 0] S1x256x128.size inb_S4x256x128_S1x256x128_0_0_0, k0_pay60 v159 v166 w8 w9⟩]) = pickRows (k0_pay59 v159 v166 w8 w9) := by
  have data : ∀ (l : ℕ) (hl : l < 4) (inb') (p : FVec F S1x256x128 .bf16)
      (hp : ∀ x, p x = truncf .bf16 (k0_pay59 v159 v166 w8 w9) bitsLt_bf16_f32 (ix2 (⟨264 * l + (x 1).val, by have : (x 1).val < 256 := (x 1).isLt; omega⟩ : Fin 1056) (⟨0 + (x 2).val, by have : (x 2).val < 128 := (x 2).isLt; omega⟩ : Fin 128)))
      (x : S1x256x128.Idx), p x = pickRows (k0_pay59 v159 v166 w8 w9) ((Rect.unit (s := S4x256x128) ![l, 0, 0] S1x256x128.size inb').emb x) := by
    intro l hl inb' p hp x
    have hx : (x 1).val < 256 := (x 1).isLt
    have hx0 : (x 0).val < 1 := (x 0).isLt
    rw [hp]
    unfold pickRows
    refine congrArg (truncf .bf16 (k0_pay59 v159 v166 w8 w9) bitsLt_bf16_f32) ?_
    funext d
    fin_cases d <;> apply Fin.ext
    · show 264 * l + (x 1).val = (264 * (l + 1 * (x 0).val) + (0 + 1 * (x 1).val)) % 1056; omega
    · show 0 + (x 2).val = 0 + 1 * (x 2).val; omega
  funext j
  have hj0 : (j 0).val < 4 := (j 0).isLt
  have hj1 : (j 1).val < 256 := (j 1).isLt
  have hj2 : (j 2).val < 128 := (j 2).isLt
  refine View.read_writes_apply_of_pieces _ _ (pickRows (k0_pay59 v159 v166 w8 w9)) _ ?_ j ?_
  · intro p hp
    simp only [List.mem_cons, List.not_mem_nil, _root_.or_false] at hp
    rcases hp with rfl | rfl | rfl | rfl
    · exact data 3 (by decide) inb_S4x256x128_S1x256x128_3_0_0 _ fun x => by unfold k0_pay1 k0_pay63; refine (cast_add (truncf .bf16 (extractStridedSlice S256x128 ![792, 0] (k0_pay59 v159 v166 w8 w9) slices_S1056x128_o792_0_S256x128) bitsLt_bf16_f32) _ x).trans ?_; refine congrArg (truncf .bf16 (k0_pay59 v159 v166 w8 w9) bitsLt_bf16_f32) ?_; funext d; fin_cases d <;> rfl
    · exact data 2 (by decide) inb_S4x256x128_S1x256x128_2_0_0 _ fun x => by unfold k0_pay62; refine (cast_add (truncf .bf16 (extractStridedSlice S256x128 ![528, 0] (k0_pay59 v159 v166 w8 w9) slices_S1056x128_o528_0_S256x128) bitsLt_bf16_f32) _ x).trans ?_; refine congrArg (truncf .bf16 (k0_pay59 v159 v166 w8 w9) bitsLt_bf16_f32) ?_; funext d; fin_cases d <;> rfl
    · exact data 1 (by decide) inb_S4x256x128_S1x256x128_1_0_0 _ fun x => by unfold k0_pay61; refine (cast_add (truncf .bf16 (extractStridedSlice S256x128 ![264, 0] (k0_pay59 v159 v166 w8 w9) slices_S1056x128_o264_0_S256x128) bitsLt_bf16_f32) _ x).trans ?_; refine congrArg (truncf .bf16 (k0_pay59 v159 v166 w8 w9) bitsLt_bf16_f32) ?_; funext d; fin_cases d <;> rfl
    · exact data 0 (by decide) inb_S4x256x128_S1x256x128_0_0_0 _ fun x => by unfold k0_pay60; refine (cast_add (truncf .bf16 (extractStridedSlice S256x128 ![0, 0] (k0_pay59 v159 v166 w8 w9) slices_S1056x128_o0_0_S256x128) bitsLt_bf16_f32) _ x).trans ?_; refine congrArg (truncf .bf16 (k0_pay59 v159 v166 w8 w9) bitsLt_bf16_f32) ?_; funext d; fin_cases d <;> rfl
  · have hm : ∀ (l : ℕ) (inb), (j 0).val = l → j ∈ (Rect.unit (s := S4x256x128) ![l, 0, 0] S1x256x128.size inb).set := by
      intro l inb h
      refine unit_mem j fun a => ?_
      fin_cases a
      · show l ≤ (j 0).val ∧ (j 0).val < l + 1; omega
      · exact ⟨Nat.zero_le _, by show (j 1).val < 0 + 256; omega⟩
      · exact ⟨Nat.zero_le _, by show (j 2).val < 0 + 128; omega⟩
    rcases (show (j 0).val = 0 ∨ (j 0).val = 1 ∨ (j 0).val = 2 ∨ (j 0).val = 3 by omega) with h | h | h | h
    · exact ⟨_, List.mem_cons_of_mem _ (List.mem_cons_of_mem _ (List.mem_cons_of_mem _ (List.mem_cons_self ..))), hm 0 inb_S4x256x128_S1x256x128_0_0_0 h⟩
    · exact ⟨_, List.mem_cons_of_mem _ (List.mem_cons_of_mem _ (List.mem_cons_self ..)), hm 1 inb_S4x256x128_S1x256x128_1_0_0 h⟩
    · exact ⟨_, List.mem_cons_of_mem _ (List.mem_cons_self ..), hm 2 inb_S4x256x128_S1x256x128_2_0_0 h⟩
    · exact ⟨_, List.mem_cons_self .., hm 3 inb_S4x256x128_S1x256x128_3_0_0 h⟩

/-! ## What the loads are, and the loop's states -/

theorem aLane_of (M : Memref sig .tc .vmem S1x1x512 .f32) (hM : M.IsWhole) (x : Vec F S1x1x512 .f32) (l : Fin 4) {o : ℕ} (ho : o = 128 * l.val) (inb) (h) :
    shapeCast S1x128 (M.view.readAt (Elt F) (Rect.unit (s := S1x1x512) ![0, 0, o] S1x1x128.size inb).toLoadRect (hM.unread x)) h = aLane x l := by
  subst ho
  funext i
  refine (cast_drop _ _ i).trans ?_
  rw [readAt_unread]
  refine congrArg x ?_
  have h1 : (i 1).val < 128 := (i 1).isLt
  have h0 : (i 0).val < 1 := (i 0).isLt
  have hl := l.isLt
  funext d
  fin_cases d <;> apply Fin.ext
  · rfl
  · show 0 + 1 * (i 0).val = 0; omega
  · show 128 * l.val + 1 * (i 1).val = (128 * l.val + (i 1).val) % 512; omega

theorem hLane_of (M : Memref sig .tc .vmem S4x512 .f32) (f : M.view.ty.Contents (Elt F)) (x : Vec F S4x512 .f32) (hf : M.view.read (Elt F) f = x)
    (l : Fin 4) {o : ℕ} (ho : o = 128 * l.val) (inb) (h) :
    shapeCast S4x128 (M.view.readAt (Elt F) (Rect.unit (s := S4x512) ![0, o] S4x128.size inb).toLoadRect f) h = hLane x l := by
  subst ho
  funext i
  refine (congrFun (shapeCast_self _ h) i).trans ?_
  show M.view.read (Elt F) f _ = _
  rw [hf]
  refine congrArg x ?_
  have h1 : (i 1).val < 128 := (i 1).isLt
  have hl := l.isLt
  funext d
  fin_cases d <;> apply Fin.ext
  · show 0 + 1 * (i 0).val = (i 0).val; omega
  · show 128 * l.val + 1 * (i 1).val = (128 * l.val + (i 1).val) % 512; omega

theorem plane_of (M : Memref sig .tc .vmem S4x1056x128 .f32) (f : M.view.ty.Contents (Elt F)) (X : Vec F S4x1056x128 .f32) (hf : M.view.read (Elt F) f = X)
    (l : Fin 4) {o : ℕ} (ho : o = l.val) (inb) :
    M.view.readAt (Elt F) (Rect.unit (s := S4x1056x128) ![o, 0, 0] S1x1056x128.size inb).toLoadRect f = plane X l := by
  subst ho
  funext i
  show M.view.read (Elt F) f _ = _
  rw [hf]
  refine congrArg X ?_
  have h0 : (i 0).val < 1 := (i 0).isLt
  funext d
  fin_cases d <;> apply Fin.ext
  · show l.val + 1 * (i 0).val = l.val; omega
  · show 0 + 1 * (i 1).val = (i 1).val; omega
  · show 0 + 1 * (i 2).val = (i 2).val; omega

theorem read_whole (M : Memref sig .tc .vmem S4x512 .f32) (f : M.view.ty.Contents (Elt F)) (p : Vec F S4x512 .f32) (inb) :
    M.view.read (Elt F) (M.view.writes (Elt F) f [⟨Rect.unit (s := S4x512) ![0, 0] S4x512.size inb, p⟩]) = p := by
  funext j
  refine View.read_writes_apply_of_pieces _ _ p _ ?_ j ?_
  · intro q hq x
    obtain rfl := List.mem_singleton.1 hq
    refine congrArg p ?_
    funext d
    fin_cases d <;> apply Fin.ext
    · show (x 0).val = 0 + 1 * (x 0).val; omega
    · show (x 1).val = 0 + 1 * (x 1).val; omega
  · refine ⟨_, List.mem_singleton.2 rfl, unit_mem (inb := inb) j fun a => ?_⟩
    have := (j a).isLt
    fin_cases a
    · exact ⟨Nat.zero_le _, by show (j 0).val < 0 + S4x512.size 0; omega⟩
    · exact ⟨Nat.zero_le _, by show (j 1).val < 0 + S4x512.size 1; omega⟩

theorem loopStates_eq (M18 M19 : Memref sig .tc .vmem S4x1056x128 .f32) (G18 : M18.view.ty.Contents (Elt F)) (G19 : M19.view.ty.Contents (Elt F))
    (aR aI : Fin 4 → FVec F S1x128 .f32) (h0 : Fin 4 → Lane F) (x2 : Vec F S4x256x128 .f32) (x3 x4 : Vec F S1x128x512 .f32) (x10 x11 : Vec F S1x1x512 .f32) (h15 h16 : Vec F S4x512 .f32)
    (e18 : M18.view.read (Elt F) G18 = xRe x2 x3) (e19 : M19.view.read (Elt F) G19 = xIm x2 x4) (eR : aR = aLane x10) (eI : aI = aLane x11)
    (eh : h0 = fun l => (hLane h15 l, hLane h16 l)) : loopStates M18 M19 G18 G19 aR aI h0 = ptStates x2 x3 x4 x10 x11 h15 h16 := by
  subst eR eI eh
  unfold loopStates ptStates
  rw [e18, e19]

theorem post15 (M : Memref sig .tc .vmem S4x512 .f32) (f : M.view.ty.Contents (Elt F)) (H : ℕ → Fin 4 → Lane F) (k : ℕ) (P : ℕ → Fin 4 → Lane F)
    (hH : H = P) (hk : k = 256) :
    M.view.read (Elt F) (M.view.writes (Elt F) f
      [⟨Rect.unit (s := S4x512) ![0, 384] S4x128.size inb_S4x512_S4x128_0_384, (H k 3).1⟩,
       ⟨Rect.unit (s := S4x512) ![0, 256] S4x128.size inb_S4x512_S4x128_0_256, (H k 2).1⟩,
       ⟨Rect.unit (s := S4x512) ![0, 128] S4x128.size inb_S4x512_S4x128_0_128, (H k 1).1⟩,
       ⟨Rect.unit (s := S4x512) ![0, 0] S4x128.size inb_S4x512_S4x128_0_0, (H k 0).1⟩]) = ofLanes fun l => (P 256 l).1 := by
  subst hH hk
  exact read15 M f fun l => (H 256 l).1

theorem post16 (M : Memref sig .tc .vmem S4x512 .f32) (f : M.view.ty.Contents (Elt F)) (H : ℕ → Fin 4 → Lane F) (k : ℕ) (P : ℕ → Fin 4 → Lane F)
    (hH : H = P) (hk : k = 256) :
    M.view.read (Elt F) (M.view.writes (Elt F) f
      [⟨Rect.unit (s := S4x512) ![0, 384] S4x128.size inb_S4x512_S4x128_0_384, (H k 3).2⟩,
       ⟨Rect.unit (s := S4x512) ![0, 256] S4x128.size inb_S4x512_S4x128_0_256, (H k 2).2⟩,
       ⟨Rect.unit (s := S4x512) ![0, 128] S4x128.size inb_S4x512_S4x128_0_128, (H k 1).2⟩,
       ⟨Rect.unit (s := S4x512) ![0, 0] S4x128.size inb_S4x512_S4x128_0_0, (H k 0).2⟩]) = ofLanes fun l => (P 256 l).2 := by
  subst hH hk
  exact read15 M f fun l => (H 256 l).2

theorem rows18 (M : Memref sig .tc .vmem S4x1056x128 .f32) (hM : M.IsWhole) (G : M.view.ty.Contents (Elt F)) (X : Vec F S4x1056x128 .f32)
    (H P : ℕ → Fin 4 → Lane F) (k : ℕ) (hG : M.view.read (Elt F) G = X) (hH : H = P) (hk : k = 256) :
    M.view.read (Elt F) (fillBuf M hM G (fun k l => (H k l).1) k) = filled X (fun k l => (P k l).1) 256 := by
  subst hG hH hk
  exact read_fillBuf M hM G _ 256

theorem rows19 (M : Memref sig .tc .vmem S4x1056x128 .f32) (hM : M.IsWhole) (G : M.view.ty.Contents (Elt F)) (X : Vec F S4x1056x128 .f32)
    (H P : ℕ → Fin 4 → Lane F) (k : ℕ) (hG : M.view.read (Elt F) G = X) (hH : H = P) (hk : k = 256) :
    M.view.read (Elt F) (fillBuf M hM G (fun k l => (H k l).2) k) = filled X (fun k l => (P k l).2) 256 := by
  subst hG hH hk
  exact read_fillBuf M hM G _ 256

end Cert.Proof.ScanIdeal
-- ==== Proof.ScanIdealBodyA.lean ====
/- One grid point of the scan. -/
module

public import proofs.«01_k».proof.Proof.ScanIdealPoint
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import Idealize.ShloMosaic.Lib.Exec
public import Idealize.ShloMosaic.Lib.Tactic
public import Idealize.ShloMosaic.Lib.Pipeline.Kit
public import Idealize.ShloMosaic.Lib.Pipeline.Value

@[expose] public section

set_option maxRecDepth 16384

noncomputable section

namespace Cert.Proof.ScanIdeal

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem runA (c : Dev nD) (i : grid0.Coords) (arg2 : Memref sig .tc .vmem S4x256x128 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S4x512 .f32) (harg12 : arg12.IsWhole) (arg13 : Memref sig .tc .vmem S4x512 .f32) (harg13 : arg13.IsWhole) (arg14 : Memref sig .tc .vmem S4x256x128 .bf16) (harg14 : arg14.IsWhole) (arg15 : Memref sig .tc .vmem S4x512 .f32) (harg15 : arg15.IsWhole) (arg16 : Memref sig .tc .vmem S4x512 .f32) (harg16 : arg16.IsWhole) (arg17 : Memref sig .tc .vmem S1056x128 .f32) (harg17 : arg17.IsWhole) (arg18 : Memref sig .tc .vmem S4x1056x128 .f32) (harg18 : arg18.IsWhole) (arg19 : Memref sig .tc .vmem S4x1056x128 .f32) (harg19 : arg19.IsWhole) (hc : ((Scalar.cmpi .ne (Scalar.extui (Scalar.cmpi .eq (BitVec.ofNat 32 (i 1).val) 0#32)) 0#32 = 1#1) : Prop))
    (x2 : Vec F S4x256x128 .f32) (x3 : Vec F S1x128x512 .f32) (x4 : Vec F S1x128x512 .f32) (x5 : Vec F S1x512x128 .f32) (x6 : Vec F S1x512x128 .f32) (x7 : Vec F S1x1x128 .f32) (x8 : Vec F S1x128x128 .f32) (x9 : Vec F S1x1x128 .f32) (x10 : Vec F S1x1x512 .f32) (x11 : Vec F S1x1x512 .f32) (x12 : Vec F S4x512 .f32) (x13 : Vec F S4x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (oBlk x2 x3 x4 x5 x6 x7 x8 x9 x10 x11 x12 x13) ∗ owns (c : Thread nD τ) arg15 fullShare (hOutR x2 x3 x4 x10 x11 x12 x13) ∗ owns (c : Thread nD τ) arg16 fullShare (hOutI x2 x3 x4 x10 x11 x12 x13) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_s5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_s5_eq_skeleton]; unfold cc0_s5_skel
  simp only [k0_part3_eq_skeleton, k0_part4_eq_skeleton, k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc)
  sl_step
  have hv39 : runA.sl.v39 c arg2 harg2 arg17 x2 = uBlk x2 := (readAt_whole arg17 _ (by decide) _).trans (read17 arg17 _ arg2 harg2 x2)
  have hr : runA.sl.r c arg2 harg2 arg3 harg3 arg17 x2 x3 = k0_pay26 (uBlk x2) x3 := by
    unfold runA.sl.r; rw [hv39, readAt_unread_whole arg3 harg3 x3 (by decide)]
  have hr1 : runA.sl.r_1 c arg2 harg2 arg4 harg4 arg17 x2 x4 = k0_pay27 (uBlk x2) x4 := by
    unfold runA.sl.r_1; rw [hv39, readAt_unread_whole arg4 harg4 x4 (by decide)]
  have hr2 : runA.sl.r_2 c arg2 harg2 arg4 harg4 arg17 x2 x4 = k0_pay29 (uBlk x2) x4 := by
    unfold runA.sl.r_2; rw [hv39, readAt_unread_whole arg4 harg4 x4 (by decide)]
  have e18 := read18 arg18 arg18.view.junk (uBlk x2) x3
  have e19 := read19 arg19 arg19.view.junk (uBlk x2) x4
  have eR : ![runA.sl.r_3 c arg10 harg10 x10, runA.sl.r_4 c arg10 harg10 x10, runA.sl.r_5 c arg10 harg10 x10, runA.sl.r_6 c arg10 harg10 x10] = aLane x10 := by
    funext l; fin_cases l
    · exact aLane_of arg10 harg10 x10 0 rfl _ _
    · exact aLane_of arg10 harg10 x10 1 rfl _ _
    · exact aLane_of arg10 harg10 x10 2 rfl _ _
    · exact aLane_of arg10 harg10 x10 3 rfl _ _
  have eI : ![runA.sl.r_7 c arg11 harg11 x11, runA.sl.r_8 c arg11 harg11 x11, runA.sl.r_9 c arg11 harg11 x11, runA.sl.r_10 c arg11 harg11 x11] = aLane x11 := by
    funext l; fin_cases l
    · exact aLane_of arg11 harg11 x11 0 rfl _ _
    · exact aLane_of arg11 harg11 x11 1 rfl _ _
    · exact aLane_of arg11 harg11 x11 2 rfl _ _
    · exact aLane_of arg11 harg11 x11 3 rfl _ _
  have eh : untup (runA.sl.r_11 c arg12 harg12 arg15 x12, runA.sl.r_12 c arg13 harg13 arg16 x13, runA.sl.r_13 c arg12 harg12 arg15 x12, runA.sl.r_14 c arg13 harg13 arg16 x13, runA.sl.r_15 c arg12 harg12 arg15 x12, runA.sl.r_16 c arg13 harg13 arg16 x13, runA.sl.r_17 c arg12 harg12 arg15 x12, k0_pay51 (runA.sl.v112 c arg13 harg13 arg16 x13)) = fun l => (hLane x12 l, hLane x13 l) := by
    funext l; fin_cases l
    · exact Prod.ext (hLane_of arg15 _ x12 ((read_whole arg15 _ _ _).trans ((shapeCast_self _ _).trans (readAt_unread_whole arg12 harg12 x12 (by decide) _))) 0 rfl _ _) (hLane_of arg16 _ x13 ((read_whole arg16 _ _ _).trans ((shapeCast_self _ _).trans (readAt_unread_whole arg13 harg13 x13 (by decide) _))) 0 rfl _ _)
    · exact Prod.ext (hLane_of arg15 _ x12 ((read_whole arg15 _ _ _).trans ((shapeCast_self _ _).trans (readAt_unread_whole arg12 harg12 x12 (by decide) _))) 1 rfl _ _) (hLane_of arg16 _ x13 ((read_whole arg16 _ _ _).trans ((shapeCast_self _ _).trans (readAt_unread_whole arg13 harg13 x13 (by decide) _))) 1 rfl _ _)
    · exact Prod.ext (hLane_of arg15 _ x12 ((read_whole arg15 _ _ _).trans ((shapeCast_self _ _).trans (readAt_unread_whole arg12 harg12 x12 (by decide) _))) 2 rfl _ _) (hLane_of arg16 _ x13 ((read_whole arg16 _ _ _).trans ((shapeCast_self _ _).trans (readAt_unread_whole arg13 harg13 x13 (by decide) _))) 2 rfl _ _)
    · exact Prod.ext (hLane_of arg15 _ x12 ((read_whole arg15 _ _ _).trans ((shapeCast_self _ _).trans (readAt_unread_whole arg12 harg12 x12 (by decide) _))) 3 rfl _ _) (hLane_of arg16 _ x13 ((read_whole arg16 _ _ _).trans ((shapeCast_self _ _).trans (readAt_unread_whole arg13 harg13 x13 (by decide) _))) 3 rfl _ _)
  have h124 : runA.sl.v124 c arg2 harg2 arg3 harg3 arg4 harg4 arg10 harg10 arg11 harg11 arg12 harg12 arg13 harg13 arg15 arg16 arg17 arg18 harg18 arg19 x2 x3 x4 x10 x11 x12 x13 = plane (hsRe x2 x3 x4 x10 x11 x12 x13) 0 := by
    unfold runA.sl.v124
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 x12 x13 e18 e19 eR eI eh) trips_eq) 0 rfl _
  have h126 : runA.sl.v126 c arg2 harg2 arg3 harg3 arg4 harg4 arg10 harg10 arg11 harg11 arg12 harg12 arg13 harg13 arg15 arg16 arg17 arg18 harg18 arg19 x2 x3 x4 x10 x11 x12 x13 = plane (hsRe x2 x3 x4 x10 x11 x12 x13) 1 := by
    unfold runA.sl.v126
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 x12 x13 e18 e19 eR eI eh) trips_eq) 1 rfl _
  have h128 : runA.sl.v128 c arg2 harg2 arg3 harg3 arg4 harg4 arg10 harg10 arg11 harg11 arg12 harg12 arg13 harg13 arg15 arg16 arg17 arg18 harg18 arg19 x2 x3 x4 x10 x11 x12 x13 = plane (hsRe x2 x3 x4 x10 x11 x12 x13) 2 := by
    unfold runA.sl.v128
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 x12 x13 e18 e19 eR eI eh) trips_eq) 2 rfl _
  have h130 : runA.sl.v130 c arg2 harg2 arg3 harg3 arg4 harg4 arg10 harg10 arg11 harg11 arg12 harg12 arg13 harg13 arg15 arg16 arg17 arg18 harg18 arg19 x2 x3 x4 x10 x11 x12 x13 = plane (hsRe x2 x3 x4 x10 x11 x12 x13) 3 := by
    unfold runA.sl.v130
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 x12 x13 e18 e19 eR eI eh) trips_eq) 3 rfl _
  have h55 : runA.sl.r_18 c arg2 harg2 arg3 harg3 arg4 harg4 arg10 harg10 arg11 harg11 arg12 harg12 arg13 harg13 arg15 arg16 arg17 arg18 harg18 arg19 x2 x3 x4 x10 x11 x12 x13 = k0_pay55 (plane (hsRe x2 x3 x4 x10 x11 x12 x13) 0) (plane (hsRe x2 x3 x4 x10 x11 x12 x13) 1) (plane (hsRe x2 x3 x4 x10 x11 x12 x13) 2) (plane (hsRe x2 x3 x4 x10 x11 x12 x13) 3) := by
    unfold runA.sl.r_18
    rw [h124, h126, h128, h130]
  have h133 : runA.sl.v133 c arg2 harg2 arg3 harg3 arg4 harg4 arg10 harg10 arg11 harg11 arg12 harg12 arg13 harg13 arg15 arg16 arg17 arg18 arg19 harg19 x2 x3 x4 x10 x11 x12 x13 = plane (hsIm x2 x3 x4 x10 x11 x12 x13) 0 := by
    unfold runA.sl.v133
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 x12 x13 e18 e19 eR eI eh) trips_eq) 0 rfl _
  have h135 : runA.sl.v135 c arg2 harg2 arg3 harg3 arg4 harg4 arg10 harg10 arg11 harg11 arg12 harg12 arg13 harg13 arg15 arg16 arg17 arg18 arg19 harg19 x2 x3 x4 x10 x11 x12 x13 = plane (hsIm x2 x3 x4 x10 x11 x12 x13) 1 := by
    unfold runA.sl.v135
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 x12 x13 e18 e19 eR eI eh) trips_eq) 1 rfl _
  have h137 : runA.sl.v137 c arg2 harg2 arg3 harg3 arg4 harg4 arg10 harg10 arg11 harg11 arg12 harg12 arg13 harg13 arg15 arg16 arg17 arg18 arg19 harg19 x2 x3 x4 x10 x11 x12 x13 = plane (hsIm x2 x3 x4 x10 x11 x12 x13) 2 := by
    unfold runA.sl.v137
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 x12 x13 e18 e19 eR eI eh) trips_eq) 2 rfl _
  have h139 : runA.sl.v139 c arg2 harg2 arg3 harg3 arg4 harg4 arg10 harg10 arg11 harg11 arg12 harg12 arg13 harg13 arg15 arg16 arg17 arg18 arg19 harg19 x2 x3 x4 x10 x11 x12 x13 = plane (hsIm x2 x3 x4 x10 x11 x12 x13) 3 := by
    unfold runA.sl.v139
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 x12 x13 e18 e19 eR eI eh) trips_eq) 3 rfl _
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    unfold runA.sl.r_19 runA.sl.r_20 runA.sl.r_21
    unfold runA.sl.r_19 runA.sl.r_20
    rw [hv39, h55, h133, h135, h137, h139, readAt_unread_whole arg5 harg5 x5 (by decide), readAt_unread_whole arg6 harg6 x6 (by decide), readAt_unread_whole arg7 harg7 x7 (by decide), readAt_unread_whole arg8 harg8 x8 (by decide), readAt_unread_whole arg9 harg9 x9 (by decide)]
    exact read14 arg14 _ _ _ _ _
  isplitl [H15]
  · iexists _; isplitr; swap; · iexact H15
    ipureintro
    refine post15 _ _ _ _ _ ?_ trips_eq
    rw [hr, hr1, hr2, hv39, readAt_unread_whole arg3 harg3 x3 (by decide)]; exact loopStates_eq _ _ _ _ _ _ _ x2 x3 x4 x10 x11 x12 x13 e18 e19 eR eI eh
  isplitl [H16]
  · iexists _; isplitr; swap; · iexact H16
    ipureintro
    refine post16 _ _ _ _ _ ?_ trips_eq
    rw [hr, hr1, hr2, hv39, readAt_unread_whole arg3 harg3 x3 (by decide)]; exact loopStates_eq _ _ _ _ _ _ _ x2 x3 x4 x10 x11 x12 x13 e18 e19 eR eI eh
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.Proof.ScanIdeal
-- ==== Proof.ScanIdealBodyB.lean ====
/- One grid point of the scan. -/
module

public import proofs.«01_k».proof.Proof.ScanIdealPoint
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import Idealize.ShloMosaic.Lib.Exec
public import Idealize.ShloMosaic.Lib.Tactic
public import Idealize.ShloMosaic.Lib.Pipeline.Kit
public import Idealize.ShloMosaic.Lib.Pipeline.Value

@[expose] public section

set_option maxRecDepth 16384

noncomputable section

namespace Cert.Proof.ScanIdeal

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem runB (c : Dev nD) (i : grid0.Coords) (arg2 : Memref sig .tc .vmem S4x256x128 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S4x512 .f32) (harg12 : arg12.IsWhole) (arg13 : Memref sig .tc .vmem S4x512 .f32) (harg13 : arg13.IsWhole) (arg14 : Memref sig .tc .vmem S4x256x128 .bf16) (harg14 : arg14.IsWhole) (arg15 : Memref sig .tc .vmem S4x512 .f32) (harg15 : arg15.IsWhole) (arg16 : Memref sig .tc .vmem S4x512 .f32) (harg16 : arg16.IsWhole) (arg17 : Memref sig .tc .vmem S1056x128 .f32) (harg17 : arg17.IsWhole) (arg18 : Memref sig .tc .vmem S4x1056x128 .f32) (harg18 : arg18.IsWhole) (arg19 : Memref sig .tc .vmem S4x1056x128 .f32) (harg19 : arg19.IsWhole) (hc : ¬ ((Scalar.cmpi .ne (Scalar.extui (Scalar.cmpi .eq (BitVec.ofNat 32 (i 1).val) 0#32)) 0#32 = 1#1) : Prop))
    (x2 : Vec F S4x256x128 .f32) (x3 : Vec F S1x128x512 .f32) (x4 : Vec F S1x128x512 .f32) (x5 : Vec F S1x512x128 .f32) (x6 : Vec F S1x512x128 .f32) (x7 : Vec F S1x1x128 .f32) (x8 : Vec F S1x128x128 .f32) (x9 : Vec F S1x1x128 .f32) (x10 : Vec F S1x1x512 .f32) (x11 : Vec F S1x1x512 .f32) (x12 : Vec F S4x512 .f32) (x13 : Vec F S4x512 .f32) (h15 : Vec F S4x512 .f32) (h16 : Vec F S4x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare h15 ∗ owns (c : Thread nD τ) arg16 fullShare h16 ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (oBlk x2 x3 x4 x5 x6 x7 x8 x9 x10 x11 h15 h16) ∗ owns (c : Thread nD τ) arg15 fullShare (hOutR x2 x3 x4 x10 x11 h15 h16) ∗ owns (c : Thread nD τ) arg16 fullShare (hOutI x2 x3 x4 x10 x11 h15 h16) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_s5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_s5_eq_skeleton]; unfold cc0_s5_skel
  simp only [k0_part3_eq_skeleton, k0_part4_eq_skeleton, k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16
  sl_exec (disch := first | sl_exact hc)
  sl_step
  have hv39 : runB.sl.v39 c arg2 harg2 arg17 x2 = uBlk x2 := (readAt_whole arg17 _ (by decide) _).trans (read17 arg17 _ arg2 harg2 x2)
  have hr : runB.sl.r c arg2 harg2 arg3 harg3 arg17 x2 x3 = k0_pay26 (uBlk x2) x3 := by
    unfold runB.sl.r; rw [hv39, readAt_unread_whole arg3 harg3 x3 (by decide)]
  have hr1 : runB.sl.r_1 c arg2 harg2 arg4 harg4 arg17 x2 x4 = k0_pay27 (uBlk x2) x4 := by
    unfold runB.sl.r_1; rw [hv39, readAt_unread_whole arg4 harg4 x4 (by decide)]
  have hr2 : runB.sl.r_2 c arg2 harg2 arg4 harg4 arg17 x2 x4 = k0_pay29 (uBlk x2) x4 := by
    unfold runB.sl.r_2; rw [hv39, readAt_unread_whole arg4 harg4 x4 (by decide)]
  have e18 := read18 arg18 arg18.view.junk (uBlk x2) x3
  have e19 := read19 arg19 arg19.view.junk (uBlk x2) x4
  have eR : ![runB.sl.r_3 c arg10 harg10 x10, runB.sl.r_4 c arg10 harg10 x10, runB.sl.r_5 c arg10 harg10 x10, runB.sl.r_6 c arg10 harg10 x10] = aLane x10 := by
    funext l; fin_cases l
    · exact aLane_of arg10 harg10 x10 0 rfl _ _
    · exact aLane_of arg10 harg10 x10 1 rfl _ _
    · exact aLane_of arg10 harg10 x10 2 rfl _ _
    · exact aLane_of arg10 harg10 x10 3 rfl _ _
  have eI : ![runB.sl.r_7 c arg11 harg11 x11, runB.sl.r_8 c arg11 harg11 x11, runB.sl.r_9 c arg11 harg11 x11, runB.sl.r_10 c arg11 harg11 x11] = aLane x11 := by
    funext l; fin_cases l
    · exact aLane_of arg11 harg11 x11 0 rfl _ _
    · exact aLane_of arg11 harg11 x11 1 rfl _ _
    · exact aLane_of arg11 harg11 x11 2 rfl _ _
    · exact aLane_of arg11 harg11 x11 3 rfl _ _
  have eh : untup (runB.sl.r_11 c arg15 harg15 h15, runB.sl.r_12 c arg16 harg16 h16, runB.sl.r_13 c arg15 harg15 h15, runB.sl.r_14 c arg16 harg16 h16, runB.sl.r_15 c arg15 harg15 h15, runB.sl.r_16 c arg16 harg16 h16, runB.sl.r_17 c arg15 harg15 h15, k0_pay51 (runB.sl.r_18 c arg16 harg16 h16)) = fun l => (hLane h15 l, hLane h16 l) := by
    funext l; fin_cases l
    · exact Prod.ext (hLane_of arg15 _ h15 (harg15.read_unread _) 0 rfl _ _) (hLane_of arg16 _ h16 (harg16.read_unread _) 0 rfl _ _)
    · exact Prod.ext (hLane_of arg15 _ h15 (harg15.read_unread _) 1 rfl _ _) (hLane_of arg16 _ h16 (harg16.read_unread _) 1 rfl _ _)
    · exact Prod.ext (hLane_of arg15 _ h15 (harg15.read_unread _) 2 rfl _ _) (hLane_of arg16 _ h16 (harg16.read_unread _) 2 rfl _ _)
    · exact Prod.ext (hLane_of arg15 _ h15 (harg15.read_unread _) 3 rfl _ _) (hLane_of arg16 _ h16 (harg16.read_unread _) 3 rfl _ _)
  have h124 : runB.sl.v124 c arg2 harg2 arg3 harg3 arg4 harg4 arg10 harg10 arg11 harg11 arg15 harg15 arg16 harg16 arg17 arg18 harg18 arg19 x2 x3 x4 x10 x11 h15 h16 = plane (hsRe x2 x3 x4 x10 x11 h15 h16) 0 := by
    unfold runB.sl.v124
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 h15 h16 e18 e19 eR eI eh) trips_eq) 0 rfl _
  have h126 : runB.sl.v126 c arg2 harg2 arg3 harg3 arg4 harg4 arg10 harg10 arg11 harg11 arg15 harg15 arg16 harg16 arg17 arg18 harg18 arg19 x2 x3 x4 x10 x11 h15 h16 = plane (hsRe x2 x3 x4 x10 x11 h15 h16) 1 := by
    unfold runB.sl.v126
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 h15 h16 e18 e19 eR eI eh) trips_eq) 1 rfl _
  have h128 : runB.sl.v128 c arg2 harg2 arg3 harg3 arg4 harg4 arg10 harg10 arg11 harg11 arg15 harg15 arg16 harg16 arg17 arg18 harg18 arg19 x2 x3 x4 x10 x11 h15 h16 = plane (hsRe x2 x3 x4 x10 x11 h15 h16) 2 := by
    unfold runB.sl.v128
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 h15 h16 e18 e19 eR eI eh) trips_eq) 2 rfl _
  have h130 : runB.sl.v130 c arg2 harg2 arg3 harg3 arg4 harg4 arg10 harg10 arg11 harg11 arg15 harg15 arg16 harg16 arg17 arg18 harg18 arg19 x2 x3 x4 x10 x11 h15 h16 = plane (hsRe x2 x3 x4 x10 x11 h15 h16) 3 := by
    unfold runB.sl.v130
    rw [hr, hr1, hr2, hv39, readAt_unread_whole arg3 harg3 x3 (by decide)]
    exact plane_of arg18 _ _ (rows18 arg18 harg18 _ _ _ _ _ e18 (loopStates_eq _ _ _ _ _ _ _ x2 x3 x4 x10 x11 h15 h16 e18 e19 eR eI eh) trips_eq) 3 rfl _
  have h55 : runB.sl.r_19 c arg2 harg2 arg3 harg3 arg4 harg4 arg10 harg10 arg11 harg11 arg15 harg15 arg16 harg16 arg17 arg18 harg18 arg19 x2 x3 x4 x10 x11 h15 h16 = k0_pay55 (plane (hsRe x2 x3 x4 x10 x11 h15 h16) 0) (plane (hsRe x2 x3 x4 x10 x11 h15 h16) 1) (plane (hsRe x2 x3 x4 x10 x11 h15 h16) 2) (plane (hsRe x2 x3 x4 x10 x11 h15 h16) 3) := by
    unfold runB.sl.r_19
    rw [h124, h126, h128, h130]
  have h133 : runB.sl.v133 c arg2 harg2 arg3 harg3 arg4 harg4 arg10 harg10 arg11 harg11 arg15 harg15 arg16 harg16 arg17 arg18 arg19 harg19 x2 x3 x4 x10 x11 h15 h16 = plane (hsIm x2 x3 x4 x10 x11 h15 h16) 0 := by
    unfold runB.sl.v133
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 h15 h16 e18 e19 eR eI eh) trips_eq) 0 rfl _
  have h135 : runB.sl.v135 c arg2 harg2 arg3 harg3 arg4 harg4 arg10 harg10 arg11 harg11 arg15 harg15 arg16 harg16 arg17 arg18 arg19 harg19 x2 x3 x4 x10 x11 h15 h16 = plane (hsIm x2 x3 x4 x10 x11 h15 h16) 1 := by
    unfold runB.sl.v135
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 h15 h16 e18 e19 eR eI eh) trips_eq) 1 rfl _
  have h137 : runB.sl.v137 c arg2 harg2 arg3 harg3 arg4 harg4 arg10 harg10 arg11 harg11 arg15 harg15 arg16 harg16 arg17 arg18 arg19 harg19 x2 x3 x4 x10 x11 h15 h16 = plane (hsIm x2 x3 x4 x10 x11 h15 h16) 2 := by
    unfold runB.sl.v137
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 h15 h16 e18 e19 eR eI eh) trips_eq) 2 rfl _
  have h139 : runB.sl.v139 c arg2 harg2 arg3 harg3 arg4 harg4 arg10 harg10 arg11 harg11 arg15 harg15 arg16 harg16 arg17 arg18 arg19 harg19 x2 x3 x4 x10 x11 h15 h16 = plane (hsIm x2 x3 x4 x10 x11 h15 h16) 3 := by
    unfold runB.sl.v139
    rw [hr, hr1, hr2, hv39, readAt_unread_whole arg3 harg3 x3 (by decide)]
    exact plane_of arg19 _ _ (rows19 arg19 harg19 _ _ _ _ _ e19 (loopStates_eq _ _ _ _ _ _ _ x2 x3 x4 x10 x11 h15 h16 e18 e19 eR eI eh) trips_eq) 3 rfl _
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    unfold runB.sl.r_20 runB.sl.r_21 runB.sl.r_22
    unfold runB.sl.r_20 runB.sl.r_21
    rw [hv39, h55, h133, h135, h137, h139, readAt_unread_whole arg5 harg5 x5 (by decide), readAt_unread_whole arg6 harg6 x6 (by decide), readAt_unread_whole arg7 harg7 x7 (by decide), readAt_unread_whole arg8 harg8 x8 (by decide), readAt_unread_whole arg9 harg9 x9 (by decide)]
    exact read14 arg14 _ _ _ _ _
  isplitl [H15]
  · iexists _; isplitr; swap; · iexact H15
    ipureintro
    refine post15 _ _ _ _ _ ?_ trips_eq
    rw [hr, hr1, hr2, hv39, readAt_unread_whole arg3 harg3 x3 (by decide)]; exact loopStates_eq _ _ _ _ _ _ _ x2 x3 x4 x10 x11 h15 h16 e18 e19 eR eI eh
  isplitl [H16]
  · iexists _; isplitr; swap; · iexact H16
    ipureintro
    refine post16 _ _ _ _ _ ?_ trips_eq
    rw [hr, hr1, hr2, hv39, readAt_unread_whole arg3 harg3 x3 (by decide)]; exact loopStates_eq _ _ _ _ _ _ _ x2 x3 x4 x10 x11 h15 h16 e18 e19 eR eI eh
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.Proof.ScanIdeal
-- ==== Proof.ScanIdealFrame.lean ====
/- The scan over its grid: what each grid point leaves, and the run. -/
module

public import proofs.«01_k».proof.Proof.ScanIdealBodyA
public import proofs.«01_k».proof.Proof.ScanIdealBodyB
public import proofs.«01_k».proof.Proof.Gen.ScanIdeal.Skeleton
public import Idealize.ShloMosaic.Lib.ValueIdxCore
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import Idealize.ShloMosaic.Lib.Exec
public import Idealize.ShloMosaic.Lib.Tactic
public import Idealize.ShloMosaic.Lib.Pipeline.Kit
public import Idealize.ShloMosaic.Lib.Pipeline.Value

public import Idealize.ShloMosaic.Lib.Pipeline.FrameBody
public import Idealize.ShloMosaic.Lib.WordCmp
public import Idealize.ShloMosaic.Lib.Claim

@[expose] public section

set_option maxRecDepth 16384

noncomputable section

namespace Cert.Proof.ScanIdeal

open Cert.ScanIdeal Cert.ScanIdeal.Gen
open Idealize.ShloMosaic.ValueIdx (ix2 ix3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state, grid point by grid point -/

/-- The `n`-th grid point. -/
def pt (n : ℕ) : Fin cfg0.N := ⟨n % 256, lt_of_lt_of_eq (Nat.mod_lt _ (by decide)) N_0.symm⟩

theorem pt_val (t : Fin cfg0.N) : pt t.val = t := by
  apply Fin.ext
  exact Nat.mod_eq_of_lt (lt_of_lt_of_eq t.isLt N_0)

/-- The states a grid point leaves, from those it starts with. -/
def ptStep (c : Dev nD) (t : Fin cfg0.N) (h : Vec F S4x512 .f32 × Vec F S4x512 .f32) : Vec F S4x512 .f32 × Vec F S4x512 .f32 :=
  (hOutR (iblk m c 0 t) (iblk m c 1 t) (iblk m c 2 t) (iblk m c 8 t) (iblk m c 9 t) h.1 h.2,
   hOutI (iblk m c 0 t) (iblk m c 1 t) (iblk m c 2 t) (iblk m c 8 t) (iblk m c 9 t) h.1 h.2)

/-- The states after grid point `n`: those of the arguments at the start of a column of groups, carried inside. -/
def hAfter (c : Dev nD) : ℕ → Vec F S4x512 .f32 × Vec F S4x512 .f32
  | 0 => ptStep m c (pt 0) (iblk m c 10 (pt 0), iblk m c 11 (pt 0))
  | n + 1 => ptStep m c (pt (n + 1)) (if (n + 1) % 16 = 0 then (iblk m c 10 (pt (n + 1)), iblk m c 11 (pt (n + 1))) else hAfter c n)

/-- The states grid point `n` starts with. -/
def hIn (c : Dev nD) (n : ℕ) : Vec F S4x512 .f32 × Vec F S4x512 .f32 :=
  if n % 16 = 0 then (iblk m c 10 (pt n), iblk m c 11 (pt n)) else hAfter m c (n - 1)

theorem hAfter_eq (c : Dev nD) (n : ℕ) : hAfter m c n = ptStep m c (pt n) (hIn m c n) := by
  cases n with
  | zero => rfl
  | succ n => rfl

theorem hAfter_fst (c : Dev nD) (t : Fin cfg0.N) : (hAfter m c t.val).1
    = hOutR (iblk m c 0 t) (iblk m c 1 t) (iblk m c 2 t) (iblk m c 8 t) (iblk m c 9 t) (hIn m c t.val).1 (hIn m c t.val).2 := by
  rw [hAfter_eq, pt_val]; rfl
theorem hAfter_snd (c : Dev nD) (t : Fin cfg0.N) : (hAfter m c t.val).2
    = hOutI (iblk m c 0 t) (iblk m c 1 t) (iblk m c 2 t) (iblk m c 8 t) (iblk m c 9 t) (hIn m c t.val).1 (hIn m c t.val).2 := by
  rw [hAfter_eq, pt_val]; rfl
theorem hIn_first (c : Dev nD) (t : Fin cfg0.N) (h : t.val % 16 = 0) : hIn m c t.val = (iblk m c 10 t, iblk m c 11 t) := by
  unfold hIn; rw [if_pos h, pt_val]
theorem hIn_later (c : Dev nD) (t : Fin cfg0.N) (h : ¬ t.val % 16 = 0) : hIn m c t.val = hAfter m c (t.val - 1) := by
  unfold hIn; rw [if_neg h]

/-- The output block of grid point `t`. -/
def outAt (c : Dev nD) (t : Fin cfg0.N) : Vec F S4x256x128 .bf16 :=
  oBlk (iblk m c 0 t) (iblk m c 1 t) (iblk m c 2 t) (iblk m c 3 t) (iblk m c 4 t) (iblk m c 5 t) (iblk m c 6 t) (iblk m c 7 t) (iblk m c 8 t) (iblk m c 9 t) (hIn m c t.val).1 (hIn m c t.val).2

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
    | ⟨13, _⟩ => (hAfter m c t.val).1
    | ⟨14, _⟩ => (hAfter m c t.val).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]
theorem after0_13 (c : Dev nD) (t : Fin cfg0.N) : (dats m 0 c).after 13 t = (hAfter m c t.val).1 := by dsimp only [dats]
theorem after0_14 (c : Dev nD) (t : Fin cfg0.N) : (dats m 0 c).after 14 t = (hAfter m c t.val).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Inside a column the state's buffer holds what the grid point before left. -/
theorem before0_13 (c : Dev nD) (t : Fin cfg0.N) (h : ¬ t.val % 16 = 0) (d) : (dats m 0 c).before 13 t d = (hIn m c t.val).1 := by
  have ht : t.val ≠ 0 := fun e => h (by rw [e])
  rw [hIn_later m c t h]
  refine ((dats m 0 c).before_out_kept 13 rfl t ht ?_ (fun _ => rfl) (fun _ _ => rfl) d).trans (after0_13 m c _)
  refine Bool.eq_false_iff.mpr fun hf => ?_
  have e := (flush0_13 _).mp hf
  have hN : t.val < 256 := lt_of_lt_of_eq t.isLt N_0
  change (t.val - 1) % 16 = 15 at e
  omega

/-- Inside a column the state's buffer holds what the grid point before left. -/
theorem before0_14 (c : Dev nD) (t : Fin cfg0.N) (h : ¬ t.val % 16 = 0) (d) : (dats m 0 c).before 14 t d = (hIn m c t.val).2 := by
  have ht : t.val ≠ 0 := fun e => h (by rw [e])
  rw [hIn_later m c t h]
  refine ((dats m 0 c).before_out_kept 14 rfl t ht ?_ (fun _ => rfl) (fun _ _ => rfl) d).trans (after0_14 m c _)
  refine Bool.eq_false_iff.mpr fun hf => ?_
  have e := (flush0_14 _).mp hf
  have hN : t.val < 256 := lt_of_lt_of_eq t.isLt N_0
  change (t.val - 1) % 16 = 15 at e
  omega
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl

/-- The body sets the state at the start of each column. -/
theorem hcond : ∀ t : Fin grid0.N, ((Scalar.cmpi .ne (Scalar.extui (Scalar.cmpi .eq (BitVec.ofNat 32 ((grid0.coords t) 1).val) 0#32)) 0#32 = 1#1) : Prop) ↔ t.val % 16 = 0 := fun t => by
  have ht : t.val < 256 := Nat.lt_of_lt_of_eq t.isLt N_0
  have e1 : (grid0.coords t 1).val = t.val / 1 % 16 := Pipeline.Grid.coords_val t 1 (by decide) rfl
  rw [e1]
  word_cmp

theorem PhiA0_eq (c : Dev nD) :
    (Pipeline.ΦA spec0 c : sProp 𝕄)
      = iprop(iprop((∃ d, owns (c : Thread nD τ) (Memref.whole cc0_scratch0 : Memref sig .tc .vmem S1056x128 .f32) fullShare d) ∗ (∃ d, owns (c : Thread nD τ) (Memref.whole cc0_scratch1 : Memref sig .tc .vmem S4x1056x128 .f32) fullShare d) ∗ (∃ d, owns (c : Thread nD τ) (Memref.whole cc0_scratch2 : Memref sig .tc .vmem S4x1056x128 .f32) fullShare d)) ∗ (∃ r, prngReg c r)) := by
  unfold Pipeline.ΦA; rw [scopedRest0_eq]; simp only [owns_whole]; try rfl

/-! ## The body at every grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves0_0 (c : Dev nD) (t : Fin cfg0.N) : (dats m 0 c).leavesExact 0 t = owns (c : Thread nD τ) (st0_0 t) fullShare ((dats m 0 c).after 0 t) := by
  unfold Dat.leavesExact; rw [liveAt0_0 t]
theorem leaves0_1 (c : Dev nD) (t : Fin cfg0.N) : (dats m 0 c).leavesExact 1 t = owns (c : Thread nD τ) (st0_1 t) fullShare ((dats m 0 c).after 1 t) := by
  unfold Dat.leavesExact; rw [liveAt0_1 t]
theorem leaves0_2 (c : Dev nD) (t : Fin cfg0.N) : (dats m 0 c).leavesExact 2 t = owns (c : Thread nD τ) (st0_2 t) fullShare ((dats m 0 c).after 2 t) := by
  unfold Dat.leavesExact; rw [liveAt0_2 t]
theorem leaves0_3 (c : Dev nD) (t : Fin cfg0.N) : (dats m 0 c).leavesExact 3 t = owns (c : Thread nD τ) (st0_3 t) fullShare ((dats m 0 c).after 3 t) := by
  unfold Dat.leavesExact; rw [liveAt0_3 t]
theorem leaves0_4 (c : Dev nD) (t : Fin cfg0.N) : (dats m 0 c).leavesExact 4 t = owns (c : Thread nD τ) (st0_4 t) fullShare ((dats m 0 c).after 4 t) := by
  unfold Dat.leavesExact; rw [liveAt0_4 t]
theorem leaves0_5 (c : Dev nD) (t : Fin cfg0.N) : (dats m 0 c).leavesExact 5 t = owns (c : Thread nD τ) (st0_5 t) fullShare ((dats m 0 c).after 5 t) := by
  unfold Dat.leavesExact; rw [liveAt0_5 t]
theorem leaves0_6 (c : Dev nD) (t : Fin cfg0.N) : (dats m 0 c).leavesExact 6 t = owns (c : Thread nD τ) (st0_6 t) fullShare ((dats m 0 c).after 6 t) := by
  unfold Dat.leavesExact; rw [liveAt0_6 t]
theorem leaves0_7 (c : Dev nD) (t : Fin cfg0.N) : (dats m 0 c).leavesExact 7 t = owns (c : Thread nD τ) (st0_7 t) fullShare ((dats m 0 c).after 7 t) := by
  unfold Dat.leavesExact; rw [liveAt0_7 t]
theorem leaves0_8 (c : Dev nD) (t : Fin cfg0.N) : (dats m 0 c).leavesExact 8 t = owns (c : Thread nD τ) (st0_8 t) fullShare ((dats m 0 c).after 8 t) := by
  unfold Dat.leavesExact; rw [liveAt0_8 t]
theorem leaves0_9 (c : Dev nD) (t : Fin cfg0.N) : (dats m 0 c).leavesExact 9 t = owns (c : Thread nD τ) (st0_9 t) fullShare ((dats m 0 c).after 9 t) := by
  unfold Dat.leavesExact; rw [liveAt0_9 t]
theorem leaves0_10 (c : Dev nD) (t : Fin cfg0.N) : (dats m 0 c).leavesExact 10 t = owns (c : Thread nD τ) (st0_10 t) fullShare ((dats m 0 c).after 10 t) := by
  unfold Dat.leavesExact; rw [liveAt0_10 t]
theorem leaves0_11 (c : Dev nD) (t : Fin cfg0.N) : (dats m 0 c).leavesExact 11 t = owns (c : Thread nD τ) (st0_11 t) fullShare ((dats m 0 c).after 11 t) := by
  unfold Dat.leavesExact; rw [liveAt0_11 t]
theorem leaves0_12 (c : Dev nD) (t : Fin cfg0.N) : (dats m 0 c).leavesExact 12 t = owns (c : Thread nD τ) (st0_12 t) fullShare ((dats m 0 c).after 12 t) := by
  unfold Dat.leavesExact; rw [liveAt0_12 t]
theorem leaves0_13 (c : Dev nD) (t : Fin cfg0.N) : (dats m 0 c).leavesExact 13 t = owns (c : Thread nD τ) (st0_13 t) fullShare ((dats m 0 c).after 13 t) := by
  unfold Dat.leavesExact; rw [liveAt0_13 t]
theorem leaves0_14 (c : Dev nD) (t : Fin cfg0.N) : (dats m 0 c).leavesExact 14 t = owns (c : Thread nD τ) (st0_14 t) fullShare ((dats m 0 c).after 14 t) := by
  unfold Dat.leavesExact; rw [liveAt0_14 t]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [leaves0_0, leaves0_1, leaves0_2, leaves0_3, leaves0_4, leaves0_5, leaves0_6, leaves0_7, leaves0_8, leaves0_9, leaves0_10, leaves0_11, leaves0_12, leaves0_13, leaves0_14]
  rw [after0_0, after0_1, after0_2, after0_3, after0_4, after0_5, after0_6, after0_7, after0_8, after0_9, after0_10, after0_11, after0_12, after0_13, after0_14]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [hAfter_fst, hAfter_snd]
  unfold outAt
  by_cases h0 : t.val % 16 = 0
  · rw [hIn_first m c t h0]
    dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords t) _ _ _ _ _ _ _ _ _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · simp only [before0_13 m c t h0, before0_14 m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runB c (grid0.coords t) _ _ _ _ _ _ _ _ _ _ _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (hIn m c t.val).1 (hIn m c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Proof.ScanIdeal
-- ==== Proof.ScanFrame.lean ====
/- The S5 scan call as compiled: its frame, from the frame of its ideal reading, the same program at every instance. -/
module

public import proofs.«01_k».proof.Proof.ScanIdealFrame
public import proofs.«01_k».proof.Proof.Gen.Scan

@[expose] public section

set_option maxRecDepth 16384

noncomputable section

namespace Cert.Proof.Scan

open Cert.Scan Cert.Scan.Gen
open Idealize.ShloMosaic Idealize.ShloMosaic.TcCoe

variable {F : FTy → Type} [FloatOps F]

set_option maxHeartbeats 20000000 in
theorem defs₀_same : Cert.ScanIdeal.defs₀ (F := F) = defs₀ := by
  unfold defs₀ Cert.ScanIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.ScanIdeal.defs (F := F) = defs := congrArg (Pipeline.defs _) defs₀_same

set_option maxHeartbeats 4000000 in
/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  rw [← defs_same]
  exact Cert.Proof.ScanIdeal.frame (F := F) m ρ

end Cert.Proof.Scan

end

end
-- ==== Proof.ScanSpec.lean ====
/- The scan's mathematics, over the extended reals and natural-number coordinates.

   A channel `C` (of 2048) is member `C % 16` of group `C / 16`; a state `J` (of 8192) is member `J % 64` of group `J / 64`. -/
module

public import Idealize.ShloMosaic.Lib.Pointwise

@[expose] public section

set_option maxRecDepth 16384

noncomputable section

namespace Cert.Proof

open Idealize.ShloMosaic

/-! ## Arrays read at natural numbers -/

def at2 {n0 n1 : ℕ} (x : (⟨2, ![n0, n1]⟩ : Shape).Idx → EReal) (a b : ℕ) : EReal :=
  if h : a < n0 ∧ b < n1 then x (ix2 ⟨a, h.1⟩ ⟨b, h.2⟩) else 0

def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem at2_eq {n0 n1 : ℕ} (x : (⟨2, ![n0, n1]⟩ : Shape).Idx → EReal) {a b : ℕ} (ha : a < n0) (hb : b < n1) :
    x (ix2 ⟨a, ha⟩ ⟨b, hb⟩) = at2 x a b := by
  unfold at2; rw [dif_pos ⟨ha, hb⟩]

theorem at3_eq {n0 n1 n2 : ℕ} (x : (⟨3, ![n0, n1, n2]⟩ : Shape).Idx → EReal) {a b c : ℕ} (ha : a < n0) (hb : b < n1) (hc : c < n2) :
    x (ix3 ⟨a, ha⟩ ⟨b, hb⟩ ⟨c, hc⟩) = at3 x a b c := by
  unfold at3; rw [dif_pos ⟨ha, hb, hc⟩]

theorem at2_idx {n0 n1 : ℕ} (x : (⟨2, ![n0, n1]⟩ : Shape).Idx → EReal) (i : (⟨2, ![n0, n1]⟩ : Shape).Idx) {a b : ℕ} (ha : (i 0).val = a) (hb : (i 1).val = b) :
    x i = at2 x a b := by
  subst ha hb
  refine Eq.trans (congrArg x (eq_ix2 i)) (at2_eq x (i 0).isLt (i 1).isLt)

theorem at3_idx {n0 n1 n2 : ℕ} (x : (⟨3, ![n0, n1, n2]⟩ : Shape).Idx → EReal) (i : (⟨3, ![n0, n1, n2]⟩ : Shape).Idx) {a b c : ℕ} (ha : (i 0).val = a) (hb : (i 1).val = b)
    (hc : (i 2).val = c) : x i = at3 x a b c := by
  subst ha hb hc
  refine Eq.trans (congrArg x (eq_ix3 i)) (at3_eq x (i 0).isLt (i 1).isLt (i 2).isLt)

/-! ## A sum whose terms vanish outside one group -/

theorem sum_group (n p : ℕ) (f : Fin (n * p) → EReal) (q : ℕ) (hq : q < n) (h0 : ∀ i, i.val / p ≠ q → f i = 0) :
    ∑ i, f i = ∑ r : Fin p, f ⟨p * q + r.val, by have := r.isLt; have := Nat.mul_le_mul_left p (Nat.succ_le_of_lt hq); rw [Nat.mul_comm n p]; rw [Nat.mul_succ] at this; omega⟩ := by
  rw [← (finProdFinEquiv (m := n) (n := p)).sum_comp, Fintype.sum_prod_type, Finset.sum_eq_single (⟨q, hq⟩ : Fin n)]
  · refine Finset.sum_congr rfl fun r _ => congrArg f (Fin.ext ?_)
    show r.val + p * q = p * q + r.val
    omega
  · intro a _ ha
    refine Finset.sum_eq_zero fun r _ => h0 _ fun e => ha (Fin.ext ?_)
    change (r.val + p * a.val) / p = q at e
    have hp : 0 < p := Nat.lt_of_le_of_lt (Nat.zero_le _) r.isLt
    rw [Nat.add_mul_div_left _ _ hp, Nat.div_eq_of_lt r.isLt] at e
    show a.val = q
    omega
  · intro h; exact absurd (Finset.mem_univ _) h

/-! ## The layer -/

/-- The arguments. -/
structure Args where
  X : ℕ → ℕ → ℕ → EReal
  aR : ℕ → ℕ → EReal
  aI : ℕ → ℕ → EReal
  bR : ℕ → ℕ → ℕ → EReal
  bI : ℕ → ℕ → ℕ → EReal
  cR : ℕ → ℕ → ℕ → EReal
  cI : ℕ → ℕ → ℕ → EReal
  d : ℕ → ℕ → EReal
  gw : ℕ → ℕ → ℕ → EReal
  gb : ℕ → ℕ → EReal
  hR : ℕ → ℕ → ℕ → EReal
  hI : ℕ → ℕ → ℕ → EReal

variable (A : Args)

/-- The input of channel `C` at position `t` of row `b`. -/
def inp (b t C : ℕ) : EReal := A.X b t (6912 + C)

/-- What the input adds to state `J`, through the matrix `w`. -/
def drive (w : ℕ → ℕ → ℕ → EReal) (b t J : ℕ) : EReal := ∑ m : Fin 16, inp A b t (16 * (J / 64) + m.val) * w m.val (J / 64) (J % 64)

/-- State `J` of row `b` before position `t`: its real and its imaginary part. -/
def st (b J : ℕ) : ℕ → EReal × EReal
  | 0 => (A.hR b (J / 64) (J % 64), A.hI b (J / 64) (J % 64))
  | t + 1 => (A.aR (J / 64) (J % 64) * (st b J t).1 - A.aI (J / 64) (J % 64) * (st b J t).2 + drive A A.bR b t J,
      A.aR (J / 64) (J % 64) * (st b J t).2 + A.aI (J / 64) (J % 64) * (st b J t).1 + drive A A.bI b t J)

/-- The states read out at channel `C`. -/
def yv (b t C : ℕ) : EReal :=
  (∑ n : Fin 64, (st A b (64 * (C / 16) + n.val) (t + 1)).1 * A.cR (C / 16) (C % 16) n.val)
    - (∑ n : Fin 64, (st A b (64 * (C / 16) + n.val) (t + 1)).2 * A.cI (C / 16) (C % 16) n.val)
    + A.d (C / 16) (C % 16) * inp A b t C

/-- The activation. -/
def act (y : EReal) : EReal :=
  Ideal.ofBits FTy.f32 1056964608#32 * y * (1 + Ideal.tanh (Ideal.ofBits FTy.f32 1061962282#32 * (y + Ideal.ofBits FTy.f32 1027024659#32 * (y * y * y))))

/-- The gated output at channel `C`. -/
def gated (b t C : ℕ) : EReal :=
  act (yv A b t C) * Ideal.div 1 (1 + Ideal.exp (0 - ((∑ m : Fin 16, act (yv A b t (16 * (C / 16) + m.val)) * A.gw (C / 16) m.val (C % 16)) + A.gb (C / 16) (C % 16))))

end Cert.Proof

end

end
-- ==== Proof.ScanPay.lean ====
/- The payloads of one grid point, read at an index over the extended reals. -/
module

public import proofs.«01_k».proof.Proof.Gen.ScanIdeal.Skeleton
public import Idealize.ShloMosaic.Lib.Pointwise
public import proofs.«01_k».proof.Proof.ScanSpec

@[expose] public section

set_option maxRecDepth 16384

noncomputable section

namespace Cert.Proof.ScanIdeal

open Cert.ScanIdeal Cert.ScanIdeal.Gen
open Idealize.ShloMosaic Idealize.ShloMosaic.TcCoe

theorem pay2_at (a ai : FVec Ideal S1x128 .f32) (h hi : FVec Ideal S4x128 .f32) (u : Vec Ideal S1x4x128 .f32) (b : Fin 4) (j : Fin 128) :
    k0_pay2 (F := Ideal) a ai h hi u (ix2 b j) = a (ix2 0 j) * h (ix2 b j) - ai (ix2 0 j) * hi (ix2 b j) + u (ix3 0 b j) := by
  pointwise [k0_pay2]

theorem pay3_at (a ai : FVec Ideal S1x128 .f32) (h hi : FVec Ideal S4x128 .f32) (u : Vec Ideal S1x4x128 .f32) (b : Fin 4) (j : Fin 128) :
    k0_pay3 (F := Ideal) a ai h hi u (ix2 b j) = a (ix2 0 j) * hi (ix2 b j) + ai (ix2 0 j) * h (ix2 b j) + u (ix3 0 b j) := by
  pointwise [k0_pay3]

theorem pay26_at (u : Vec Ideal S1056x128 .f32) (w : Vec Ideal S1x128x512 .f32) (r : Fin 1056) (j : Fin 512) :
    k0_pay26 (F := Ideal) u w (ix2 r j) = ∑ i : Fin 128, u (ix2 r i) * w (ix3 0 i j) := by
  pointwise [k0_pay26]

theorem pay27_at (u : Vec Ideal S1056x128 .f32) (w : Vec Ideal S1x128x512 .f32) (r : Fin 1056) (j : Fin 512) :
    k0_pay27 (F := Ideal) u w (ix2 r j) = ∑ i : Fin 128, u (ix2 r i) * w (ix3 0 i j) := by
  pointwise [k0_pay27]

theorem pay55_at (p0 p1 p2 p3 : Vec Ideal S1x1056x128 .f32) (r : Fin 1056) (j : Fin 512) :
    k0_pay55 (F := Ideal) p0 p1 p2 p3 (ix2 r j)
      = if j.val / 128 = 0 then at3 p0 0 r.val (j.val % 128) else if j.val / 128 = 1 then at3 p1 0 r.val (j.val % 128)
        else if j.val / 128 = 2 then at3 p2 0 r.val (j.val % 128) else at3 p3 0 r.val (j.val % 128) := by
  pointwise [k0_pay55]
  have hj := j.isLt
  split_ifs
  all_goals try omega
  · exact ((at3_eq p0 _ _ _).trans (congrArg (at3 p0 0 r.val)
      (show j.val = j.val % 128 by omega))).trans
      (if_pos (show j.val / 128 = 0 by omega)).symm
  · exact ((at3_eq p1 _ _ _).trans (congrArg (at3 p1 0 r.val)
      (show j.val - 128 = j.val % 128 by omega))).trans
      ((if_neg (show ¬ j.val / 128 = 0 by omega)).trans (if_pos (show j.val / 128 = 1 by omega))).symm
  · exact ((at3_eq p2 _ _ _).trans (congrArg (at3 p2 0 r.val)
      (show j.val - 128 - 128 = j.val % 128 by omega))).trans
      ((if_neg (show ¬ j.val / 128 = 0 by omega)).trans ((if_neg (show ¬ j.val / 128 = 1 by omega)).trans
      (if_pos (show j.val / 128 = 2 by omega)))).symm
  · exact ((at3_eq p3 _ _ _).trans (congrArg (at3 p3 0 r.val)
      (show j.val - 128 - 128 - 128 = j.val % 128 by omega))).trans
      ((if_neg (show ¬ j.val / 128 = 0 by omega)).trans ((if_neg (show ¬ j.val / 128 = 1 by omega)).trans
      (if_neg (show ¬ j.val / 128 = 2 by omega)))).symm

/-- The two halves of a row's read-out and the input passed on. -/
def readOut (u : Vec Ideal S1056x128 .f32) (v v' : FVec Ideal S1056x512 .f32) (w w' : Vec Ideal S1x512x128 .f32) (d : Vec Ideal S1x1x128 .f32) : FVec Ideal S1056x128 .f32 :=
  addf (subf
      (matmul dot_S1056x512_S512x128_S1056x128_1_0_0_1_n_n none (truncf .bf16 v bitsLt_bf16_f32) (truncf .bf16 (shapeCast S512x128 w shapeCasts_S1x512x128_S512x128) bitsLt_bf16_f32) (constant S1056x128 .f32 0x00000000#32))
      (matmul dot_S1056x512_S512x128_S1056x128_1_0_0_1_n_n none (truncf .bf16 v' bitsLt_bf16_f32) (truncf .bf16 (shapeCast S512x128 w' shapeCasts_S1x512x128_S512x128) bitsLt_bf16_f32) (constant S1056x128 .f32 0x00000000#32)))
    (mulf (broadcastTo S1056x128 (shapeCast S1x128 d shapeCasts_S1x1x128_S1x128) broadcasts_S1x128_S1056x128) u)

/-- The second half of a row's read-out, with the four lanes of the imaginary part joined. -/
theorem pay56_eq (u : Vec Ideal S1056x128 .f32) (v : FVec Ideal S1056x512 .f32) (p0 p1 p2 p3 : Vec Ideal S1x1056x128 .f32) (w w' : Vec Ideal S1x512x128 .f32) (d : Vec Ideal S1x1x128 .f32) :
    k0_pay56 (F := Ideal) u v p0 p1 p2 p3 w w' d
      = readOut u v (k0_pay55 (F := Ideal) p0 p1 p2 p3) w w' d := rfl

theorem readOut_at (u : Vec Ideal S1056x128 .f32) (v v' : FVec Ideal S1056x512 .f32) (w w' : Vec Ideal S1x512x128 .f32) (d : Vec Ideal S1x1x128 .f32) (r : Fin 1056) (i : Fin 128) :
    readOut u v v' w w' d (ix2 r i) = (∑ j : Fin 512, v (ix2 r j) * w (ix3 0 j i)) - (∑ j : Fin 512, v' (ix2 r j) * w' (ix3 0 j i)) + d (ix3 0 0 i) * u (ix2 r i) := by
  pointwise [readOut]

theorem pay57_at (u : Vec Ideal S1056x128 .f32) (v : FVec Ideal S1056x512 .f32) (p0 p1 p2 p3 : Vec Ideal S1x1056x128 .f32) (w w' : Vec Ideal S1x512x128 .f32) (d : Vec Ideal S1x1x128 .f32) (j : S1056x128.Idx) :
    k0_pay57 (F := Ideal) u v p0 p1 p2 p3 w w' d j = Ideal.ofBits FTy.f32 1056964608#32 * k0_pay56 (F := Ideal) u v p0 p1 p2 p3 w w' d j := by
  pointwise [k0_pay57]

theorem pay58_at (u : Vec Ideal S1056x128 .f32) (v : FVec Ideal S1056x512 .f32) (p0 p1 p2 p3 : Vec Ideal S1x1056x128 .f32) (w w' : Vec Ideal S1x512x128 .f32) (d : Vec Ideal S1x1x128 .f32) (j : S1056x128.Idx) :
    k0_pay58 (F := Ideal) u v p0 p1 p2 p3 w w' d j
      = Ideal.ofBits FTy.f32 1061962282#32 * (k0_pay56 (F := Ideal) u v p0 p1 p2 p3 w w' d j + Ideal.ofBits FTy.f32 1027024659#32
        * (k0_pay56 (F := Ideal) u v p0 p1 p2 p3 w w' d j * k0_pay56 (F := Ideal) u v p0 p1 p2 p3 w w' d j * k0_pay56 (F := Ideal) u v p0 p1 p2 p3 w w' d j)) := by
  pointwise [k0_pay58]

theorem pay59_at (y z : FVec Ideal S1056x128 .f32) (w : Vec Ideal S1x128x128 .f32) (b : Vec Ideal S1x1x128 .f32) (r : Fin 1056) (i : Fin 128) :
    k0_pay59 (F := Ideal) y z w b (ix2 r i) = y (ix2 r i) * (1 + Ideal.tanh (z (ix2 r i)))
      * Ideal.div 1 (1 + Ideal.exp (0 - ((∑ x : Fin 128, y (ix2 r x) * (1 + Ideal.tanh (z (ix2 r x))) * w (ix3 0 x i)) + b (ix3 0 0 i)))) := by
  pointwise [k0_pay59]

end Cert.Proof.ScanIdeal

end

end
-- ==== Proof.ScanBlock.lean ====
/- One grid point of the scan computes the layer's states and outputs at its positions and groups.

   Grid point `(s, tt)` holds groups `8 s … 8 s + 7` (channels from `128 s`, states from `512 s`) and positions from `256 tt`.
   Its weights are block diagonal: eight groups in one matrix, zero elsewhere. -/
module

public import proofs.«01_k».proof.Proof.ScanPay
public import proofs.«01_k».proof.Proof.ScanIdealPoint

@[expose] public section

set_option maxRecDepth 16384

noncomputable section

namespace Cert.Proof.ScanIdeal

open Cert.ScanIdeal Cert.ScanIdeal.Gen
open Idealize.ShloMosaic Idealize.ShloMosaic.TcCoe

/-- What the blocks of grid point `(s, tt)` hold. -/
structure Blocks (A : Args) (s tt : ℕ) (x2 : Vec Ideal S4x256x128 .f32) (x3 x4 : Vec Ideal S1x128x512 .f32) (x5 x6 : Vec Ideal S1x512x128 .f32) (x7 : Vec Ideal S1x1x128 .f32)
    (x8 : Vec Ideal S1x128x128 .f32) (x9 : Vec Ideal S1x1x128 .f32) (x10 x11 : Vec Ideal S1x1x512 .f32) (h15 h16 : Vec Ideal S4x512 .f32) : Prop where
  e2 : ∀ b k i, b < 4 → k < 256 → i < 128 → at3 x2 b k i = inp A b (256 * tt + k) (128 * s + i)
  e3 : ∀ i j, i < 128 → j < 512 → at3 x3 0 i j = if i / 16 = j / 64 then A.bR (i % 16) (8 * s + i / 16) (j % 64) else 0
  e4 : ∀ i j, i < 128 → j < 512 → at3 x4 0 i j = if i / 16 = j / 64 then A.bI (i % 16) (8 * s + i / 16) (j % 64) else 0
  e5 : ∀ i j, i < 128 → j < 512 → at3 x5 0 j i = if j / 64 = i / 16 then A.cR (8 * s + j / 64) (i % 16) (j % 64) else 0
  e6 : ∀ i j, i < 128 → j < 512 → at3 x6 0 j i = if j / 64 = i / 16 then A.cI (8 * s + j / 64) (i % 16) (j % 64) else 0
  e7 : ∀ i, i < 128 → at3 x7 0 0 i = A.d (8 * s + i / 16) (i % 16)
  e8 : ∀ i k, i < 128 → k < 128 → at3 x8 0 i k = if i / 16 = k / 16 then A.gw (8 * s + i / 16) (i % 16) (k % 16) else 0
  e9 : ∀ i, i < 128 → at3 x9 0 0 i = A.gb (8 * s + i / 16) (i % 16)
  e10 : ∀ j, j < 512 → at3 x10 0 0 j = A.aR (8 * s + j / 64) (j % 64)
  e11 : ∀ j, j < 512 → at3 x11 0 0 j = A.aI (8 * s + j / 64) (j % 64)
  e15 : ∀ b j, b < 4 → j < 512 → at2 h15 b j = (st A b (512 * s + j) (256 * tt)).1
  e16 : ∀ b j, b < 4 → j < 512 → at2 h16 b j = (st A b (512 * s + j) (256 * tt)).2

variable {A : Args} {s tt : ℕ} {x2 : Vec Ideal S4x256x128 .f32} {x3 x4 : Vec Ideal S1x128x512 .f32} {x5 x6 : Vec Ideal S1x512x128 .f32} {x7 : Vec Ideal S1x1x128 .f32}
  {x8 : Vec Ideal S1x128x128 .f32} {x9 : Vec Ideal S1x1x128 .f32} {x10 x11 : Vec Ideal S1x1x512 .f32} {h15 h16 : Vec Ideal S4x512 .f32}
  (B : Blocks A s tt x2 x3 x4 x5 x6 x7 x8 x9 x10 x11 h15 h16)

include B

/-- The input's rows. -/
theorem uBlk_at {b k i : ℕ} (hb : b < 4) (hk : k < 256) (hi : i < 128) : at2 (uBlk x2) (264 * b + k) i = inp A b (256 * tt + k) (128 * s + i) := by
  rw [← B.e2 b k i hb hk hi, ← at2_eq (uBlk x2) (a := 264 * b + k) (b := i) (by omega) hi]
  unfold uBlk
  rw [if_pos (by show (264 * b + k) % 264 < 256; omega)]
  exact at3_idx _ _ (by show (264 * b + k) / 264 % 4 = b; omega) (by show (264 * b + k) % 264 % 256 = k; omega) rfl

/-- A row's product with a block-diagonal input matrix. -/
theorem drive_at (w : ℕ → ℕ → ℕ → EReal) (x : Vec Ideal S1x128x512 .f32)
    (e : ∀ i j, i < 128 → j < 512 → at3 x 0 i j = if i / 16 = j / 64 then w (i % 16) (8 * s + i / 16) (j % 64) else 0)
    {b k j : ℕ} (hb : b < 4) (hk : k < 256) (hj : j < 512) :
    (∑ i : Fin 128, uBlk x2 (ix2 (⟨264 * b + k, by omega⟩ : Fin 1056) i) * x (ix3 0 i (⟨j, hj⟩ : Fin 512)))
      = drive A w b (256 * tt + k) (512 * s + j) := by
  have t : ∀ i : Fin 128, uBlk x2 (ix2 (⟨264 * b + k, by omega⟩ : Fin 1056) i) * x (ix3 0 i (⟨j, hj⟩ : Fin 512))
      = inp A b (256 * tt + k) (128 * s + i.val) * (if i.val / 16 = j / 64 then w (i.val % 16) (8 * s + i.val / 16) (j % 64) else 0) := fun i => by
    rw [← uBlk_at B hb hk i.isLt, ← e i.val j i.isLt hj]
    exact congr (congrArg _ (at2_idx _ _ rfl rfl)) (at3_idx _ _ rfl rfl rfl)
  rw [Finset.sum_congr rfl fun i _ => t i]
  refine (sum_group 8 16 (fun i => inp A b (256 * tt + k) (128 * s + i.val) * (if i.val / 16 = j / 64 then w (i.val % 16) (8 * s + i.val / 16) (j % 64) else 0))
    (j / 64) (by omega) fun i hi => by rw [if_neg hi, mul_zero]).trans ?_
  unfold drive
  refine Finset.sum_congr rfl fun r _ => ?_
  have hr := r.isLt
  dsimp only
  rw [if_pos (by omega)]
  rw [show (16 * (j / 64) + r.val) % 16 = r.val by omega, show 8 * s + (16 * (j / 64) + r.val) / 16 = (512 * s + j) / 64 by omega,
    show (512 * s + j) % 64 = j % 64 by omega, show 128 * s + (16 * (j / 64) + r.val) = 16 * ((512 * s + j) / 64) + r.val by omega]

theorem xRe_at {l b k c : ℕ} (hl : l < 4) (hb : b < 4) (hk : k < 256) (hc : c < 128) :
    at3 (xRe x2 x3) l (264 * b + k) c = drive A A.bR b (256 * tt + k) (512 * s + (128 * l + c)) := by
  rw [← drive_at B A.bR x3 B.e3 hb hk (show 128 * l + c < 512 by omega), ← at3_eq (xRe x2 x3) hl (show 264 * b + k < 1056 by omega) hc, ← pay26_at]
  unfold xRe lanesOf
  refine congrArg (k0_pay26 (F := Ideal) (uBlk x2) x3) ?_
  funext d
  fin_cases d
  · rfl
  · exact Fin.ext (show (128 * l + c) % 512 = 128 * l + c by omega)

theorem xIm_at {l b k c : ℕ} (hl : l < 4) (hb : b < 4) (hk : k < 256) (hc : c < 128) :
    at3 (xIm x2 x4) l (264 * b + k) c = drive A A.bI b (256 * tt + k) (512 * s + (128 * l + c)) := by
  rw [← drive_at B A.bI x4 B.e4 hb hk (show 128 * l + c < 512 by omega), ← at3_eq (xIm x2 x4) hl (show 264 * b + k < 1056 by omega) hc, ← pay27_at]
  unfold xIm lanesOf
  refine congrArg (k0_pay27 (F := Ideal) (uBlk x2) x4) ?_
  funext d
  fin_cases d
  · rfl
  · exact Fin.ext (show (128 * l + c) % 512 = 128 * l + c by omega)

/-- The states the loop goes through. -/
theorem ptStates_at {b c : ℕ} (l : Fin 4) (hb : b < 4) (hc : c < 128) : ∀ k, k ≤ 256 →
    at2 (ptStates x2 x3 x4 x10 x11 h15 h16 k l).1 b c = (st A b (512 * s + (128 * l.val + c)) (256 * tt + k)).1
    ∧ at2 (ptStates x2 x3 x4 x10 x11 h15 h16 k l).2 b c = (st A b (512 * s + (128 * l.val + c)) (256 * tt + k)).2
  | 0, _ => by
    have hl := l.isLt
    constructor
    · rw [Nat.add_zero, ← B.e15 b (128 * l.val + c) hb (by omega), ← at2_eq _ hb hc]
      exact at2_idx h15 _ rfl (show (128 * l.val + c) % 512 = 128 * l.val + c by omega)
    · rw [Nat.add_zero, ← B.e16 b (128 * l.val + c) hb (by omega), ← at2_eq _ hb hc]
      exact at2_idx h16 _ rfl (show (128 * l.val + c) % 512 = 128 * l.val + c by omega)
  | k + 1, hk => by
    have hl := l.isLt
    obtain ⟨i1, i2⟩ := ptStates_at l hb hc k (by omega)
    have ea : at2 (aLane x10 l) 0 c = A.aR ((512 * s + (128 * l.val + c)) / 64) ((512 * s + (128 * l.val + c)) % 64) := by
      rw [show (512 * s + (128 * l.val + c)) / 64 = 8 * s + (128 * l.val + c) / 64 by omega, show (512 * s + (128 * l.val + c)) % 64 = (128 * l.val + c) % 64 by omega,
        ← B.e10 _ (show 128 * l.val + c < 512 by omega), ← at2_eq (aLane x10 l) (show 0 < 1 by omega) hc]
      exact at3_idx x10 _ rfl rfl (show (128 * l.val + c) % 512 = 128 * l.val + c by omega)
    have ei : at2 (aLane x11 l) 0 c = A.aI ((512 * s + (128 * l.val + c)) / 64) ((512 * s + (128 * l.val + c)) % 64) := by
      rw [show (512 * s + (128 * l.val + c)) / 64 = 8 * s + (128 * l.val + c) / 64 by omega, show (512 * s + (128 * l.val + c)) % 64 = (128 * l.val + c) % 64 by omega,
        ← B.e11 _ (show 128 * l.val + c < 512 by omega), ← at2_eq (aLane x11 l) (show 0 < 1 by omega) hc]
      exact at3_idx x11 _ rfl rfl (show (128 * l.val + c) % 512 = 128 * l.val + c by omega)
    have eR : rowAt (xRe x2 x3) l k (ix3 0 ⟨b, hb⟩ ⟨c, hc⟩) = drive A A.bR b (256 * tt + k) (512 * s + (128 * l.val + c)) := by
      rw [← xRe_at B hl hb (show k < 256 by omega) hc]
      exact at3_idx (xRe x2 x3) _ rfl (show (264 * b + k) % 1056 = 264 * b + k by omega) rfl
    have eI : rowAt (xIm x2 x4) l k (ix3 0 ⟨b, hb⟩ ⟨c, hc⟩) = drive A A.bI b (256 * tt + k) (512 * s + (128 * l.val + c)) := by
      rw [← xIm_at B hl hb (show k < 256 by omega) hc]
      exact at3_idx (xIm x2 x4) _ rfl (show (264 * b + k) % 1056 = 264 * b + k by omega) rfl
    constructor
    · rw [← at2_eq _ hb hc]
      refine (pay2_at (aLane x10 l) (aLane x11 l) (ptStates x2 x3 x4 x10 x11 h15 h16 k l).1 (ptStates x2 x3 x4 x10 x11 h15 h16 k l).2 (rowAt (xRe x2 x3) l k) ⟨b, hb⟩ ⟨c, hc⟩).trans ?_
      rw [eR, at2_idx (ptStates x2 x3 x4 x10 x11 h15 h16 k l).1 (ix2 ⟨b, hb⟩ ⟨c, hc⟩) (a := b) (b := c) rfl rfl,
        at2_idx (ptStates x2 x3 x4 x10 x11 h15 h16 k l).2 (ix2 ⟨b, hb⟩ ⟨c, hc⟩) (a := b) (b := c) rfl rfl, i1, i2,
        at2_idx (aLane x10 l) (ix2 0 ⟨c, hc⟩) (a := 0) (b := c) rfl rfl, at2_idx (aLane x11 l) (ix2 0 ⟨c, hc⟩) (a := 0) (b := c) rfl rfl, ea, ei]
      rfl
    · rw [← at2_eq _ hb hc]
      refine (pay3_at (aLane x10 l) (aLane x11 l) (ptStates x2 x3 x4 x10 x11 h15 h16 k l).1 (ptStates x2 x3 x4 x10 x11 h15 h16 k l).2 (rowAt (xIm x2 x4) l k) ⟨b, hb⟩ ⟨c, hc⟩).trans ?_
      rw [eI, at2_idx (ptStates x2 x3 x4 x10 x11 h15 h16 k l).1 (ix2 ⟨b, hb⟩ ⟨c, hc⟩) (a := b) (b := c) rfl rfl,
        at2_idx (ptStates x2 x3 x4 x10 x11 h15 h16 k l).2 (ix2 ⟨b, hb⟩ ⟨c, hc⟩) (a := b) (b := c) rfl rfl, i1, i2,
        at2_idx (aLane x10 l) (ix2 0 ⟨c, hc⟩) (a := 0) (b := c) rfl rfl, at2_idx (aLane x11 l) (ix2 0 ⟨c, hc⟩) (a := 0) (b := c) rfl rfl, ea, ei]
      rfl

/-- The states the grid point leaves. -/
theorem hOutR_at {b j : ℕ} (hb : b < 4) (hj : j < 512) : at2 (hOutR x2 x3 x4 x10 x11 h15 h16) b j = (st A b (512 * s + j) (256 * (tt + 1))).1 := by
  have h := (ptStates_at B (⟨j / 128, by omega⟩ : Fin 4) hb (show j % 128 < 128 by omega) 256 (le_refl _)).1
  rw [show 512 * s + (128 * (j / 128) + j % 128) = 512 * s + j by omega, ← at2_eq _ hb (show j % 128 < 128 by omega)] at h
  rw [show 256 * (tt + 1) = 256 * tt + 256 by omega, ← h, ← at2_eq _ hb hj]
  unfold hOutR ofLanes
  have e : (⟨j / 128 % 4, Nat.mod_lt _ (by decide)⟩ : Fin 4) = ⟨j / 128, by omega⟩ := Fin.ext (show j / 128 % 4 = j / 128 by omega)
  show (ptStates x2 x3 x4 x10 x11 h15 h16 256 (⟨j / 128 % 4, Nat.mod_lt _ (by decide)⟩ : Fin 4)).1 _ = _
  rw [e]
  refine congrArg _ ?_
  funext d; fin_cases d <;> rfl

theorem hOutI_at {b j : ℕ} (hb : b < 4) (hj : j < 512) : at2 (hOutI x2 x3 x4 x10 x11 h15 h16) b j = (st A b (512 * s + j) (256 * (tt + 1))).2 := by
  have h := (ptStates_at B (⟨j / 128, by omega⟩ : Fin 4) hb (show j % 128 < 128 by omega) 256 (le_refl _)).2
  rw [show 512 * s + (128 * (j / 128) + j % 128) = 512 * s + j by omega, ← at2_eq _ hb (show j % 128 < 128 by omega)] at h
  rw [show 256 * (tt + 1) = 256 * tt + 256 by omega, ← h, ← at2_eq _ hb hj]
  unfold hOutI ofLanes
  have e : (⟨j / 128 % 4, Nat.mod_lt _ (by decide)⟩ : Fin 4) = ⟨j / 128, by omega⟩ := Fin.ext (show j / 128 % 4 = j / 128 by omega)
  show (ptStates x2 x3 x4 x10 x11 h15 h16 256 (⟨j / 128 % 4, Nat.mod_lt _ (by decide)⟩ : Fin 4)).2 _ = _
  rw [e]
  refine congrArg _ ?_
  funext d; fin_cases d <;> rfl

/-! ## The rows of states -/

theorem hsRe_at {l b k c : ℕ} (hl : l < 4) (hb : b < 4) (hk : k < 256) (hc : c < 128) :
    at3 (hsRe x2 x3 x4 x10 x11 h15 h16) l (264 * b + k) c = (st A b (512 * s + (128 * l + c)) (256 * tt + k + 1)).1 := by
  have h := (ptStates_at B (⟨l, hl⟩ : Fin 4) hb hc (k + 1) (by omega)).1
  refine Eq.trans ?_ h
  rw [← at3_eq _ hl (show 264 * b + k < 1056 by omega) hc]
  unfold hsRe filled
  rw [if_pos (by show (264 * b + k) % 264 < 256; omega)]
  show (ptStates x2 x3 x4 x10 x11 h15 h16 ((264 * b + k) % 264 + 1) (⟨l, hl⟩ : Fin 4)).1 _ = _
  rw [show (264 * b + k) % 264 = k by omega]
  exact at2_idx _ _ (show (264 * b + k) / 264 % 4 = b by omega) rfl

theorem hsIm_at {l b k c : ℕ} (hl : l < 4) (hb : b < 4) (hk : k < 256) (hc : c < 128) :
    at3 (hsIm x2 x3 x4 x10 x11 h15 h16) l (264 * b + k) c = (st A b (512 * s + (128 * l + c)) (256 * tt + k + 1)).2 := by
  have h := (ptStates_at B (⟨l, hl⟩ : Fin 4) hb hc (k + 1) (by omega)).2
  refine Eq.trans ?_ h
  rw [← at3_eq _ hl (show 264 * b + k < 1056 by omega) hc]
  unfold hsIm filled
  rw [if_pos (by show (264 * b + k) % 264 < 256; omega)]
  show (ptStates x2 x3 x4 x10 x11 h15 h16 ((264 * b + k) % 264 + 1) (⟨l, hl⟩ : Fin 4)).2 _ = _
  rw [show (264 * b + k) % 264 = k by omega]
  exact at2_idx _ _ (show (264 * b + k) / 264 % 4 = b by omega) rfl

omit B in
theorem plane_at (X : Vec Ideal S4x1056x128 .f32) (l : Fin 4) {r c : ℕ} (hr : r < 1056) (hc : c < 128) : at3 (plane X l) 0 r c = at3 X l.val r c := by
  rw [← at3_eq (plane X l) (show 0 < 1 by omega) hr hc]
  exact at3_idx X _ rfl rfl rfl

omit B in
/-- The four lanes joined. -/
theorem join_at (X : Vec Ideal S4x1056x128 .f32) (r : Fin 1056) (j : Fin 512) :
    k0_pay55 (F := Ideal) (plane X 0) (plane X 1) (plane X 2) (plane X 3) (ix2 r j) = at3 X (j.val / 128) r.val (j.val % 128) := by
  have hj := j.isLt
  have hc : j.val % 128 < 128 := by omega
  rw [pay55_at, plane_at X 0 r.isLt hc, plane_at X 1 r.isLt hc, plane_at X 2 r.isLt hc, plane_at X 3 r.isLt hc]
  rcases (show j.val / 128 = 0 ∨ j.val / 128 = 1 ∨ j.val / 128 = 2 ∨ j.val / 128 = 3 by omega) with h | h | h | h <;> rw [h] <;> rfl

omit B in
/-- A row of states read through a block-diagonal matrix. -/
theorem read_at (f : ℕ → EReal) (w : ℕ → ℕ → ℕ → EReal) (v : FVec Ideal S1056x512 .f32) (x : Vec Ideal S1x512x128 .f32) (r : Fin 1056)
    (hv : ∀ j : Fin 512, v (ix2 r j) = f (512 * s + j.val))
    (e : ∀ i j, i < 128 → j < 512 → at3 x 0 j i = if j / 64 = i / 16 then w (8 * s + j / 64) (i % 16) (j % 64) else 0) {i : ℕ} (hi : i < 128) :
    (∑ j : Fin 512, v (ix2 r j) * x (ix3 0 j (⟨i, hi⟩ : Fin 128)))
      = ∑ n : Fin 64, f (64 * ((128 * s + i) / 16) + n.val) * w ((128 * s + i) / 16) ((128 * s + i) % 16) n.val := by
  have t : ∀ j : Fin 512, v (ix2 r j) * x (ix3 0 j (⟨i, hi⟩ : Fin 128))
      = f (512 * s + j.val) * (if j.val / 64 = i / 16 then w (8 * s + j.val / 64) (i % 16) (j.val % 64) else 0) := fun j => by
    rw [hv j, ← e i j.val hi j.isLt]
    exact congrArg _ (at3_idx _ _ rfl rfl rfl)
  rw [Finset.sum_congr rfl fun j _ => t j]
  refine (sum_group 8 64 (fun j => f (512 * s + j.val) * (if j.val / 64 = i / 16 then w (8 * s + j.val / 64) (i % 16) (j.val % 64) else 0))
    (i / 16) (by omega) fun j hj => by rw [if_neg hj, mul_zero]).trans ?_
  refine Finset.sum_congr rfl fun n _ => ?_
  have hn := n.isLt
  dsimp only
  rw [if_pos (by omega)]
  rw [show 512 * s + (64 * (i / 16) + n.val) = 64 * ((128 * s + i) / 16) + n.val by omega, show 8 * s + (64 * (i / 16) + n.val) / 64 = (128 * s + i) / 16 by omega,
    show (128 * s + i) % 16 = i % 16 by omega, show (64 * (i / 16) + n.val) % 64 = n.val by omega]

theorem joinRe_at {b k : ℕ} (hb : b < 4) (hk : k < 256) (j : Fin 512) :
    k0_pay55 (F := Ideal) (plane (hsRe x2 x3 x4 x10 x11 h15 h16) 0) (plane (hsRe x2 x3 x4 x10 x11 h15 h16) 1) (plane (hsRe x2 x3 x4 x10 x11 h15 h16) 2)
      (plane (hsRe x2 x3 x4 x10 x11 h15 h16) 3) (ix2 (⟨264 * b + k, by omega⟩ : Fin 1056) j) = (st A b (512 * s + j.val) (256 * tt + k + 1)).1 := by
  have hj := j.isLt
  rw [join_at, hsRe_at B (show j.val / 128 < 4 by omega) hb hk (show j.val % 128 < 128 by omega), show 128 * (j.val / 128) + j.val % 128 = j.val by omega]

theorem joinIm_at {b k : ℕ} (hb : b < 4) (hk : k < 256) (j : Fin 512) :
    k0_pay55 (F := Ideal) (plane (hsIm x2 x3 x4 x10 x11 h15 h16) 0) (plane (hsIm x2 x3 x4 x10 x11 h15 h16) 1) (plane (hsIm x2 x3 x4 x10 x11 h15 h16) 2)
      (plane (hsIm x2 x3 x4 x10 x11 h15 h16) 3) (ix2 (⟨264 * b + k, by omega⟩ : Fin 1056) j) = (st A b (512 * s + j.val) (256 * tt + k + 1)).2 := by
  have hj := j.isLt
  rw [join_at, hsIm_at B (show j.val / 128 < 4 by omega) hb hk (show j.val % 128 < 128 by omega), show 128 * (j.val / 128) + j.val % 128 = j.val by omega]

/-! ## The output -/

/-- The rows read out. -/
theorem yRow_at {b k i : ℕ} (hb : b < 4) (hk : k < 256) (hi : i < 128) :
    k0_pay56 (F := Ideal) (uBlk x2) (k0_pay55 (F := Ideal) (plane (hsRe x2 x3 x4 x10 x11 h15 h16) 0) (plane (hsRe x2 x3 x4 x10 x11 h15 h16) 1) (plane (hsRe x2 x3 x4 x10 x11 h15 h16) 2)
      (plane (hsRe x2 x3 x4 x10 x11 h15 h16) 3)) (plane (hsIm x2 x3 x4 x10 x11 h15 h16) 0) (plane (hsIm x2 x3 x4 x10 x11 h15 h16) 1) (plane (hsIm x2 x3 x4 x10 x11 h15 h16) 2)
      (plane (hsIm x2 x3 x4 x10 x11 h15 h16) 3) x5 x6 x7 (ix2 (⟨264 * b + k, by omega⟩ : Fin 1056) (⟨i, hi⟩ : Fin 128)) = yv A b (256 * tt + k) (128 * s + i) := by
  rw [pay56_eq, readOut_at, read_at (fun J => (st A b J (256 * tt + k + 1)).1) A.cR _ x5 _ (joinRe_at B hb hk) B.e5 hi,
    read_at (fun J => (st A b J (256 * tt + k + 1)).2) A.cI _ x6 _ (joinIm_at B hb hk) B.e6 hi,
    at2_idx (uBlk x2) (ix2 (⟨264 * b + k, by omega⟩ : Fin 1056) (⟨i, hi⟩ : Fin 128)) (a := 264 * b + k) (b := i) rfl rfl, uBlk_at B hb hk hi,
    at3_idx x7 (ix3 0 0 (⟨i, hi⟩ : Fin 128)) (a := 0) (b := 0) (c := i) rfl rfl rfl, B.e7 i hi]
  unfold yv
  rw [show (128 * s + i) / 16 = 8 * s + i / 16 by omega, show (128 * s + i) % 16 = i % 16 by omega]

/-- The output block. -/
theorem oBlk_at {b k i : ℕ} (hb : b < 4) (hk : k < 256) (hi : i < 128) :
    at3 (oBlk x2 x3 x4 x5 x6 x7 x8 x9 x10 x11 h15 h16) b k i = gated A b (256 * tt + k) (128 * s + i) := by
  rw [← at3_eq _ hb hk hi]
  unfold oBlk pickRows
  have e : (ix2 (⟨(264 * ((ix3 (⟨b, hb⟩ : Fin 4) (⟨k, hk⟩ : Fin 256) (⟨i, hi⟩ : Fin 128)) 0).val + ((ix3 (⟨b, hb⟩ : Fin 4) (⟨k, hk⟩ : Fin 256) (⟨i, hi⟩ : Fin 128)) 1).val) % 1056,
      Nat.mod_lt _ (by decide)⟩ : Fin 1056) ((ix3 (⟨b, hb⟩ : Fin 4) (⟨k, hk⟩ : Fin 256) (⟨i, hi⟩ : Fin 128)) 2 : Fin 128)) = ix2 (⟨264 * b + k, by omega⟩ : Fin 1056) (⟨i, hi⟩ : Fin 128) :=
    congrArg (fun r : Fin 1056 => ix2 r (⟨i, hi⟩ : Fin 128)) (Fin.ext (show (264 * b + k) % 1056 = 264 * b + k by omega))
  refine (congrArg (rowsOut x5 x6 x7 x8 x9 (uBlk x2) (hsRe x2 x3 x4 x10 x11 h15 h16) (hsIm x2 x3 x4 x10 x11 h15 h16)) e).trans ?_
  unfold rowsOut
  have y : ∀ {c : ℕ} (hc : c < 128), k0_pay57 (F := Ideal) (uBlk x2) (k0_pay55 (F := Ideal) (plane (hsRe x2 x3 x4 x10 x11 h15 h16) 0) (plane (hsRe x2 x3 x4 x10 x11 h15 h16) 1) (plane (hsRe x2 x3 x4 x10 x11 h15 h16) 2)
      (plane (hsRe x2 x3 x4 x10 x11 h15 h16) 3)) (plane (hsIm x2 x3 x4 x10 x11 h15 h16) 0) (plane (hsIm x2 x3 x4 x10 x11 h15 h16) 1) (plane (hsIm x2 x3 x4 x10 x11 h15 h16) 2)
      (plane (hsIm x2 x3 x4 x10 x11 h15 h16) 3) x5 x6 x7 (ix2 (⟨264 * b + k, by omega⟩ : Fin 1056) (⟨c, hc⟩ : Fin 128))
      * (1 + Ideal.tanh (k0_pay58 (F := Ideal) (uBlk x2) (k0_pay55 (F := Ideal) (plane (hsRe x2 x3 x4 x10 x11 h15 h16) 0) (plane (hsRe x2 x3 x4 x10 x11 h15 h16) 1) (plane (hsRe x2 x3 x4 x10 x11 h15 h16) 2)
      (plane (hsRe x2 x3 x4 x10 x11 h15 h16) 3)) (plane (hsIm x2 x3 x4 x10 x11 h15 h16) 0) (plane (hsIm x2 x3 x4 x10 x11 h15 h16) 1) (plane (hsIm x2 x3 x4 x10 x11 h15 h16) 2)
      (plane (hsIm x2 x3 x4 x10 x11 h15 h16) 3) x5 x6 x7 (ix2 (⟨264 * b + k, by omega⟩ : Fin 1056) (⟨c, hc⟩ : Fin 128)))) = act (yv A b (256 * tt + k) (128 * s + c)) := by
    intro c hc
    rw [pay57_at, pay58_at, yRow_at B hb hk hc]
    rfl
  rw [pay59_at, y hi, at3_idx x9 (ix3 0 0 (⟨i, hi⟩ : Fin 128)) (a := 0) (b := 0) (c := i) rfl rfl rfl, B.e9 i hi]
  have g : (∑ x : Fin 128, k0_pay57 (F := Ideal) (uBlk x2) (k0_pay55 (F := Ideal) (plane (hsRe x2 x3 x4 x10 x11 h15 h16) 0) (plane (hsRe x2 x3 x4 x10 x11 h15 h16) 1) (plane (hsRe x2 x3 x4 x10 x11 h15 h16) 2)
      (plane (hsRe x2 x3 x4 x10 x11 h15 h16) 3)) (plane (hsIm x2 x3 x4 x10 x11 h15 h16) 0) (plane (hsIm x2 x3 x4 x10 x11 h15 h16) 1) (plane (hsIm x2 x3 x4 x10 x11 h15 h16) 2)
      (plane (hsIm x2 x3 x4 x10 x11 h15 h16) 3) x5 x6 x7 (ix2 (⟨264 * b + k, by omega⟩ : Fin 1056) x)
      * (1 + Ideal.tanh (k0_pay58 (F := Ideal) (uBlk x2) (k0_pay55 (F := Ideal) (plane (hsRe x2 x3 x4 x10 x11 h15 h16) 0) (plane (hsRe x2 x3 x4 x10 x11 h15 h16) 1) (plane (hsRe x2 x3 x4 x10 x11 h15 h16) 2)
      (plane (hsRe x2 x3 x4 x10 x11 h15 h16) 3)) (plane (hsIm x2 x3 x4 x10 x11 h15 h16) 0) (plane (hsIm x2 x3 x4 x10 x11 h15 h16) 1) (plane (hsIm x2 x3 x4 x10 x11 h15 h16) 2)
      (plane (hsIm x2 x3 x4 x10 x11 h15 h16) 3) x5 x6 x7 (ix2 (⟨264 * b + k, by omega⟩ : Fin 1056) x))) * x8 (ix3 0 x (⟨i, hi⟩ : Fin 128)))
      = ∑ m : Fin 16, act (yv A b (256 * tt + k) (16 * ((128 * s + i) / 16) + m.val)) * A.gw ((128 * s + i) / 16) m.val ((128 * s + i) % 16) := by
    rw [Finset.sum_congr rfl fun x _ => show _ = act (yv A b (256 * tt + k) (128 * s + x.val)) * (if x.val / 16 = i / 16 then A.gw (8 * s + x.val / 16) (x.val % 16) (i % 16) else 0) by
      rw [← B.e8 x.val i x.isLt hi]
      exact congr (congrArg _ (y x.isLt)) (at3_idx _ _ rfl rfl rfl)]
    refine (sum_group 8 16 (fun x => act (yv A b (256 * tt + k) (128 * s + x.val)) * (if x.val / 16 = i / 16 then A.gw (8 * s + x.val / 16) (x.val % 16) (i % 16) else 0))
      (i / 16) (by omega) fun x hx => by rw [if_neg hx, mul_zero]).trans ?_
    refine Finset.sum_congr rfl fun m _ => ?_
    have hm := m.isLt
    dsimp only
    rw [if_pos (by omega)]
    rw [show 128 * s + (16 * (i / 16) + m.val) = 16 * ((128 * s + i) / 16) + m.val by omega, show 8 * s + (16 * (i / 16) + m.val) / 16 = (128 * s + i) / 16 by omega,
      show (16 * (i / 16) + m.val) % 16 = m.val by omega, show (128 * s + i) % 16 = i % 16 by omega]
  rw [g]
  unfold gated
  rw [show 8 * s + i / 16 = (128 * s + i) / 16 by omega, show i % 16 = (128 * s + i) % 16 by omega]

end Cert.Proof.ScanIdeal

end

end
-- ==== Proof.ScanArrays.lean ====
/- The arrays the scan's grid reads: block-diagonal weights made from the arguments, and reshaped arguments. -/
module

public import proofs.«01_k».proof.Proof.ScanIdealFrame
public import proofs.«01_k».proof.Proof.ScanBlock
public import Idealize.ShloMosaic.Lib.Claim
public import Idealize.ShloMosaic.Lib.Pipeline.ValueKit

@[expose] public section

set_option maxRecDepth 16384

noncomputable section

namespace Cert.Proof.ScanIdeal

open Cert.ScanIdeal Cert.ScanIdeal.Gen
open Idealize.ShloMosaic Idealize.ShloMosaic.TcCoe

variable (m : (ℓ : Loc nD τ sig) → Buf (Elt Ideal) ℓ)

/-- An element of the unit matrix, as the host makes it. -/
theorem eye_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal) = if a = b then 1 else 0 := by
  have e : IntOp.addi (BitVec.ofNat 32 a) 0#32 = BitVec.ofNat 32 a := BitVec.add_zero _
  rw [e]
  by_cases h : a = b
  · subst h
    rw [if_pos rfl, show IntOp.cmpi CmpIPredicate.eq (BitVec.ofNat 32 a) (BitVec.ofNat 32 a) = 1#1 by simp [IntOp.cmpi]]
    show (((1#1 : BitVec 1).toNat : ℝ) : EReal) = 1
    simp
  · have hn : BitVec.ofNat 32 a ≠ BitVec.ofNat 32 b := fun e => h (by
      have := congrArg BitVec.toNat e
      rw [BitVec.toNat_ofNat, BitVec.toNat_ofNat] at this
      omega)
    rw [if_neg h, show IntOp.cmpi CmpIPredicate.eq (BitVec.ofNat 32 a) (BitVec.ofNat 32 b) = 0#1 by
      show BitVec.ofBool (BitVec.ofNat 32 a == BitVec.ofNat 32 b) = 0#1
      rw [beq_eq_false_iff_ne.mpr hn]; rfl]
    show (((0#1 : BitVec 1).toNat : ℝ) : EReal) = 0
    simp

/-- A product with an element of the unit matrix. -/
theorem mul_eye (x y : EReal) (a b : ℕ) (ha : a < 8) (hb : b < 8) (h : a = b → x = y) :
    x * (FloatOps.uitofp (F := Ideal) FTy.f32 (IntOp.cmpi CmpIPredicate.eq (IntOp.addi (BitVec.ofNat 32 a) 0#32) (BitVec.ofNat 32 b)) : EReal) = if a = b then y else 0 := by
  rw [eye_at a b ha hb]
  by_cases e : a = b
  · rw [if_pos e, if_pos e, mul_one, h e]
  · rw [if_neg e, if_neg e, mul_zero]

theorem v13_at (c : Dev nD) (s : Fin 16) (i : Fin 128) (j : Fin 512) :
    (V m c main_v13 : FVec Ideal S16x128x512 .f32) (ix3 s i j)
      = if i.val / 16 = j.val / 64 then at3 (m ((c : Thread nD τ).loc main_arg3) : FVec Ideal S16x128x64 .f32) (i.val % 16) (8 * s.val + i.val / 16) (j.val % 64) else 0 := by
  entry_read
  pointwise
  have hi := i.isLt
  have hj := j.isLt
  refine mul_eye _ _ _ _ (by omega) (by omega) fun h => ?_
  exact at3_idx _ _ rfl (show s.val * 8 + i.val / 16 = _ by omega) rfl

theorem v27_at (c : Dev nD) (s : Fin 16) (i : Fin 128) (j : Fin 512) :
    (V m c main_v27 : FVec Ideal S16x128x512 .f32) (ix3 s i j)
      = if i.val / 16 = j.val / 64 then at3 (m ((c : Thread nD τ).loc main_arg4) : FVec Ideal S16x128x64 .f32) (i.val % 16) (8 * s.val + i.val / 16) (j.val % 64) else 0 := by
  entry_read
  pointwise
  have hi := i.isLt
  have hj := j.isLt
  refine mul_eye _ _ _ _ (by omega) (by omega) fun h => ?_
  exact at3_idx _ _ rfl (show s.val * 8 + i.val / 16 = _ by omega) rfl

theorem v41_at (c : Dev nD) (s : Fin 16) (j : Fin 512) (i : Fin 128) :
    (V m c main_v41 : FVec Ideal S16x512x128 .f32) (ix3 s j i)
      = if j.val / 64 = i.val / 16 then at3 (m ((c : Thread nD τ).loc main_arg5) : FVec Ideal S128x16x64 .f32) (8 * s.val + j.val / 64) (i.val % 16) (j.val % 64) else 0 := by
  entry_read
  pointwise
  have hi := i.isLt
  have hj := j.isLt
  refine mul_eye _ _ _ _ (by omega) (by omega) fun h => ?_
  exact at3_idx _ _ (show s.val * 8 + j.val / 64 = _ by omega) rfl rfl

theorem v55_at (c : Dev nD) (s : Fin 16) (j : Fin 512) (i : Fin 128) :
    (V m c main_v55 : FVec Ideal S16x512x128 .f32) (ix3 s j i)
      = if j.val / 64 = i.val / 16 then at3 (m ((c : Thread nD τ).loc main_arg6) : FVec Ideal S128x16x64 .f32) (8 * s.val + j.val / 64) (i.val % 16) (j.val % 64) else 0 := by
  entry_read
  pointwise
  have hi := i.isLt
  have hj := j.isLt
  refine mul_eye _ _ _ _ (by omega) (by omega) fun h => ?_
  exact at3_idx _ _ (show s.val * 8 + j.val / 64 = _ by omega) rfl rfl

theorem v68_at (c : Dev nD) (s : Fin 16) (i : Fin 128) (j : Fin 128) :
    (V m c main_v68 : FVec Ideal S16x128x128 .f32) (ix3 s i j)
      = if i.val / 16 = j.val / 16 then at3 (m ((c : Thread nD τ).loc main_arg8) : FVec Ideal S128x16x16 .f32) (8 * s.val + i.val / 16) (i.val % 16) (j.val % 16) else 0 := by
  entry_read
  pointwise
  have hi := i.isLt
  have hj := j.isLt
  refine mul_eye _ _ _ _ (by omega) (by omega) fun h => ?_
  exact at3_idx _ _ (show s.val * 8 + i.val / 16 = _ by omega) rfl rfl

theorem v69_at (c : Dev nD) (s : Fin 16) (i : Fin 128) :
    (V m c main_v69 : FVec Ideal S16x1x128 .f32) (ix3 s 0 i)
      = at2 (m ((c : Thread nD τ).loc main_arg7) : FVec Ideal S128x16 .f32) (8 * s.val + i.val / 16) (i.val % 16) := by
  entry_read
  pointwise
  exact at2_idx _ _ (show s.val * 8 + i.val / 16 = _ by omega) rfl

theorem v70_at (c : Dev nD) (s : Fin 16) (i : Fin 128) :
    (V m c main_v70 : FVec Ideal S16x1x128 .f32) (ix3 s 0 i)
      = at2 (m ((c : Thread nD τ).loc main_arg9) : FVec Ideal S128x16 .f32) (8 * s.val + i.val / 16) (i.val % 16) := by
  entry_read
  pointwise
  exact at2_idx _ _ (show s.val * 8 + i.val / 16 = _ by omega) rfl

theorem v71_at (c : Dev nD) (s : Fin 16) (i : Fin 512) :
    (V m c main_v71 : FVec Ideal S16x1x512 .f32) (ix3 s 0 i)
      = at2 (m ((c : Thread nD τ).loc main_arg1) : FVec Ideal S128x64 .f32) (8 * s.val + i.val / 64) (i.val % 64) := by
  entry_read
  pointwise
  exact at2_idx _ _ (show s.val * 8 + i.val / 64 = _ by omega) rfl

theorem v72_at (c : Dev nD) (s : Fin 16) (i : Fin 512) :
    (V m c main_v72 : FVec Ideal S16x1x512 .f32) (ix3 s 0 i)
      = at2 (m ((c : Thread nD τ).loc main_arg2) : FVec Ideal S128x64 .f32) (8 * s.val + i.val / 64) (i.val % 64) := by
  entry_read
  pointwise
  exact at2_idx _ _ (show s.val * 8 + i.val / 64 = _ by omega) rfl

theorem v73_at (c : Dev nD) (b : Fin 4) (J : Fin 8192) :
    (V m c main_v73 : FVec Ideal S4x8192 .f32) (ix2 b J)
      = at3 (m ((c : Thread nD τ).loc main_arg10) : FVec Ideal S4x128x64 .f32) b.val (J.val / 64) (J.val % 64) := by
  entry_read
  pointwise
  exact at3_idx _ _ rfl rfl rfl

theorem v74_at (c : Dev nD) (b : Fin 4) (J : Fin 8192) :
    (V m c main_v74 : FVec Ideal S4x8192 .f32) (ix2 b J)
      = at3 (m ((c : Thread nD τ).loc main_arg11) : FVec Ideal S4x128x64 .f32) b.val (J.val / 64) (J.val % 64) := by
  entry_read
  pointwise
  exact at3_idx _ _ rfl rfl rfl

/-- Where each window's block lies. -/
theorem idx : ∀ t : Fin cfg0.N, win0_0.index t = ![0, t.val % 16, 54 + t.val / 16] ∧ win0_1.index t = ![t.val / 16, 0, 0] ∧ win0_2.index t = ![t.val / 16, 0, 0]
    ∧ win0_3.index t = ![t.val / 16, 0, 0] ∧ win0_4.index t = ![t.val / 16, 0, 0] ∧ win0_5.index t = ![t.val / 16, 0, 0] ∧ win0_6.index t = ![t.val / 16, 0, 0]
    ∧ win0_7.index t = ![t.val / 16, 0, 0] ∧ win0_8.index t = ![t.val / 16, 0, 0] ∧ win0_9.index t = ![t.val / 16, 0, 0] ∧ win0_10.index t = ![0, t.val / 16]
    ∧ win0_11.index t = ![0, t.val / 16] ∧ win0_12.index t = ![0, t.val % 16, t.val / 16] ∧ win0_13.index t = ![0, t.val / 16] ∧ win0_14.index t = ![0, t.val / 16] :=
  (by decide +kernel : ∀ t : Fin grid0.N, _)

theorem blk0_at (c : Dev nD) (t : Fin cfg0.N) (ht : t.val < 256) (b : Fin 4) (k : Fin 256) (i : Fin 128) :
    (iblk m c 0 t : Vec Ideal S4x256x128 .f32) (ix3 b k i)
      = at3 (m ((c : Thread nD τ).loc main_arg0) : FVec Ideal S4x4096x8960 .f32) b.val (256 * (t.val % 16) + k.val) (6912 + (128 * (t.val / 16) + i.val)) := by
  have e := V_main_arg0 m c
  refine Eq.trans ?_ ((at3_eq (m ((c : Thread nD τ).loc main_arg0) : FVec Ideal S4x4096x8960 .f32) b.isLt (show 256 * (t.val % 16) + k.val < 4096 by omega)
    (show 6912 + (128 * (t.val / 16) + i.val) < 8960 by omega)))
  blk_ext [iblk, V, idx t]

theorem blk1_at (c : Dev nD) (t : Fin cfg0.N) (ht : t.val < 256) (i : Fin 128) (j : Fin 512) :
    (iblk m c 1 t : Vec Ideal S1x128x512 .f32) (ix3 0 i j) = (V m c main_v13 : FVec Ideal S16x128x512 .f32) (ix3 (⟨t.val / 16, by omega⟩ : Fin 16) i j) := by
  blk_ext [iblk, idx t]

theorem blk2_at (c : Dev nD) (t : Fin cfg0.N) (ht : t.val < 256) (i : Fin 128) (j : Fin 512) :
    (iblk m c 2 t : Vec Ideal S1x128x512 .f32) (ix3 0 i j) = (V m c main_v27 : FVec Ideal S16x128x512 .f32) (ix3 (⟨t.val / 16, by omega⟩ : Fin 16) i j) := by
  blk_ext [iblk, idx t]

theorem blk3_at (c : Dev nD) (t : Fin cfg0.N) (ht : t.val < 256) (j : Fin 512) (i : Fin 128) :
    (iblk m c 3 t : Vec Ideal S1x512x128 .f32) (ix3 0 j i) = (V m c main_v41 : FVec Ideal S16x512x128 .f32) (ix3 (⟨t.val / 16, by omega⟩ : Fin 16) j i) := by
  blk_ext [iblk, idx t]

theorem blk4_at (c : Dev nD) (t : Fin cfg0.N) (ht : t.val < 256) (j : Fin 512) (i : Fin 128) :
    (iblk m c 4 t : Vec Ideal S1x512x128 .f32) (ix3 0 j i) = (V m c main_v55 : FVec Ideal S16x512x128 .f32) (ix3 (⟨t.val / 16, by omega⟩ : Fin 16) j i) := by
  blk_ext [iblk, idx t]

theorem blk5_at (c : Dev nD) (t : Fin cfg0.N) (ht : t.val < 256) (i : Fin 128) :
    (iblk m c 5 t : Vec Ideal S1x1x128 .f32) (ix3 0 0 i) = (V m c main_v69 : FVec Ideal S16x1x128 .f32) (ix3 (⟨t.val / 16, by omega⟩ : Fin 16) 0 i) := by
  blk_ext [iblk, idx t]

theorem blk6_at (c : Dev nD) (t : Fin cfg0.N) (ht : t.val < 256) (i : Fin 128) (j : Fin 128) :
    (iblk m c 6 t : Vec Ideal S1x128x128 .f32) (ix3 0 i j) = (V m c main_v68 : FVec Ideal S16x128x128 .f32) (ix3 (⟨t.val / 16, by omega⟩ : Fin 16) i j) := by
  blk_ext [iblk, idx t]

theorem blk7_at (c : Dev nD) (t : Fin cfg0.N) (ht : t.val < 256) (i : Fin 128) :
    (iblk m c 7 t : Vec Ideal S1x1x128 .f32) (ix3 0 0 i) = (V m c main_v70 : FVec Ideal S16x1x128 .f32) (ix3 (⟨t.val / 16, by omega⟩ : Fin 16) 0 i) := by
  blk_ext [iblk, idx t]

theorem blk8_at (c : Dev nD) (t : Fin cfg0.N) (ht : t.val < 256) (i : Fin 512) :
    (iblk m c 8 t : Vec Ideal S1x1x512 .f32) (ix3 0 0 i) = (V m c main_v71 : FVec Ideal S16x1x512 .f32) (ix3 (⟨t.val / 16, by omega⟩ : Fin 16) 0 i) := by
  blk_ext [iblk, idx t]

theorem blk9_at (c : Dev nD) (t : Fin cfg0.N) (ht : t.val < 256) (i : Fin 512) :
    (iblk m c 9 t : Vec Ideal S1x1x512 .f32) (ix3 0 0 i) = (V m c main_v72 : FVec Ideal S16x1x512 .f32) (ix3 (⟨t.val / 16, by omega⟩ : Fin 16) 0 i) := by
  blk_ext [iblk, idx t]

theorem blk10_at (c : Dev nD) (t : Fin cfg0.N) (ht : t.val < 256) (b : Fin 4) (j : Fin 512) :
    (iblk m c 10 t : Vec Ideal S4x512 .f32) (ix2 b j) = (V m c main_v73 : FVec Ideal S4x8192 .f32) (ix2 b (⟨512 * (t.val / 16) + j.val, by omega⟩ : Fin 8192)) := by
  blk_ext [iblk, idx t]

theorem blk11_at (c : Dev nD) (t : Fin cfg0.N) (ht : t.val < 256) (b : Fin 4) (j : Fin 512) :
    (iblk m c 11 t : Vec Ideal S4x512 .f32) (ix2 b j) = (V m c main_v74 : FVec Ideal S4x8192 .f32) (ix2 b (⟨512 * (t.val / 16) + j.val, by omega⟩ : Fin 8192)) := by
  blk_ext [iblk, idx t]

end Cert.Proof.ScanIdeal

end

end
-- ==== Proof.ScanValue.lean ====
/- The scan's results: every output and every final state is the layer's. -/
module

public import proofs.«01_k».proof.Proof.ScanArrays
public import proofs.«01_k».proof.Proof.ScanBlock
public import Idealize.ShloMosaic.Lib.Claim
public import Idealize.ShloMosaic.Lib.Pipeline.ValueKit

@[expose] public section

set_option maxRecDepth 16384

noncomputable section

namespace Cert.Proof.ScanIdeal

open Cert.ScanIdeal Cert.ScanIdeal.Gen
open Idealize.ShloMosaic Idealize.ShloMosaic.TcCoe

variable (m : (ℓ : Loc nD τ sig) → Buf (Elt Ideal) ℓ)

/-- The layer's arguments, as the run finds them. -/
def argsOf (c : Dev nD) : Args where
  X := at3 (m ((c : Thread nD τ).loc main_arg0) : FVec Ideal S4x4096x8960 .f32)
  aR := at2 (m ((c : Thread nD τ).loc main_arg1) : FVec Ideal S128x64 .f32)
  aI := at2 (m ((c : Thread nD τ).loc main_arg2) : FVec Ideal S128x64 .f32)
  bR := at3 (m ((c : Thread nD τ).loc main_arg3) : FVec Ideal S16x128x64 .f32)
  bI := at3 (m ((c : Thread nD τ).loc main_arg4) : FVec Ideal S16x128x64 .f32)
  cR := at3 (m ((c : Thread nD τ).loc main_arg5) : FVec Ideal S128x16x64 .f32)
  cI := at3 (m ((c : Thread nD τ).loc main_arg6) : FVec Ideal S128x16x64 .f32)
  d := at2 (m ((c : Thread nD τ).loc main_arg7) : FVec Ideal S128x16 .f32)
  gw := at3 (m ((c : Thread nD τ).loc main_arg8) : FVec Ideal S128x16x16 .f32)
  gb := at2 (m ((c : Thread nD τ).loc main_arg9) : FVec Ideal S128x16 .f32)
  hR := at3 (m ((c : Thread nD τ).loc main_arg10) : FVec Ideal S4x128x64 .f32)
  hI := at3 (m ((c : Thread nD τ).loc main_arg11) : FVec Ideal S4x128x64 .f32)

/-- A grid point's blocks, whatever its states. -/
theorem blocks_of (c : Dev nD) (t : Fin cfg0.N) (ht : t.val < 256) (h15 h16 : Vec Ideal S4x512 .f32)
    (e15 : ∀ b j, b < 4 → j < 512 → at2 h15 b j = (st (argsOf m c) b (512 * (t.val / 16) + j) (256 * (t.val % 16))).1)
    (e16 : ∀ b j, b < 4 → j < 512 → at2 h16 b j = (st (argsOf m c) b (512 * (t.val / 16) + j) (256 * (t.val % 16))).2) :
    Blocks (argsOf m c) (t.val / 16) (t.val % 16) (iblk m c 0 t) (iblk m c 1 t) (iblk m c 2 t) (iblk m c 3 t) (iblk m c 4 t) (iblk m c 5 t) (iblk m c 6 t) (iblk m c 7 t)
      (iblk m c 8 t) (iblk m c 9 t) h15 h16 where
  e2 b k i hb hk hi := (at3_eq (iblk m c 0 t : Vec Ideal S4x256x128 .f32) hb hk hi).symm.trans (blk0_at m c t ht ⟨b, hb⟩ ⟨k, hk⟩ ⟨i, hi⟩)
  e3 i j hi hj := (at3_eq (iblk m c 1 t : Vec Ideal S1x128x512 .f32) (show 0 < 1 by omega) hi hj).symm.trans ((blk1_at m c t ht ⟨i, hi⟩ ⟨j, hj⟩).trans (v13_at m c _ _ _))
  e4 i j hi hj := (at3_eq (iblk m c 2 t : Vec Ideal S1x128x512 .f32) (show 0 < 1 by omega) hi hj).symm.trans ((blk2_at m c t ht ⟨i, hi⟩ ⟨j, hj⟩).trans (v27_at m c _ _ _))
  e5 i j hi hj := (at3_eq (iblk m c 3 t : Vec Ideal S1x512x128 .f32) (show 0 < 1 by omega) hj hi).symm.trans ((blk3_at m c t ht ⟨j, hj⟩ ⟨i, hi⟩).trans (v41_at m c _ _ _))
  e6 i j hi hj := (at3_eq (iblk m c 4 t : Vec Ideal S1x512x128 .f32) (show 0 < 1 by omega) hj hi).symm.trans ((blk4_at m c t ht ⟨j, hj⟩ ⟨i, hi⟩).trans (v55_at m c _ _ _))
  e7 i hi := (at3_eq (iblk m c 5 t : Vec Ideal S1x1x128 .f32) (show 0 < 1 by omega) (show 0 < 1 by omega) hi).symm.trans ((blk5_at m c t ht ⟨i, hi⟩).trans (v69_at m c _ _))
  e8 i k hi hk := (at3_eq (iblk m c 6 t : Vec Ideal S1x128x128 .f32) (show 0 < 1 by omega) hi hk).symm.trans ((blk6_at m c t ht ⟨i, hi⟩ ⟨k, hk⟩).trans (v68_at m c _ _ _))
  e9 i hi := (at3_eq (iblk m c 7 t : Vec Ideal S1x1x128 .f32) (show 0 < 1 by omega) (show 0 < 1 by omega) hi).symm.trans ((blk7_at m c t ht ⟨i, hi⟩).trans (v70_at m c _ _))
  e10 j hj := (at3_eq (iblk m c 8 t : Vec Ideal S1x1x512 .f32) (show 0 < 1 by omega) (show 0 < 1 by omega) hj).symm.trans ((blk8_at m c t ht ⟨j, hj⟩).trans (v71_at m c _ _))
  e11 j hj := (at3_eq (iblk m c 9 t : Vec Ideal S1x1x512 .f32) (show 0 < 1 by omega) (show 0 < 1 by omega) hj).symm.trans ((blk9_at m c t ht ⟨j, hj⟩).trans (v72_at m c _ _))
  e15 := e15
  e16 := e16

/-- The states a column of groups starts with. -/
theorem start_at (c : Dev nD) (t : Fin cfg0.N) (ht : t.val < 256) (h0 : t.val % 16 = 0) {b j : ℕ} (hb : b < 4) (hj : j < 512) :
    at2 (iblk m c 10 t : Vec Ideal S4x512 .f32) b j = (st (argsOf m c) b (512 * (t.val / 16) + j) (256 * (t.val % 16))).1
    ∧ at2 (iblk m c 11 t : Vec Ideal S4x512 .f32) b j = (st (argsOf m c) b (512 * (t.val / 16) + j) (256 * (t.val % 16))).2 := by
  rw [h0]
  exact ⟨(at2_eq (iblk m c 10 t : Vec Ideal S4x512 .f32) hb hj).symm.trans ((blk10_at m c t ht ⟨b, hb⟩ ⟨j, hj⟩).trans (v73_at m c _ _)),
    (at2_eq (iblk m c 11 t : Vec Ideal S4x512 .f32) hb hj).symm.trans ((blk11_at m c t ht ⟨b, hb⟩ ⟨j, hj⟩).trans (v74_at m c _ _))⟩

/-- At the start of a column. -/
theorem blocks_first (c : Dev nD) (t : Fin cfg0.N) (ht : t.val < 256) (h0 : t.val % 16 = 0) :
    Blocks (argsOf m c) (t.val / 16) (t.val % 16) (iblk m c 0 t) (iblk m c 1 t) (iblk m c 2 t) (iblk m c 3 t) (iblk m c 4 t) (iblk m c 5 t) (iblk m c 6 t) (iblk m c 7 t)
      (iblk m c 8 t) (iblk m c 9 t) (hIn m c t.val).1 (hIn m c t.val).2 := by
  have B := blocks_of m c t ht (iblk m c 10 t) (iblk m c 11 t) (fun b j hb hj => (start_at m c t ht h0 hb hj).1) (fun b j hb hj => (start_at m c t ht h0 hb hj).2)
  rw [hIn_first m c t h0]
  exact B

/-- Inside a column, from the grid point before. -/
theorem blocks_next (c : Dev nD) (t t' : Fin cfg0.N) (ht : t.val < 256) (h0 : ¬ t.val % 16 = 0) (hv : t'.val = t.val - 1)
    (B : Blocks (argsOf m c) (t'.val / 16) (t'.val % 16) (iblk m c 0 t') (iblk m c 1 t') (iblk m c 2 t') (iblk m c 3 t') (iblk m c 4 t') (iblk m c 5 t') (iblk m c 6 t') (iblk m c 7 t')
      (iblk m c 8 t') (iblk m c 9 t') (hIn m c t'.val).1 (hIn m c t'.val).2) :
    Blocks (argsOf m c) (t.val / 16) (t.val % 16) (iblk m c 0 t) (iblk m c 1 t) (iblk m c 2 t) (iblk m c 3 t) (iblk m c 4 t) (iblk m c 5 t) (iblk m c 6 t) (iblk m c 7 t)
      (iblk m c 8 t) (iblk m c 9 t) (hIn m c t.val).1 (hIn m c t.val).2 := by
  have h1 : t'.val / 16 = t.val / 16 := by rw [hv]; clear B; omega
  have h2 : t'.val % 16 + 1 = t.val % 16 := by rw [hv]; clear B; omega
  rw [hIn_later m c t h0, ← hv, hAfter_fst, hAfter_snd]
  refine blocks_of m c t ht _ _ (fun b j hb hj => (hOutR_at B hb hj).trans ?_) (fun b j hb hj => (hOutI_at B hb hj).trans ?_)
  · rw [h1, h2]
  · rw [h1, h2]

/-- Every grid point's blocks. -/
theorem blocks (c : Dev nD) (n : ℕ) : ∀ t : Fin cfg0.N, t.val = n →
    Blocks (argsOf m c) (t.val / 16) (t.val % 16) (iblk m c 0 t) (iblk m c 1 t) (iblk m c 2 t) (iblk m c 3 t) (iblk m c 4 t) (iblk m c 5 t) (iblk m c 6 t) (iblk m c 7 t)
      (iblk m c 8 t) (iblk m c 9 t) (hIn m c t.val).1 (hIn m c t.val).2 := by
  induction n with
  | zero =>
    intro t e
    have ht : t.val < 256 := lt_of_lt_of_eq t.isLt N_0
    have h0 : t.val % 16 = 0 := by rw [e]
    exact blocks_first m c t ht h0
  | succ n ih =>
    intro t e
    have ht : t.val < 256 := lt_of_lt_of_eq t.isLt N_0
    by_cases h0 : t.val % 16 = 0
    · exact blocks_first m c t ht h0
    · have hn : n < cfg0.N := lt_trans (Nat.lt_of_lt_of_eq (Nat.lt_succ_self n) e.symm) t.isLt
      exact blocks_next m c t ⟨n, hn⟩ ht h0 (Nat.eq_sub_of_add_eq e.symm) (ih ⟨n, hn⟩ rfl)

/-- The output array. -/
def outArr (A : Args) : FVec Ideal S4x4096x2048 .bf16 := fun i => gated A (i 0).val (i 1).val (i 2).val
/-- The final states. -/
def stArrR (A : Args) : FVec Ideal S4x8192 .f32 := fun i => (st A (i 0).val (i 1).val 4096).1
def stArrI (A : Args) : FVec Ideal S4x8192 .f32 := fun i => (st A (i 0).val (i 1).val 4096).2

theorem final_out (c : Dev nD) : (dats m 0 c).arrAt 12 (cfgs 0).N = outArr (argsOf m c) := by
  refine (dats m 0 c).arrAt_eq_of_covers 12 _ (by decide +kernel) fun t hf y => ?_
  blk_simp
  rw [after0_12]
  have ht : t.val < 256 := lt_of_lt_of_eq t.isLt N_0
  have B := blocks m c t.val t rfl
  unfold outAt
  refine (at3_idx (oBlk (F := Ideal) _ _ _ _ _ _ _ _ _ _ _ _) y rfl rfl rfl).trans ((oBlk_at B (y 0).isLt (y 1).isLt (y 2).isLt).trans ?_)
  unfold outArr
  congr 1
  all_goals (blk_simp [idx t]; try omega)

theorem final_re (c : Dev nD) : (dats m 0 c).arrAt 13 (cfgs 0).N = stArrR (argsOf m c) := by
  refine (dats m 0 c).arrAt_eq_of_covers 13 _ (by decide +kernel) fun t hf y => ?_
  blk_simp
  rw [after0_13]
  have ht : t.val < 256 := lt_of_lt_of_eq t.isLt N_0
  have h15 : t.val % 16 = 15 := (flush0_13 t).mp hf
  have B := blocks m c t.val t rfl
  rw [hAfter_fst]
  refine (at2_idx (hOutR (F := Ideal) _ _ _ _ _ _ _) y rfl rfl).trans ((hOutR_at B (y 0).isLt (y 1).isLt).trans ?_)
  unfold stArrR
  rw [h15]
  refine congrArg Prod.fst ?_
  congr 1
  all_goals (blk_simp [idx t]; try omega)

theorem final_im (c : Dev nD) : (dats m 0 c).arrAt 14 (cfgs 0).N = stArrI (argsOf m c) := by
  refine (dats m 0 c).arrAt_eq_of_covers 14 _ (by decide +kernel) fun t hf y => ?_
  blk_simp
  rw [after0_14]
  have ht : t.val < 256 := lt_of_lt_of_eq t.isLt N_0
  have h15 : t.val % 16 = 15 := (flush0_14 t).mp hf
  have B := blocks m c t.val t rfl
  rw [hAfter_snd]
  refine (at2_idx (hOutI (F := Ideal) _ _ _ _ _ _ _) y rfl rfl).trans ((hOutI_at B (y 0).isLt (y 1).isLt).trans ?_)
  unfold stArrI
  rw [h15]
  refine congrArg Prod.snd ?_
  congr 1
  all_goals (blk_simp [idx t]; try omega)

end Cert.Proof.ScanIdeal

end

end
-- ==== Proof.RefStep.lean ====
/- One position of the reference's recurrence, read at an index. -/
module

public import proofs.«01_k».proof.Proof.Gen.ScanRefIdeal.Run
public import proofs.«01_k».proof.Proof.ScanSpec
public import Idealize.ShloMosaic.Lib.Pointwise
public import Idealize.ShloMosaic.Lib.WordArith.Masks

@[expose] public section

set_option maxRecDepth 16384

noncomputable section

namespace Cert.Proof.ScanRef

open Cert.ScanRefIdeal Cert.ScanRefIdeal.Gen
open Idealize.ShloMosaic Idealize.ShloMosaic.TcCoe

/-- The position's word as an integer. -/
theorem iv_toInt (k : ℕ) (hk : k < 4096) : (Scf.iv 0#32 1#32 k : BitVec 32).toInt = k := by
  have h := WordArith.toNat_iv_zero_one k (by omega)
  rw [BitVec.toInt_eq_toNat_cond, h]
  split <;> omega

/-- Where a slice at position `k` starts. -/
theorem starts (h : S1x4x128x64.rank = S4096x4x128x64.rank) (k : ℕ) (hk : k < 4096) (start : Fin S4096x4x128x64.rank → Int)
    (hs : start = fun a => (((![fun _ => Scf.iv 0#32 1#32 k, constantI S_ 32 0#32, constantI S_ 32 0#32, constantI S_ 32 0#32] : Fin 4 → (⟨S_, .i32⟩ : BufTy).Contents (Elt Ideal))) a (Shape.Idx.first h_S_)).toInt) :
    Host.clampedStart S4096x4x128x64 S1x4x128x64 h start 0 = k ∧ Host.clampedStart S4096x4x128x64 S1x4x128x64 h start 1 = 0
      ∧ Host.clampedStart S4096x4x128x64 S1x4x128x64 h start 2 = 0 ∧ Host.clampedStart S4096x4x128x64 S1x4x128x64 h start 3 = 0 := by
  subst hs
  exact ⟨Host.clampedStart_of_le h _ 0 k (iv_toInt k hk) (show k + 1 ≤ 4096 by omega), Host.clampedStart_of_le h _ 1 0 rfl (show 0 + 4 ≤ 4 by omega),
    Host.clampedStart_of_le h _ 2 0 rfl (show 0 + 128 ≤ 128 by omega), Host.clampedStart_of_le h _ 3 0 rfl (show 0 + 64 ≤ 64 by omega)⟩

theorem slice_at (x : FVec Ideal S4096x4x128x64 .f32) (w : Vec Ideal S_ .i32) (k : ℕ) (hk : k < 4096) (hw : w = fun _ => Scf.iv 0#32 1#32 k) (b : Fin 4) (g : Fin 128) (n : Fin 64) :
    shapeCast S4x128x64 (Host.dynamicSlice S1x4x128x64 x (fun a => (((![w, constantI S_ 32 0#32, constantI S_ 32 0#32, constantI S_ 32 0#32] : Fin 4 → (⟨S_, .i32⟩ : BufTy).Contents (Elt Ideal))) a (Shape.Idx.first h_S_)).toInt)
      sliceFits_S4096x4x128x64_S1x4x128x64) shapeCasts_S1x4x128x64_S4x128x64 (ix3 b g n) = x (ix4 (⟨k, hk⟩ : Fin 4096) b g n) := by
  subst hw
  obtain ⟨c0, c1, c2, c3⟩ := starts rfl k hk _ rfl
  pointwise
  refine congrArg x ?_
  funext d
  fin_cases d
  · exact Fin.ext c0
  · exact Fin.ext (by show _ + b.val = b.val; rw [c1, Nat.zero_add])
  · exact Fin.ext (by show _ + g.val = g.val; rw [c2, Nat.zero_add])
  · exact Fin.ext (by show _ + n.val = n.val; rw [c3, Nat.zero_add])

theorem update_at (x : FVec Ideal S4096x4x128x64 .f32) (y : FVec Ideal S4x128x64 .f32) (w : Vec Ideal S_ .i32) (k : ℕ) (hk : k < 4096) (hw : w = fun _ => Scf.iv 0#32 1#32 k) (t : Fin 4096) (b : Fin 4) (g : Fin 128) (n : Fin 64) :
    Host.dynamicUpdateSlice x (broadcastInDim S1x4x128x64 ![1, 2, 3] bcast_S4x128x64_S1x4x128x64_1_2_3 y)
      (fun a => (((![w, constantI S_ 32 0#32, constantI S_ 32 0#32, constantI S_ 32 0#32] : Fin 4 → (⟨S_, .i32⟩ : BufTy).Contents (Elt Ideal))) a (Shape.Idx.first h_S_)).toInt)
      updateFits_S4096x4x128x64_S1x4x128x64 (ix4 t b g n) = if t.val = k then y (ix3 b g n) else x (ix4 t b g n) := by
  subst hw
  obtain ⟨c0, c1, c2, c3⟩ := starts rfl k hk _ rfl
  have hb := b.isLt
  have hg := g.isLt
  have hn := n.isLt
  pointwise
  by_cases e : t.val = k
  · refine (dif_pos ?_).trans (Eq.trans ?_ (if_pos e).symm)
    · rw [c0, c1, c2, c3]; omega
    · refine congrArg y ?_
      funext d
      fin_cases d
      · exact Fin.ext (by show b.val - _ = b.val; rw [c1, Nat.sub_zero])
      · exact Fin.ext (by show g.val - _ = g.val; rw [c2, Nat.sub_zero])
      · exact Fin.ext (by show n.val - _ = n.val; rw [c3, Nat.sub_zero])
  · refine (dif_neg ?_).trans (if_neg e).symm
    rw [c0, c1, c2, c3]; omega

theorem state_at (a a' : FVec Ideal S128x64 .f32) (h h' z : FVec Ideal S4x128x64 .f32) (b : Fin 4) (g : Fin 128) (n : Fin 64) :
    addf (subf (mulf (broadcastInDim S4x128x64 ![0, 1, 2] bcast_S1x128x64_S4x128x64_0_1_2 (broadcastInDim S1x128x64 ![1, 2] bcast_S128x64_S1x128x64_1_2 a)) h) (mulf (broadcastInDim S4x128x64 ![0, 1, 2] bcast_S1x128x64_S4x128x64_0_1_2 (broadcastInDim S1x128x64 ![1, 2] bcast_S128x64_S1x128x64_1_2 a')) h')) z (ix3 b g n)
      = a (ix2 g n) * h (ix3 b g n) - a' (ix2 g n) * h' (ix3 b g n) + z (ix3 b g n) := by
  pointwise

theorem state_at' (a a' : FVec Ideal S128x64 .f32) (h h' z : FVec Ideal S4x128x64 .f32) (b : Fin 4) (g : Fin 128) (n : Fin 64) :
    addf (addf (mulf (broadcastInDim S4x128x64 ![0, 1, 2] bcast_S1x128x64_S4x128x64_0_1_2 (broadcastInDim S1x128x64 ![1, 2] bcast_S128x64_S1x128x64_1_2 a)) h) (mulf (broadcastInDim S4x128x64 ![0, 1, 2] bcast_S1x128x64_S4x128x64_0_1_2 (broadcastInDim S1x128x64 ![1, 2] bcast_S128x64_S1x128x64_1_2 a')) h')) z (ix3 b g n)
      = a (ix2 g n) * h (ix3 b g n) + a' (ix2 g n) * h' (ix3 b g n) + z (ix3 b g n) := by
  pointwise

end Cert.Proof.ScanRef

end

end
-- ==== Proof.RefLoop.lean ====
/- The reference's recurrence over all its positions. -/
module

public import proofs.«01_k».proof.Proof.RefStep
public import Idealize.ShloMosaic.Lib.Claim

@[expose] public section

set_option maxRecDepth 16384

noncomputable section

namespace Cert.Proof.ScanRef

open Cert.ScanRefIdeal Cert.ScanRefIdeal.Gen Cert.ScanRefIdeal.Value
open Idealize.ShloMosaic Idealize.ShloMosaic.TcCoe Idealize.ShloMosaic.StableHlo

variable (m : (ℓ : Loc nD τ sig) → Buf (Elt Ideal) ℓ)

/-- The layer's arguments, as the run finds them. -/
def argsOf (c : Dev nD) : Args where
  X := at3 (m ((c : Thread nD τ).loc main_arg0) : FVec Ideal S4x4096x8960 .f32)
  aR := at2 (m ((c : Thread nD τ).loc main_arg1) : FVec Ideal S128x64 .f32)
  aI := at2 (m ((c : Thread nD τ).loc main_arg2) : FVec Ideal S128x64 .f32)
  bR := at3 (m ((c : Thread nD τ).loc main_arg3) : FVec Ideal S16x128x64 .f32)
  bI := at3 (m ((c : Thread nD τ).loc main_arg4) : FVec Ideal S16x128x64 .f32)
  cR := at3 (m ((c : Thread nD τ).loc main_arg5) : FVec Ideal S128x16x64 .f32)
  cI := at3 (m ((c : Thread nD τ).loc main_arg6) : FVec Ideal S128x16x64 .f32)
  d := at2 (m ((c : Thread nD τ).loc main_arg7) : FVec Ideal S128x16 .f32)
  gw := at3 (m ((c : Thread nD τ).loc main_arg8) : FVec Ideal S128x16x16 .f32)
  gb := at2 (m ((c : Thread nD τ).loc main_arg9) : FVec Ideal S128x16 .f32)
  hR := at3 (m ((c : Thread nD τ).loc main_arg10) : FVec Ideal S4x128x64 .f32)
  hI := at3 (m ((c : Thread nD τ).loc main_arg11) : FVec Ideal S4x128x64 .f32)

/-- Two sums of the same terms, over the extended reals. -/
theorem sum_same {n : ℕ} {f g : Fin n → EReal} (h : ∀ x, f x = g x) : ∑ x, f x = ∑ x, g x := Finset.sum_congr rfl fun x _ => h x

theorem entry_x (c : Dev nD) (t : Fin 4096) (b : Fin 4) (g : Fin 128) (n : Fin 64) :
    (entryContents preI m c (Proc.devRef .tc main_v10_0) : FVec Ideal S4096x4x128x64 .f32) (ix4 t b g n)
      = drive (argsOf m c) (argsOf m c).bR b.val t.val (64 * g.val + n.val) := by
  show (StableHlo.after hostOps0 (launchContents m c) (Proc.devRef .tc main_v10_0) : FVec Ideal S4096x4x128x64 .f32) (ix4 t b g n) = _
  entry_read
  rw [id_eq]
  pointwise
  have hn := n.isLt
  unfold drive
  refine sum_same fun x => ?_
  have hx := x.isLt
  rw [show (64 * g.val + n.val) / 64 = g.val by omega, show (64 * g.val + n.val) % 64 = n.val by omega]
  refine (mul_comm _ _).trans (congr (congrArg _ ?_) ?_)
  · exact at3_idx (m ((c : Thread nD τ).loc main_arg0) : FVec Ideal S4x4096x8960 .f32) _ rfl rfl (show 6912 + (g.val * 16 + x.val) = _ by omega)
  · exact at3_idx (m ((c : Thread nD τ).loc main_arg3) : FVec Ideal S16x128x64 .f32) _ rfl rfl rfl

theorem entry_x' (c : Dev nD) (t : Fin 4096) (b : Fin 4) (g : Fin 128) (n : Fin 64) :
    (entryContents preI m c (Proc.devRef .tc main_v10_1) : FVec Ideal S4096x4x128x64 .f32) (ix4 t b g n)
      = drive (argsOf m c) (argsOf m c).bI b.val t.val (64 * g.val + n.val) := by
  show (StableHlo.after hostOps0 (launchContents m c) (Proc.devRef .tc main_v10_1) : FVec Ideal S4096x4x128x64 .f32) (ix4 t b g n) = _
  entry_read
  rw [id_eq]
  pointwise
  have hn := n.isLt
  unfold drive
  refine sum_same fun x => ?_
  have hx := x.isLt
  rw [show (64 * g.val + n.val) / 64 = g.val by omega, show (64 * g.val + n.val) % 64 = n.val by omega]
  refine (mul_comm _ _).trans (congr (congrArg _ ?_) ?_)
  · exact at3_idx (m ((c : Thread nD τ).loc main_arg0) : FVec Ideal S4x4096x8960 .f32) _ rfl rfl (show 6912 + (g.val * 16 + x.val) = _ by omega)
  · exact at3_idx (m ((c : Thread nD τ).loc main_arg4) : FVec Ideal S16x128x64 .f32) _ rfl rfl rfl

theorem entry_arg1 (c : Dev nD) : entryContents preI m c (Proc.devRef .tc main_v10_2) = m ((c : Thread nD τ).loc main_arg1) := by
  show StableHlo.after hostOps0 (launchContents m c) (Proc.devRef .tc main_v10_2) = _
  entry_read
  rfl

theorem entry_arg2 (c : Dev nD) : entryContents preI m c (Proc.devRef .tc main_v10_3) = m ((c : Thread nD τ).loc main_arg2) := by
  show StableHlo.after hostOps0 (launchContents m c) (Proc.devRef .tc main_v10_3) = _
  entry_read
  rfl

theorem entry_arg10 (c : Dev nD) : entryContents preI m c (Proc.devRef .tc main_v10_5) = m ((c : Thread nD τ).loc main_arg10) := by
  show StableHlo.after hostOps0 (launchContents m c) (Proc.devRef .tc main_v10_5) = _
  entry_read
  rfl

theorem entry_arg11 (c : Dev nD) : entryContents preI m c (Proc.devRef .tc main_v10_6) = m ((c : Thread nD τ).loc main_arg11) := by
  show StableHlo.after hostOps0 (launchContents m c) (Proc.devRef .tc main_v10_6) = _
  entry_read
  rfl

theorem entry_v1 (c : Dev nD) (b : Fin 4) (t : Fin 4096) (g : Fin 128) (i : Fin 16) :
    (entryContents preI m c (Proc.devRef .tc main_v1) : FVec Ideal S4x4096x128x16 .f32) (ix4 b t g i) = inp (argsOf m c) b.val t.val (16 * g.val + i.val) := by
  show (StableHlo.after hostOps0 (launchContents m c) (Proc.devRef .tc main_v1) : FVec Ideal S4x4096x128x16 .f32) (ix4 b t g i) = _
  entry_read
  pointwise
  exact at3_idx (m ((c : Thread nD τ).loc main_arg0) : FVec Ideal S4x4096x8960 .f32) _ rfl rfl (show 6912 + (g.val * 16 + i.val) = _ by omega)

/-! ## What the loop leaves alone -/

/-- A buffer that neither the condition nor the body writes is as the loop found it. -/
theorem atK_keep (c : Dev nD) (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_5 _ while0Ops0_5_writes h5, after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1, after_of_writes_sub while0Ops0 _ while0Ops0_writes h0,
      after_of_writes_sub condOps _ condOps_writes hc]
    exact atK_keep c r hc h0 h1 h2 h3 h4 h5 k

/-! ## The recurrence -/

/-- What the carried buffers hold before position `k`. -/
structure Inv (c : Dev nD) (k : ℕ) : Prop where
  x : atK m k c (Proc.devRef .tc main_v10_0) = entryContents preI m c (Proc.devRef .tc main_v10_0)
  x' : atK m k c (Proc.devRef .tc main_v10_1) = entryContents preI m c (Proc.devRef .tc main_v10_1)
  a : atK m k c (Proc.devRef .tc main_v10_2) = m ((c : Thread nD τ).loc main_arg1)
  a' : atK m k c (Proc.devRef .tc main_v10_3) = m ((c : Thread nD τ).loc main_arg2)
  h : ∀ (b : Fin 4) (g : Fin 128) (n : Fin 64), (atK m k c (Proc.devRef .tc main_v10_5) : FVec Ideal S4x128x64 .f32) (ix3 b g n) = (st (argsOf m c) b.val (64 * g.val + n.val) k).1
  h' : ∀ (b : Fin 4) (g : Fin 128) (n : Fin 64), (atK m k c (Proc.devRef .tc main_v10_6) : FVec Ideal S4x128x64 .f32) (ix3 b g n) = (st (argsOf m c) b.val (64 * g.val + n.val) k).2
  s : ∀ (t : Fin 4096) (b : Fin 4) (g : Fin 128) (n : Fin 64), t.val < k →
    (atK m k c (Proc.devRef .tc main_v10_7) : FVec Ideal S4096x4x128x64 .f32) (ix4 t b g n) = (st (argsOf m c) b.val (64 * g.val + n.val) (t.val + 1)).1
  s' : ∀ (t : Fin 4096) (b : Fin 4) (g : Fin 128) (n : Fin 64), t.val < k →
    (atK m k c (Proc.devRef .tc main_v10_8) : FVec Ideal S4096x4x128x64 .f32) (ix4 t b g n) = (st (argsOf m c) b.val (64 * g.val + n.val) (t.val + 1)).2

theorem inv_zero (c : Dev nD) : Inv m c 0 where
  x := rfl
  x' := rfl
  a := entry_arg1 m c
  a' := entry_arg2 m c
  h b g n := by
    rw [show atK m 0 c = entryContents preI m c from rfl, entry_arg10]
    have hn := n.isLt
    exact at3_idx (m ((c : Thread nD τ).loc main_arg10) : FVec Ideal S4x128x64 .f32) _ rfl (show g.val = (64 * g.val + n.val) / 64 by omega) (show n.val = (64 * g.val + n.val) % 64 by omega)
  h' b g n := by
    rw [show atK m 0 c = entryContents preI m c from rfl, entry_arg11]
    have hn := n.isLt
    exact at3_idx (m ((c : Thread nD τ).loc main_arg11) : FVec Ideal S4x128x64 .f32) _ rfl (show g.val = (64 * g.val + n.val) / 64 by omega) (show n.val = (64 * g.val + n.val) % 64 by omega)
  s t b g n h := absurd h (Nat.not_lt_zero _)
  s' t b g n h := absurd h (Nat.not_lt_zero _)

/-- The new state, real part. -/
theorem next_re (c : Dev nD) (k : ℕ) (hk : k < 4096) (I : Inv m c k) (b : Fin 4) (g : Fin 128) (n : Fin 64) :
    (res_main_while0b_v60 (atK m k c) : FVec Ideal S4x128x64 .f32) (ix3 b g n) = (st (argsOf m c) b.val (64 * g.val + n.val) (k + 1)).1 := by
  have hn := n.isLt
  unfold res_main_while0b_v60
  refine (state_at _ _ _ _ _ b g n).trans ?_
  rw [I.h, I.h', I.a, I.a']
  refine (congrArg (fun z => _ + z) ((slice_at (atK m k c (Proc.devRef .tc main_v10_0)) (atK m k c (Proc.devRef .tc main_v10_4)) k hk (atK_ctr m c k) b g n).trans
    ((congrFun I.x _).trans (entry_x m c ⟨k, hk⟩ b g n)))).trans ?_
  rw [st]
  refine congrArg (fun z => z + _) (congr (congrArg _ (congrArg (fun z => z * _) ?_)) (congrArg (fun z => z * _) ?_))
  · exact at2_idx (m ((c : Thread nD τ).loc main_arg1) : FVec Ideal S128x64 .f32) _ (show g.val = (64 * g.val + n.val) / 64 by omega) (show n.val = (64 * g.val + n.val) % 64 by omega)
  · exact at2_idx (m ((c : Thread nD τ).loc main_arg2) : FVec Ideal S128x64 .f32) _ (show g.val = (64 * g.val + n.val) / 64 by omega) (show n.val = (64 * g.val + n.val) % 64 by omega)

/-- The new state, imaginary part. -/
theorem next_im (c : Dev nD) (k : ℕ) (hk : k < 4096) (I : Inv m c k) (b : Fin 4) (g : Fin 128) (n : Fin 64) :
    (res_main_while0b_v68 (atK m k c) : FVec Ideal S4x128x64 .f32) (ix3 b g n) = (st (argsOf m c) b.val (64 * g.val + n.val) (k + 1)).2 := by
  have hn := n.isLt
  unfold res_main_while0b_v68
  refine (state_at' _ _ _ _ _ b g n).trans ?_
  rw [I.h, I.h', I.a, I.a']
  refine (congrArg (fun z => _ + z) ((slice_at (atK m k c (Proc.devRef .tc main_v10_1)) (atK m k c (Proc.devRef .tc main_v10_4)) k hk (atK_ctr m c k) b g n).trans
    ((congrFun I.x' _).trans (entry_x' m c ⟨k, hk⟩ b g n)))).trans ?_
  rw [st]
  refine congrArg (fun z => z + _) (congr (congrArg _ (congrArg (fun z => z * _) ?_)) (congrArg (fun z => z * _) ?_))
  · exact at2_idx (m ((c : Thread nD τ).loc main_arg1) : FVec Ideal S128x64 .f32) _ (show g.val = (64 * g.val + n.val) / 64 by omega) (show n.val = (64 * g.val + n.val) % 64 by omega)
  · exact at2_idx (m ((c : Thread nD τ).loc main_arg2) : FVec Ideal S128x64 .f32) _ (show g.val = (64 * g.val + n.val) / 64 by omega) (show n.val = (64 * g.val + n.val) % 64 by omega)

theorem inv_next (c : Dev nD) (k : ℕ) (hk : k < 4096) (I : Inv m c k) : Inv m c (k + 1) where
  x := ((trip_agree (atK m k c) main_v10_0 (by decide)).trans (STEP_main_v10_0 _)).trans I.x
  x' := ((trip_agree (atK m k c) main_v10_1 (by decide)).trans (STEP_main_v10_1 _)).trans I.x'
  a := ((trip_agree (atK m k c) main_v10_2 (by decide)).trans (STEP_main_v10_2 _)).trans I.a
  a' := ((trip_agree (atK m k c) main_v10_3 (by decide)).trans (STEP_main_v10_3 _)).trans I.a'
  h b g n := (congrFun ((trip_agree (atK m k c) main_v10_5 (by decide)).trans (STEP_main_v10_5 _)) (ix3 b g n)).trans (next_re m c k hk I b g n)
  h' b g n := (congrFun ((trip_agree (atK m k c) main_v10_6 (by decide)).trans (STEP_main_v10_6 _)) (ix3 b g n)).trans (next_im m c k hk I b g n)
  s t b g n ht := by
    refine (congrFun ((trip_agree (atK m k c) main_v10_7 (by decide)).trans (STEP_main_v10_7 _)) (ix4 t b g n)).trans ?_
    refine (update_at (atK m k c (Proc.devRef .tc main_v10_7)) (res_main_while0b_v60 (atK m k c)) (atK m k c (Proc.devRef .tc main_v10_4)) k hk (atK_ctr m c k) t b g n).trans ?_
    by_cases e : t.val = k
    · rw [if_pos e, e]; exact next_re m c k hk I b g n
    · rw [if_neg e]; exact I.s t b g n (by omega)
  s' t b g n ht := by
    refine (congrFun ((trip_agree (atK m k c) main_v10_8 (by decide)).trans (STEP_main_v10_8 _)) (ix4 t b g n)).trans ?_
    refine (update_at (atK m k c (Proc.devRef .tc main_v10_8)) (res_main_while0b_v68 (atK m k c)) (atK m k c (Proc.devRef .tc main_v10_4)) k hk (atK_ctr m c k) t b g n).trans ?_
    by_cases e : t.val = k
    · rw [if_pos e, e]; exact next_im m c k hk I b g n
    · rw [if_neg e]; exact I.s' t b g n (by omega)

theorem inv (c : Dev nD) : ∀ k, k ≤ 4096 → Inv m c k
  | 0, _ => inv_zero m c
  | k + 1, h => inv_next m c k (by omega) (inv c k (by omega))

end Cert.Proof.ScanRef

end

end
-- ==== Proof.RefPost.lean ====
/- The reference after its recurrence: the states read out, the activation and the gate. -/
module

public import proofs.«01_k».proof.Proof.RefLoop
public import Idealize.ShloMosaic.Lib.Quiescent
public import Idealize.ShloMosaic.Lib.Claim

@[expose] public section

set_option maxRecDepth 16384

noncomputable section

namespace Cert.Proof.ScanRef

open Cert.ScanRefIdeal Cert.ScanRefIdeal.Gen Cert.ScanRefIdeal.Value
open Idealize.ShloMosaic Idealize.ShloMosaic.TcCoe Idealize.ShloMosaic.StableHlo

/-- What the reference finds after its recurrence. -/
structure Found (A : Args) (X : Valuation τ sig (Elt Ideal)) : Prop where
  s : ∀ (t : Fin 4096) (b : Fin 4) (g : Fin 128) (n : Fin 64), (X (Proc.devRef .tc main_v10_7) : FVec Ideal S4096x4x128x64 .f32) (ix4 t b g n) = (st A b.val (64 * g.val + n.val) (t.val + 1)).1
  s' : ∀ (t : Fin 4096) (b : Fin 4) (g : Fin 128) (n : Fin 64), (X (Proc.devRef .tc main_v10_8) : FVec Ideal S4096x4x128x64 .f32) (ix4 t b g n) = (st A b.val (64 * g.val + n.val) (t.val + 1)).2
  u : ∀ (b : Fin 4) (t : Fin 4096) (g : Fin 128) (i : Fin 16), (X (Proc.devRef .tc main_v1) : FVec Ideal S4x4096x128x16 .f32) (ix4 b t g i) = inp A b.val t.val (16 * g.val + i.val)
  cR : ∀ (g : Fin 128) (i : Fin 16) (n : Fin 64), (X (Proc.devRef .tc main_arg5) : FVec Ideal S128x16x64 .f32) (ix3 g i n) = A.cR g.val i.val n.val
  cI : ∀ (g : Fin 128) (i : Fin 16) (n : Fin 64), (X (Proc.devRef .tc main_arg6) : FVec Ideal S128x16x64 .f32) (ix3 g i n) = A.cI g.val i.val n.val
  d : ∀ (g : Fin 128) (i : Fin 16), (X (Proc.devRef .tc main_arg7) : FVec Ideal S128x16 .f32) (ix2 g i) = A.d g.val i.val
  gw : ∀ (g : Fin 128) (i : Fin 16) (j : Fin 16), (X (Proc.devRef .tc main_arg8) : FVec Ideal S128x16x16 .f32) (ix3 g i j) = A.gw g.val i.val j.val
  gb : ∀ (g : Fin 128) (i : Fin 16), (X (Proc.devRef .tc main_arg9) : FVec Ideal S128x16 .f32) (ix2 g i) = A.gb g.val i.val

/-- The readout with each product's factors the other way round. -/
theorem yv_turned (A : Args) (b t g i : ℕ) (hi : i < 16) :
    ∑ x : Fin 64, A.cR g i x.val * (st A b (64 * g + x.val) (t + 1)).1 - ∑ x : Fin 64, A.cI g i x.val * (st A b (64 * g + x.val) (t + 1)).2
      + A.d g i * inp A b t (16 * g + i) = yv A b t (16 * g + i) := by
  unfold yv
  rw [show (16 * g + i) / 16 = g by omega, show (16 * g + i) % 16 = i by omega]
  exact congrArg (fun z => z + _) (congr (congrArg _ (sum_same fun x => mul_comm _ _)) (sum_same fun x => mul_comm _ _))

/-- The activation with its half taken last. -/
theorem act_turned (y : EReal) :
    y * (Ideal.ofBits FTy.f32 1056964608#32 * (1 + Ideal.tanh (Ideal.ofBits FTy.f32 1061962282#32 * (y + Ideal.ofBits FTy.f32 1027024659#32 * (y * y * y))))) = act y := by
  unfold act
  rw [← mul_assoc, mul_comm y (Ideal.ofBits FTy.f32 1056964608#32)]

variable {A : Args} {X : Valuation τ sig (Elt Ideal)} (H : Found A X)
include H

set_option maxHeartbeats 4000000 in
theorem out_at (b : Fin 4) (t : Fin 4096) (C : Fin 2048) :
    (StableHlo.after hostOps0_1 X (Proc.devRef .tc main_v48) : FVec Ideal S4x4096x2048 .bf16) (ix3 b t C) = gated A b.val t.val C.val := by
  entry_read
  pointwise
  simp only [H.s, H.s', H.u, H.cR, H.cI, H.d, H.gw, H.gb]
  have hC : C.val % 16 < 16 := Nat.mod_lt _ (by decide)
  have hx : ∀ x : Fin 16, x.val < 16 := fun x => x.isLt
  simp only [yv_turned A b.val t.val (C.val / 16) (C.val % 16) hC, fun x : Fin 16 => yv_turned A b.val t.val (C.val / 16) x.val x.isLt, act_turned]
  unfold gated
  rw [show 16 * (C.val / 16) + C.val % 16 = C.val by omega, zero_sub]
  exact congrArg (fun z => _ * Ideal.div 1 (1 + Ideal.exp (-(z + _)))) (sum_same fun x => mul_comm _ _)

omit H in
theorem re_at (b : Fin 4) (J : Fin 8192) :
    (StableHlo.after hostOps0_1 X (Proc.devRef .tc main_v49) : FVec Ideal S4x8192 .f32) (ix2 b J)
      = (X (Proc.devRef .tc main_v10_5) : FVec Ideal S4x128x64 .f32) (ix3 b ⟨J.val / 64, by have := J.isLt; omega⟩ ⟨J.val % 64, Nat.mod_lt _ (by decide)⟩) := by
  entry_read
  pointwise

omit H in
theorem im_at (b : Fin 4) (J : Fin 8192) :
    (StableHlo.after hostOps0_1 X (Proc.devRef .tc main_v50) : FVec Ideal S4x8192 .f32) (ix2 b J)
      = (X (Proc.devRef .tc main_v10_6) : FVec Ideal S4x128x64 .f32) (ix3 b ⟨J.val / 64, by have := J.isLt; omega⟩ ⟨J.val % 64, Nat.mod_lt _ (by decide)⟩) := by
  entry_read
  pointwise

/-! ## The run's end -/

omit H

variable (m : (ℓ : Loc nD τ sig) → Buf (Elt Ideal) ℓ) (ρ : Dev nD → PrngReg)

/-- A buffer the loop leaves alone is, when the loop is left, as the loop found it. -/
theorem left_keep (c : Dev nD) (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) : after condOps (atK m 4096 c) (Proc.devRef .tc r) = entryContents preI m c (Proc.devRef .tc r) :=
  (after_of_writes_sub condOps _ condOps_writes hc).trans (atK_keep m c r hc h0 h1 h2 h3 h4 h5 4096)

/-- An argument is, when the loop is left, as launched. -/
theorem left_arg (c : Dev nD) (r : Ref sig .tc) (hp : r ∉ hostOps0_W) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) : after condOps (atK m 4096 c) (Proc.devRef .tc r) = m ((c : Thread nD τ).loc r) := by
  rw [left_keep m c r hc h0 h1 h2 h3 h4 h5, show entryContents preI m c = after hostOps0 (launchContents m c) from rfl, after_of_writes_sub hostOps0 _ hostOps0_writes hp]

/-- An argument is, at the end, as launched. -/
theorem end_arg (c : Dev nD) (r : Ref sig .tc) (hq : ∀ X : Valuation τ sig (Elt Ideal), after hostOps0_1 X (Proc.devRef .tc r) = X (Proc.devRef .tc r)) (hp : r ∉ hostOps0_W) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) :
    finalContents condOps preI bodyI postI 4096 m c (Proc.devRef .tc r) = m ((c : Thread nD τ).loc r) := by
  rw [show finalContents condOps preI bodyI postI 4096 m c = after hostOps0_1 (after condOps (atK m 4096 c)) from rfl, hq]
  exact left_arg m c r hp hc h0 h1 h2 h3 h4 h5

theorem found (c : Dev nD) : Found (argsOf m c) (after condOps (atK m 4096 c)) where
  s t b g n := (congrFun (cond_keeps (atK m 4096 c) main_v10_7 (by decide)) (ix4 t b g n)).trans ((inv m c 4096 (Nat.le_refl _)).s t b g n t.isLt)
  s' t b g n := (congrFun (cond_keeps (atK m 4096 c) main_v10_8 (by decide)) (ix4 t b g n)).trans ((inv m c 4096 (Nat.le_refl _)).s' t b g n t.isLt)
  u b t g i := (congrFun (left_keep m c main_v1 (by decide) (by decide) (by decide) (by decide) (by decide) (by decide) (by decide)) (ix4 b t g i)).trans (entry_v1 m c b t g i)
  cR g i n := (congrFun (left_arg m c main_arg5 (by decide) (by decide) (by decide) (by decide) (by decide) (by decide) (by decide) (by decide)) (ix3 g i n)).trans
    (at3_eq (m ((c : Thread nD τ).loc main_arg5) : FVec Ideal S128x16x64 .f32) g.isLt i.isLt n.isLt)
  cI g i n := (congrFun (left_arg m c main_arg6 (by decide) (by decide) (by decide) (by decide) (by decide) (by decide) (by decide) (by decide)) (ix3 g i n)).trans
    (at3_eq (m ((c : Thread nD τ).loc main_arg6) : FVec Ideal S128x16x64 .f32) g.isLt i.isLt n.isLt)
  d g i := (congrFun (left_arg m c main_arg7 (by decide) (by decide) (by decide) (by decide) (by decide) (by decide) (by decide) (by decide)) (ix2 g i)).trans
    (at2_eq (m ((c : Thread nD τ).loc main_arg7) : FVec Ideal S128x16 .f32) g.isLt i.isLt)
  gw g i j := (congrFun (left_arg m c main_arg8 (by decide) (by decide) (by decide) (by decide) (by decide) (by decide) (by decide) (by decide)) (ix3 g i j)).trans
    (at3_eq (m ((c : Thread nD τ).loc main_arg8) : FVec Ideal S128x16x16 .f32) g.isLt i.isLt j.isLt)
  gb g i := (congrFun (left_arg m c main_arg9 (by decide) (by decide) (by decide) (by decide) (by decide) (by decide) (by decide) (by decide)) (ix2 g i)).trans
    (at2_eq (m ((c : Thread nD τ).loc main_arg9) : FVec Ideal S128x16 .f32) g.isLt i.isLt)

/-- The gated output. -/
def outArr (A : Args) : FVec Ideal S4x4096x2048 .bf16 := fun i => gated A (i 0).val (i 1).val (i 2).val
/-- The final states, real and imaginary. -/
def stArrR (A : Args) : FVec Ideal S4x8192 .f32 := fun i => (st A (i 0).val (i 1).val 4096).1
def stArrI (A : Args) : FVec Ideal S4x8192 .f32 := fun i => (st A (i 0).val (i 1).val 4096).2

theorem end_out (c : Dev nD) : finalContents condOps preI bodyI postI 4096 m c (Proc.devRef .tc main_v48) = outArr (argsOf m c) := by
  refine funext fun (i : S4x4096x2048.Idx) => ?_
  obtain ⟨b, t, C, rfl⟩ : ∃ b t C, i = ix3 b t C := ⟨i 0, i 1, i 2, by funext d; fin_cases d <;> rfl⟩
  exact out_at (found m c) b t C

theorem end_re (c : Dev nD) : finalContents condOps preI bodyI postI 4096 m c (Proc.devRef .tc main_v49) = stArrR (argsOf m c) := by
  refine funext fun (i : S4x8192.Idx) => ?_
  obtain ⟨b, J, rfl⟩ : ∃ b J, i = ix2 b J := ⟨i 0, i 1, by funext d; fin_cases d <;> rfl⟩
  refine (re_at b J).trans ((congrFun (cond_keeps (atK m 4096 c) main_v10_5 (by decide)) _).trans (((inv m c 4096 (Nat.le_refl _)).h b _ _).trans ?_))
  exact congrArg (fun j => (st (argsOf m c) b.val j 4096).1) (by show 64 * (J.val / 64) + J.val % 64 = J.val; omega)

theorem end_im (c : Dev nD) : finalContents condOps preI bodyI postI 4096 m c (Proc.devRef .tc main_v50) = stArrI (argsOf m c) := by
  refine funext fun (i : S4x8192.Idx) => ?_
  obtain ⟨b, J, rfl⟩ : ∃ b J, i = ix2 b J := ⟨i 0, i 1, by funext d; fin_cases d <;> rfl⟩
  refine (im_at b J).trans ((congrFun (cond_keeps (atK m 4096 c) main_v10_6 (by decide)) _).trans (((inv m c 4096 (Nat.le_refl _)).h' b _ _).trans ?_))
  exact congrArg (fun j => (st (argsOf m c) b.val j 4096).2) (by show 64 * (J.val / 64) + J.val % 64 = J.val; omega)

/-- The reference's run: its results and its arguments at the end. -/
theorem run : θ_run (defs (F := Ideal)) (onTc (τ := τ) (main (F := Ideal))) ⟨m, fun _ => 0, ρ⟩ (fun r => ∀ c : Dev nD,
      r.2.mem ((c.tc : Thread nD τ).loc main_v48) = outArr (argsOf m c)
      ∧ r.2.mem ((c.tc : Thread nD τ).loc main_v49) = stArrR (argsOf m c)
      ∧ r.2.mem ((c.tc : Thread nD τ).loc main_v50) = stArrI (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  θ_run_mono (run_fold m ρ) fun r h c => ⟨(h c main_v48 rfl).trans (end_out m c), (h c main_v49 rfl).trans (end_re m c), (h c main_v50 rfl).trans (end_im m c),
    (h c main_arg0 rfl).trans (end_arg m c main_arg0 (fun X => by entry_read; rfl) (by decide) (by decide) (by decide) (by decide) (by decide) (by decide) (by decide) (by decide)),
    (h c main_arg1 rfl).trans (end_arg m c main_arg1 (fun X => by entry_read; rfl) (by decide) (by decide) (by decide) (by decide) (by decide) (by decide) (by decide) (by decide)),
    (h c main_arg2 rfl).trans (end_arg m c main_arg2 (fun X => by entry_read; rfl) (by decide) (by decide) (by decide) (by decide) (by decide) (by decide) (by decide) (by decide)),
    (h c main_arg3 rfl).trans (end_arg m c main_arg3 (fun X => by entry_read; rfl) (by decide) (by decide) (by decide) (by decide) (by decide) (by decide) (by decide) (by decide)),
    (h c main_arg4 rfl).trans (end_arg m c main_arg4 (fun X => by entry_read; rfl) (by decide) (by decide) (by decide) (by decide) (by decide) (by decide) (by decide) (by decide)),
    (h c main_arg5 rfl).trans (end_arg m c main_arg5 (fun X => by entry_read; rfl) (by decide) (by decide) (by decide) (by decide) (by decide) (by decide) (by decide) (by decide)),
    (h c main_arg6 rfl).trans (end_arg m c main_arg6 (fun X => by entry_read; rfl) (by decide) (by decide) (by decide) (by decide) (by decide) (by decide) (by decide) (by decide)),
    (h c main_arg7 rfl).trans (end_arg m c main_arg7 (fun X => by entry_read; rfl) (by decide) (by decide) (by decide) (by decide) (by decide) (by decide) (by decide) (by decide)),
    (h c main_arg8 rfl).trans (end_arg m c main_arg8 (fun X => by entry_read; rfl) (by decide) (by decide) (by decide) (by decide) (by decide) (by decide) (by decide) (by decide)),
    (h c main_arg9 rfl).trans (end_arg m c main_arg9 (fun X => by entry_read; rfl) (by decide) (by decide) (by decide) (by decide) (by decide) (by decide) (by decide) (by decide)),
    (h c main_arg10 rfl).trans (end_arg m c main_arg10 (fun X => by entry_read; rfl) (by decide) (by decide) (by decide) (by decide) (by decide) (by decide) (by decide) (by decide)),
    (h c main_arg11 rfl).trans (end_arg m c main_arg11 (fun X => by entry_read; rfl) (by decide) (by decide) (by decide) (by decide) (by decide) (by decide) (by decide) (by decide))⟩

/-- Every run of the reference ends, its arguments as they were and every counter at zero (it has no counter). -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_mono (run m ρ) fun r h => ⟨fun c => (h c).2.2.2, sem_eq_zero_of_no_sems (by decide) r.2⟩

end Cert.Proof.ScanRef

end

end
-- ==== Proof.ScanSame.lean ====
/- The scan's results and the reference's are the same. -/
module

public import proofs.«01_k».proof.Defs
public import proofs.«01_k».proof.Proof.ScanValue
public import proofs.«01_k».proof.Proof.RefPost

@[expose] public section

set_option maxRecDepth 16384

noncomputable section

namespace Cert.Proof.ScanIdeal

open Cert.ScanIdeal Cert.ScanIdeal.Gen
open Idealize.ShloMosaic Idealize.ShloMosaic.TcCoe

/-- The scan's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v75_0) = outArr (argsOf m c)
      ∧ r.2.mem ((c.tc : Thread nD τ).loc main_v75_1) = stArrR (argsOf m c)
      ∧ r.2.mem ((c.tc : Thread nD τ).loc main_v75_2) = stArrI (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  θ_run_mono (θ_run_and (run_main m ρ) (unchanged m ρ)) fun r h c =>
    ⟨((h.1 c).1 12).trans (final_out m c), ((h.1 c).1 13).trans (final_re m c), ((h.1 c).1 14).trans (final_im m c), h.2 c⟩

end Cert.Proof.ScanIdeal

namespace Cert.Proof

open Idealize.ShloMosaic Idealize.ShloMosaic.TcCoe

/-- The two programs, started from the same arguments, read the same layer. -/
theorem args_same (m : (ℓ : Loc Cert.ScanIdeal.nD Cert.ScanIdeal.τ Cert.ScanIdeal.sig) → Buf (Elt Ideal) ℓ)
    (m' : (ℓ : Loc Cert.ScanRefIdeal.nD Cert.ScanRefIdeal.τ Cert.ScanRefIdeal.sig) → Buf (Elt Ideal) ℓ) (c : Dev Cert.ScanIdeal.nD)
    (e :
m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)
      ∧ m' ((c.tc : Thread Cert.ScanRefIdeal.nD Cert.ScanRefIdeal.τ).loc Cert.ScanRefIdeal.main_arg10) = m ((c.tc : Thread Cert.ScanIdeal.nD Cert.ScanIdeal.τ).loc Cert.ScanIdeal.main_arg10)
      ∧ m' ((c.tc : Thread Cert.ScanRefIdeal.nD Cert.ScanRefIdeal.τ).loc Cert.ScanRefIdeal.main_arg11) = m ((c.tc : Thread Cert.ScanIdeal.nD Cert.ScanIdeal.τ).loc Cert.ScanIdeal.main_arg11)) :
    ScanRef.argsOf m' c = ScanIdeal.argsOf m c := by
  obtain ⟨e0, e1, e2, e3, e4, e5, e6, e7, e8, e9, e10, e11⟩ := e
  unfold ScanRef.argsOf ScanIdeal.argsOf
  rw [e0, e1, e2, e3, e4, e5, e6, e7, e8, e9, e10, e11]

theorem scan_same : Cert.algebraic_ScanIdeal_ScanRefIdeal (hScanIdeal := Cert.ScanIdeal.Gen.facts) (hScanRefIdeal := Cert.ScanRefIdeal.Gen.facts) := by
  intro m g m' g' _ hagree
  refine ⟨fun c => ScanIdeal.outArr (ScanIdeal.argsOf m c), fun c => ScanIdeal.stArrR (ScanIdeal.argsOf m c), fun c => ScanIdeal.stArrI (ScanIdeal.argsOf m c), ScanIdeal.run m g, ?_⟩
  refine θ_run_mono (ScanRef.run m' g') fun r h c => ?_
  obtain ⟨h0, h1, h2, h3⟩ := h c
  have e := args_same m m' c (hagree c)
  exact ⟨h0.trans (congrArg ScanRef.outArr e), h1.trans (congrArg ScanRef.stArrR e), h2.trans (congrArg ScanRef.stArrI e), h3⟩

end Cert.Proof

end

end
-- ==== Proof.Reads.lean ====
/- Reads of a memref's block through the rectangles that a kernel's loads and stores name. -/
module

public import Idealize.ShloMosaic.Lib.ValueIdxCore
public import Idealize.ShloMosaic.Lib.Exec
public import Idealize.ShloMosaic.Lib.Tactic
public import Idealize.ShloMosaic.Lib.Pipeline.Kit
public import Idealize.ShloMosaic.Lib.Pipeline.Value

@[expose] public section

noncomputable section

namespace Cert.Proof

open Idealize.ShloMosaic
open Idealize.ShloMosaic.ValueIdx (ix2)

variable {F : FTy → Type} [FloatOps F] {sig : RefSig}

theorem in_unit {s : Shape} {off size : Fin s.rank → ℕ} {inb : ∀ a, off a + size a ≤ s.size a} (j : s.Idx)
    (h : ∀ a, off a ≤ (j a).val ∧ (j a).val < off a + size a) : j ∈ (Rect.unit off size inb).set :=
  (LoadRect.mem_set _).2 fun a => ⟨(j a).val - off a, by
    have := h a
    show (j a).val - off a < size a
    omega, by
    have := h a
    show (j a).val = off a + 1 * ((j a).val - off a)
    omega⟩

theorem read_at {s : Shape} {e : EltTy} (M : Memref sig .tc .vmem s e) (hM : M.IsWhole) (x : Vec F s e) (r : LoadRect s) :
    M.view.readAt (Elt F) r (hM.unread x) = fun i => x (r.idx i) :=
  funext fun i => congrFun (hM.read_unread x) (r.idx i)

/-- A read at the whole rectangle is a read. -/
theorem read_full {s : Shape} {e : EltTy} (M : Memref sig .tc .vmem s e) (f : M.view.ty.Contents (Elt F)) {off : Fin s.rank → ℕ}
    (h : ∀ a, off a = 0) (inb : ∀ a, off a + s.size a ≤ s.size a) :
    M.view.readAt (Elt F) (Rect.unit off s.size inb).toLoadRect f = M.view.read (Elt F) f := by
  refine funext fun i => congrArg (M.view.read (Elt F) f) (funext fun a => Fin.ext ?_)
  show off a + 1 * (i a).val = (i a).val
  rw [h a]; omega

theorem read_full_unread {s : Shape} {e : EltTy} (M : Memref sig .tc .vmem s e) (hM : M.IsWhole) (x : Vec F s e) {off : Fin s.rank → ℕ}
    (h : ∀ a, off a = 0) (inb : ∀ a, off a + s.size a ≤ s.size a) :
    M.view.readAt (Elt F) (Rect.unit off s.size inb).toLoadRect (hM.unread x) = x :=
  (read_full M _ h inb).trans (hM.read_unread x)

/-- After one store of the whole buffer a read finds the value stored. -/
theorem read_stored {s : Shape} {e : EltTy} (M : Memref sig .tc .vmem s e) (f : M.view.ty.Contents (Elt F)) {off : Fin s.rank → ℕ}
    (h : ∀ a, off a = 0) (inb : ∀ a, off a + s.size a ≤ s.size a) (v : Vec F s e) :
    M.view.read (Elt F) (M.view.writes (Elt F) f [⟨Rect.unit off s.size inb, v⟩]) = v := by
  funext j
  refine View.read_writes_apply_of_pieces _ _ v _ ?_ j ?_
  · intro p hp
    rw [List.mem_singleton] at hp
    subst hp
    intro x
    refine congrArg v (funext fun a => Fin.ext ?_)
    show (x a).val = off a + 1 * (x a).val
    rw [h a]; omega
  · exact ⟨_, List.mem_singleton.2 rfl, in_unit (inb := inb) j fun a => by rw [h a]; exact ⟨Nat.zero_le _, by have := (j a).isLt; omega⟩⟩

/-! ## Blocks in chunks of 256 rows -/

variable {N K C : ℕ} {e e' : EltTy}

/-- The `r`-th 256 rows of a block. -/
def rowsAt (x : Vec F ⟨2, ![N, K]⟩ e) (r : ℕ) (hN : 0 < N := by decide) : Vec F ⟨2, ![256, K]⟩ e := fun i =>
  x (ix2 (⟨(256 * r + (i 0).val) % N, Nat.mod_lt _ hN⟩ : Fin N) (i 1 : Fin K))

/-- The block whose `r`-th 256 rows are `T r`. -/
def outRows (T : ℕ → Vec F ⟨2, ![256, C]⟩ e) : Vec F ⟨2, ![N, C]⟩ e := fun j =>
  T ((j 0).val / 256) (ix2 (⟨(j 0).val % 256, Nat.mod_lt _ (by decide)⟩ : Fin 256) (j 1 : Fin C))

/-- A load of 256 rows of a block. -/
theorem read_rows (M : Memref sig .tc .vmem ⟨2, ![N, K]⟩ e) (hM : M.IsWhole) (x : Vec F ⟨2, ![N, K]⟩ e) (hN : 0 < N) (r : ℕ) (hr : 256 * r + 256 ≤ N) (o : ℕ) (ho : o = 256 * r) (inb) :
    M.view.readAt (Elt F) (Rect.unit (s := ⟨2, ![N, K]⟩) ![o, 0] (⟨2, ![256, K]⟩ : Shape).size inb).toLoadRect (hM.unread x) = rowsAt x r hN := by
  rw [read_at]
  funext i
  have hi : (i 0).val < 256 := (i 0).isLt
  refine congrArg x (funext fun a => ?_)
  fin_cases a <;> apply Fin.ext
  · show o + 1 * (i 0).val = (256 * r + (i 0).val) % N; rw [Nat.mod_eq_of_lt (by omega)]; omega
  · show 0 + 1 * (i 1).val = (i 1).val; omega

/-- A store of the `r`-th 256 rows. -/
theorem rows_data (T : ℕ → Vec F ⟨2, ![256, C]⟩ e) (r o : ℕ) (ho : o = 256 * r) (inb : ∀ a, ![o, 0] a + (⟨2, ![256, C]⟩ : Shape).size a ≤ (⟨2, ![N, C]⟩ : Shape).size a)
    (i : (⟨2, ![256, C]⟩ : Shape).Idx) : T r i = (outRows T : Vec F ⟨2, ![N, C]⟩ e) ((Rect.unit (s := ⟨2, ![N, C]⟩) ![o, 0] (⟨2, ![256, C]⟩ : Shape).size inb).emb i) := by
  have hi : (i 0).val < 256 := (i 0).isLt
  refine Eq.trans (congrArg (T r) (funext fun d => ?_)) (congrArg (fun n => T n _) (show r = (o + 1 * (i 0).val) / 256 by omega))
  fin_cases d <;> apply Fin.ext
  · show (i 0).val = (o + 1 * (i 0).val) % 256; omega
  · show (i 1).val = 0 + 1 * (i 1).val; omega

theorem rows_mem (j : (⟨2, ![N, C]⟩ : Shape).Idx) (o : ℕ) (inb : ∀ a, ![o, 0] a + (⟨2, ![256, C]⟩ : Shape).size a ≤ (⟨2, ![N, C]⟩ : Shape).size a)
    (h : o ≤ (j 0).val) (h' : (j 0).val < o + 256) : j ∈ (Rect.unit (s := ⟨2, ![N, C]⟩) ![o, 0] (⟨2, ![256, C]⟩ : Shape).size inb).set := by
  have hj : (j 1).val < C := (j 1).isLt
  refine in_unit j fun d => ?_
  fin_cases d
  · exact ⟨h, h'⟩
  · exact ⟨Nat.zero_le _, by show (j 1).val < 0 + C; omega⟩

/-- Two stores of 256 rows leave the block. -/
theorem read_two (M : Memref sig .tc .vmem ⟨2, ![512, C]⟩ e) (f : M.view.ty.Contents (Elt F)) (T : ℕ → Vec F ⟨2, ![256, C]⟩ e) (p0 p1 : Vec F ⟨2, ![256, C]⟩ e) (h0 : p0 = T 0) (h1 : p1 = T 1) (i0 i1) :
    M.view.read (Elt F) (M.view.writes (Elt F) f
      [⟨Rect.unit (s := ⟨2, ![512, C]⟩) ![256, 0] (⟨2, ![256, C]⟩ : Shape).size i1, p1⟩,
       ⟨Rect.unit (s := ⟨2, ![512, C]⟩) ![0, 0] (⟨2, ![256, C]⟩ : Shape).size i0, p0⟩]) = outRows T := by
  subst h0 h1
  funext j
  have hj0 : (j 0).val < 512 := (j 0).isLt
  refine View.read_writes_apply_of_pieces _ _ (outRows T) _ ?_ j ?_
  · intro p hp
    simp only [List.mem_cons, List.not_mem_nil, _root_.or_false] at hp
    rcases hp with rfl | rfl
    · exact rows_data T 1 256 rfl i1
    · exact rows_data T 0 0 rfl i0
  · rcases (show (j 0).val < 256 ∨ 256 ≤ (j 0).val by omega) with h | h
    · exact ⟨_, List.mem_cons_of_mem _ (List.mem_cons_self ..), rows_mem j 0 i0 (Nat.zero_le _) (by omega)⟩
    · exact ⟨_, List.mem_cons_self .., rows_mem j 256 i1 h (by omega)⟩

/-- Four stores of 256 rows leave the block. -/
theorem read_four (M : Memref sig .tc .vmem ⟨2, ![1024, C]⟩ e) (f : M.view.ty.Contents (Elt F)) (T : ℕ → Vec F ⟨2, ![256, C]⟩ e) (p0 p1 p2 p3 : Vec F ⟨2, ![256, C]⟩ e)
    (h0 : p0 = T 0) (h1 : p1 = T 1) (h2 : p2 = T 2) (h3 : p3 = T 3) (i0 i1 i2 i3) :
    M.view.read (Elt F) (M.view.writes (Elt F) f
      [⟨Rect.unit (s := ⟨2, ![1024, C]⟩) ![768, 0] (⟨2, ![256, C]⟩ : Shape).size i3, p3⟩,
       ⟨Rect.unit (s := ⟨2, ![1024, C]⟩) ![512, 0] (⟨2, ![256, C]⟩ : Shape).size i2, p2⟩,
       ⟨Rect.unit (s := ⟨2, ![1024, C]⟩) ![256, 0] (⟨2, ![256, C]⟩ : Shape).size i1, p1⟩,
       ⟨Rect.unit (s := ⟨2, ![1024, C]⟩) ![0, 0] (⟨2, ![256, C]⟩ : Shape).size i0, p0⟩]) = outRows T := by
  subst h0 h1 h2 h3
  funext j
  have hj0 : (j 0).val < 1024 := (j 0).isLt
  refine View.read_writes_apply_of_pieces _ _ (outRows T) _ ?_ j ?_
  · intro p hp
    simp only [List.mem_cons, List.not_mem_nil, _root_.or_false] at hp
    rcases hp with rfl | rfl | rfl | rfl
    · exact rows_data T 3 768 rfl i3
    · exact rows_data T 2 512 rfl i2
    · exact rows_data T 1 256 rfl i1
    · exact rows_data T 0 0 rfl i0
  · rcases (show (j 0).val < 256 ∨ (256 ≤ (j 0).val ∧ (j 0).val < 512) ∨ (512 ≤ (j 0).val ∧ (j 0).val < 768) ∨ 768 ≤ (j 0).val by omega) with h | h | h | h
    · exact ⟨_, List.mem_cons_of_mem _ (List.mem_cons_of_mem _ (List.mem_cons_of_mem _ (List.mem_cons_self ..))), rows_mem j 0 i0 (Nat.zero_le _) (by omega)⟩
    · exact ⟨_, List.mem_cons_of_mem _ (List.mem_cons_of_mem _ (List.mem_cons_self ..)), rows_mem j 256 i1 h.1 (by omega)⟩
    · exact ⟨_, List.mem_cons_of_mem _ (List.mem_cons_self ..), rows_mem j 512 i2 h.1 (by omega)⟩
    · exact ⟨_, List.mem_cons_self .., rows_mem j 768 i3 h (by omega)⟩

end Cert.Proof

end

end
-- ==== Proof.FfnInIdealFrame.lean ====
/- The feed-forward input product: one grid point, the grid, and the run. -/
module

public import proofs.«01_k».proof.Proof.Reads
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import Idealize.ShloMosaic.Lib.Pipeline.FrameBody
public import Idealize.ShloMosaic.Lib.WordCmp
public import Idealize.ShloMosaic.Lib.Claim

@[expose] public section

set_option maxRecDepth 16384

noncomputable section

namespace Cert.Proof.FfnInIdeal

open Cert.FfnInIdeal Cert.FfnInIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

/-! ## The blocks as functions -/

/-- 256 rows of tokens against the gate's and the value's weight columns. -/
def tile (x : Vec F S256x4096 .bf16) (a b : Vec F S4096x512 .bf16) : FVec F S256x512 .bf16 := k0_pay5 x a x b

/-- The output block from the token block and the two blocks of weight columns. -/
def outBlk (x : Vec F S1024x4096 .bf16) (a b : Vec F S4096x512 .bf16) : Vec F S1024x512 .bf16 :=
  outRows fun r => tile (rowsAt x r) a b

/-- The second batch's output block. -/
def outBlk2 (x : Vec F S128x4096 .bf16) (a b : Vec F S4096x512 .bf16) : Vec F S128x512 .bf16 := k0_pay4 x a x b

theorem tile_part (x : Vec F S256x4096 .bf16) (a b : Vec F S4096x512 .bf16) : k0_pay9 (k0_pay6 x a) (k0_pay7 x b) (k0_pay8 x a) = tile x a b := rfl
theorem tile_mid (x : Vec F S256x4096 .bf16) (a b : Vec F S4096x512 .bf16) : k0_pay10 x a x b = tile x a b := rfl
theorem tile_last (x : Vec F S256x4096 .bf16) (a b : Vec F S4096x512 .bf16) : k0_pay1 (k0_pay11 x a) x b = tile x a b := rfl

/-! ## One grid point -/

section

variable (c : Dev nD) (i : grid0.Coords) (arg2 : Memref sig .tc .vmem S1024x4096 .bf16) (harg2 : arg2.IsWhole) (arg3 : Memref sig .tc .vmem S1x1x4096x512 .f32) (harg3 : arg3.IsWhole) (arg4 : Memref sig .tc .vmem S1x1x4096x512 .f32) (harg4 : arg4.IsWhole) (arg5 : Memref sig .tc .vmem S128x4096 .bf16) (harg5 : arg5.IsWhole) (arg6 : Memref sig .tc .vmem S1024x512 .bf16) (harg6 : arg6.IsWhole) (arg7 : Memref sig .tc .vmem S128x512 .bf16) (harg7 : arg7.IsWhole) (arg8 : Memref sig .tc .vmem S4096x512 .bf16) (harg8 : arg8.IsWhole) (arg9 : Memref sig .tc .vmem S4096x512 .bf16) (harg9 : arg9.IsWhole)

set_option maxHeartbeats 4000000 in
/-- Inside a column of weights: the weights are read from scratch, the second batch's output is left alone. -/
theorem run_later (hc : ¬ (k0_cond1 i = 1#1))
    (x : Vec F S1024x4096 .bf16) (w1 w2 : Vec F S1x1x4096x512 .f32) (x2 : Vec F S128x4096 .bf16) (y2 : Vec F S128x512 .bf16) (a b : Vec F S4096x512 .bf16) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare x2 ∗ (∃ d, owns (c : Thread nD τ) arg6 fullShare d) ∗ owns (c : Thread nD τ) arg7 fullShare y2 ∗ owns (c : Thread nD τ) arg8 fullShare a ∗ owns (c : Thread nD τ) arg9 fullShare b
        ∗ (iprop(owns (c : Thread nD τ) arg2 fullShare x ∗ owns (c : Thread nD τ) arg3 fullShare w1 ∗ owns (c : Thread nD τ) arg4 fullShare w2 ∗ owns (c : Thread nD τ) arg5 fullShare x2 ∗ owns (c : Thread nD τ) arg6 fullShare (outBlk x a b) ∗ owns (c : Thread nD τ) arg7 fullShare y2 ∗ owns (c : Thread nD τ) arg8 fullShare a ∗ owns (c : Thread nD τ) arg9 fullShare b) -∗ K ⟨⟩))
      ⊢ wp frame (wpE (defs₀ (F := F)) Variants.none c none) Set.univ (cc0_matmul_swiglu i arg2 harg2 arg3 harg3 arg4 harg4 arg5 harg5 arg6 harg6 arg7 harg7 arg8 harg8 arg9 harg9) K := by
  simp only [cc0_matmul_swiglu_eq_skeleton]; unfold cc0_matmul_swiglu_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    have ha : ∀ inb, View.readAt (Elt F) arg8.view (Rect.unit (s := S4096x512) ![0, 0] S4096x512.size inb).toLoadRect (harg8.unread a) = a := fun inb => read_full_unread arg8 harg8 a (by decide) inb
    have hb : ∀ inb, View.readAt (Elt F) arg9.view (Rect.unit (s := S4096x512) ![0, 0] S4096x512.size inb).toLoadRect (harg9.unread b) = b := fun inb => read_full_unread arg9 harg9 b (by decide) inb
    have hx : ∀ (r : ℕ) (hr : r < 4) (o : ℕ) (ho : o = 256 * r) inb, View.readAt (Elt F) arg2.view (Rect.unit (s := S1024x4096) ![o, 0] S256x4096.size inb).toLoadRect (harg2.unread x) = rowsAt x r := fun r hr o ho inb => read_rows arg2 harg2 x (by decide) r (by omega) o ho inb
    refine read_four arg6 f6 (fun r => tile (rowsAt x r) a b) _ _ _ _ ?_ ?_ ?_ ?_ _ _ _ _
    · rw [hx 0 (by decide) 0 rfl, ha, hb]; rfl
    · unfold run_later.sl.r run_later.sl.r_1 run_later.sl.r_2
      rw [hx 1 (by decide) 256 rfl, ha, hb]; exact tile_part _ a b
    · rw [hx 2 (by decide) 512 rfl, ha, hb]; exact tile_mid _ a b
    · unfold run_later.sl.r_3 run_later.sl.r_4
      rw [hx 3 (by decide) 768 rfl, ha]
      exact (congrArg (fun z => k0_pay1 (k0_pay11 (rowsAt x 3) a) (rowsAt x 3) z) (hb _)).trans (tile_last _ a b)
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- At the start of a column of weights: they are cast to scratch, and the second batch's output is computed. -/
theorem run_first (hc : k0_cond1 i = 1#1)
    (x : Vec F S1024x4096 .bf16) (w1 w2 : Vec F S1x1x4096x512 .f32) (x2 : Vec F S128x4096 .bf16) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare w1 ∗ owns (c : Thread nD τ) arg4 fullShare w2 ∗ owns (c : Thread nD τ) arg5 fullShare x2 ∗ owns (c : Thread nD τ) arg6 fullShare (outBlk x (k0_pay2 w1) (k0_pay3 w2)) ∗ owns (c : Thread nD τ) arg7 fullShare (outBlk2 x2 (k0_pay2 w1) (k0_pay3 w2)) ∗ owns (c : Thread nD τ) arg8 fullShare (k0_pay2 w1) ∗ owns (c : Thread nD τ) arg9 fullShare (k0_pay3 w2)) -∗ K ⟨⟩))
      ⊢ wp frame (wpE (defs₀ (F := F)) Variants.none c none) Set.univ (cc0_matmul_swiglu i arg2 harg2 arg3 harg3 arg4 harg4 arg5 harg5 arg6 harg6 arg7 harg7 arg8 harg8 arg9 harg9) K := by
  simp only [cc0_matmul_swiglu_eq_skeleton]; unfold cc0_matmul_swiglu_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | sl_exact hc)
  sl_step
  have hw1 : View.read (Elt F) arg8.view (arg8.view.writes (Elt F) f8 [⟨Rect.unit (s := S4096x512) ![0, 0] S4096x512.size inb_S4096x512_S4096x512_0_0, k0_pay2 w1⟩]) = k0_pay2 w1 := read_stored arg8 f8 (by decide) inb_S4096x512_S4096x512_0_0 _
  have hw2 : View.read (Elt F) arg9.view (arg9.view.writes (Elt F) f9 [⟨Rect.unit (s := S4096x512) ![0, 0] S4096x512.size inb_S4096x512_S4096x512_0_0, k0_pay3 w2⟩]) = k0_pay3 w2 := read_stored arg9 f9 (by decide) inb_S4096x512_S4096x512_0_0 _
  have e8 : run_first.sl.H8_1 c arg3 harg3 w1 = [⟨Rect.unit (s := S4096x512) ![0, 0] S4096x512.size inb_S4096x512_S4096x512_0_0, k0_pay2 w1⟩] := by
    unfold run_first.sl.H8_1
    rw [read_full_unread arg3 harg3 w1 (by decide)]
  have e9 : run_first.sl.H9_1 c arg4 harg4 w2 = [⟨Rect.unit (s := S4096x512) ![0, 0] S4096x512.size inb_S4096x512_S4096x512_0_0, k0_pay3 w2⟩] := by
    unfold run_first.sl.H9_1
    rw [read_full_unread arg4 harg4 w2 (by decide)]
  have ha : run_first.sl.v84 c arg3 harg3 arg8 w1 = k0_pay2 w1 := by
    unfold run_first.sl.v84
    rw [e8]
    exact (read_full arg8 _ (by decide) _).trans (read_stored arg8 _ (by decide) inb_S4096x512_S4096x512_0_0 _)
  have hb : run_first.sl.v87 c arg4 harg4 arg9 w2 = k0_pay3 w2 := by
    unfold run_first.sl.v87
    rw [e9]
    exact (read_full arg9 _ (by decide) _).trans (read_stored arg9 _ (by decide) inb_S4096x512_S4096x512_0_0 _)
  have hb' : run_first.sl.v58 c arg4 harg4 arg9 w2 = k0_pay3 w2 := by
    unfold run_first.sl.v58
    rw [e9]
    exact (read_full arg9 _ (by decide) _).trans (read_stored arg9 _ (by decide) inb_S4096x512_S4096x512_0_0 _)
  have hx : ∀ (r : ℕ) (hr : r < 4) (o : ℕ) (ho : o = 256 * r) inb, View.readAt (Elt F) arg2.view (Rect.unit (s := S1024x4096) ![o, 0] S256x4096.size inb).toLoadRect (harg2.unread x) = rowsAt x r := fun r hr o ho inb => read_rows arg2 harg2 x (by decide) r (by omega) o ho inb
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine read_four arg6 f6 (fun r => tile (rowsAt x r) (k0_pay2 w1) (k0_pay3 w2)) _ _ _ _ ?_ ?_ ?_ ?_ _ _ _ _
    · rw [hx 0 (by decide) 0 rfl, ha, hb]; rfl
    · unfold run_first.sl.r run_first.sl.r_1 run_first.sl.r_2
      rw [hx 1 (by decide) 256 rfl, ha, hb]; exact tile_part _ _ _
    · rw [hx 2 (by decide) 512 rfl, ha, hb]; exact tile_mid _ _ _
    · unfold run_first.sl.r_3 run_first.sl.r_4
      rw [hx 3 (by decide) 768 rfl, ha, hb']; exact tile_last _ _ _
  isplitl [H7]
  · iexists _; isplitr; swap; · iexact H7
    ipureintro
    rw [ha, hb, read_full_unread arg5 harg5 x2 (by decide)]; exact read_stored arg7 f7 (by decide) inb_S128x512_S128x512_0_0 _
  isplitl [H8]
  · iexists _; isplitr; swap; · iexact H8
    ipureintro
    rw [e8]; exact hw1
  iexists _; isplitr; swap; · iexact H9
  ipureintro
  rw [e9]; exact hw2

end

variable (m : (ℓ : Loc nD τ sig) → Buf (Elt F) ℓ) (ρ : Dev nD → PrngReg)

/-! ## A column of weights -/

/-- The first grid point of the `n`-th column of weights. -/
def top (n : ℕ) : Fin cfg0.N := ⟨16 * n % 256, lt_of_lt_of_eq (Nat.mod_lt _ (by decide)) N_0.symm⟩

theorem top_self (t : Fin cfg0.N) (h : t.val % 16 = 0) : top (t.val / 16) = t := by
  have hN : t.val < 256 := lt_of_lt_of_eq t.isLt N_0
  apply Fin.ext
  show 16 * (t.val / 16) % 256 = t.val
  omega

/-- The gate's weights of the `n`-th column, as scratch holds them. -/
def wA (c : Dev nD) (n : ℕ) : Vec F S4096x512 .bf16 := k0_pay2 (iblk m c 1 (top n) : Vec F S1x1x4096x512 .f32)
/-- The value's. -/
def wB (c : Dev nD) (n : ℕ) : Vec F S4096x512 .bf16 := k0_pay3 (iblk m c 2 (top n) : Vec F S1x1x4096x512 .f32)

/-- The output block of grid point `t`. -/
def outAt (c : Dev nD) (t : Fin cfg0.N) : Vec F S1024x512 .bf16 := outBlk (iblk m c 0 t) (wA m c (t.val / 16)) (wB m c (t.val / 16))
/-- The second batch's output block of the `n`-th column. -/
def outAt2 (c : Dev nD) (n : ℕ) : Vec F S128x512 .bf16 := outBlk2 (iblk m c 3 (top n)) (wA m c n) (wB m c n)

/-! ## The proof data -/

/-- Inside the `n`-th column scratch holds its weights. -/
def held (c : Dev nD) (n : ℕ) : sProp 𝕄 :=
  iprop((owns (c : Thread nD τ) (Memref.whole cc0_scratch0 : Memref sig .tc .vmem S4096x512 .bf16) fullShare (wA m c n)
    ∗ owns (c : Thread nD τ) (Memref.whole cc0_scratch1 : Memref sig .tc .vmem S4096x512 .bf16) fullShare (wB m c n)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => outAt2 m c (t.val / 16)
  Φ t := if t.val % 16 = 0 then Pipeline.ΦA spec0 c else held m c (t.val / 16)
  q w := Pipeline.shareOf spec0 w
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d

/-- The body casts the weights at the start of each column. -/
theorem hcond : ∀ t : Fin grid0.N, k0_cond1 (grid0.coords t) = 1#1 ↔ t.val % 16 = 0 := fun t => by
  have ht : t.val < 256 := Nat.lt_of_lt_of_eq t.isLt N_0
  have e1 : (grid0.coords t 1).val = t.val / 1 % 16 := Pipeline.Grid.coords_val t 1 (by decide) rfl
  unfold k0_cond1
  rw [e1]
  word_cmp

theorem live_first (t : Fin cfg0.N) (h : t.val % 16 = 0) : cfg0.idle 5 (grid0.coords t) = false := by
  show (!(k0_cond1 (grid0.coords t) == 1#1)) = false
  rw [(hcond t).mpr h]; rfl
theorem idle_later (t : Fin cfg0.N) (h : ¬ t.val % 16 = 0) : cfg0.idle 5 (grid0.coords t) = true := by
  show (!(k0_cond1 (grid0.coords t) == 1#1)) = true
  rw [Bool.not_eq_true', beq_eq_false_iff_ne]
  exact fun e => h ((hcond t).mp e)

/-- Inside a column the second batch's block is the one computed at its start. -/
theorem before0_5 (c : Dev nD) (n : ℕ) : ∀ (t : Fin cfg0.N), t.val = n → ¬ n % 16 = 0 → ∀ d, (dats m 0 c).before 5 t d = outAt2 m c (t.val / 16) := by
  induction n with
  | zero => intro t _ h; exact absurd rfl h
  | succ n ih =>
    intro t hn h d
    have hN : t.val < 256 := lt_of_lt_of_eq t.isLt N_0
    have hfl : (cfg0.win 5).flush ⟨t.val - 1, Nat.lt_of_le_of_lt (Nat.sub_le _ _) t.isLt⟩ = false := by
      refine Bool.eq_false_iff.mpr fun hf => ?_
      have e := (flush0_5 _).mp hf
      change (t.val - 1) % 16 = 15 at e
      omega
    rw [(dats m 0 c).before_of_pos 5 t (by omega) ((cfg0.win 5).fetch_out rfl t), hfl, if_neg Bool.false_ne_true]
    unfold Dat.left
    by_cases h0 : n % 16 = 0
    · rw [live_first ⟨t.val - 1, Nat.lt_of_le_of_lt (Nat.sub_le _ _) t.isLt⟩ (show (t.val - 1) % 16 = 0 by omega)]
      show (dats m 0 c).kept 5 _ d = _
      unfold Dat.kept
      rw [Pipeline.fill_of_clip_none 5 _ (fun _ => rfl) d ((dats m 0 c).after 5 _), Window.fill_cut]
      exact congrArg (outAt2 m c) (show (t.val - 1) / 16 = t.val / 16 by omega)
    · rw [idle_later ⟨t.val - 1, Nat.lt_of_le_of_lt (Nat.sub_le _ _) t.isLt⟩ (show ¬ (t.val - 1) % 16 = 0 by omega)]
      exact (ih ⟨t.val - 1, Nat.lt_of_le_of_lt (Nat.sub_le _ _) t.isLt⟩ (show t.val - 1 = n by omega) h0 d).trans
        (congrArg (outAt2 m c) (show (t.val - 1) / 16 = t.val / 16 by omega))

theorem PhiA0_eq (c : Dev nD) :
    (Pipeline.ΦA spec0 c : sProp 𝕄)
      = iprop(iprop((∃ d, owns (c : Thread nD τ) (Memref.whole cc0_scratch0 : Memref sig .tc .vmem S4096x512 .bf16) fullShare d) ∗ (∃ d, owns (c : Thread nD τ) (Memref.whole cc0_scratch1 : Memref sig .tc .vmem S4096x512 .bf16) fullShare d)) ∗ (∃ r, prngReg c r)) := by
  unfold Pipeline.ΦA; rw [scopedRest0_eq]; simp only [owns_whole]; try rfl

theorem held_forget (c : Dev nD) (n : ℕ) : held m c n ⊢ Pipeline.ΦA spec0 c := by
  rw [PhiA0_eq]; unfold held
  iintro ⟨⟨H0, H1⟩, Hg⟩
  isplitl [H0 H1]
  · isplitl [H0]
    · iexists _; iexact H0
    iexists _; iexact H1
  iexact Hg

/-- What a grid point leaves in scratch is what the next one starts with. -/
theorem held_next (c : Dev nD) (t : Fin cfg0.N) : held m c (t.val / 16) ⊢ (dats m 0 c).Φ t.succ := by
  have e : (dats m 0 c).Φ t.succ = if (t.val + 1) % 16 = 0 then Pipeline.ΦA spec0 c else held m c ((t.val + 1) / 16) := rfl
  rw [e]
  by_cases h : (t.val + 1) % 16 = 0
  · rw [if_pos h]; exact held_forget m c _
  · rw [if_neg h, show (t.val + 1) / 16 = t.val / 16 by omega]

theorem Φ_first (c : Dev nD) (t : Fin cfg0.N) (h : t.val % 16 = 0) : (dats m 0 c).Φ t.castSucc = Pipeline.ΦA spec0 c := if_pos h
theorem Φ_later (c : Dev nD) (t : Fin cfg0.N) (h : ¬ t.val % 16 = 0) : (dats m 0 c).Φ t.castSucc = held m c (t.val / 16) := if_neg h

/-! ## The body at every grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (st0_0 t) fullShare (iblk m c 0 t) := rfl
theorem leaves0_1 (c : Dev nD) (t : Fin cfg0.N) : (dats m 0 c).leavesExact 1 t = owns (c : Thread nD τ) (st0_1 t) fullShare (iblk m c 1 t) := rfl
theorem leaves0_2 (c : Dev nD) (t : Fin cfg0.N) : (dats m 0 c).leavesExact 2 t = owns (c : Thread nD τ) (st0_2 t) fullShare (iblk m c 2 t) := rfl
theorem leaves0_3 (c : Dev nD) (t : Fin cfg0.N) : (dats m 0 c).leavesExact 3 t = owns (c : Thread nD τ) (st0_3 t) fullShare (iblk m c 3 t) := rfl
theorem leaves0_4 (c : Dev nD) (t : Fin cfg0.N) : (dats m 0 c).leavesExact 4 t = owns (c : Thread nD τ) (st0_4 t) fullShare (outAt m c t) := rfl
/-- The second batch's block as a grid point leaves it, whether it stores it, keeps it or has it written back. -/
theorem leaves0_5 (c : Dev nD) (t : Fin cfg0.N) : owns (c : Thread nD τ) (st0_5 t) fullShare (outAt2 m c (t.val / 16)) ⊢ (dats m 0 c).leavesExact 5 t := by
  by_cases h0 : t.val % 16 = 0
  · unfold Dat.leavesExact; rw [live_first t h0]; exact .rfl
  · by_cases hf : (cfg0.win 5).flush t = true
    · unfold Dat.leavesExact; rw [idle_later t h0, hf]; exact .rfl
    · rw [Bool.not_eq_true] at hf
      rw [(dats m 0 c).leavesExact_idle 5 t (idle_later t h0) hf]
      simp only [before0_5 m c t.val t rfl h0]
      iintro H
      iexists (outAt2 m c (t.val / 16))
      iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0_0, leaves0_1, leaves0_2, leaves0_3, leaves0_4]
  rw [show (dats m 0 c).owesAt () t.succ = (dats m 0 c).owesAt () t.castSucc from rfl]
  by_cases h0 : t.val % 16 = 0
  · rw [Φ_first m c t h0, PhiA0_eq]
    have eA : k0_pay2 (iblk m c 1 t : Vec F S1x1x4096x512 .f32) = wA m c (t.val / 16) := by unfold wA; rw [top_self t h0]
    have eB : k0_pay3 (iblk m c 2 t : Vec F S1x1x4096x512 .f32) = wB m c (t.val / 16) := by unfold wB; rw [top_self t h0]
    have e4 : outAt m c t = outBlk (iblk m c 0 t) (k0_pay2 (iblk m c 1 t : Vec F S1x1x4096x512 .f32)) (k0_pay3 (iblk m c 2 t : Vec F S1x1x4096x512 .f32)) := by rw [eA, eB]; rfl
    have e5 : outAt2 m c (t.val / 16) = outBlk2 (iblk m c 3 t) (k0_pay2 (iblk m c 1 t : Vec F S1x1x4096x512 .f32)) (k0_pay3 (iblk m c 2 t : Vec F S1x1x4096x512 .f32)) := by
      rw [eA, eB]; unfold outAt2; rw [top_self t h0]
    rw [e4]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ _ _ ((hcond t).mpr h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    rw [← e5, eA, eB]
    iintro ⟨H0, H1, H2, H3, H4, H5, HS0, HS1⟩
    isplitl [HS0 HS1 Hg]
    · iapply (held_next m c t)
      unfold held
      isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t)
    iexact H5
  · rw [Φ_later m c t h0]
    simp only [before0_5 m c t.val t rfl h0]
    unfold held outAt
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ _ _ (fun h => h0 ((hcond t).mp h)) (iblk m c 0 t) (iblk m c 1 t) (iblk m c 2 t) (iblk m c 3 t) (outAt2 m c (t.val / 16)) (wA m c (t.val / 16)) (wB m c (t.val / 16)) _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, H4, H5, HS0, HS1⟩
    isplitl [HS0 HS1 Hg]
    · iapply (held_next m c t)
      unfold held
      isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : Pipeline.ΦA spec0 c ⊢ (dats (F := F) m 0 c).Φ 0 := .rfl
theorem Φ_out (c : Dev nD) : (dats (F := F) m 0 c).Φ (Fin.last cfg0.N) ⊢ Pipeline.ΦA spec0 c := by
  have e : (dats (F := F) m 0 c).Φ (Fin.last cfg0.N) = if grid0.N % 16 = 0 then Pipeline.ΦA spec0 c else held m c (grid0.N / 16) := rfl
  rw [e, if_pos (by rw [N_0])]

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Φ_in m) (hout := Φ_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.FfnInIdeal

end

end
-- ==== Proof.FfnInFrame.lean ====
/- The feed-forward input product as compiled: its frame, from the frame of its ideal reading, the same program at every instance. -/
module

public import proofs.«01_k».proof.Proof.FfnInIdealFrame
public import proofs.«01_k».proof.Proof.Gen.FfnIn

@[expose] public section

set_option maxRecDepth 16384

noncomputable section

namespace Cert.Proof.FfnIn

open Cert.FfnIn Cert.FfnIn.Gen
open Idealize.ShloMosaic Idealize.ShloMosaic.TcCoe

variable {F : FTy → Type} [FloatOps F]

theorem defs₀_same : Cert.FfnInIdeal.defs₀ (F := F) = defs₀ := by
  unfold defs₀ Cert.FfnInIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.FfnInIdeal.defs (F := F) = defs := congrArg (Pipeline.defs _) defs₀_same

/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [← defs_same]
  exact Cert.Proof.FfnInIdeal.frame (F := F) m ρ

end Cert.Proof.FfnIn

end

end
-- ==== Proof.FfnInValue.lean ====
/- The feed-forward input product's results at the extended reals. -/
module

public import proofs.«01_k».proof.Proof.FfnInIdealFrame
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic

/-- A token's channels `f` against a gate column `g` and a value column `h`: silu of the one product by the other. -/
def glu (f g h : Fin 4096 → EReal) : EReal :=
  (∑ k, f k * g k) * Ideal.div 1 (1 + Ideal.exp (0 - ∑ k, f k * g k)) * ∑ k, f k * h k

/-- The activation of a token and a channel of the hidden layer. -/
def gluAt (n : ℕ) (X : Shape.Idx ⟨2, ![n, 4096]⟩ → EReal) (W : Shape.Idx ⟨4, ![2, 2, 4096, 16384]⟩ → EReal) (p : Fin n) (q : Fin 8192) : EReal :=
  glu (fun k => X (ix2 p k)) (fun k => W (ix4 0 0 k (⟨q.val, by omega⟩ : Fin 16384))) (fun k => W (ix4 0 0 k (⟨8192 + q.val, by omega⟩ : Fin 16384)))

/-- The layer's feed-forward activations of `n` tokens. -/
def gluArr (n : ℕ) (X : Shape.Idx ⟨2, ![n, 4096]⟩ → EReal) (W : Shape.Idx ⟨4, ![2, 2, 4096, 16384]⟩ → EReal) : Shape.Idx ⟨2, ![n, 8192]⟩ → EReal :=
  fun i => gluAt n X W (i 0) (i 1)

end Cert.Proof

namespace Cert.Proof.FfnInIdeal

open Cert.FfnInIdeal Cert.FfnInIdeal.Gen
open Idealize.ShloMosaic Idealize.ShloMosaic.TcCoe

/-! ## The body's blocks -/

theorem tile_at (x : Vec Ideal S256x4096 .bf16) (a b : Vec Ideal S4096x512 .bf16) (p : Fin 256) (q : Fin 512) :
    tile x a b (ix2 p q) = glu (fun k => x (ix2 p k)) (fun k => a (ix2 k q)) (fun k => b (ix2 k q)) := by
  unfold tile k0_pay5
  pointwise
  rfl

theorem outBlk2_at (x : Vec Ideal S128x4096 .bf16) (a b : Vec Ideal S4096x512 .bf16) (p : Fin 128) (q : Fin 512) :
    outBlk2 x a b (ix2 p q) = glu (fun k => x (ix2 p k)) (fun k => a (ix2 k q)) (fun k => b (ix2 k q)) := by
  unfold outBlk2 k0_pay4
  pointwise
  rfl

theorem outBlk_at (x : Vec Ideal S1024x4096 .bf16) (a b : Vec Ideal S4096x512 .bf16) (p : Fin 1024) (q : Fin 512) :
    outBlk x a b (ix2 p q) = glu (fun k => x (ix2 p k)) (fun k => a (ix2 k q)) (fun k => b (ix2 k q)) := by
  refine (tile_at (rowsAt x (p.val / 256)) a b (⟨p.val % 256, Nat.mod_lt _ (by decide)⟩ : Fin 256) q).trans ?_
  refine congrArg (fun f => glu f _ _) (funext fun k => congrArg x (funext fun d => ?_))
  have hp := p.isLt
  fin_cases d <;> apply Fin.ext
  · show (256 * (p.val / 256) + p.val % 256) % 1024 = p.val; omega
  · rfl

theorem gate_at (w : Vec Ideal S1x1x4096x512 .f32) (k : Fin 4096) (q : Fin 512) :
    (k0_pay2 w : FVec Ideal S4096x512 .bf16) (ix2 k q) = w (ix4 0 0 k q) := by
  unfold k0_pay2
  pointwise
theorem value_at (w : Vec Ideal S1x1x4096x512 .f32) (k : Fin 4096) (q : Fin 512) :
    (k0_pay3 w : FVec Ideal S4096x512 .bf16) (ix2 k q) = w (ix4 0 0 k q) := by
  unfold k0_pay3
  pointwise

/-! ## The windows' blocks -/

variable (m : (ℓ : Loc nD τ sig) → Buf (Elt Ideal) ℓ)

theorem idx : ∀ t : Fin cfg0.N, win0_0.index t = ![t.val % 16, 0] ∧ win0_1.index t = ![0, 0, 0, t.val / 16] ∧ win0_2.index t = ![0, 0, 0, t.val / 16 + 16]
    ∧ win0_3.index t = ![0, 0] ∧ win0_4.index t = ![t.val % 16, t.val / 16] ∧ win0_5.index t = ![0, t.val / 16] :=
  (by decide +kernel : ∀ t : Fin grid0.N, _)

theorem blk0_at (c : Dev nD) (t : Fin cfg0.N) (ht : t.val < 256) (p : Fin 1024) (k : Fin 4096) :
    (iblk m c 0 t : Vec Ideal S1024x4096 .bf16) (ix2 p k)
      = (m ((c : Thread nD τ).loc main_arg0) : FVec Ideal S16384x4096 .bf16) (ix2 (⟨1024 * (t.val % 16) + p.val, by omega⟩ : Fin 16384) k) := by
  blk_ext [iblk, V, idx t]

theorem blk1_at (c : Dev nD) (t : Fin cfg0.N) (ht : t.val < 256) (k : Fin 4096) (q : Fin 512) :
    (iblk m c 1 t : Vec Ideal S1x1x4096x512 .f32) (ix4 0 0 k q)
      = (m ((c : Thread nD τ).loc main_arg2) : FVec Ideal S2x2x4096x16384 .f32) (ix4 0 0 k (⟨512 * (t.val / 16) + q.val, by omega⟩ : Fin 16384)) := by
  blk_ext [iblk, V, idx t]

theorem blk2_at (c : Dev nD) (t : Fin cfg0.N) (ht : t.val < 256) (k : Fin 4096) (q : Fin 512) :
    (iblk m c 2 t : Vec Ideal S1x1x4096x512 .f32) (ix4 0 0 k q)
      = (m ((c : Thread nD τ).loc main_arg2) : FVec Ideal S2x2x4096x16384 .f32) (ix4 0 0 k (⟨8192 + (512 * (t.val / 16) + q.val), by omega⟩ : Fin 16384)) := by
  blk_ext [iblk, V, idx t]

theorem blk3_at (c : Dev nD) (t : Fin cfg0.N) (ht : t.val < 256) (p : Fin 128) (k : Fin 4096) :
    (iblk m c 3 t : Vec Ideal S128x4096 .bf16) (ix2 p k)
      = (m ((c : Thread nD τ).loc main_arg1) : FVec Ideal S128x4096 .bf16) (ix2 p k) := by
  blk_ext [iblk, V, idx t]

theorem top_div (n : ℕ) (hn : n < 16) : (top n).val / 16 = n := by
  show 16 * n % 256 / 16 = n; omega
theorem top_lt (n : ℕ) : (top n).val < 256 := Nat.mod_lt _ (by decide)

theorem wA_at (c : Dev nD) (n : ℕ) (hn : n < 16) (k : Fin 4096) (q : Fin 512) :
    wA m c n (ix2 k q) = (m ((c : Thread nD τ).loc main_arg2) : FVec Ideal S2x2x4096x16384 .f32) (ix4 0 0 k (⟨512 * n + q.val, by omega⟩ : Fin 16384)) := by
  unfold wA
  refine (gate_at _ k q).trans ((blk1_at m c (top n) (top_lt n) k q).trans ?_)
  congr 3
  rw [top_div n hn]
theorem wB_at (c : Dev nD) (n : ℕ) (hn : n < 16) (k : Fin 4096) (q : Fin 512) :
    wB m c n (ix2 k q) = (m ((c : Thread nD τ).loc main_arg2) : FVec Ideal S2x2x4096x16384 .f32) (ix4 0 0 k (⟨8192 + (512 * n + q.val), by omega⟩ : Fin 16384)) := by
  unfold wB
  refine (value_at _ k q).trans ((blk2_at m c (top n) (top_lt n) k q).trans ?_)
  congr 3
  rw [top_div n hn]

/-! ## The arrays -/

theorem outAt_at (c : Dev nD) (t : Fin cfg0.N) (ht : t.val < 256) (p : Fin 1024) (q : Fin 512) :
    outAt m c t (ix2 p q) = gluAt 16384 (m ((c : Thread nD τ).loc main_arg0)) (m ((c : Thread nD τ).loc main_arg2))
      (⟨1024 * (t.val % 16) + p.val, by omega⟩ : Fin 16384) (⟨512 * (t.val / 16) + q.val, by omega⟩ : Fin 8192) := by
  unfold outAt
  refine (outBlk_at _ _ _ p q).trans ?_
  unfold gluAt
  have hn : t.val / 16 < 16 := by omega
  exact congr (congr (congrArg glu (funext fun k => blk0_at m c t ht p k)) (funext fun k => wA_at m c _ hn k q)) (funext fun k => wB_at m c _ hn k q)

theorem outAt2_at (c : Dev nD) (n : ℕ) (hn : n < 16) (p : Fin 128) (q : Fin 512) :
    outAt2 m c n (ix2 p q) = gluAt 128 (m ((c : Thread nD τ).loc main_arg1)) (m ((c : Thread nD τ).loc main_arg2))
      p (⟨512 * n + q.val, by omega⟩ : Fin 8192) := by
  unfold outAt2
  refine (outBlk2_at _ _ _ p q).trans ?_
  unfold gluAt
  exact congr (congr (congrArg glu (funext fun k => blk3_at m c _ (top_lt n) p k)) (funext fun k => wA_at m c n hn k q)) (funext fun k => wB_at m c n hn k q)

theorem final_out (c : Dev nD) : (dats m 0 c).arrAt 4 (cfgs 0).N = gluArr 16384 (m ((c : Thread nD τ).loc main_arg0)) (m ((c : Thread nD τ).loc main_arg2)) := by
  refine (dats m 0 c).arrAt_eq_of_covers 4 _ (by decide +kernel) fun t hf y => ?_
  blk_simp
  have ht : t.val < 256 := lt_of_lt_of_eq t.isLt N_0
  refine Eq.trans ?_ ((outAt_at m c t ht (y 0) (y 1)).trans ?_)
  · exact congrArg (outAt m c t) (funext fun d => by fin_cases d <;> rfl)
  · unfold gluArr
    refine congr (congrArg (gluAt 16384 _ _) (Fin.ext ?_)) (Fin.ext ?_)
    all_goals (blk_simp [idx t]; try exact congrArg (· + _) (Nat.mul_comm _ _))

theorem final_out2 (c : Dev nD) : (dats m 0 c).arrAt 5 (cfgs 0).N = gluArr 128 (m ((c : Thread nD τ).loc main_arg1)) (m ((c : Thread nD τ).loc main_arg2)) := by
  refine (dats m 0 c).arrAt_eq_of_covers 5 _ (by decide +kernel) fun t hf y => ?_
  blk_simp
  have ht : t.val < 256 := lt_of_lt_of_eq t.isLt N_0
  refine Eq.trans ?_ ((outAt2_at m c (t.val / 16) (by omega) (y 0) (y 1)).trans ?_)
  · exact congrArg (outAt2 m c _) (funext fun d => by fin_cases d <;> rfl)
  · unfold gluArr
    refine congr (congrArg (gluAt 128 _ _) (Fin.ext ?_)) (Fin.ext ?_)
    all_goals (blk_simp [idx t]; try exact congrArg (· + _) (Nat.mul_comm _ _))

/-- The product's run: its results and its arguments at the end. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = gluArr 16384 (m ((c.tc : Thread nD τ).loc main_arg0)) (m ((c.tc : Thread nD τ).loc main_arg2))
      ∧ r.2.mem ((c.tc : Thread nD τ).loc main_v0_1) = gluArr 128 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m ρ) (unchanged m ρ)) fun r h c =>
    ⟨((h.1 c).1 4).trans (final_out m c), ((h.1 c).1 5).trans (final_out2 m c), h.2 c⟩

end Cert.Proof.FfnInIdeal

end

end
-- ==== Proof.FfnInSame.lean ====
/- The feed-forward input product's results and the reference's are the same. -/
module

public import proofs.«01_k».proof.Defs
public import proofs.«01_k».proof.Proof.FfnInValue
public import proofs.«01_k».proof.Proof.Gen.FfnInRefIdeal
public import proofs.«01_k».proof.Proof.Gen.FfnInRefIdeal.Run
public import Idealize.ShloMosaic.Lib.Quiescent

@[expose] public section

set_option maxRecDepth 16384

noncomputable section

namespace Cert.Proof.FfnInRef

open Cert.FfnInRefIdeal Cert.FfnInRefIdeal.Gen
open Idealize.ShloMosaic Idealize.ShloMosaic.TcCoe

/-- The reference writes the sigmoid's argument negated. -/
theorem glu_neg (f g h : Fin 4096 → EReal) :
    (∑ k, f k * g k) * Ideal.div 1 (1 + Ideal.exp (-∑ k, f k * g k)) * ∑ k, f k * h k = glu f g h := by
  unfold glu; rw [zero_sub]

/-- The reference's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v8) = gluArr 16384 (m ((c.tc : Thread nD τ).loc main_arg0)) (m ((c.tc : Thread nD τ).loc main_arg2))
      ∧ r.2.mem ((c.tc : Thread nD τ).loc main_v17) = gluArr 128 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (Cert.FfnInRefIdeal.Value.run m ρ) fun r h c => by
    refine ⟨(h c).1.trans ?_, (h c).2.1.trans ?_, (h c).2.2⟩
    · funext i
      unfold gluArr gluAt
      refine Eq.trans ?_ (glu_neg _ _ _)
      pointwise
    · funext i
      unfold gluArr gluAt
      refine Eq.trans ?_ (glu_neg _ _ _)
      pointwise

/-- Every run of the reference ends, its arguments as they were and every counter at zero (it has no counter). -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c => (h c).2.2, sem_eq_zero_of_no_sems (by decide) r.2⟩

end Cert.Proof.FfnInRef

namespace Cert.Proof

open Idealize.ShloMosaic Idealize.ShloMosaic.TcCoe

theorem ffn_in_same : Cert.algebraic_FfnInIdeal_FfnInRefIdeal (hFfnInIdeal := Cert.FfnInIdeal.Gen.facts) (hFfnInRefIdeal := Cert.FfnInRefIdeal.Gen.facts) := by
  intro m g m' g' _ hagree
  refine ⟨fun c => gluArr 16384 (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg2)),
    fun c => gluArr 128 (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)),
    FfnInIdeal.run m g, ?_⟩
  refine θ_run_mono (FfnInRef.run m' g') fun r h c => ?_
  obtain ⟨h0, h1, h2⟩ := h c
  obtain ⟨e0, e1, e2⟩ := hagree c
  refine ⟨h0.trans ?_, h1.trans ?_, h2⟩
  · rw [e0, e2]
  · rw [e1, e2]

end Cert.Proof

end

end
-- ==== Proof.FfnOutIdealFrame.lean ====
/- The feed-forward output product: one grid point, the grid, and the run. -/
module

public import proofs.«01_k».proof.Proof.Reads
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import Idealize.ShloMosaic.Lib.Pipeline.FrameBody
public import Idealize.ShloMosaic.Lib.WordCmp
public import Idealize.ShloMosaic.Lib.Claim

@[expose] public section

set_option maxRecDepth 16384

noncomputable section

namespace Cert.Proof.FfnOutIdeal

open Cert.FfnOutIdeal Cert.FfnOutIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

/-! ## The blocks as functions -/

/-- 256 rows of activations against the weight columns, gated and added to the residual's rows. -/
def tile (x : Vec F S256x8192 .bf16) (a : Vec F S8192x512 .bf16) (g : Vec F S1x1x512 .f32) (y : Vec F S256x512 .f32) : FVec F S256x512 .f32 := k0_pay3 x a g y

/-- The output block from the activations' block, the block of weight columns, the gate's and the residual's block. -/
def outBlk (x : Vec F S512x8192 .bf16) (a : Vec F S8192x512 .bf16) (g : Vec F S1x1x512 .f32) (y : Vec F S512x512 .f32) : Vec F S512x512 .f32 :=
  outRows fun r => tile (rowsAt x r) a g (rowsAt y r)

/-- The second batch's output block. -/
def outBlk2 (x : Vec F S128x8192 .bf16) (a : Vec F S8192x512 .bf16) (g : Vec F S1x128x512 .f32) (y : Vec F S128x512 .f32) : Vec F S128x512 .f32 := k0_pay2 x a g y

theorem tile_last (x : Vec F S256x8192 .bf16) (a : Vec F S8192x512 .bf16) (g : Vec F S1x1x512 .f32) (y : Vec F S256x512 .f32) : k0_pay4 x a g y = tile x a g y := rfl

/-! ## One grid point -/

section

variable (c : Dev nD) (i : grid0.Coords) (arg2 : Memref sig .tc .vmem S512x8192 .bf16) (harg2 : arg2.IsWhole) (arg3 : Memref sig .tc .vmem S1x1x8192x512 .f32) (harg3 : arg3.IsWhole) (arg4 : Memref sig .tc .vmem S512x512 .f32) (harg4 : arg4.IsWhole) (arg5 : Memref sig .tc .vmem S1x1x512 .f32) (harg5 : arg5.IsWhole) (arg6 : Memref sig .tc .vmem S128x8192 .bf16) (harg6 : arg6.IsWhole) (arg7 : Memref sig .tc .vmem S128x512 .f32) (harg7 : arg7.IsWhole) (arg8 : Memref sig .tc .vmem S1x128x512 .f32) (harg8 : arg8.IsWhole) (arg9 : Memref sig .tc .vmem S512x512 .f32) (harg9 : arg9.IsWhole) (arg10 : Memref sig .tc .vmem S128x512 .f32) (harg10 : arg10.IsWhole) (arg11 : Memref sig .tc .vmem S8192x512 .bf16) (harg11 : arg11.IsWhole)

set_option maxHeartbeats 4000000 in
/-- Inside a column of weights: the weights are read from scratch, the second batch's output is left alone. -/
theorem run_later (hc : ¬ (k0_cond1 i = 1#1))
    (x : Vec F S512x8192 .bf16) (w : Vec F S1x1x8192x512 .f32) (y : Vec F S512x512 .f32) (g : Vec F S1x1x512 .f32) (x2 : Vec F S128x8192 .bf16) (y2 : Vec F S128x512 .f32) (g2 : Vec F S1x128x512 .f32) (z2 : Vec F S128x512 .f32) (a : Vec F S8192x512 .bf16) (K : PUnit → sProp 𝕄) :
    iprop(owns (c : Thread nD τ) arg2 fullShare x ∗ owns (c : Thread nD τ) arg3 fullShare w ∗ owns (c : Thread nD τ) arg4 fullShare y ∗ owns (c : Thread nD τ) arg5 fullShare g ∗ owns (c : Thread nD τ) arg6 fullShare x2 ∗ owns (c : Thread nD τ) arg7 fullShare y2 ∗ owns (c : Thread nD τ) arg8 fullShare g2 ∗ (∃ d, owns (c : Thread nD τ) arg9 fullShare d) ∗ owns (c : Thread nD τ) arg10 fullShare z2 ∗ owns (c : Thread nD τ) arg11 fullShare a
        ∗ (iprop(owns (c : Thread nD τ) arg2 fullShare x ∗ owns (c : Thread nD τ) arg3 fullShare w ∗ owns (c : Thread nD τ) arg4 fullShare y ∗ owns (c : Thread nD τ) arg5 fullShare g ∗ owns (c : Thread nD τ) arg6 fullShare x2 ∗ owns (c : Thread nD τ) arg7 fullShare y2 ∗ owns (c : Thread nD τ) arg8 fullShare g2 ∗ owns (c : Thread nD τ) arg9 fullShare (outBlk x a g y) ∗ owns (c : Thread nD τ) arg10 fullShare z2 ∗ owns (c : Thread nD τ) arg11 fullShare a) -∗ K ⟨⟩))
      ⊢ wp frame (wpE (defs₀ (F := F)) Variants.none c none) Set.univ (cc0_matmul_res i arg2 harg2 arg3 harg3 arg4 harg4 arg5 harg5 arg6 harg6 arg7 harg7 arg8 harg8 arg9 harg9 arg10 harg10 arg11 harg11) K := by
  simp only [cc0_matmul_res_eq_skeleton]; unfold cc0_matmul_res_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
  sl_exec (disch := first | sl_exact hc)
  sl_step
  have hx : ∀ (r : ℕ) (hr : r < 2) (o : ℕ) (ho : o = 256 * r) inb, View.readAt (Elt F) arg2.view (Rect.unit (s := S512x8192) ![o, 0] S256x8192.size inb).toLoadRect (harg2.unread x) = rowsAt x r := fun r hr o ho inb => read_rows arg2 harg2 x (by decide) r (by omega) o ho inb
  have hy : ∀ (r : ℕ) (hr : r < 2) (o : ℕ) (ho : o = 256 * r) inb, View.readAt (Elt F) arg4.view (Rect.unit (s := S512x512) ![o, 0] S256x512.size inb).toLoadRect (harg4.unread y) = rowsAt y r := fun r hr o ho inb => read_rows arg4 harg4 y (by decide) r (by omega) o ho inb
  have hg : ∀ inb, View.readAt (Elt F) arg5.view (Rect.unit (s := S1x1x512) ![0, 0, 0] S1x1x512.size inb).toLoadRect (harg5.unread g) = g := fun inb => read_full_unread arg5 harg5 g (by decide) inb
  have ha : ∀ inb, View.readAt (Elt F) arg11.view (Rect.unit (s := S8192x512) ![0, 0] S8192x512.size inb).toLoadRect (harg11.unread a) = a := fun inb => read_full_unread arg11 harg11 a (by decide) inb
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine read_two arg9 f9 (fun r => tile (rowsAt x r) a g (rowsAt y r)) _ _ ?_ ?_ _ _
    · rw [hx 0 (by decide) 0 rfl, hy 0 (by decide) 0 rfl, ha, hg]; rfl
    · rw [hx 1 (by decide) 256 rfl, hy 1 (by decide) 256 rfl, ha, hg]; exact tile_last _ a g _
  isplitl [H10]
  · iexists _; isplitr; · ipureintro; exact harg10.read_unread _
    iexact H10
  iexists _; isplitr; · ipureintro; exact harg11.read_unread _
  iexact H11

set_option maxHeartbeats 4000000 in
/-- At the start of a column of weights: they are cast to scratch, and the second batch's output is computed. -/
theorem run_first (hc : k0_cond1 i = 1#1)
    (x : Vec F S512x8192 .bf16) (w : Vec F S1x1x8192x512 .f32) (y : Vec F S512x512 .f32) (g : Vec F S1x1x512 .f32) (x2 : Vec F S128x8192 .bf16) (y2 : Vec F S128x512 .f32) (g2 : Vec F S1x128x512 .f32) (K : PUnit → sProp 𝕄) :
    iprop(owns (c : Thread nD τ) arg2 fullShare x ∗ owns (c : Thread nD τ) arg3 fullShare w ∗ owns (c : Thread nD τ) arg4 fullShare y ∗ owns (c : Thread nD τ) arg5 fullShare g ∗ owns (c : Thread nD τ) arg6 fullShare x2 ∗ owns (c : Thread nD τ) arg7 fullShare y2 ∗ owns (c : Thread nD τ) arg8 fullShare g2 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w ∗ owns (c : Thread nD τ) arg4 fullShare y ∗ owns (c : Thread nD τ) arg5 fullShare g ∗ owns (c : Thread nD τ) arg6 fullShare x2 ∗ owns (c : Thread nD τ) arg7 fullShare y2 ∗ owns (c : Thread nD τ) arg8 fullShare g2 ∗ owns (c : Thread nD τ) arg9 fullShare (outBlk x (k0_pay1 w) g y) ∗ owns (c : Thread nD τ) arg10 fullShare (outBlk2 x2 (k0_pay1 w) g2 y2) ∗ owns (c : Thread nD τ) arg11 fullShare (k0_pay1 w)) -∗ K ⟨⟩))
      ⊢ wp frame (wpE (defs₀ (F := F)) Variants.none c none) Set.univ (cc0_matmul_res i arg2 harg2 arg3 harg3 arg4 harg4 arg5 harg5 arg6 harg6 arg7 harg7 arg8 harg8 arg9 harg9 arg10 harg10 arg11 harg11) K := by
  simp only [cc0_matmul_res_eq_skeleton]; unfold cc0_matmul_res_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc)
  sl_step
  have hx : ∀ (r : ℕ) (hr : r < 2) (o : ℕ) (ho : o = 256 * r) inb, View.readAt (Elt F) arg2.view (Rect.unit (s := S512x8192) ![o, 0] S256x8192.size inb).toLoadRect (harg2.unread x) = rowsAt x r := fun r hr o ho inb => read_rows arg2 harg2 x (by decide) r (by omega) o ho inb
  have hy : ∀ (r : ℕ) (hr : r < 2) (o : ℕ) (ho : o = 256 * r) inb, View.readAt (Elt F) arg4.view (Rect.unit (s := S512x512) ![o, 0] S256x512.size inb).toLoadRect (harg4.unread y) = rowsAt y r := fun r hr o ho inb => read_rows arg4 harg4 y (by decide) r (by omega) o ho inb
  have hg : ∀ inb, View.readAt (Elt F) arg5.view (Rect.unit (s := S1x1x512) ![0, 0, 0] S1x1x512.size inb).toLoadRect (harg5.unread g) = g := fun inb => read_full_unread arg5 harg5 g (by decide) inb
  have e11 : run_first.sl.H11_1 c arg3 harg3 w = [⟨Rect.unit (s := S8192x512) ![0, 0] S8192x512.size inb_S8192x512_S8192x512_0_0, k0_pay1 w⟩] := by
    unfold run_first.sl.H11_1
    rw [read_full_unread arg3 harg3 w (by decide)]
  have hw : View.read (Elt F) arg11.view (arg11.view.writes (Elt F) f11 [⟨Rect.unit (s := S8192x512) ![0, 0] S8192x512.size inb_S8192x512_S8192x512_0_0, k0_pay1 w⟩]) = k0_pay1 w := read_stored arg11 f11 (by decide) inb_S8192x512_S8192x512_0_0 _
  have ha : run_first.sl.v34 c arg3 harg3 arg11 w = k0_pay1 w := by
    unfold run_first.sl.v34
    rw [e11]
    exact (read_full arg11 _ (by decide) _).trans (read_stored arg11 _ (by decide) inb_S8192x512_S8192x512_0_0 _)
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine read_two arg9 f9 (fun r => tile (rowsAt x r) (k0_pay1 w) g (rowsAt y r)) _ _ ?_ ?_ _ _
    · rw [hx 0 (by decide) 0 rfl, hy 0 (by decide) 0 rfl, ha, hg]; rfl
    · rw [hx 1 (by decide) 256 rfl, hy 1 (by decide) 256 rfl, ha, hg]; exact tile_last _ _ g _
  isplitl [H10]
  · iexists _; isplitr; swap; · iexact H10
    ipureintro
    rw [ha, read_full_unread arg6 harg6 x2 (by decide), read_full_unread arg7 harg7 y2 (by decide), read_full_unread arg8 harg8 g2 (by decide)]
    exact read_stored arg10 f10 (by decide) inb_S128x512_S128x512_0_0 _
  iexists _; isplitr; swap; · iexact H11
  ipureintro
  rw [e11]; exact hw

end

variable (m : (ℓ : Loc nD τ sig) → Buf (Elt F) ℓ) (ρ : Dev nD → PrngReg)

/-! ## A column of weights -/

/-- The first grid point of the `n`-th column of weights. -/
def top (n : ℕ) : Fin cfg0.N := ⟨32 * n % 256, lt_of_lt_of_eq (Nat.mod_lt _ (by decide)) N_0.symm⟩

theorem top_self (t : Fin cfg0.N) (h : t.val % 32 = 0) : top (t.val / 32) = t := by
  have hN : t.val < 256 := lt_of_lt_of_eq t.isLt N_0
  apply Fin.ext
  show 32 * (t.val / 32) % 256 = t.val
  omega

/-- The weights of the `n`-th column, as scratch holds them. -/
def wA (c : Dev nD) (n : ℕ) : Vec F S8192x512 .bf16 := k0_pay1 (iblk m c 1 (top n) : Vec F S1x1x8192x512 .f32)

/-- The output block of grid point `t`. -/
def outAt (c : Dev nD) (t : Fin cfg0.N) : Vec F S512x512 .f32 := outBlk (iblk m c 0 t) (wA m c (t.val / 32)) (iblk m c 3 t) (iblk m c 2 t)
/-- The second batch's output block of the `n`-th column. -/
def outAt2 (c : Dev nD) (n : ℕ) : Vec F S128x512 .f32 := outBlk2 (iblk m c 4 (top n)) (wA m c n) (iblk m c 6 (top n)) (iblk m c 5 (top n))

/-! ## The proof data -/

/-- Inside the `n`-th column scratch holds its weights. -/
def held (c : Dev nD) (n : ℕ) : sProp 𝕄 :=
  iprop(owns (c : Thread nD τ) (Memref.whole cc0_scratch0 : Memref sig .tc .vmem S8192x512 .bf16) fullShare (wA m c n) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => outAt2 m c (t.val / 32)
  Φ t := if t.val % 32 = 0 then Pipeline.ΦA spec0 c else held m c (t.val / 32)
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d
theorem before0_5 (c : Dev nD) (t : Fin cfg0.N) (d) : (dats m 0 c).before 5 t d = iblk m c 5 t :=
  before0_5_of m (dats m 0 c) (A_eq m c 5) (fun _ => rfl) t d
theorem before0_6 (c : Dev nD) (t : Fin cfg0.N) (d) : (dats m 0 c).before 6 t d = iblk m c 6 t :=
  before0_6_of m (dats m 0 c) (A_eq m c 6) (fun _ => rfl) t d

/-- The body casts the weights at the start of each column. -/
theorem hcond : ∀ t : Fin grid0.N, k0_cond1 (grid0.coords t) = 1#1 ↔ t.val % 32 = 0 := fun t => by
  have ht : t.val < 256 := Nat.lt_of_lt_of_eq t.isLt N_0
  have e1 : (grid0.coords t 1).val = t.val / 1 % 32 := Pipeline.Grid.coords_val t 1 (by decide) rfl
  unfold k0_cond1
  rw [e1]
  word_cmp

theorem live_first (t : Fin cfg0.N) (h : t.val % 32 = 0) : cfg0.idle 8 (grid0.coords t) = false := by
  show (!(k0_cond1 (grid0.coords t) == 1#1)) = false
  rw [(hcond t).mpr h]; rfl
theorem idle_later (t : Fin cfg0.N) (h : ¬ t.val % 32 = 0) : cfg0.idle 8 (grid0.coords t) = true := by
  show (!(k0_cond1 (grid0.coords t) == 1#1)) = true
  rw [Bool.not_eq_true', beq_eq_false_iff_ne]
  exact fun e => h ((hcond t).mp e)

/-- Inside a column the second batch's block is the one computed at its start. -/
theorem before0_8 (c : Dev nD) (n : ℕ) : ∀ (t : Fin cfg0.N), t.val = n → ¬ n % 32 = 0 → ∀ d, (dats m 0 c).before 8 t d = outAt2 m c (t.val / 32) := by
  induction n with
  | zero => intro t _ h; exact absurd rfl h
  | succ n ih =>
    intro t hn h d
    have hN : t.val < 256 := lt_of_lt_of_eq t.isLt N_0
    have hfl : (cfg0.win 8).flush ⟨t.val - 1, Nat.lt_of_le_of_lt (Nat.sub_le _ _) t.isLt⟩ = false := by
      refine Bool.eq_false_iff.mpr fun hf => ?_
      have e := (flush0_8 _).mp hf
      change (t.val - 1) % 32 = 31 at e
      omega
    rw [(dats m 0 c).before_of_pos 8 t (by omega) ((cfg0.win 8).fetch_out rfl t), hfl, if_neg Bool.false_ne_true]
    unfold Dat.left
    by_cases h0 : n % 32 = 0
    · rw [live_first ⟨t.val - 1, Nat.lt_of_le_of_lt (Nat.sub_le _ _) t.isLt⟩ (show (t.val - 1) % 32 = 0 by omega)]
      show (dats m 0 c).kept 8 _ d = _
      unfold Dat.kept
      rw [Pipeline.fill_of_clip_none 8 _ (fun _ => rfl) d ((dats m 0 c).after 8 _), Window.fill_cut]
      exact congrArg (outAt2 m c) (show (t.val - 1) / 32 = t.val / 32 by omega)
    · rw [idle_later ⟨t.val - 1, Nat.lt_of_le_of_lt (Nat.sub_le _ _) t.isLt⟩ (show ¬ (t.val - 1) % 32 = 0 by omega)]
      exact (ih ⟨t.val - 1, Nat.lt_of_le_of_lt (Nat.sub_le _ _) t.isLt⟩ (show t.val - 1 = n by omega) h0 d).trans
        (congrArg (outAt2 m c) (show (t.val - 1) / 32 = t.val / 32 by omega))

theorem PhiA0_eq (c : Dev nD) :
    (Pipeline.ΦA spec0 c : sProp 𝕄)
      = iprop((∃ d, owns (c : Thread nD τ) (Memref.whole cc0_scratch0 : Memref sig .tc .vmem S8192x512 .bf16) fullShare d) ∗ (∃ r, prngReg c r)) := by
  unfold Pipeline.ΦA; rw [scopedRest0_eq]; simp only [owns_whole]; try rfl

theorem held_forget (c : Dev nD) (n : ℕ) : held m c n ⊢ Pipeline.ΦA spec0 c := by
  rw [PhiA0_eq]; unfold held
  iintro ⟨H0, Hg⟩
  isplitl [H0]
  · iexists _; iexact H0
  iexact Hg

/-- What a grid point leaves in scratch is what the next one starts with. -/
theorem held_next (c : Dev nD) (t : Fin cfg0.N) : held m c (t.val / 32) ⊢ (dats m 0 c).Φ t.succ := by
  have e : (dats m 0 c).Φ t.succ = if (t.val + 1) % 32 = 0 then Pipeline.ΦA spec0 c else held m c ((t.val + 1) / 32) := rfl
  rw [e]
  by_cases h : (t.val + 1) % 32 = 0
  · rw [if_pos h]; exact held_forget m c _
  · rw [if_neg h, show (t.val + 1) / 32 = t.val / 32 by omega]

theorem Φ_first (c : Dev nD) (t : Fin cfg0.N) (h : t.val % 32 = 0) : (dats m 0 c).Φ t.castSucc = Pipeline.ΦA spec0 c := if_pos h
theorem Φ_later (c : Dev nD) (t : Fin cfg0.N) (h : ¬ t.val % 32 = 0) : (dats m 0 c).Φ t.castSucc = held m c (t.val / 32) := if_neg h

/-! ## The body at every grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (st0_0 t) fullShare (iblk m c 0 t) := rfl
theorem leaves0_1 (c : Dev nD) (t : Fin cfg0.N) : (dats m 0 c).leavesExact 1 t = owns (c : Thread nD τ) (st0_1 t) fullShare (iblk m c 1 t) := rfl
theorem leaves0_2 (c : Dev nD) (t : Fin cfg0.N) : (dats m 0 c).leavesExact 2 t = owns (c : Thread nD τ) (st0_2 t) fullShare (iblk m c 2 t) := rfl
theorem leaves0_3 (c : Dev nD) (t : Fin cfg0.N) : (dats m 0 c).leavesExact 3 t = owns (c : Thread nD τ) (st0_3 t) fullShare (iblk m c 3 t) := rfl
theorem leaves0_4 (c : Dev nD) (t : Fin cfg0.N) : (dats m 0 c).leavesExact 4 t = owns (c : Thread nD τ) (st0_4 t) fullShare (iblk m c 4 t) := rfl
theorem leaves0_5 (c : Dev nD) (t : Fin cfg0.N) : (dats m 0 c).leavesExact 5 t = owns (c : Thread nD τ) (st0_5 t) fullShare (iblk m c 5 t) := rfl
theorem leaves0_6 (c : Dev nD) (t : Fin cfg0.N) : (dats m 0 c).leavesExact 6 t = owns (c : Thread nD τ) (st0_6 t) fullShare (iblk m c 6 t) := rfl
theorem leaves0_7 (c : Dev nD) (t : Fin cfg0.N) : (dats m 0 c).leavesExact 7 t = owns (c : Thread nD τ) (st0_7 t) fullShare (outAt m c t) := rfl
/-- The second batch's block as a grid point leaves it, whether it stores it, keeps it or has it written back. -/
theorem leaves0_8 (c : Dev nD) (t : Fin cfg0.N) : owns (c : Thread nD τ) (st0_8 t) fullShare (outAt2 m c (t.val / 32)) ⊢ (dats m 0 c).leavesExact 8 t := by
  by_cases h0 : t.val % 32 = 0
  · unfold Dat.leavesExact; rw [live_first t h0]; exact .rfl
  · by_cases hf : (cfg0.win 8).flush t = true
    · unfold Dat.leavesExact; rw [idle_later t h0, hf]; exact .rfl
    · rw [Bool.not_eq_true] at hf
      rw [(dats m 0 c).leavesExact_idle 8 t (idle_later t h0) hf]
      simp only [before0_8 m c t.val t rfl h0]
      iintro H
      iexists (outAt2 m c (t.val / 32))
      iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [leaves0_0, leaves0_1, leaves0_2, leaves0_3, leaves0_4, leaves0_5, leaves0_6, leaves0_7]
  rw [show (dats m 0 c).owesAt () t.succ = (dats m 0 c).owesAt () t.castSucc from rfl]
  by_cases h0 : t.val % 32 = 0
  · rw [Φ_first m c t h0, PhiA0_eq]
    have eA : k0_pay1 (iblk m c 1 t : Vec F S1x1x8192x512 .f32) = wA m c (t.val / 32) := by unfold wA; rw [top_self t h0]
    have e7 : outAt m c t = outBlk (iblk m c 0 t) (k0_pay1 (iblk m c 1 t : Vec F S1x1x8192x512 .f32)) (iblk m c 3 t) (iblk m c 2 t) := by rw [eA]; rfl
    have e8 : outAt2 m c (t.val / 32) = outBlk2 (iblk m c 4 t) (k0_pay1 (iblk m c 1 t : Vec F S1x1x8192x512 .f32)) (iblk m c 6 t) (iblk m c 5 t) := by
      rw [eA]; unfold outAt2; rw [top_self t h0]
    rw [e7]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    rw [← e8, eA]
    iintro ⟨H0, H1, H2, H3, H4, H5, H6, H7, H8, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves0_8 m c t)
    iexact H8
  · rw [Φ_later m c t h0]
    simp only [before0_8 m c t.val t rfl h0]
    unfold held outAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (outAt2 m c (t.val / 32)) (wA m c (t.val / 32)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, H7, H8, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves0_8 m c t)
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : Pipeline.ΦA spec0 c ⊢ (dats (F := F) m 0 c).Φ 0 := .rfl
theorem Φ_out (c : Dev nD) : (dats (F := F) m 0 c).Φ (Fin.last cfg0.N) ⊢ Pipeline.ΦA spec0 c := by
  have e : (dats (F := F) m 0 c).Φ (Fin.last cfg0.N) = if grid0.N % 32 = 0 then Pipeline.ΦA spec0 c else held m c (grid0.N / 32) := rfl
  rw [e, if_pos (by rw [N_0])]

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.FfnOutIdeal

end

end
-- ==== Proof.FfnOutFrame.lean ====
/- The feed-forward output product as compiled: its frame, from the frame of its ideal reading, the same program at every instance. -/
module

public import proofs.«01_k».proof.Proof.FfnOutIdealFrame
public import proofs.«01_k».proof.Proof.Gen.FfnOut

@[expose] public section

set_option maxRecDepth 16384

noncomputable section

namespace Cert.Proof.FfnOut

open Cert.FfnOut Cert.FfnOut.Gen
open Idealize.ShloMosaic Idealize.ShloMosaic.TcCoe

variable {F : FTy → Type} [FloatOps F]

theorem defs₀_same : Cert.FfnOutIdeal.defs₀ (F := F) = defs₀ := by
  unfold defs₀ Cert.FfnOutIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.FfnOutIdeal.defs (F := F) = defs := congrArg (Pipeline.defs _) defs₀_same

/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [← defs_same]
  exact Cert.Proof.FfnOutIdeal.frame (F := F) m ρ

end Cert.Proof.FfnOut

end

end
-- ==== Proof.FfnOutValue.lean ====
/- The feed-forward output product's results at the extended reals. -/
module

public import proofs.«01_k».proof.Proof.FfnOutIdealFrame
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic

/-- A residual `r` with half a gate `g` times the product of hidden activations `f` and a weight column `h`. -/
def halfGated (r g : EReal) (f h : Fin 8192 → EReal) : EReal :=
  r + FloatOps.ofBits (F := Ideal) FTy.f32 0x3F000000#32 * g * ∑ k, f k * h k

/-- The layer's feed-forward output at a token `p` of `n`, `s` tokens to a sequence of `b`, and a channel `q`. -/
def gatedAt (n b s : ℕ) (h : n = b * s) (X : Shape.Idx ⟨2, ![n, 8192]⟩ → EReal) (W : Shape.Idx ⟨4, ![2, 2, 8192, 4096]⟩ → EReal) (Y : Shape.Idx ⟨2, ![n, 4096]⟩ → EReal) (G : Shape.Idx ⟨3, ![b, 9, 4096]⟩ → EReal)
    (p : Fin n) (q : Fin 4096) : EReal :=
  halfGated (Y (ix2 p q)) (G (ix3 (⟨p.val / s, Nat.div_lt_of_lt_mul (by have := p.isLt; rw [Nat.mul_comm]; omega)⟩ : Fin b) 2 q)) (fun k => X (ix2 p k)) (fun k => W (ix4 0 0 k q))

/-- The layer's feed-forward output of `n` tokens. -/
def gatedArr (n b s : ℕ) (h : n = b * s) (X : Shape.Idx ⟨2, ![n, 8192]⟩ → EReal) (W : Shape.Idx ⟨4, ![2, 2, 8192, 4096]⟩ → EReal) (Y : Shape.Idx ⟨2, ![n, 4096]⟩ → EReal) (G : Shape.Idx ⟨3, ![b, 9, 4096]⟩ → EReal) :
    Shape.Idx ⟨2, ![n, 4096]⟩ → EReal :=
  fun i => gatedAt n b s h X W Y G (i 0) (i 1)

end Cert.Proof

namespace Cert.Proof.FfnOutIdeal

open Cert.FfnOutIdeal Cert.FfnOutIdeal.Gen
open Idealize.ShloMosaic Idealize.ShloMosaic.TcCoe

/-! ## The body's blocks -/

theorem tile_at (x : Vec Ideal S256x8192 .bf16) (a : Vec Ideal S8192x512 .bf16) (g : Vec Ideal S1x1x512 .f32) (y : Vec Ideal S256x512 .f32) (p : Fin 256) (q : Fin 512) :
    tile x a g y (ix2 p q) = halfGated (y (ix2 p q)) (g (ix3 0 0 q)) (fun k => x (ix2 p k)) (fun k => a (ix2 k q)) := by
  unfold tile k0_pay3
  pointwise
  rfl

theorem outBlk2_at (x : Vec Ideal S128x8192 .bf16) (a : Vec Ideal S8192x512 .bf16) (g : Vec Ideal S1x128x512 .f32) (y : Vec Ideal S128x512 .f32) (p : Fin 128) (q : Fin 512) :
    outBlk2 x a g y (ix2 p q) = halfGated (y (ix2 p q)) (g (ix3 0 p q)) (fun k => x (ix2 p k)) (fun k => a (ix2 k q)) := by
  unfold outBlk2 k0_pay2
  pointwise
  rfl

theorem outBlk_at (x : Vec Ideal S512x8192 .bf16) (a : Vec Ideal S8192x512 .bf16) (g : Vec Ideal S1x1x512 .f32) (y : Vec Ideal S512x512 .f32) (p : Fin 512) (q : Fin 512) :
    outBlk x a g y (ix2 p q) = halfGated (y (ix2 p q)) (g (ix3 0 0 q)) (fun k => x (ix2 p k)) (fun k => a (ix2 k q)) := by
  refine (tile_at (rowsAt x (p.val / 256)) a g (rowsAt y (p.val / 256)) (⟨p.val % 256, Nat.mod_lt _ (by decide)⟩ : Fin 256) q).trans ?_
  have hp := p.isLt
  have e : (⟨(256 * (p.val / 256) + p.val % 256) % 512, Nat.mod_lt _ (by decide)⟩ : Fin 512) = p := Fin.ext (show (256 * (p.val / 256) + p.val % 256) % 512 = p.val by omega)
  have e1 : rowsAt y (p.val / 256) (by decide) (ix2 (⟨p.val % 256, Nat.mod_lt _ (by decide)⟩ : Fin 256) q) = y (ix2 p q) := congrArg (fun z : Fin 512 => y (ix2 z q)) e
  have e2 : ∀ k : Fin 8192, rowsAt x (p.val / 256) (by decide) (ix2 (⟨p.val % 256, Nat.mod_lt _ (by decide)⟩ : Fin 256) k) = x (ix2 p k) := fun k => congrArg (fun z : Fin 512 => x (ix2 z k)) e
  rw [e1]
  exact congrArg (fun f => halfGated _ _ f _) (funext e2)

theorem weight_at (w : Vec Ideal S1x1x8192x512 .f32) (k : Fin 8192) (q : Fin 512) :
    (k0_pay1 w : FVec Ideal S8192x512 .bf16) (ix2 k q) = w (ix4 0 0 k q) := by
  unfold k0_pay1
  pointwise

/-! ## The windows' blocks -/

variable (m : (ℓ : Loc nD τ sig) → Buf (Elt Ideal) ℓ)

theorem idx : ∀ t : Fin cfg0.N, win0_0.index t = ![t.val % 32, 0] ∧ win0_1.index t = ![0, 0, 0, t.val / 32] ∧ win0_2.index t = ![t.val % 32, t.val / 32]
    ∧ win0_3.index t = ![t.val % 32 / 8, 0, t.val / 32] ∧ win0_4.index t = ![0, 0] ∧ win0_5.index t = ![0, t.val / 32] ∧ win0_6.index t = ![0, 0, t.val / 32]
    ∧ win0_7.index t = ![t.val % 32, t.val / 32] ∧ win0_8.index t = ![0, t.val / 32] :=
  (by decide +kernel : ∀ t : Fin grid0.N, _)

/-- The prompt's gates, as the host prepares them. -/
theorem v2_at (c : Dev nD) (b : Fin 4) (q : Fin 4096) :
    (V m c main_v2 : FVec Ideal S4x1x4096 .f32) (ix3 b 0 q) = (m ((c : Thread nD τ).loc main_arg5) : FVec Ideal S4x9x4096 .f32) (ix3 b 2 q) := by
  entry_read
  pointwise
/-- The sample's, one to a token. -/
theorem v7_at (c : Dev nD) (p : Fin 128) (q : Fin 4096) :
    (V m c main_v7 : FVec Ideal S1x128x4096 .f32) (ix3 0 p q) = (m ((c : Thread nD τ).loc main_arg6) : FVec Ideal S8x9x4096 .f32) (ix3 (⟨p.val / 16, by omega⟩ : Fin 8) 2 q) := by
  entry_read
  pointwise

theorem blk0_at (c : Dev nD) (t : Fin cfg0.N) (ht : t.val < 256) (p : Fin 512) (k : Fin 8192) :
    (iblk m c 0 t : Vec Ideal S512x8192 .bf16) (ix2 p k)
      = (m ((c : Thread nD τ).loc main_arg0) : FVec Ideal S16384x8192 .bf16) (ix2 (⟨512 * (t.val % 32) + p.val, by omega⟩ : Fin 16384) k) := by
  rw [← V_main_arg0 m c]
  blk_ext [iblk, idx t]

theorem blk1_at (c : Dev nD) (t : Fin cfg0.N) (ht : t.val < 256) (k : Fin 8192) (q : Fin 512) :
    (iblk m c 1 t : Vec Ideal S1x1x8192x512 .f32) (ix4 0 0 k q)
      = (m ((c : Thread nD τ).loc main_arg2) : FVec Ideal S2x2x8192x4096 .f32) (ix4 0 0 k (⟨512 * (t.val / 32) + q.val, by omega⟩ : Fin 4096)) := by
  rw [← V_main_arg2 m c]
  blk_ext [iblk, idx t]

theorem blk2_at (c : Dev nD) (t : Fin cfg0.N) (ht : t.val < 256) (p : Fin 512) (q : Fin 512) :
    (iblk m c 2 t : Vec Ideal S512x512 .f32) (ix2 p q)
      = (m ((c : Thread nD τ).loc main_arg3) : FVec Ideal S16384x4096 .f32) (ix2 (⟨512 * (t.val % 32) + p.val, by omega⟩ : Fin 16384) (⟨512 * (t.val / 32) + q.val, by omega⟩ : Fin 4096)) := by
  rw [← V_main_arg3 m c]
  blk_ext [iblk, idx t]

theorem blk3_at (c : Dev nD) (t : Fin cfg0.N) (ht : t.val < 256) (q : Fin 512) :
    (iblk m c 3 t : Vec Ideal S1x1x512 .f32) (ix3 0 0 q)
      = (V m c main_v2 : FVec Ideal S4x1x4096 .f32) (ix3 (⟨t.val % 32 / 8, by omega⟩ : Fin 4) 0 (⟨512 * (t.val / 32) + q.val, by omega⟩ : Fin 4096)) := by
  blk_ext [iblk, idx t]

theorem blk4_at (c : Dev nD) (t : Fin cfg0.N) (ht : t.val < 256) (p : Fin 128) (k : Fin 8192) :
    (iblk m c 4 t : Vec Ideal S128x8192 .bf16) (ix2 p k)
      = (m ((c : Thread nD τ).loc main_arg1) : FVec Ideal S128x8192 .bf16) (ix2 p k) := by
  rw [← V_main_arg1 m c]
  blk_ext [iblk, idx t]

theorem blk5_at (c : Dev nD) (t : Fin cfg0.N) (ht : t.val < 256) (p : Fin 128) (q : Fin 512) :
    (iblk m c 5 t : Vec Ideal S128x512 .f32) (ix2 p q)
      = (m ((c : Thread nD τ).loc main_arg4) : FVec Ideal S128x4096 .f32) (ix2 p (⟨512 * (t.val / 32) + q.val, by omega⟩ : Fin 4096)) := by
  rw [← V_main_arg4 m c]
  blk_ext [iblk, idx t]

theorem blk6_at (c : Dev nD) (t : Fin cfg0.N) (ht : t.val < 256) (p : Fin 128) (q : Fin 512) :
    (iblk m c 6 t : Vec Ideal S1x128x512 .f32) (ix3 0 p q)
      = (V m c main_v7 : FVec Ideal S1x128x4096 .f32) (ix3 0 p (⟨512 * (t.val / 32) + q.val, by omega⟩ : Fin 4096)) := by
  blk_ext [iblk, idx t]

theorem top_div (n : ℕ) (hn : n < 8) : (top n).val / 32 = n := by
  show 32 * n % 256 / 32 = n; omega
theorem top_lt (n : ℕ) : (top n).val < 256 := Nat.mod_lt _ (by decide)

theorem wA_at (c : Dev nD) (n : ℕ) (hn : n < 8) (k : Fin 8192) (q : Fin 512) :
    wA m c n (ix2 k q) = (m ((c : Thread nD τ).loc main_arg2) : FVec Ideal S2x2x8192x4096 .f32) (ix4 0 0 k (⟨512 * n + q.val, by omega⟩ : Fin 4096)) := by
  unfold wA
  refine (weight_at _ k q).trans ((blk1_at m c (top n) (top_lt n) k q).trans ?_)
  congr 3
  rw [top_div n hn]

/-! ## The arrays -/

/-- Equal parts, equal outputs. -/
theorem halfGated_congr {r r' g g' : EReal} {f f' h h' : Fin 8192 → EReal} (er : r = r') (eg : g = g') (ef : ∀ k, f k = f' k) (eh : ∀ k, h k = h' k) :
    halfGated r g f h = halfGated r' g' f' h' := by
  rw [er, eg, funext ef, funext eh]

theorem outAt_at (c : Dev nD) (t : Fin cfg0.N) (ht : t.val < 256) (p : Fin 512) (q : Fin 512) :
    outAt m c t (ix2 p q) = gatedAt 16384 4 4096 rfl (m ((c : Thread nD τ).loc main_arg0)) (m ((c : Thread nD τ).loc main_arg2)) (m ((c : Thread nD τ).loc main_arg3)) (m ((c : Thread nD τ).loc main_arg5))
      (⟨512 * (t.val % 32) + p.val, by omega⟩ : Fin 16384) (⟨512 * (t.val / 32) + q.val, by omega⟩ : Fin 4096) := by
  unfold outAt
  refine (outBlk_at _ _ _ _ p q).trans ?_
  unfold gatedAt
  have hn : t.val / 32 < 8 := by omega
  refine halfGated_congr (blk2_at m c t ht p q) ?_ (fun k => blk0_at m c t ht p k) (fun k => wA_at m c _ hn k q)
  refine (blk3_at m c t ht q).trans ((v2_at m c _ _).trans ?_)
  refine congrArg (fun z : Fin 4 => (m ((c : Thread nD τ).loc main_arg5) : FVec Ideal S4x9x4096 .f32) (ix3 z 2 _)) (Fin.ext ?_)
  have hp := p.isLt
  show t.val % 32 / 8 = (512 * (t.val % 32) + p.val) / 4096
  omega

theorem outAt2_at (c : Dev nD) (n : ℕ) (hn : n < 8) (p : Fin 128) (q : Fin 512) :
    outAt2 m c n (ix2 p q) = gatedAt 128 8 16 rfl (m ((c : Thread nD τ).loc main_arg1)) (m ((c : Thread nD τ).loc main_arg2)) (m ((c : Thread nD τ).loc main_arg4)) (m ((c : Thread nD τ).loc main_arg6))
      p (⟨512 * n + q.val, by omega⟩ : Fin 4096) := by
  unfold outAt2
  refine (outBlk2_at _ _ _ _ p q).trans ?_
  unfold gatedAt
  have e : ∀ h, (⟨512 * ((top n).val / 32) + q.val, h⟩ : Fin 4096) = ⟨512 * n + q.val, by omega⟩ := fun h => Fin.ext (show 512 * ((top n).val / 32) + q.val = _ by rw [top_div n hn])
  refine halfGated_congr ((blk5_at m c _ (top_lt n) p q).trans ?_) ((blk6_at m c _ (top_lt n) p q).trans ((v7_at m c _ _).trans ?_)) (fun k => blk4_at m c _ (top_lt n) p k) (fun k => wA_at m c n hn k q)
  · rw [e]
  · rw [e]

theorem final_out (c : Dev nD) : (dats m 0 c).arrAt 7 (cfgs 0).N = gatedArr 16384 4 4096 rfl (m ((c : Thread nD τ).loc main_arg0)) (m ((c : Thread nD τ).loc main_arg2)) (m ((c : Thread nD τ).loc main_arg3)) (m ((c : Thread nD τ).loc main_arg5)) := by
  refine (dats m 0 c).arrAt_eq_of_covers 7 _ (by decide +kernel) fun t hf y => ?_
  blk_simp
  have ht : t.val < 256 := lt_of_lt_of_eq t.isLt N_0
  refine Eq.trans ?_ ((outAt_at m c t ht (y 0) (y 1)).trans ?_)
  · exact congrArg (outAt m c t) (funext fun d => by fin_cases d <;> rfl)
  · unfold gatedArr
    refine congr (congrArg (gatedAt 16384 4 4096 rfl _ _ _ _) (Fin.ext ?_)) (Fin.ext ?_)
    all_goals (blk_simp [idx t]; try exact congrArg (· + _) (Nat.mul_comm _ _))

theorem final_out2 (c : Dev nD) : (dats m 0 c).arrAt 8 (cfgs 0).N = gatedArr 128 8 16 rfl (m ((c : Thread nD τ).loc main_arg1)) (m ((c : Thread nD τ).loc main_arg2)) (m ((c : Thread nD τ).loc main_arg4)) (m ((c : Thread nD τ).loc main_arg6)) := by
  refine (dats m 0 c).arrAt_eq_of_covers 8 _ (by decide +kernel) fun t hf y => ?_
  blk_simp
  have ht : t.val < 256 := lt_of_lt_of_eq t.isLt N_0
  refine Eq.trans ?_ ((outAt2_at m c (t.val / 32) (by omega) (y 0) (y 1)).trans ?_)
  · exact congrArg (outAt2 m c _) (funext fun d => by fin_cases d <;> rfl)
  · unfold gatedArr
    refine congr (congrArg (gatedAt 128 8 16 rfl _ _ _ _) (Fin.ext ?_)) (Fin.ext ?_)
    all_goals (blk_simp [idx t]; try exact congrArg (· + _) (Nat.mul_comm _ _))

/-- The product's run: its results and its arguments at the end. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = gatedArr 16384 4 4096 rfl (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_v8_1) = gatedArr 128 8 16 rfl (m ((c.tc : Thread nD τ).loc main_arg1)) (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run_main m ρ) (unchanged m ρ)) fun r h c =>
    ⟨((h.1 c).1 7).trans (final_out m c), ((h.1 c).1 8).trans (final_out2 m c), h.2 c⟩

end Cert.Proof.FfnOutIdeal

end

end
-- ==== Proof.FfnOutSame.lean ====
/- The feed-forward output product's results and the reference's are the same. -/
module

public import proofs.«01_k».proof.Defs
public import proofs.«01_k».proof.Proof.FfnOutValue
public import proofs.«01_k».proof.Proof.Gen.FfnOutRefIdeal
public import proofs.«01_k».proof.Proof.Gen.FfnOutRefIdeal.Run
public import Idealize.ShloMosaic.Lib.Quiescent

@[expose] public section

set_option maxRecDepth 16384

noncomputable section

namespace Cert.Proof.FfnOutRef

open Cert.FfnOutRefIdeal Cert.FfnOutRefIdeal.Gen
open Idealize.ShloMosaic Idealize.ShloMosaic.TcCoe

/-- The weight's matrix, an entry of the whole stack. -/
theorem weight_at (w : FVec Ideal S2x2x8192x4096 .f32) (k : Fin 8192) (q : Fin 4096) :
    shapeCast S8192x4096 (extractStridedSlice S1x1x8192x4096 ![0, 0, 0, 0] w slices_S2x2x8192x4096_S1x1x8192x4096_0_0_0_0) shapeCasts_S1x1x8192x4096_S8192x4096 (ix2 k q) = w (ix4 0 0 k q) := by
  pointwise

/-! ## The prompt's rows -/

theorem prompt_flat (x : FVec Ideal S4x4096x4096 .f32) (p : Fin 16384) (q : Fin 4096) :
    shapeCast S16384x4096 x shapeCasts_S4x4096x4096_S16384x4096 (ix2 p q) = x (ix3 (⟨p.val / 4096, by omega⟩ : Fin 4) (⟨p.val % 4096, by omega⟩ : Fin 4096) q) := by
  pointwise

theorem prompt_res (y : FVec Ideal S16384x4096 .f32) (p : Fin 16384) (q : Fin 4096) :
    shapeCast S4x4096x4096 y shapeCasts_S16384x4096_S4x4096x4096 (ix3 (⟨p.val / 4096, by omega⟩ : Fin 4) (⟨p.val % 4096, by omega⟩ : Fin 4096) q) = y (ix2 p q) := by
  have e : ∀ (a : Fin 4) (b : Fin 4096), shapeCast S4x4096x4096 y shapeCasts_S16384x4096_S4x4096x4096 (ix3 a b q) = y (ix2 (⟨a.val * 4096 + b.val, by omega⟩ : Fin 16384) q) := fun a b => by pointwise
  exact (e _ _).trans (congrArg (fun z : Fin 16384 => y (ix2 z q)) (Fin.ext (show p.val / 4096 * 4096 + p.val % 4096 = p.val by omega)))

theorem prompt_act (x : FVec Ideal S16384x8192 .bf16) (p : Fin 16384) (k : Fin 8192) :
    shapeCast S4x4096x8192 (extf (F := Ideal) .f32 x bitsLt_bf16_f32) shapeCasts_S16384x8192_S4x4096x8192 (ix3 (⟨p.val / 4096, by omega⟩ : Fin 4) (⟨p.val % 4096, by omega⟩ : Fin 4096) k) = x (ix2 p k) := by
  have e : ∀ (a : Fin 4) (b : Fin 4096), shapeCast S4x4096x8192 (extf (F := Ideal) .f32 x bitsLt_bf16_f32) shapeCasts_S16384x8192_S4x4096x8192 (ix3 a b k) = x (ix2 (⟨a.val * 4096 + b.val, by omega⟩ : Fin 16384) k) := fun a b => by pointwise
  exact (e _ _).trans (congrArg (fun z : Fin 16384 => x (ix2 z k)) (Fin.ext (show p.val / 4096 * 4096 + p.val % 4096 = p.val by omega)))

theorem prompt_gate (g : FVec Ideal S4x9x4096 .f32) (a : Fin 4) (b : Fin 4096) (q : Fin 4096) :
    broadcastInDim S4x4096x4096 ![0, 1, 2] bcast_S4x1x4096_S4x4096x4096_0_1_2 (mulf (F := Ideal) (broadcastInDim S4x1x4096 ![] bcast_S_S4x1x4096 (constant S_ .f32 0x3F000000#32)) (broadcastInDim S4x1x4096 ![0, 2] bcast_S4x4096_S4x1x4096_0_2 (shapeCast S4x4096 (extractStridedSlice S4x1x4096 ![0, 2, 0] g slices_S4x9x4096_S4x1x4096_0_2_0) shapeCasts_S4x1x4096_S4x4096))) (ix3 a b q)
      = FloatOps.ofBits (F := Ideal) FTy.f32 0x3F000000#32 * g (ix3 a 2 q) := by
  pointwise

theorem prompt_dot (x : FVec Ideal S4x4096x8192 .f32) (w : FVec Ideal S8192x4096 .f32) (a : Fin 4) (b : Fin 4096) (q : Fin 4096) :
    Host.dotGeneral dot_S4x4096x8192_S8192x4096_S4x4096x4096_2_0_01_1_n_n none x w (ix3 a b q) = ∑ k, x (ix3 a b k) * w (ix2 k q) := by
  pointwise

/-! ## The sample's rows -/

theorem sample_flat (x : FVec Ideal S8x16x4096 .f32) (p : Fin 128) (q : Fin 4096) :
    shapeCast S128x4096 x shapeCasts_S8x16x4096_S128x4096 (ix2 p q) = x (ix3 (⟨p.val / 16, by omega⟩ : Fin 8) (⟨p.val % 16, by omega⟩ : Fin 16) q) := by
  pointwise

theorem sample_res (y : FVec Ideal S128x4096 .f32) (p : Fin 128) (q : Fin 4096) :
    shapeCast S8x16x4096 y shapeCasts_S128x4096_S8x16x4096 (ix3 (⟨p.val / 16, by omega⟩ : Fin 8) (⟨p.val % 16, by omega⟩ : Fin 16) q) = y (ix2 p q) := by
  have e : ∀ (a : Fin 8) (b : Fin 16), shapeCast S8x16x4096 y shapeCasts_S128x4096_S8x16x4096 (ix3 a b q) = y (ix2 (⟨a.val * 16 + b.val, by omega⟩ : Fin 128) q) := fun a b => by pointwise
  exact (e _ _).trans (congrArg (fun z : Fin 128 => y (ix2 z q)) (Fin.ext (show p.val / 16 * 16 + p.val % 16 = p.val by omega)))

theorem sample_act (x : FVec Ideal S128x8192 .bf16) (p : Fin 128) (k : Fin 8192) :
    shapeCast S8x16x8192 (extf (F := Ideal) .f32 x bitsLt_bf16_f32) shapeCasts_S128x8192_S8x16x8192 (ix3 (⟨p.val / 16, by omega⟩ : Fin 8) (⟨p.val % 16, by omega⟩ : Fin 16) k) = x (ix2 p k) := by
  have e : ∀ (a : Fin 8) (b : Fin 16), shapeCast S8x16x8192 (extf (F := Ideal) .f32 x bitsLt_bf16_f32) shapeCasts_S128x8192_S8x16x8192 (ix3 a b k) = x (ix2 (⟨a.val * 16 + b.val, by omega⟩ : Fin 128) k) := fun a b => by pointwise
  exact (e _ _).trans (congrArg (fun z : Fin 128 => x (ix2 z k)) (Fin.ext (show p.val / 16 * 16 + p.val % 16 = p.val by omega)))

theorem sample_gate (g : FVec Ideal S8x9x4096 .f32) (a : Fin 8) (b : Fin 16) (q : Fin 4096) :
    broadcastInDim S8x16x4096 ![0, 1, 2] bcast_S8x1x4096_S8x16x4096_0_1_2 (mulf (F := Ideal) (broadcastInDim S8x1x4096 ![] bcast_S_S8x1x4096 (constant S_ .f32 0x3F000000#32)) (broadcastInDim S8x1x4096 ![0, 2] bcast_S8x4096_S8x1x4096_0_2 (shapeCast S8x4096 (extractStridedSlice S8x1x4096 ![0, 2, 0] g slices_S8x9x4096_S8x1x4096_0_2_0) shapeCasts_S8x1x4096_S8x4096))) (ix3 a b q)
      = FloatOps.ofBits (F := Ideal) FTy.f32 0x3F000000#32 * g (ix3 a 2 q) := by
  pointwise

theorem sample_dot (x : FVec Ideal S8x16x8192 .f32) (w : FVec Ideal S8192x4096 .f32) (a : Fin 8) (b : Fin 16) (q : Fin 4096) :
    Host.dotGeneral dot_S8x16x8192_S8192x4096_S8x16x4096_2_0_01_1_n_n none x w (ix3 a b q) = ∑ k, x (ix3 a b k) * w (ix2 k q) := by
  pointwise

/-! ## The run -/

/-- The reference's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v14) = gatedArr 16384 4 4096 rfl (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_v29) = gatedArr 128 8 16 rfl (m ((c.tc : Thread nD τ).loc main_arg1)) (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (Cert.FfnOutRefIdeal.Value.run m ρ) fun r h c => by
    refine ⟨(h c).1.trans ?_, (h c).2.1.trans ?_, (h c).2.2⟩
    · generalize m ((c.tc : Thread nD τ).loc main_arg0) = x, m ((c.tc : Thread nD τ).loc main_arg2) = w, m ((c.tc : Thread nD τ).loc main_arg3) = y, m ((c.tc : Thread nD τ).loc main_arg5) = g
      funext i
      obtain ⟨p, q, rfl⟩ : ∃ (p : Fin 16384) (q : Fin 4096), i = ix2 p q := ⟨i 0, i 1, ValueIdx.eq_ix2 i⟩
      show _ = gatedAt 16384 4 4096 rfl x w y g p q
      refine (prompt_flat _ p q).trans ?_
      exact congrArg₂ (· + ·) (prompt_res y p q) (congrArg₂ (· * ·) (prompt_gate g _ _ q)
        ((prompt_dot _ _ _ _ q).trans (Finset.sum_congr rfl fun k _ => congrArg₂ (· * ·) (prompt_act x p k) (weight_at w k q))))
    · generalize m ((c.tc : Thread nD τ).loc main_arg1) = x, m ((c.tc : Thread nD τ).loc main_arg2) = w, m ((c.tc : Thread nD τ).loc main_arg4) = y, m ((c.tc : Thread nD τ).loc main_arg6) = g
      funext i
      obtain ⟨p, q, rfl⟩ : ∃ (p : Fin 128) (q : Fin 4096), i = ix2 p q := ⟨i 0, i 1, ValueIdx.eq_ix2 i⟩
      show _ = gatedAt 128 8 16 rfl x w y g p q
      refine (sample_flat _ p q).trans ?_
      exact congrArg₂ (· + ·) (sample_res y p q) (congrArg₂ (· * ·) (sample_gate g _ _ q)
        ((sample_dot _ _ _ _ q).trans (Finset.sum_congr rfl fun k _ => congrArg₂ (· * ·) (sample_act x p k) (weight_at w k q))))

/-- Every run of the reference ends, its arguments as they were and every counter at zero (it has no counter). -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_mono (run m ρ) fun r h => ⟨fun c => (h c).2.2, sem_eq_zero_of_no_sems (by decide) r.2⟩

end Cert.Proof.FfnOutRef

namespace Cert.Proof

open Idealize.ShloMosaic Idealize.ShloMosaic.TcCoe

theorem ffn_out_same : Cert.algebraic_FfnOutIdeal_FfnOutRefIdeal (hFfnOutIdeal := Cert.FfnOutIdeal.Gen.facts) (hFfnOutRefIdeal := Cert.FfnOutRefIdeal.Gen.facts) := by
  intro m g m' g' _ hagree
  refine ⟨fun c => gatedArr 16384 4 4096 rfl (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3)) (m ((c.tc : Thread Cert.FfnOutIdeal.nD Cert.FfnOutIdeal.τ).loc Cert.FfnOutIdeal.main_arg5)),
    fun c => gatedArr 128 8 16 rfl (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg4)) (m ((c.tc : Thread Cert.FfnOutIdeal.nD Cert.FfnOutIdeal.τ).loc Cert.FfnOutIdeal.main_arg6)),
    FfnOutIdeal.run m g, ?_⟩
  refine θ_run_mono (FfnOutRef.run m' g') fun r h c => ?_
  obtain ⟨h0, h1, h2⟩ := h c
  obtain ⟨e0, e1, e2, e3, e4, e5, e6⟩ := hagree c
  refine ⟨h0.trans ?_, h1.trans ?_, h2⟩
  · rw [e0, e2, e3, e5]
  · rw [e1, e2, e4, e6]

end Cert.Proof

end

end
-- ==== Proof.OddInIdealFrame.lean ====
/- The odd layers' input projection: one grid point, the grid, and the run. -/
module

public import proofs.«01_k».proof.Proof.Reads
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import Idealize.ShloMosaic.Lib.Pipeline.FrameBody
public import Idealize.ShloMosaic.Lib.WordCmp
public import Idealize.ShloMosaic.Lib.Claim

@[expose] public section

set_option maxRecDepth 16384

noncomputable section

namespace Cert.Proof.OddInIdeal

open Cert.OddInIdeal Cert.OddInIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

/-! ## The blocks as functions -/

/-- 256 rows of tokens against the weight columns. -/
def tile (x : Vec F S256x4096 .bf16) (a : Vec F S4096x1024 .bf16) : FVec F S256x1024 .f32 := k0_pay3 x a

/-- The output block from the token block and the block of weight columns. -/
def outBlk (x : Vec F S1024x4096 .bf16) (a : Vec F S4096x1024 .bf16) : Vec F S1024x1024 .f32 :=
  outRows fun r => tile (rowsAt x r) a

/-- The second batch's output block. -/
def outBlk2 (x : Vec F S128x4096 .bf16) (a : Vec F S4096x1024 .bf16) : Vec F S128x1024 .f32 := k0_pay2 x a

theorem tile_1 (x : Vec F S256x4096 .bf16) (a : Vec F S4096x1024 .bf16) : k0_pay4 x a = tile x a := rfl
theorem tile_2 (x : Vec F S256x4096 .bf16) (a : Vec F S4096x1024 .bf16) : k0_pay5 x a = tile x a := rfl
theorem tile_3 (x : Vec F S256x4096 .bf16) (a : Vec F S4096x1024 .bf16) : k0_pay6 x a = tile x a := rfl

/-! ## One grid point -/

section

variable (c : Dev nD) (i : grid0.Coords) (arg2 : Memref sig .tc .vmem S1024x4096 .bf16) (harg2 : arg2.IsWhole) (arg3 : Memref sig .tc .vmem S4096x1024 .f32) (harg3 : arg3.IsWhole) (arg4 : Memref sig .tc .vmem S128x4096 .bf16) (harg4 : arg4.IsWhole) (arg5 : Memref sig .tc .vmem S1024x1024 .f32) (harg5 : arg5.IsWhole) (arg6 : Memref sig .tc .vmem S128x1024 .f32) (harg6 : arg6.IsWhole) (arg7 : Memref sig .tc .vmem S4096x1024 .bf16) (harg7 : arg7.IsWhole)

set_option maxHeartbeats 4000000 in
/-- Inside a column of weights: the weights are read from scratch, the second batch's output is left alone. -/
theorem run_later (hc : ¬ (k0_cond1 i = 1#1))
    (x : Vec F S1024x4096 .bf16) (w : Vec F S4096x1024 .f32) (x2 : Vec F S128x4096 .bf16) (z2 : Vec F S128x1024 .f32) (a : Vec F S4096x1024 .bf16) (K : PUnit → sProp 𝕄) :
    iprop(owns (c : Thread nD τ) arg2 fullShare x ∗ owns (c : Thread nD τ) arg3 fullShare w ∗ owns (c : Thread nD τ) arg4 fullShare x2 ∗ (∃ d, owns (c : Thread nD τ) arg5 fullShare d) ∗ owns (c : Thread nD τ) arg6 fullShare z2 ∗ owns (c : Thread nD τ) arg7 fullShare a
        ∗ (iprop(owns (c : Thread nD τ) arg2 fullShare x ∗ owns (c : Thread nD τ) arg3 fullShare w ∗ owns (c : Thread nD τ) arg4 fullShare x2 ∗ owns (c : Thread nD τ) arg5 fullShare (outBlk x a) ∗ owns (c : Thread nD τ) arg6 fullShare z2 ∗ owns (c : Thread nD τ) arg7 fullShare a) -∗ K ⟨⟩))
      ⊢ wp frame (wpE (defs₀ (F := F)) Variants.none c none) Set.univ (cc0_matmul_plain i arg2 harg2 arg3 harg3 arg4 harg4 arg5 harg5 arg6 harg6 arg7 harg7) K := by
  simp only [cc0_matmul_plain_eq_skeleton]; unfold cc0_matmul_plain_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4; obtain rfl := harg6.eq_unread hf6; obtain rfl := harg7.eq_unread hf7
  sl_exec (disch := first | sl_exact hc)
  sl_step
  have hx : ∀ (r : ℕ) (hr : r < 4) (o : ℕ) (ho : o = 256 * r) inb, View.readAt (Elt F) arg2.view (Rect.unit (s := S1024x4096) ![o, 0] S256x4096.size inb).toLoadRect (harg2.unread x) = rowsAt x r := fun r hr o ho inb => read_rows arg2 harg2 x (by decide) r (by omega) o ho inb
  have ha : ∀ inb, View.readAt (Elt F) arg7.view (Rect.unit (s := S4096x1024) ![0, 0] S4096x1024.size inb).toLoadRect (harg7.unread a) = a := fun inb => read_full_unread arg7 harg7 a (by decide) inb
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine read_four arg5 f5 (fun r => tile (rowsAt x r) a) _ _ _ _ ?_ ?_ ?_ ?_ _ _ _ _
    · rw [hx 0 (by decide) 0 rfl, ha]; rfl
    · rw [hx 1 (by decide) 256 rfl, ha]; exact tile_1 _ _
    · rw [hx 2 (by decide) 512 rfl, ha]; exact tile_2 _ _
    · rw [hx 3 (by decide) 768 rfl, ha]; exact tile_3 _ _
  isplitl [H6]
  · iexists _; isplitr; · ipureintro; exact harg6.read_unread _
    iexact H6
  iexists _; isplitr; · ipureintro; exact harg7.read_unread _
  iexact H7

set_option maxHeartbeats 4000000 in
/-- At the start of a column of weights: they are cast to scratch, and the second batch's output is computed. -/
theorem run_first (hc : k0_cond1 i = 1#1)
    (x : Vec F S1024x4096 .bf16) (w : Vec F S4096x1024 .f32) (x2 : Vec F S128x4096 .bf16) (K : PUnit → sProp 𝕄) :
    iprop(owns (c : Thread nD τ) arg2 fullShare x ∗ owns (c : Thread nD τ) arg3 fullShare w ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare x2 ∗ owns (c : Thread nD τ) arg5 fullShare (outBlk x (k0_pay1 w)) ∗ owns (c : Thread nD τ) arg6 fullShare (outBlk2 x2 (k0_pay1 w)) ∗ owns (c : Thread nD τ) arg7 fullShare (k0_pay1 w)) -∗ K ⟨⟩))
      ⊢ wp frame (wpE (defs₀ (F := F)) Variants.none c none) Set.univ (cc0_matmul_plain i arg2 harg2 arg3 harg3 arg4 harg4 arg5 harg5 arg6 harg6 arg7 harg7) K := by
  simp only [cc0_matmul_plain_eq_skeleton]; unfold cc0_matmul_plain_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := first | sl_exact hc)
  sl_step
  have hx : ∀ (r : ℕ) (hr : r < 4) (o : ℕ) (ho : o = 256 * r) inb, View.readAt (Elt F) arg2.view (Rect.unit (s := S1024x4096) ![o, 0] S256x4096.size inb).toLoadRect (harg2.unread x) = rowsAt x r := fun r hr o ho inb => read_rows arg2 harg2 x (by decide) r (by omega) o ho inb
  have e7 : run_first.sl.H7_1 c arg3 harg3 w = [⟨Rect.unit (s := S4096x1024) ![0, 0] S4096x1024.size inb_S4096x1024_S4096x1024_0_0, k0_pay1 w⟩] := by
    unfold run_first.sl.H7_1
    rw [read_full_unread arg3 harg3 w (by decide)]
  have hw : View.read (Elt F) arg7.view (arg7.view.writes (Elt F) f7 [⟨Rect.unit (s := S4096x1024) ![0, 0] S4096x1024.size inb_S4096x1024_S4096x1024_0_0, k0_pay1 w⟩]) = k0_pay1 w := read_stored arg7 f7 (by decide) inb_S4096x1024_S4096x1024_0_0 _
  have ha : run_first.sl.v26 c arg3 harg3 arg7 w = k0_pay1 w := by
    unfold run_first.sl.v26
    rw [e7]
    exact (read_full arg7 _ (by decide) _).trans (read_stored arg7 _ (by decide) inb_S4096x1024_S4096x1024_0_0 _)
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine read_four arg5 f5 (fun r => tile (rowsAt x r) (k0_pay1 w)) _ _ _ _ ?_ ?_ ?_ ?_ _ _ _ _
    · rw [hx 0 (by decide) 0 rfl, ha]; rfl
    · rw [hx 1 (by decide) 256 rfl, ha]; exact tile_1 _ _
    · rw [hx 2 (by decide) 512 rfl, ha]; exact tile_2 _ _
    · rw [hx 3 (by decide) 768 rfl, ha]; exact tile_3 _ _
  isplitl [H6]
  · iexists _; isplitr; swap; · iexact H6
    ipureintro
    rw [ha, read_full_unread arg4 harg4 x2 (by decide)]
    exact read_stored arg6 f6 (by decide) inb_S128x1024_S128x1024_0_0 _
  iexists _; isplitr; swap; · iexact H7
  ipureintro
  rw [e7]; exact hw

end

variable (m : (ℓ : Loc nD τ sig) → Buf (Elt F) ℓ) (ρ : Dev nD → PrngReg)

/-! ## A column of weights -/

/-- The first grid point of the `n`-th column of weights. -/
def top (n : ℕ) : Fin cfg0.N := ⟨16 * n % 128, lt_of_lt_of_eq (Nat.mod_lt _ (by decide)) N_0.symm⟩

theorem top_self (t : Fin cfg0.N) (h : t.val % 16 = 0) : top (t.val / 16) = t := by
  have hN : t.val < 128 := lt_of_lt_of_eq t.isLt N_0
  apply Fin.ext
  show 16 * (t.val / 16) % 128 = t.val
  omega

/-- The weights of the `n`-th column, as scratch holds them. -/
def wA (c : Dev nD) (n : ℕ) : Vec F S4096x1024 .bf16 := k0_pay1 (iblk m c 1 (top n) : Vec F S4096x1024 .f32)

/-- The output block of grid point `t`. -/
def outAt (c : Dev nD) (t : Fin cfg0.N) : Vec F S1024x1024 .f32 := outBlk (iblk m c 0 t) (wA m c (t.val / 16))
/-- The second batch's output block of the `n`-th column. -/
def outAt2 (c : Dev nD) (n : ℕ) : Vec F S128x1024 .f32 := outBlk2 (iblk m c 2 (top n)) (wA m c n)

/-! ## The proof data -/

/-- Inside the `n`-th column scratch holds its weights. -/
def held (c : Dev nD) (n : ℕ) : sProp 𝕄 :=
  iprop(owns (c : Thread nD τ) (Memref.whole cc0_scratch0 : Memref sig .tc .vmem S4096x1024 .bf16) fullShare (wA m c n) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => outAt2 m c (t.val / 16)
  Φ t := if t.val % 16 = 0 then Pipeline.ΦA spec0 c else held m c (t.val / 16)
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d

/-- The body casts the weights at the start of each column. -/
theorem hcond : ∀ t : Fin grid0.N, k0_cond1 (grid0.coords t) = 1#1 ↔ t.val % 16 = 0 := fun t => by
  have ht : t.val < 128 := Nat.lt_of_lt_of_eq t.isLt N_0
  have e1 : (grid0.coords t 1).val = t.val / 1 % 16 := Pipeline.Grid.coords_val t 1 (by decide) rfl
  unfold k0_cond1
  rw [e1]
  word_cmp

theorem live_first (t : Fin cfg0.N) (h : t.val % 16 = 0) : cfg0.idle 4 (grid0.coords t) = false := by
  show (!(k0_cond1 (grid0.coords t) == 1#1)) = false
  rw [(hcond t).mpr h]; rfl
theorem idle_later (t : Fin cfg0.N) (h : ¬ t.val % 16 = 0) : cfg0.idle 4 (grid0.coords t) = true := by
  show (!(k0_cond1 (grid0.coords t) == 1#1)) = true
  rw [Bool.not_eq_true', beq_eq_false_iff_ne]
  exact fun e => h ((hcond t).mp e)

/-- Inside a column the second batch's block is the one computed at its start. -/
theorem before0_4 (c : Dev nD) (n : ℕ) : ∀ (t : Fin cfg0.N), t.val = n → ¬ n % 16 = 0 → ∀ d, (dats m 0 c).before 4 t d = outAt2 m c (t.val / 16) := by
  induction n with
  | zero => intro t _ h; exact absurd rfl h
  | succ n ih =>
    intro t hn h d
    have hN : t.val < 128 := lt_of_lt_of_eq t.isLt N_0
    have hfl : (cfg0.win 4).flush ⟨t.val - 1, Nat.lt_of_le_of_lt (Nat.sub_le _ _) t.isLt⟩ = false := by
      refine Bool.eq_false_iff.mpr fun hf => ?_
      have e := (flush0_4 _).mp hf
      change (t.val - 1) % 16 = 15 at e
      omega
    rw [(dats m 0 c).before_of_pos 4 t (by omega) ((cfg0.win 4).fetch_out rfl t), hfl, if_neg Bool.false_ne_true]
    unfold Dat.left
    by_cases h0 : n % 16 = 0
    · rw [live_first ⟨t.val - 1, Nat.lt_of_le_of_lt (Nat.sub_le _ _) t.isLt⟩ (show (t.val - 1) % 16 = 0 by omega)]
      show (dats m 0 c).kept 4 _ d = _
      unfold Dat.kept
      rw [Pipeline.fill_of_clip_none 4 _ (fun _ => rfl) d ((dats m 0 c).after 4 _), Window.fill_cut]
      exact congrArg (outAt2 m c) (show (t.val - 1) / 16 = t.val / 16 by omega)
    · rw [idle_later ⟨t.val - 1, Nat.lt_of_le_of_lt (Nat.sub_le _ _) t.isLt⟩ (show ¬ (t.val - 1) % 16 = 0 by omega)]
      exact (ih ⟨t.val - 1, Nat.lt_of_le_of_lt (Nat.sub_le _ _) t.isLt⟩ (show t.val - 1 = n by omega) h0 d).trans
        (congrArg (outAt2 m c) (show (t.val - 1) / 16 = t.val / 16 by omega))

theorem PhiA0_eq (c : Dev nD) :
    (Pipeline.ΦA spec0 c : sProp 𝕄)
      = iprop((∃ d, owns (c : Thread nD τ) (Memref.whole cc0_scratch0 : Memref sig .tc .vmem S4096x1024 .bf16) fullShare d) ∗ (∃ r, prngReg c r)) := by
  unfold Pipeline.ΦA; rw [scopedRest0_eq]; simp only [owns_whole]; try rfl

theorem held_forget (c : Dev nD) (n : ℕ) : held m c n ⊢ Pipeline.ΦA spec0 c := by
  rw [PhiA0_eq]; unfold held
  iintro ⟨H0, Hg⟩
  isplitl [H0]
  · iexists _; iexact H0
  iexact Hg

/-- What a grid point leaves in scratch is what the next one starts with. -/
theorem held_next (c : Dev nD) (t : Fin cfg0.N) : held m c (t.val / 16) ⊢ (dats m 0 c).Φ t.succ := by
  have e : (dats m 0 c).Φ t.succ = if (t.val + 1) % 16 = 0 then Pipeline.ΦA spec0 c else held m c ((t.val + 1) / 16) := rfl
  rw [e]
  by_cases h : (t.val + 1) % 16 = 0
  · rw [if_pos h]; exact held_forget m c _
  · rw [if_neg h, show (t.val + 1) / 16 = t.val / 16 by omega]

theorem Φ_first (c : Dev nD) (t : Fin cfg0.N) (h : t.val % 16 = 0) : (dats m 0 c).Φ t.castSucc = Pipeline.ΦA spec0 c := if_pos h
theorem Φ_later (c : Dev nD) (t : Fin cfg0.N) (h : ¬ t.val % 16 = 0) : (dats m 0 c).Φ t.castSucc = held m c (t.val / 16) := if_neg h

/-! ## The body at every grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (st0_0 t) fullShare (iblk m c 0 t) := rfl
theorem leaves0_1 (c : Dev nD) (t : Fin cfg0.N) : (dats m 0 c).leavesExact 1 t = owns (c : Thread nD τ) (st0_1 t) fullShare (iblk m c 1 t) := rfl
theorem leaves0_2 (c : Dev nD) (t : Fin cfg0.N) : (dats m 0 c).leavesExact 2 t = owns (c : Thread nD τ) (st0_2 t) fullShare (iblk m c 2 t) := rfl
theorem leaves0_3 (c : Dev nD) (t : Fin cfg0.N) : (dats m 0 c).leavesExact 3 t = owns (c : Thread nD τ) (st0_3 t) fullShare (outAt m c t) := rfl
/-- The second batch's block as a grid point leaves it, whether it stores it, keeps it or has it written back. -/
theorem leaves0_4 (c : Dev nD) (t : Fin cfg0.N) : owns (c : Thread nD τ) (st0_4 t) fullShare (outAt2 m c (t.val / 16)) ⊢ (dats m 0 c).leavesExact 4 t := by
  by_cases h0 : t.val % 16 = 0
  · unfold Dat.leavesExact; rw [live_first t h0]; exact .rfl
  · by_cases hf : (cfg0.win 4).flush t = true
    · unfold Dat.leavesExact; rw [idle_later t h0, hf]; exact .rfl
    · rw [Bool.not_eq_true] at hf
      rw [(dats m 0 c).leavesExact_idle 4 t (idle_later t h0) hf]
      simp only [before0_4 m c t.val t rfl h0]
      iintro H
      iexists (outAt2 m c (t.val / 16))
      iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [leaves0_0, leaves0_1, leaves0_2, leaves0_3]
  rw [show (dats m 0 c).owesAt () t.succ = (dats m 0 c).owesAt () t.castSucc from rfl]
  by_cases h0 : t.val % 16 = 0
  · rw [Φ_first m c t h0, PhiA0_eq]
    have eA : k0_pay1 (iblk m c 1 t : Vec F S4096x1024 .f32) = wA m c (t.val / 16) := by unfold wA; rw [top_self t h0]
    have e3 : outAt m c t = outBlk (iblk m c 0 t) (k0_pay1 (iblk m c 1 t : Vec F S4096x1024 .f32)) := by rw [eA]; rfl
    have e4 : outAt2 m c (t.val / 16) = outBlk2 (iblk m c 2 t) (k0_pay1 (iblk m c 1 t : Vec F S4096x1024 .f32)) := by
      rw [eA]; unfold outAt2; rw [top_self t h0]
    rw [e3]
    iintro ⟨⟨HS0, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((hcond t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [HS0]; · iexact HS0
    rw [← e4, eA]
    iintro ⟨H0, H1, H2, H3, H4, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    iapply (leaves0_4 m c t)
    iexact H4
  · rw [Φ_later m c t h0]
    simp only [before0_4 m c t.val t rfl h0]
    unfold held outAt
    iintro ⟨⟨HS0, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (fun h => h0 ((hcond t).mp h)) (iblk m c 0 t) (iblk m c 1 t) (iblk m c 2 t) (outAt2 m c (t.val / 16)) (wA m c (t.val / 16)) _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    iapply (leaves0_4 m c t)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : Pipeline.ΦA spec0 c ⊢ (dats (F := F) m 0 c).Φ 0 := .rfl
theorem Φ_out (c : Dev nD) : (dats (F := F) m 0 c).Φ (Fin.last cfg0.N) ⊢ Pipeline.ΦA spec0 c := by
  have e : (dats (F := F) m 0 c).Φ (Fin.last cfg0.N) = if grid0.N % 16 = 0 then Pipeline.ΦA spec0 c else held m c (grid0.N / 16) := rfl
  rw [e, if_pos (by rw [N_0])]

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.OddInIdeal

end

end
-- ==== Proof.OddInFrame.lean ====
/- The odd layers' input projection as compiled: its frame, from the frame of its ideal reading, the same program at every instance. -/
module

public import proofs.«01_k».proof.Proof.OddInIdealFrame
public import proofs.«01_k».proof.Proof.Gen.OddIn

@[expose] public section

set_option maxRecDepth 16384

noncomputable section

namespace Cert.Proof.OddIn

open Cert.OddIn Cert.OddIn.Gen
open Idealize.ShloMosaic Idealize.ShloMosaic.TcCoe

variable {F : FTy → Type} [FloatOps F]

theorem defs₀_same : Cert.OddInIdeal.defs₀ (F := F) = defs₀ := by
  unfold defs₀ Cert.OddInIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.OddInIdeal.defs (F := F) = defs := congrArg (Pipeline.defs _) defs₀_same

/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [← defs_same]
  exact Cert.Proof.OddInIdeal.frame (F := F) m ρ

end Cert.Proof.OddIn

end

end
-- ==== Proof.OddInValue.lean ====
/- The odd layers' input projection's results at the extended reals. -/
module

public import proofs.«01_k».proof.Proof.OddInIdealFrame
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic

/-- A token's entry of the projection. -/
def projAt (n : ℕ) (X : Shape.Idx ⟨2, ![n, 4096]⟩ → EReal) (W : Shape.Idx ⟨3, ![1, 4096, 16416]⟩ → EReal) (p : Fin n) (q : Fin 8192) : EReal :=
  ∑ k : Fin 4096, X (ix2 p k) * W (ix3 0 k (⟨q.val, by omega⟩ : Fin 16416))

/-- The projection of `n` tokens. -/
def projArr (n : ℕ) (X : Shape.Idx ⟨2, ![n, 4096]⟩ → EReal) (W : Shape.Idx ⟨3, ![1, 4096, 16416]⟩ → EReal) : Shape.Idx ⟨2, ![n, 8192]⟩ → EReal :=
  fun i => projAt n X W (i 0) (i 1)

end Cert.Proof

namespace Cert.Proof.OddInIdeal

open Cert.OddInIdeal Cert.OddInIdeal.Gen
open Idealize.ShloMosaic Idealize.ShloMosaic.TcCoe

/-! ## The body's blocks -/

theorem tile_at (x : Vec Ideal S256x4096 .bf16) (a : Vec Ideal S4096x1024 .bf16) (p : Fin 256) (q : Fin 1024) :
    tile x a (ix2 p q) = ∑ k : Fin 4096, x (ix2 p k) * a (ix2 k q) := by
  unfold tile k0_pay3
  pointwise

theorem outBlk2_at (x : Vec Ideal S128x4096 .bf16) (a : Vec Ideal S4096x1024 .bf16) (p : Fin 128) (q : Fin 1024) :
    outBlk2 x a (ix2 p q) = ∑ k : Fin 4096, x (ix2 p k) * a (ix2 k q) := by
  unfold outBlk2 k0_pay2
  pointwise

theorem outBlk_at (x : Vec Ideal S1024x4096 .bf16) (a : Vec Ideal S4096x1024 .bf16) (p : Fin 1024) (q : Fin 1024) :
    outBlk x a (ix2 p q) = ∑ k : Fin 4096, x (ix2 p k) * a (ix2 k q) := by
  refine (tile_at (rowsAt x (p.val / 256)) a (⟨p.val % 256, Nat.mod_lt _ (by decide)⟩ : Fin 256) q).trans ?_
  refine Finset.sum_congr rfl fun k _ => congrArg (· * a (ix2 k q)) (congrArg x (funext fun d => ?_))
  have hp := p.isLt
  fin_cases d <;> apply Fin.ext
  · show (256 * (p.val / 256) + p.val % 256) % 1024 = p.val; omega
  · rfl

theorem weight_at (w : Vec Ideal S4096x1024 .f32) (k : Fin 4096) (q : Fin 1024) :
    (k0_pay1 w : FVec Ideal S4096x1024 .bf16) (ix2 k q) = w (ix2 k q) := by
  unfold k0_pay1
  pointwise

/-! ## The windows' blocks -/

variable (m : (ℓ : Loc nD τ sig) → Buf (Elt Ideal) ℓ)

theorem idx : ∀ t : Fin cfg0.N, win0_0.index t = ![t.val % 16, 0] ∧ win0_1.index t = ![0, t.val / 16] ∧ win0_2.index t = ![0, 0]
    ∧ win0_3.index t = ![t.val % 16, t.val / 16] ∧ win0_4.index t = ![0, t.val / 16] :=
  (by decide +kernel : ∀ t : Fin grid0.N, _)

/-- The weights' matrix, as the host prepares it. -/
theorem v1_at (c : Dev nD) (k : Fin 4096) (q : Fin 8192) :
    (V m c main_v1 : FVec Ideal S4096x8192 .f32) (ix2 k q) = (m ((c : Thread nD τ).loc main_arg2) : FVec Ideal S1x4096x16416 .f32) (ix3 0 k (⟨q.val, by omega⟩ : Fin 16416)) := by
  entry_read
  pointwise

theorem blk0_at (c : Dev nD) (t : Fin cfg0.N) (ht : t.val < 128) (p : Fin 1024) (k : Fin 4096) :
    (iblk m c 0 t : Vec Ideal S1024x4096 .bf16) (ix2 p k)
      = (m ((c : Thread nD τ).loc main_arg0) : FVec Ideal S16384x4096 .bf16) (ix2 (⟨1024 * (t.val % 16) + p.val, by omega⟩ : Fin 16384) k) := by
  rw [← V_main_arg0 m c]
  blk_ext [iblk, idx t]

theorem blk1_at (c : Dev nD) (t : Fin cfg0.N) (ht : t.val < 128) (k : Fin 4096) (q : Fin 1024) :
    (iblk m c 1 t : Vec Ideal S4096x1024 .f32) (ix2 k q)
      = (V m c main_v1 : FVec Ideal S4096x8192 .f32) (ix2 k (⟨1024 * (t.val / 16) + q.val, by omega⟩ : Fin 8192)) := by
  blk_ext [iblk, idx t]

theorem blk2_at (c : Dev nD) (t : Fin cfg0.N) (ht : t.val < 128) (p : Fin 128) (k : Fin 4096) :
    (iblk m c 2 t : Vec Ideal S128x4096 .bf16) (ix2 p k)
      = (m ((c : Thread nD τ).loc main_arg1) : FVec Ideal S128x4096 .bf16) (ix2 p k) := by
  rw [← V_main_arg1 m c]
  blk_ext [iblk, idx t]

theorem top_div (n : ℕ) (hn : n < 8) : (top n).val / 16 = n := by
  show 16 * n % 128 / 16 = n; omega
theorem top_lt (n : ℕ) : (top n).val < 128 := Nat.mod_lt _ (by decide)

theorem wA_at (c : Dev nD) (n : ℕ) (hn : n < 8) (k : Fin 4096) (q : Fin 1024) :
    wA m c n (ix2 k q) = (m ((c : Thread nD τ).loc main_arg2) : FVec Ideal S1x4096x16416 .f32) (ix3 0 k (⟨1024 * n + q.val, by omega⟩ : Fin 16416)) := by
  unfold wA
  refine (weight_at _ k q).trans ((blk1_at m c (top n) (top_lt n) k q).trans ((v1_at m c k _).trans ?_))
  congr 3
  exact congrArg (1024 * · + q.val) (top_div n hn)

/-! ## The arrays -/

theorem outAt_at (c : Dev nD) (t : Fin cfg0.N) (ht : t.val < 128) (p : Fin 1024) (q : Fin 1024) :
    outAt m c t (ix2 p q) = projAt 16384 (m ((c : Thread nD τ).loc main_arg0)) (m ((c : Thread nD τ).loc main_arg2))
      (⟨1024 * (t.val % 16) + p.val, by omega⟩ : Fin 16384) (⟨1024 * (t.val / 16) + q.val, by omega⟩ : Fin 8192) := by
  unfold outAt
  refine (outBlk_at _ _ p q).trans ?_
  unfold projAt
  exact Finset.sum_congr rfl fun k _ => congrArg₂ (· * ·) (blk0_at m c t ht p k) (wA_at m c _ (by omega) k q)

theorem outAt2_at (c : Dev nD) (n : ℕ) (hn : n < 8) (p : Fin 128) (q : Fin 1024) :
    outAt2 m c n (ix2 p q) = projAt 128 (m ((c : Thread nD τ).loc main_arg1)) (m ((c : Thread nD τ).loc main_arg2))
      p (⟨1024 * n + q.val, by omega⟩ : Fin 8192) := by
  unfold outAt2
  refine (outBlk2_at _ _ p q).trans ?_
  unfold projAt
  exact Finset.sum_congr rfl fun k _ => congrArg₂ (· * ·) (blk2_at m c _ (top_lt n) p k) (wA_at m c n hn k q)

theorem final_out (c : Dev nD) : (dats m 0 c).arrAt 3 (cfgs 0).N = projArr 16384 (m ((c : Thread nD τ).loc main_arg0)) (m ((c : Thread nD τ).loc main_arg2)) := by
  refine (dats m 0 c).arrAt_eq_of_covers 3 _ (by decide +kernel) fun t hf y => ?_
  blk_simp
  have ht : t.val < 128 := lt_of_lt_of_eq t.isLt N_0
  refine Eq.trans ?_ ((outAt_at m c t ht (y 0) (y 1)).trans ?_)
  · exact congrArg (outAt m c t) (funext fun d => by fin_cases d <;> rfl)
  · unfold projArr
    refine congr (congrArg (projAt 16384 _ _) (Fin.ext ?_)) (Fin.ext ?_)
    all_goals (blk_simp [idx t]; try exact congrArg (· + _) (Nat.mul_comm _ _))

theorem final_out2 (c : Dev nD) : (dats m 0 c).arrAt 4 (cfgs 0).N = projArr 128 (m ((c : Thread nD τ).loc main_arg1)) (m ((c : Thread nD τ).loc main_arg2)) := by
  refine (dats m 0 c).arrAt_eq_of_covers 4 _ (by decide +kernel) fun t hf y => ?_
  blk_simp
  have ht : t.val < 128 := lt_of_lt_of_eq t.isLt N_0
  refine Eq.trans ?_ ((outAt2_at m c (t.val / 16) (by omega) (y 0) (y 1)).trans ?_)
  · exact congrArg (outAt2 m c _) (funext fun d => by fin_cases d <;> rfl)
  · unfold projArr
    refine congr (congrArg (projAt 128 _ _) (Fin.ext ?_)) (Fin.ext ?_)
    all_goals (blk_simp [idx t]; try exact congrArg (· + _) (Nat.mul_comm _ _))

/-- The projection's run: its results and its arguments at the end. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = projArr 16384 (m ((c.tc : Thread nD τ).loc main_arg0)) (m ((c.tc : Thread nD τ).loc main_arg2))
      ∧ r.2.mem ((c.tc : Thread nD τ).loc main_v2_1) = projArr 128 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m ρ) (unchanged m ρ)) fun r h c =>
    ⟨((h.1 c).1 3).trans (final_out m c), ((h.1 c).1 4).trans (final_out2 m c), h.2 c⟩

end Cert.Proof.OddInIdeal

end

end
-- ==== Proof.OddInSame.lean ====
/- The odd layers' input projection's results and the reference's are the same. -/
module

public import proofs.«01_k».proof.Defs
public import proofs.«01_k».proof.Proof.OddInValue
public import proofs.«01_k».proof.Proof.Gen.OddInRefIdeal
public import proofs.«01_k».proof.Proof.Gen.OddInRefIdeal.Run
public import Idealize.ShloMosaic.Lib.Quiescent

@[expose] public section

set_option maxRecDepth 16384

noncomputable section

namespace Cert.Proof.OddInRef

open Cert.OddInRefIdeal Cert.OddInRefIdeal.Gen
open Idealize.ShloMosaic Idealize.ShloMosaic.TcCoe

theorem weight_at (w : FVec Ideal S1x4096x16416 .f32) (k : Fin 4096) (q : Fin 16416) :
    shapeCast S4096x16416 w shapeCasts_S1x4096x16416_S4096x16416 (ix2 k q) = w (ix3 0 k q) := by
  pointwise

theorem prompt_cols (x : FVec Ideal S16384x16416 .f32) (p : Fin 16384) (q : Fin 8192) :
    extractStridedSlice S16384x8192 ![0, 0] x slices_S16384x16416_S16384x8192_0_0 (ix2 p q) = x (ix2 p (⟨q.val, by omega⟩ : Fin 16416)) := by
  pointwise

theorem prompt_dot (x : FVec Ideal S16384x4096 .f32) (w : FVec Ideal S4096x16416 .f32) (p : Fin 16384) (q : Fin 16416) :
    Host.dotGeneral dot_S16384x4096_S4096x16416_S16384x16416_1_0_0_1_n_n none x w (ix2 p q) = ∑ k, x (ix2 p k) * w (ix2 k q) := by
  pointwise

theorem sample_cols (x : FVec Ideal S128x16416 .f32) (p : Fin 128) (q : Fin 8192) :
    extractStridedSlice S128x8192 ![0, 0] x slices_S128x16416_S128x8192_0_0 (ix2 p q) = x (ix2 p (⟨q.val, by omega⟩ : Fin 16416)) := by
  pointwise

theorem sample_dot (x : FVec Ideal S128x4096 .f32) (w : FVec Ideal S4096x16416 .f32) (p : Fin 128) (q : Fin 16416) :
    Host.dotGeneral dot_S128x4096_S4096x16416_S128x16416_1_0_0_1_n_n none x w (ix2 p q) = ∑ k, x (ix2 p k) * w (ix2 k q) := by
  pointwise

/-- The reference's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = projArr 16384 (m ((c.tc : Thread nD τ).loc main_arg0)) (m ((c.tc : Thread nD τ).loc main_arg2))
      ∧ r.2.mem ((c.tc : Thread nD τ).loc main_v7) = projArr 128 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (Cert.OddInRefIdeal.Value.run m ρ) fun r h c => by
    refine ⟨(h c).1.trans ?_, (h c).2.1.trans ?_, (h c).2.2⟩
    · generalize m ((c.tc : Thread nD τ).loc main_arg0) = x, m ((c.tc : Thread nD τ).loc main_arg2) = w
      funext i
      obtain ⟨p, q, rfl⟩ : ∃ (p : Fin 16384) (q : Fin 8192), i = ix2 p q := ⟨i 0, i 1, ValueIdx.eq_ix2 i⟩
      refine (prompt_cols _ p q).trans ((prompt_dot _ _ p _).trans ?_)
      exact Finset.sum_congr rfl fun k _ => congrArg₂ (· * ·) rfl (weight_at w k _)
    · generalize m ((c.tc : Thread nD τ).loc main_arg1) = x, m ((c.tc : Thread nD τ).loc main_arg2) = w
      funext i
      obtain ⟨p, q, rfl⟩ : ∃ (p : Fin 128) (q : Fin 8192), i = ix2 p q := ⟨i 0, i 1, ValueIdx.eq_ix2 i⟩
      refine (sample_cols _ p q).trans ((sample_dot _ _ p _).trans ?_)
      exact Finset.sum_congr rfl fun k _ => congrArg₂ (· * ·) rfl (weight_at w k _)

/-- Every run of the reference ends, its arguments as they were and every counter at zero (it has no counter). -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c => (h c).2.2, sem_eq_zero_of_no_sems (by decide) r.2⟩

end Cert.Proof.OddInRef

namespace Cert.Proof

open Idealize.ShloMosaic Idealize.ShloMosaic.TcCoe

theorem odd_in_same : Cert.algebraic_OddInIdeal_OddInRefIdeal (hOddInIdeal := Cert.OddInIdeal.Gen.facts) (hOddInRefIdeal := Cert.OddInRefIdeal.Gen.facts) := by
  intro m g m' g' _ hagree
  refine ⟨fun c => projArr 16384 (m ((c.tc : Thread Cert.OddInIdeal.nD Cert.OddInIdeal.τ).loc Cert.OddInIdeal.main_arg0)) (m ((c.tc : Thread Cert.OddInIdeal.nD Cert.OddInIdeal.τ).loc Cert.OddInIdeal.main_arg2)),
    fun c => projArr 128 (m ((c.tc : Thread Cert.OddInIdeal.nD Cert.OddInIdeal.τ).loc Cert.OddInIdeal.main_arg1)) (m ((c.tc : Thread Cert.OddInIdeal.nD Cert.OddInIdeal.τ).loc Cert.OddInIdeal.main_arg2)),
    OddInIdeal.run m g, ?_⟩
  refine θ_run_mono (OddInRef.run m' g') fun r h c => ?_
  obtain ⟨h0, h1, h2⟩ := h c
  obtain ⟨e0, e1, e2⟩ := hagree c
  refine ⟨h0.trans ?_, h1.trans ?_, h2⟩
  · rw [e0, e2]
  · rw [e1, e2]

end Cert.Proof

end

end
-- ==== Proof.EvenInIdealFrame.lean ====
/- The even layers' input projection: one grid point, the grid, and the run. -/
module

public import proofs.«01_k».proof.Proof.Reads
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import Idealize.ShloMosaic.Lib.Pipeline.FrameBody
public import Idealize.ShloMosaic.Lib.WordCmp
public import Idealize.ShloMosaic.Lib.Claim

@[expose] public section

set_option maxRecDepth 16384

noncomputable section

namespace Cert.Proof.EvenInIdeal

open Cert.EvenInIdeal Cert.EvenInIdeal.Gen
open Idealize.ShloMosaic Idealize.ShloMosaic.TcCoe Idealize.ShloMosaic.Tactic
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

/-! ## The blocks as functions -/

/-- 256 rows of tokens against the weight columns. -/
def tile (x : Vec F S256x4096 .bf16) (a : Vec F S4096x1280 .bf16) : FVec F S256x1280 .f32 := k0_pay3 x a

/-- The output block from the token block and the block of weight columns. -/
def outBlk (x : Vec F S512x4096 .bf16) (a : Vec F S4096x1280 .bf16) : Vec F S512x1280 .f32 :=
  outRows fun r => tile (rowsAt x r) a

/-- The second batch's output block. -/
def outBlk2 (x : Vec F S128x4096 .bf16) (a : Vec F S4096x1280 .bf16) : Vec F S128x1280 .f32 := k0_pay2 x a

theorem tile_1 (x : Vec F S256x4096 .bf16) (a : Vec F S4096x1280 .bf16) : k0_pay4 x a = tile x a := rfl

/-! ## One grid point -/

section

variable (c : Dev nD) (i : grid0.Coords) (arg2 : Memref sig .tc .vmem S512x4096 .bf16) (harg2 : arg2.IsWhole) (arg3 : Memref sig .tc .vmem S4096x1280 .f32) (harg3 : arg3.IsWhole) (arg4 : Memref sig .tc .vmem S128x4096 .bf16) (harg4 : arg4.IsWhole) (arg5 : Memref sig .tc .vmem S512x1280 .f32) (harg5 : arg5.IsWhole) (arg6 : Memref sig .tc .vmem S128x1280 .f32) (harg6 : arg6.IsWhole) (arg7 : Memref sig .tc .vmem S4096x1280 .bf16) (harg7 : arg7.IsWhole)

set_option maxHeartbeats 4000000 in
/-- Inside a column of weights: the weights are read from scratch, the second batch's output is left alone. -/
theorem run_later (hc : ¬ (k0_cond1 i = 1#1))
    (x : Vec F S512x4096 .bf16) (w : Vec F S4096x1280 .f32) (x2 : Vec F S128x4096 .bf16) (z2 : Vec F S128x1280 .f32) (a : Vec F S4096x1280 .bf16) (K : PUnit → sProp 𝕄) :
    iprop(owns (c : Thread nD τ) arg2 fullShare x ∗ owns (c : Thread nD τ) arg3 fullShare w ∗ owns (c : Thread nD τ) arg4 fullShare x2 ∗ (∃ d, owns (c : Thread nD τ) arg5 fullShare d) ∗ owns (c : Thread nD τ) arg6 fullShare z2 ∗ owns (c : Thread nD τ) arg7 fullShare a
        ∗ (iprop(owns (c : Thread nD τ) arg2 fullShare x ∗ owns (c : Thread nD τ) arg3 fullShare w ∗ owns (c : Thread nD τ) arg4 fullShare x2 ∗ owns (c : Thread nD τ) arg5 fullShare (outBlk x a) ∗ owns (c : Thread nD τ) arg6 fullShare z2 ∗ owns (c : Thread nD τ) arg7 fullShare a) -∗ K ⟨⟩))
      ⊢ wp frame (wpE (defs₀ (F := F)) Variants.none c none) Set.univ (cc0_matmul_plain i arg2 harg2 arg3 harg3 arg4 harg4 arg5 harg5 arg6 harg6 arg7 harg7) K := by
  simp only [cc0_matmul_plain_eq_skeleton]; unfold cc0_matmul_plain_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4; obtain rfl := harg6.eq_unread hf6; obtain rfl := harg7.eq_unread hf7
  sl_exec (disch := first | sl_exact hc)
  sl_step
  have hx : ∀ (r : ℕ) (hr : r < 2) (o : ℕ) (ho : o = 256 * r) inb, View.readAt (Elt F) arg2.view (Rect.unit (s := S512x4096) ![o, 0] S256x4096.size inb).toLoadRect (harg2.unread x) = rowsAt x r := fun r hr o ho inb => read_rows arg2 harg2 x (by decide) r (by omega) o ho inb
  have ha : ∀ inb, View.readAt (Elt F) arg7.view (Rect.unit (s := S4096x1280) ![0, 0] S4096x1280.size inb).toLoadRect (harg7.unread a) = a := fun inb => read_full_unread arg7 harg7 a (by decide) inb
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine read_two arg5 f5 (fun r => tile (rowsAt x r) a) _ _ ?_ ?_ _ _
    · rw [hx 0 (by decide) 0 rfl, ha]; rfl
    · rw [hx 1 (by decide) 256 rfl, ha]; exact tile_1 _ _
  isplitl [H6]
  · iexists _; isplitr; · ipureintro; exact harg6.read_unread _
    iexact H6
  iexists _; isplitr; · ipureintro; exact harg7.read_unread _
  iexact H7

set_option maxHeartbeats 4000000 in
/-- At the start of a column of weights: they are cast to scratch, and the second batch's output is computed. -/
theorem run_first (hc : k0_cond1 i = 1#1)
    (x : Vec F S512x4096 .bf16) (w : Vec F S4096x1280 .f32) (x2 : Vec F S128x4096 .bf16) (K : PUnit → sProp 𝕄) :
    iprop(owns (c : Thread nD τ) arg2 fullShare x ∗ owns (c : Thread nD τ) arg3 fullShare w ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare x2 ∗ owns (c : Thread nD τ) arg5 fullShare (outBlk x (k0_pay1 w)) ∗ owns (c : Thread nD τ) arg6 fullShare (outBlk2 x2 (k0_pay1 w)) ∗ owns (c : Thread nD τ) arg7 fullShare (k0_pay1 w)) -∗ K ⟨⟩))
      ⊢ wp frame (wpE (defs₀ (F := F)) Variants.none c none) Set.univ (cc0_matmul_plain i arg2 harg2 arg3 harg3 arg4 harg4 arg5 harg5 arg6 harg6 arg7 harg7) K := by
  simp only [cc0_matmul_plain_eq_skeleton]; unfold cc0_matmul_plain_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := first | sl_exact hc)
  sl_step
  have hx : ∀ (r : ℕ) (hr : r < 2) (o : ℕ) (ho : o = 256 * r) inb, View.readAt (Elt F) arg2.view (Rect.unit (s := S512x4096) ![o, 0] S256x4096.size inb).toLoadRect (harg2.unread x) = rowsAt x r := fun r hr o ho inb => read_rows arg2 harg2 x (by decide) r (by omega) o ho inb
  have e7 : run_first.sl.H7_1 c arg3 harg3 w = [⟨Rect.unit (s := S4096x1280) ![0, 0] S4096x1280.size inb_S4096x1280_S4096x1280_0_0, k0_pay1 w⟩] := by
    unfold run_first.sl.H7_1
    rw [read_full_unread arg3 harg3 w (by decide)]
  have hw : View.read (Elt F) arg7.view (arg7.view.writes (Elt F) f7 [⟨Rect.unit (s := S4096x1280) ![0, 0] S4096x1280.size inb_S4096x1280_S4096x1280_0_0, k0_pay1 w⟩]) = k0_pay1 w := read_stored arg7 f7 (by decide) inb_S4096x1280_S4096x1280_0_0 _
  have ha : run_first.sl.v17 c arg3 harg3 arg7 w = k0_pay1 w := by
    unfold run_first.sl.v17
    rw [e7]
    exact (read_full arg7 _ (by decide) _).trans (read_stored arg7 _ (by decide) inb_S4096x1280_S4096x1280_0_0 _)
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine read_two arg5 f5 (fun r => tile (rowsAt x r) (k0_pay1 w)) _ _ ?_ ?_ _ _
    · rw [hx 0 (by decide) 0 rfl, ha]; rfl
    · rw [hx 1 (by decide) 256 rfl, ha]; exact tile_1 _ _
  isplitl [H6]
  · iexists _; isplitr; swap; · iexact H6
    ipureintro
    rw [ha, read_full_unread arg4 harg4 x2 (by decide)]
    exact read_stored arg6 f6 (by decide) inb_S128x1280_S128x1280_0_0 _
  iexists _; isplitr; swap; · iexact H7
  ipureintro
  rw [e7]; exact hw

end

variable (m : (ℓ : Loc nD τ sig) → Buf (Elt F) ℓ) (ρ : Dev nD → PrngReg)

/-! ## A column of weights -/

/-- The first grid point of the `n`-th column of weights. -/
def top (n : ℕ) : Fin cfg0.N := ⟨32 * n % 224, lt_of_lt_of_eq (Nat.mod_lt _ (by decide)) N_0.symm⟩

theorem top_self (t : Fin cfg0.N) (h : t.val % 32 = 0) : top (t.val / 32) = t := by
  have hN : t.val < 224 := lt_of_lt_of_eq t.isLt N_0
  apply Fin.ext
  show 32 * (t.val / 32) % 224 = t.val
  omega

/-- The weights of the `n`-th column, as scratch holds them. -/
def wA (c : Dev nD) (n : ℕ) : Vec F S4096x1280 .bf16 := k0_pay1 (iblk m c 1 (top n) : Vec F S4096x1280 .f32)

/-- The output block of grid point `t`. -/
def outAt (c : Dev nD) (t : Fin cfg0.N) : Vec F S512x1280 .f32 := outBlk (iblk m c 0 t) (wA m c (t.val / 32))
/-- The second batch's output block of the `n`-th column. -/
def outAt2 (c : Dev nD) (n : ℕ) : Vec F S128x1280 .f32 := outBlk2 (iblk m c 2 (top n)) (wA m c n)

/-! ## The proof data -/

/-- Inside the `n`-th column scratch holds its weights. -/
def held (c : Dev nD) (n : ℕ) : sProp 𝕄 :=
  iprop(owns (c : Thread nD τ) (Memref.whole cc0_scratch0 : Memref sig .tc .vmem S4096x1280 .bf16) fullShare (wA m c n) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => outAt2 m c (t.val / 32)
  Φ t := if t.val % 32 = 0 then Pipeline.ΦA spec0 c else held m c (t.val / 32)
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d

/-- The body casts the weights at the start of each column. -/
theorem hcond : ∀ t : Fin grid0.N, k0_cond1 (grid0.coords t) = 1#1 ↔ t.val % 32 = 0 := fun t => by
  have ht : t.val < 224 := Nat.lt_of_lt_of_eq t.isLt N_0
  have e1 : (grid0.coords t 1).val = t.val / 1 % 32 := Pipeline.Grid.coords_val t 1 (by decide) rfl
  unfold k0_cond1
  rw [e1]
  word_cmp

theorem live_first (t : Fin cfg0.N) (h : t.val % 32 = 0) : cfg0.idle 4 (grid0.coords t) = false := by
  show (!(k0_cond1 (grid0.coords t) == 1#1)) = false
  rw [(hcond t).mpr h]; rfl
theorem idle_later (t : Fin cfg0.N) (h : ¬ t.val % 32 = 0) : cfg0.idle 4 (grid0.coords t) = true := by
  show (!(k0_cond1 (grid0.coords t) == 1#1)) = true
  rw [Bool.not_eq_true', beq_eq_false_iff_ne]
  exact fun e => h ((hcond t).mp e)

/-- Inside a column the second batch's block is the one computed at its start. -/
theorem before0_4 (c : Dev nD) (n : ℕ) : ∀ (t : Fin cfg0.N), t.val = n → ¬ n % 32 = 0 → ∀ d, (dats m 0 c).before 4 t d = outAt2 m c (t.val / 32) := by
  induction n with
  | zero => intro t _ h; exact absurd rfl h
  | succ n ih =>
    intro t hn h d
    have hN : t.val < 224 := lt_of_lt_of_eq t.isLt N_0
    have hfl : (cfg0.win 4).flush ⟨t.val - 1, Nat.lt_of_le_of_lt (Nat.sub_le _ _) t.isLt⟩ = false := by
      refine Bool.eq_false_iff.mpr fun hf => ?_
      have e := (flush0_4 _).mp hf
      change (t.val - 1) % 32 = 31 at e
      omega
    rw [(dats m 0 c).before_of_pos 4 t (by omega) ((cfg0.win 4).fetch_out rfl t), hfl, if_neg Bool.false_ne_true]
    unfold Dat.left
    by_cases h0 : n % 32 = 0
    · rw [live_first ⟨t.val - 1, Nat.lt_of_le_of_lt (Nat.sub_le _ _) t.isLt⟩ (show (t.val - 1) % 32 = 0 by omega)]
      show (dats m 0 c).kept 4 _ d = _
      unfold Dat.kept
      rw [Pipeline.fill_of_clip_none 4 _ (fun _ => rfl) d ((dats m 0 c).after 4 _), Window.fill_cut]
      exact congrArg (outAt2 m c) (show (t.val - 1) / 32 = t.val / 32 by omega)
    · rw [idle_later ⟨t.val - 1, Nat.lt_of_le_of_lt (Nat.sub_le _ _) t.isLt⟩ (show ¬ (t.val - 1) % 32 = 0 by omega)]
      exact (ih ⟨t.val - 1, Nat.lt_of_le_of_lt (Nat.sub_le _ _) t.isLt⟩ (show t.val - 1 = n by omega) h0 d).trans
        (congrArg (outAt2 m c) (show (t.val - 1) / 32 = t.val / 32 by omega))

theorem PhiA0_eq (c : Dev nD) :
    (Pipeline.ΦA spec0 c : sProp 𝕄)
      = iprop((∃ d, owns (c : Thread nD τ) (Memref.whole cc0_scratch0 : Memref sig .tc .vmem S4096x1280 .bf16) fullShare d) ∗ (∃ r, prngReg c r)) := by
  unfold Pipeline.ΦA; rw [scopedRest0_eq]; simp only [owns_whole]; try rfl

theorem held_forget (c : Dev nD) (n : ℕ) : held m c n ⊢ Pipeline.ΦA spec0 c := by
  rw [PhiA0_eq]; unfold held
  iintro ⟨H0, Hg⟩
  isplitl [H0]
  · iexists _; iexact H0
  iexact Hg

/-- What a grid point leaves in scratch is what the next one starts with. -/
theorem held_next (c : Dev nD) (t : Fin cfg0.N) : held m c (t.val / 32) ⊢ (dats m 0 c).Φ t.succ := by
  have e : (dats m 0 c).Φ t.succ = if (t.val + 1) % 32 = 0 then Pipeline.ΦA spec0 c else held m c ((t.val + 1) / 32) := rfl
  rw [e]
  by_cases h : (t.val + 1) % 32 = 0
  · rw [if_pos h]; exact held_forget m c _
  · rw [if_neg h, show (t.val + 1) / 32 = t.val / 32 by omega]

theorem Φ_first (c : Dev nD) (t : Fin cfg0.N) (h : t.val % 32 = 0) : (dats m 0 c).Φ t.castSucc = Pipeline.ΦA spec0 c := if_pos h
theorem Φ_later (c : Dev nD) (t : Fin cfg0.N) (h : ¬ t.val % 32 = 0) : (dats m 0 c).Φ t.castSucc = held m c (t.val / 32) := if_neg h

/-! ## The body at every grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (st0_0 t) fullShare (iblk m c 0 t) := rfl
theorem leaves0_1 (c : Dev nD) (t : Fin cfg0.N) : (dats m 0 c).leavesExact 1 t = owns (c : Thread nD τ) (st0_1 t) fullShare (iblk m c 1 t) := rfl
theorem leaves0_2 (c : Dev nD) (t : Fin cfg0.N) : (dats m 0 c).leavesExact 2 t = owns (c : Thread nD τ) (st0_2 t) fullShare (iblk m c 2 t) := rfl
theorem leaves0_3 (c : Dev nD) (t : Fin cfg0.N) : (dats m 0 c).leavesExact 3 t = owns (c : Thread nD τ) (st0_3 t) fullShare (outAt m c t) := rfl
/-- The second batch's block as a grid point leaves it, whether it stores it, keeps it or has it written back. -/
theorem leaves0_4 (c : Dev nD) (t : Fin cfg0.N) : owns (c : Thread nD τ) (st0_4 t) fullShare (outAt2 m c (t.val / 32)) ⊢ (dats m 0 c).leavesExact 4 t := by
  by_cases h0 : t.val % 32 = 0
  · unfold Dat.leavesExact; rw [live_first t h0]; exact .rfl
  · by_cases hf : (cfg0.win 4).flush t = true
    · unfold Dat.leavesExact; rw [idle_later t h0, hf]; exact .rfl
    · rw [Bool.not_eq_true] at hf
      rw [(dats m 0 c).leavesExact_idle 4 t (idle_later t h0) hf]
      simp only [before0_4 m c t.val t rfl h0]
      iintro H
      iexists (outAt2 m c (t.val / 32))
      iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [leaves0_0, leaves0_1, leaves0_2, leaves0_3]
  rw [show (dats m 0 c).owesAt () t.succ = (dats m 0 c).owesAt () t.castSucc from rfl]
  by_cases h0 : t.val % 32 = 0
  · rw [Φ_first m c t h0, PhiA0_eq]
    have eA : k0_pay1 (iblk m c 1 t : Vec F S4096x1280 .f32) = wA m c (t.val / 32) := by unfold wA; rw [top_self t h0]
    have e3 : outAt m c t = outBlk (iblk m c 0 t) (k0_pay1 (iblk m c 1 t : Vec F S4096x1280 .f32)) := by rw [eA]; rfl
    have e4 : outAt2 m c (t.val / 32) = outBlk2 (iblk m c 2 t) (k0_pay1 (iblk m c 1 t : Vec F S4096x1280 .f32)) := by
      rw [eA]; unfold outAt2; rw [top_self t h0]
    rw [e3]
    iintro ⟨⟨HS0, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((hcond t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [HS0]; · iexact HS0
    rw [← e4, eA]
    iintro ⟨H0, H1, H2, H3, H4, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    iapply (leaves0_4 m c t)
    iexact H4
  · rw [Φ_later m c t h0]
    simp only [before0_4 m c t.val t rfl h0]
    unfold held outAt
    iintro ⟨⟨HS0, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (fun h => h0 ((hcond t).mp h)) (iblk m c 0 t) (iblk m c 1 t) (iblk m c 2 t) (outAt2 m c (t.val / 32)) (wA m c (t.val / 32)) _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    iapply (leaves0_4 m c t)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : Pipeline.ΦA spec0 c ⊢ (dats (F := F) m 0 c).Φ 0 := .rfl
theorem Φ_out (c : Dev nD) : (dats (F := F) m 0 c).Φ (Fin.last cfg0.N) ⊢ Pipeline.ΦA spec0 c := by
  have e : (dats (F := F) m 0 c).Φ (Fin.last cfg0.N) = if grid0.N % 32 = 0 then Pipeline.ΦA spec0 c else held m c (grid0.N / 32) := rfl
  rw [e, if_pos (by rw [N_0])]

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.EvenInIdeal

end

end
-- ==== Proof.EvenInFrame.lean ====
/- The even layers' input projection as compiled: its frame, from the frame of its ideal reading, the same program at every instance. -/
module

public import proofs.«01_k».proof.Proof.EvenInIdealFrame
public import proofs.«01_k».proof.Proof.Gen.EvenIn

@[expose] public section

set_option maxRecDepth 16384

noncomputable section

namespace Cert.Proof.EvenIn

open Cert.EvenIn Cert.EvenIn.Gen
open Idealize.ShloMosaic Idealize.ShloMosaic.TcCoe

variable {F : FTy → Type} [FloatOps F]

theorem defs₀_same : Cert.EvenInIdeal.defs₀ (F := F) = defs₀ := by
  unfold defs₀ Cert.EvenInIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.EvenInIdeal.defs (F := F) = defs := congrArg (Pipeline.defs _) defs₀_same

/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [← defs_same]
  exact Cert.Proof.EvenInIdeal.frame (F := F) m ρ

end Cert.Proof.EvenIn

end

end
-- ==== Proof.EvenInValue.lean ====
/- The even layers' input projection's results at the extended reals. -/
module

public import proofs.«01_k».proof.Proof.EvenInIdealFrame
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic

/-- A token's entry of the projection. -/
def evenAt (n : ℕ) (X : Shape.Idx ⟨2, ![n, 4096]⟩ → EReal) (W : Shape.Idx ⟨2, ![4096, 8960]⟩ → EReal) (p : Fin n) (q : Fin 8960) : EReal :=
  ∑ k : Fin 4096, X (ix2 p k) * W (ix2 k q)

/-- The projection of `n` tokens. -/
def evenArr (n : ℕ) (X : Shape.Idx ⟨2, ![n, 4096]⟩ → EReal) (W : Shape.Idx ⟨2, ![4096, 8960]⟩ → EReal) : Shape.Idx ⟨2, ![n, 8960]⟩ → EReal :=
  fun i => evenAt n X W (i 0) (i 1)

end Cert.Proof

namespace Cert.Proof.EvenInIdeal

open Cert.EvenInIdeal Cert.EvenInIdeal.Gen
open Idealize.ShloMosaic Idealize.ShloMosaic.TcCoe

/-! ## The body's blocks -/

theorem tile_at (x : Vec Ideal S256x4096 .bf16) (a : Vec Ideal S4096x1280 .bf16) (p : Fin 256) (q : Fin 1280) :
    tile x a (ix2 p q) = ∑ k : Fin 4096, x (ix2 p k) * a (ix2 k q) := by
  unfold tile k0_pay3
  pointwise

theorem outBlk2_at (x : Vec Ideal S128x4096 .bf16) (a : Vec Ideal S4096x1280 .bf16) (p : Fin 128) (q : Fin 1280) :
    outBlk2 x a (ix2 p q) = ∑ k : Fin 4096, x (ix2 p k) * a (ix2 k q) := by
  unfold outBlk2 k0_pay2
  pointwise

theorem outBlk_at (x : Vec Ideal S512x4096 .bf16) (a : Vec Ideal S4096x1280 .bf16) (p : Fin 512) (q : Fin 1280) :
    outBlk x a (ix2 p q) = ∑ k : Fin 4096, x (ix2 p k) * a (ix2 k q) := by
  refine (tile_at (rowsAt x (p.val / 256)) a (⟨p.val % 256, Nat.mod_lt _ (by decide)⟩ : Fin 256) q).trans ?_
  refine Finset.sum_congr rfl fun k _ => congrArg (· * a (ix2 k q)) (congrArg x (funext fun d => ?_))
  have hp := p.isLt
  fin_cases d <;> apply Fin.ext
  · show (256 * (p.val / 256) + p.val % 256) % 512 = p.val; omega
  · rfl

theorem weight_at (w : Vec Ideal S4096x1280 .f32) (k : Fin 4096) (q : Fin 1280) :
    (k0_pay1 w : FVec Ideal S4096x1280 .bf16) (ix2 k q) = w (ix2 k q) := by
  unfold k0_pay1
  pointwise

/-! ## The windows' blocks -/

variable (m : (ℓ : Loc nD τ sig) → Buf (Elt Ideal) ℓ)

theorem idx : ∀ t : Fin cfg0.N, win0_0.index t = ![t.val % 32, 0] ∧ win0_1.index t = ![0, t.val / 32] ∧ win0_2.index t = ![0, 0]
    ∧ win0_3.index t = ![t.val % 32, t.val / 32] ∧ win0_4.index t = ![0, t.val / 32] :=
  (by decide +kernel : ∀ t : Fin grid0.N, _)

theorem blk0_at (c : Dev nD) (t : Fin cfg0.N) (ht : t.val < 224) (p : Fin 512) (k : Fin 4096) :
    (iblk m c 0 t : Vec Ideal S512x4096 .bf16) (ix2 p k)
      = (m ((c : Thread nD τ).loc main_arg0) : FVec Ideal S16384x4096 .bf16) (ix2 (⟨512 * (t.val % 32) + p.val, by omega⟩ : Fin 16384) k) := by
  rw [← V_main_arg0 m c]
  blk_ext [iblk, idx t]

theorem blk1_at (c : Dev nD) (t : Fin cfg0.N) (ht : t.val < 224) (k : Fin 4096) (q : Fin 1280) :
    (iblk m c 1 t : Vec Ideal S4096x1280 .f32) (ix2 k q)
      = (m ((c : Thread nD τ).loc main_arg2) : FVec Ideal S4096x8960 .f32) (ix2 k (⟨1280 * (t.val / 32) + q.val, by omega⟩ : Fin 8960)) := by
  rw [← V_main_arg2 m c]
  blk_ext [iblk, idx t]

theorem blk2_at (c : Dev nD) (t : Fin cfg0.N) (ht : t.val < 224) (p : Fin 128) (k : Fin 4096) :
    (iblk m c 2 t : Vec Ideal S128x4096 .bf16) (ix2 p k)
      = (m ((c : Thread nD τ).loc main_arg1) : FVec Ideal S128x4096 .bf16) (ix2 p k) := by
  rw [← V_main_arg1 m c]
  blk_ext [iblk, idx t]

theorem top_div (n : ℕ) (hn : n < 7) : (top n).val / 32 = n := by
  show 32 * n % 224 / 32 = n; omega
theorem top_lt (n : ℕ) : (top n).val < 224 := Nat.mod_lt _ (by decide)

theorem wA_at (c : Dev nD) (n : ℕ) (hn : n < 7) (k : Fin 4096) (q : Fin 1280) :
    wA m c n (ix2 k q) = (m ((c : Thread nD τ).loc main_arg2) : FVec Ideal S4096x8960 .f32) (ix2 k (⟨1280 * n + q.val, by omega⟩ : Fin 8960)) := by
  unfold wA
  refine (weight_at _ k q).trans ((blk1_at m c (top n) (top_lt n) k q).trans ?_)
  congr 3
  exact congrArg (1280 * · + q.val) (top_div n hn)

/-! ## The arrays -/

theorem outAt_at (c : Dev nD) (t : Fin cfg0.N) (ht : t.val < 224) (p : Fin 512) (q : Fin 1280) :
    outAt m c t (ix2 p q) = evenAt 16384 (m ((c : Thread nD τ).loc main_arg0)) (m ((c : Thread nD τ).loc main_arg2))
      (⟨512 * (t.val % 32) + p.val, by omega⟩ : Fin 16384) (⟨1280 * (t.val / 32) + q.val, by omega⟩ : Fin 8960) := by
  unfold outAt
  refine (outBlk_at _ _ p q).trans ?_
  unfold evenAt
  exact Finset.sum_congr rfl fun k _ => congrArg₂ (· * ·) (blk0_at m c t ht p k) (wA_at m c _ (by omega) k q)

theorem outAt2_at (c : Dev nD) (n : ℕ) (hn : n < 7) (p : Fin 128) (q : Fin 1280) :
    outAt2 m c n (ix2 p q) = evenAt 128 (m ((c : Thread nD τ).loc main_arg1)) (m ((c : Thread nD τ).loc main_arg2))
      p (⟨1280 * n + q.val, by omega⟩ : Fin 8960) := by
  unfold outAt2
  refine (outBlk2_at _ _ p q).trans ?_
  unfold evenAt
  exact Finset.sum_congr rfl fun k _ => congrArg₂ (· * ·) (blk2_at m c _ (top_lt n) p k) (wA_at m c n hn k q)

theorem final_out (c : Dev nD) : (dats m 0 c).arrAt 3 (cfgs 0).N = evenArr 16384 (m ((c : Thread nD τ).loc main_arg0)) (m ((c : Thread nD τ).loc main_arg2)) := by
  refine (dats m 0 c).arrAt_eq_of_covers 3 _ (by decide +kernel) fun t hf y => ?_
  blk_simp
  have ht : t.val < 224 := lt_of_lt_of_eq t.isLt N_0
  refine Eq.trans ?_ ((outAt_at m c t ht (y 0) (y 1)).trans ?_)
  · exact congrArg (outAt m c t) (funext fun d => by fin_cases d <;> rfl)
  · unfold evenArr
    refine congr (congrArg (evenAt 16384 _ _) (Fin.ext ?_)) (Fin.ext ?_)
    all_goals (blk_simp [idx t]; try exact congrArg (· + _) (Nat.mul_comm _ _))

theorem final_out2 (c : Dev nD) : (dats m 0 c).arrAt 4 (cfgs 0).N = evenArr 128 (m ((c : Thread nD τ).loc main_arg1)) (m ((c : Thread nD τ).loc main_arg2)) := by
  refine (dats m 0 c).arrAt_eq_of_covers 4 _ (by decide +kernel) fun t hf y => ?_
  blk_simp
  have ht : t.val < 224 := lt_of_lt_of_eq t.isLt N_0
  refine Eq.trans ?_ ((outAt2_at m c (t.val / 32) (by omega) (y 0) (y 1)).trans ?_)
  · exact congrArg (outAt2 m c _) (funext fun d => by fin_cases d <;> rfl)
  · unfold evenArr
    refine congr (congrArg (evenAt 128 _ _) (Fin.ext ?_)) (Fin.ext ?_)
    all_goals (blk_simp [idx t]; try exact congrArg (· + _) (Nat.mul_comm _ _))

/-- The projection's run: its results and its arguments at the end. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = evenArr 16384 (m ((c.tc : Thread nD τ).loc main_arg0)) (m ((c.tc : Thread nD τ).loc main_arg2))
      ∧ r.2.mem ((c.tc : Thread nD τ).loc main_v0_1) = evenArr 128 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m ρ) (unchanged m ρ)) fun r h c =>
    ⟨((h.1 c).1 3).trans (final_out m c), ((h.1 c).1 4).trans (final_out2 m c), h.2 c⟩

end Cert.Proof.EvenInIdeal

end

end
-- ==== Proof.EvenInSame.lean ====
/- The even layers' input projection's results and the reference's are the same. -/
module

public import proofs.«01_k».proof.Defs
public import proofs.«01_k».proof.Proof.EvenInValue
public import proofs.«01_k».proof.Proof.Gen.EvenInRefIdeal
public import proofs.«01_k».proof.Proof.Gen.EvenInRefIdeal.Run
public import Idealize.ShloMosaic.Lib.Quiescent

@[expose] public section

set_option maxRecDepth 16384

noncomputable section

namespace Cert.Proof.EvenInRef

open Cert.EvenInRefIdeal Cert.EvenInRefIdeal.Gen
open Idealize.ShloMosaic Idealize.ShloMosaic.TcCoe

theorem prompt_dot (x : FVec Ideal S16384x4096 .f32) (w : FVec Ideal S4096x8960 .f32) (p : Fin 16384) (q : Fin 8960) :
    Host.dotGeneral dot_S16384x4096_S4096x8960_S16384x8960_1_0_0_1_n_n none x w (ix2 p q) = ∑ k, x (ix2 p k) * w (ix2 k q) := by
  pointwise

theorem sample_dot (x : FVec Ideal S128x4096 .f32) (w : FVec Ideal S4096x8960 .f32) (p : Fin 128) (q : Fin 8960) :
    Host.dotGeneral dot_S128x4096_S4096x8960_S128x8960_1_0_0_1_n_n none x w (ix2 p q) = ∑ k, x (ix2 p k) * w (ix2 k q) := by
  pointwise

/-- The reference's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v1) = evenArr 16384 (m ((c.tc : Thread nD τ).loc main_arg0)) (m ((c.tc : Thread nD τ).loc main_arg2))
      ∧ r.2.mem ((c.tc : Thread nD τ).loc main_v3) = evenArr 128 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (Cert.EvenInRefIdeal.Value.run m ρ) fun r h c => by
    refine ⟨(h c).1.trans ?_, (h c).2.1.trans ?_, (h c).2.2⟩
    · generalize m ((c.tc : Thread nD τ).loc main_arg0) = x, m ((c.tc : Thread nD τ).loc main_arg2) = w
      funext i
      obtain ⟨p, q, rfl⟩ : ∃ (p : Fin 16384) (q : Fin 8960), i = ix2 p q := ⟨i 0, i 1, ValueIdx.eq_ix2 i⟩
      exact prompt_dot _ _ p q
    · generalize m ((c.tc : Thread nD τ).loc main_arg1) = x, m ((c.tc : Thread nD τ).loc main_arg2) = w
      funext i
      obtain ⟨p, q, rfl⟩ : ∃ (p : Fin 128) (q : Fin 8960), i = ix2 p q := ⟨i 0, i 1, ValueIdx.eq_ix2 i⟩
      exact sample_dot _ _ p q

/-- Every run of the reference ends, its arguments as they were and every counter at zero (it has no counter). -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c => (h c).2.2, sem_eq_zero_of_no_sems (by decide) r.2⟩

end Cert.Proof.EvenInRef

namespace Cert.Proof

open Idealize.ShloMosaic Idealize.ShloMosaic.TcCoe

theorem even_in_same : Cert.algebraic_EvenInIdeal_EvenInRefIdeal (hEvenInIdeal := Cert.EvenInIdeal.Gen.facts) (hEvenInRefIdeal := Cert.EvenInRefIdeal.Gen.facts) := by
  intro m g m' g' _ hagree
  refine ⟨fun c => evenArr 16384 (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg2)),
    fun c => evenArr 128 (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)),
    EvenInIdeal.run m g, ?_⟩
  refine θ_run_mono (EvenInRef.run m' g') fun r h c => ?_
  obtain ⟨h0, h1, h2⟩ := h c
  obtain ⟨e0, e1, e2⟩ := hagree c
  refine ⟨h0.trans ?_, h1.trans ?_, h2⟩
  · rw [e0, e2]
  · rw [e1, e2]

end Cert.Proof

end

end
-- ==== Proof.Halves.lean ====
/- The two halves of a block of weights of 4096 rows. -/
module

public import proofs.«01_k».proof.Proof.Reads

@[expose] public section

noncomputable section

namespace Cert.Proof

open Idealize.ShloMosaic
open Idealize.ShloMosaic.ValueIdx (ix2)

variable {F : FTy → Type} [FloatOps F] {sig : RefSig}

/-- The `n`-th half of a column's weights: the rows of one of the two mixers. -/
def halfAt (a : Vec F ⟨2, ![4096, 512]⟩ .bf16) (n : ℕ) : Vec F ⟨2, ![2048, 512]⟩ .bf16 := fun i =>
  a (ix2 (⟨(2048 * n + (i 0).val) % 4096, Nat.mod_lt _ (by decide)⟩ : Fin 4096) (i 1 : Fin 512))

theorem read_half (M : Memref sig .tc .vmem ⟨2, ![4096, 512]⟩ .bf16) (f : M.view.ty.Contents (Elt F)) (n : ℕ) (hn : n < 2) (o : ℕ) (ho : o = 2048 * n) (inb) :
    M.view.readAt (Elt F) (Rect.unit (s := ⟨2, ![4096, 512]⟩) ![o, 0] (⟨2, ![2048, 512]⟩ : Shape).size inb).toLoadRect f = halfAt (M.view.read (Elt F) f) n := by
  funext i
  have hi : (i 0).val < 2048 := (i 0).isLt
  refine congrArg (M.view.read (Elt F) f) (funext fun a => ?_)
  fin_cases a <;> apply Fin.ext
  · show o + 1 * (i 0).val = (2048 * n + (i 0).val) % 4096; omega
  · show 0 + 1 * (i 1).val = (i 1).val; omega

theorem half_at (a : Vec F ⟨2, ![4096, 512]⟩ .bf16) (k : Fin 2048) (q : Fin 512) :
    halfAt a 0 (ix2 k q) = a (ix2 (⟨k.val, by omega⟩ : Fin 4096) q) ∧ halfAt a 1 (ix2 k q) = a (ix2 (⟨2048 + k.val, by omega⟩ : Fin 4096) q) := by
  have hk := k.isLt
  exact ⟨congrArg (fun z : Fin 4096 => a (ix2 z q)) (Fin.ext (show (2048 * 0 + k.val) % 4096 = k.val by omega)),
    congrArg (fun z : Fin 4096 => a (ix2 z q)) (Fin.ext (show (2048 * 1 + k.val) % 4096 = 2048 + k.val by omega))⟩

end Cert.Proof

end

end
-- ==== Proof.OddOutFrame.lean ====
/- The odd layers' output projection as compiled: its frame, from the frame of its ideal reading, the same program at every instance. -/
module

public import proofs.«01_k».proof.Proof.OddOutIdealFrame
public import proofs.«01_k».proof.Proof.Gen.OddOut

@[expose] public section

set_option maxRecDepth 16384

noncomputable section

namespace Cert.Proof.OddOut

open Cert.OddOut Cert.OddOut.Gen
open Idealize.ShloMosaic Idealize.ShloMosaic.TcCoe

variable {F : FTy → Type} [FloatOps F]

theorem defs₀_same : Cert.OddOutIdeal.defs₀ (F := F) = defs₀ := by
  unfold defs₀ Cert.OddOutIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.OddOutIdeal.defs (F := F) = defs := congrArg (Pipeline.defs _) defs₀_same

/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [← defs_same]
  exact Cert.Proof.OddOutIdeal.frame (F := F) m ρ

end Cert.Proof.OddOut

end

end
-- ==== Proof.OddOutValue.lean ====
/- The odd layers' output projection's results at the extended reals. -/
module

public import proofs.«01_k».proof.Proof.OddOutIdealFrame
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic

/-- A residual `r` with a gate `g` times the product of two mixers' outputs `f` and `f'` and a weight column's halves `h` and `h'`. -/
def mixed (r g : EReal) (f f' h h' : Fin 2048 → EReal) : EReal :=
  r + g * (∑ k, f k * h k + ∑ k, f' k * h' k)

/-- The layer's mixer output at a token `p` of `n`, `s` tokens to a sequence of `b`, and a channel `q`. -/
def mixedAt (n b s : ℕ) (h : n = b * s) (X X' : Shape.Idx ⟨2, ![n, 2048]⟩ → EReal) (W : Shape.Idx ⟨3, ![1, 4096, 4096]⟩ → EReal) (Y : Shape.Idx ⟨2, ![n, 4096]⟩ → EReal) (G : Shape.Idx ⟨3, ![b, 9, 4096]⟩ → EReal)
    (p : Fin n) (q : Fin 4096) : EReal :=
  mixed (Y (ix2 p q)) (G (ix3 (⟨p.val / s, Nat.div_lt_of_lt_mul (by have := p.isLt; rw [Nat.mul_comm]; omega)⟩ : Fin b) 5 q)) (fun k => X (ix2 p k)) (fun k => X' (ix2 p k))
    (fun k => W (ix3 0 (⟨k.val, by omega⟩ : Fin 4096) q)) (fun k => W (ix3 0 (⟨2048 + k.val, by omega⟩ : Fin 4096) q))

/-- The layer's mixer output of `n` tokens. -/
def mixedArr (n b s : ℕ) (h : n = b * s) (X X' : Shape.Idx ⟨2, ![n, 2048]⟩ → EReal) (W : Shape.Idx ⟨3, ![1, 4096, 4096]⟩ → EReal) (Y : Shape.Idx ⟨2, ![n, 4096]⟩ → EReal) (G : Shape.Idx ⟨3, ![b, 9, 4096]⟩ → EReal) :
    Shape.Idx ⟨2, ![n, 4096]⟩ → EReal :=
  fun i => mixedAt n b s h X X' W Y G (i 0) (i 1)

end Cert.Proof

namespace Cert.Proof.OddOutIdeal

open Cert.OddOutIdeal Cert.OddOutIdeal.Gen
open Idealize.ShloMosaic Idealize.ShloMosaic.TcCoe

/-! ## The body's blocks -/

/-- Equal parts, equal outputs. -/
theorem mixed_congr {r r' g g' : EReal} {f f' h h' a a' b b' : Fin 2048 → EReal} (er : r = r') (eg : g = g') (ef : ∀ k, f k = f' k) (eh : ∀ k, h k = h' k) (ea : ∀ k, a k = a' k) (eb : ∀ k, b k = b' k) :
    mixed r g f h a b = mixed r' g' f' h' a' b' := by
  rw [er, eg, funext ef, funext eh, funext ea, funext eb]

theorem tile_at (x x' : Vec Ideal S256x2048 .bf16) (a : Vec Ideal S4096x512 .bf16) (g : Vec Ideal S1x1x512 .f32) (y : Vec Ideal S256x512 .f32) (p : Fin 256) (q : Fin 512) :
    tile x x' a g y (ix2 p q) = mixed (y (ix2 p q)) (g (ix3 0 0 q)) (fun k => x (ix2 p k)) (fun k => x' (ix2 p k)) (fun k => a (ix2 (⟨k.val, by omega⟩ : Fin 4096) q)) (fun k => a (ix2 (⟨2048 + k.val, by omega⟩ : Fin 4096) q)) := by
  refine Eq.trans ?_ (mixed_congr rfl rfl (fun _ => rfl) (fun _ => rfl) (fun k => (half_at a k q).1) (fun k => (half_at a k q).2))
  unfold tile
  generalize halfAt a 0 = u, halfAt a 1 = v
  unfold k0_pay4
  pointwise
  rfl

theorem outBlk2_at (x x' : Vec Ideal S128x2048 .bf16) (a : Vec Ideal S4096x512 .bf16) (g : Vec Ideal S1x128x512 .f32) (y : Vec Ideal S128x512 .f32) (p : Fin 128) (q : Fin 512) :
    outBlk2 x x' a g y (ix2 p q) = mixed (y (ix2 p q)) (g (ix3 0 p q)) (fun k => x (ix2 p k)) (fun k => x' (ix2 p k)) (fun k => a (ix2 (⟨k.val, by omega⟩ : Fin 4096) q)) (fun k => a (ix2 (⟨2048 + k.val, by omega⟩ : Fin 4096) q)) := by
  refine Eq.trans ?_ (mixed_congr rfl rfl (fun _ => rfl) (fun _ => rfl) (fun k => (half_at a k q).1) (fun k => (half_at a k q).2))
  unfold outBlk2
  generalize halfAt a 0 = u, halfAt a 1 = v
  unfold k0_pay3
  pointwise
  rfl

theorem outBlk_at (x x' : Vec Ideal S1024x2048 .bf16) (a : Vec Ideal S4096x512 .bf16) (g : Vec Ideal S1x1x512 .f32) (y : Vec Ideal S1024x512 .f32) (p : Fin 1024) (q : Fin 512) :
    outBlk x x' a g y (ix2 p q) = mixed (y (ix2 p q)) (g (ix3 0 0 q)) (fun k => x (ix2 p k)) (fun k => x' (ix2 p k)) (fun k => a (ix2 (⟨k.val, by omega⟩ : Fin 4096) q)) (fun k => a (ix2 (⟨2048 + k.val, by omega⟩ : Fin 4096) q)) := by
  refine (tile_at (rowsAt x (p.val / 256)) (rowsAt x' (p.val / 256)) a g (rowsAt y (p.val / 256)) (⟨p.val % 256, Nat.mod_lt _ (by decide)⟩ : Fin 256) q).trans ?_
  have hp := p.isLt
  have e : (⟨(256 * (p.val / 256) + p.val % 256) % 1024, Nat.mod_lt _ (by decide)⟩ : Fin 1024) = p := Fin.ext (show (256 * (p.val / 256) + p.val % 256) % 1024 = p.val by omega)
  exact mixed_congr (congrArg (fun z : Fin 1024 => y (ix2 z q)) e) rfl (fun k => congrArg (fun z : Fin 1024 => x (ix2 z k)) e) (fun k => congrArg (fun z : Fin 1024 => x' (ix2 z k)) e) (fun _ => rfl) (fun _ => rfl)

theorem weight_at (w : Vec Ideal S1x4096x512 .f32) (k : Fin 4096) (q : Fin 512) :
    (k0_pay2 w : FVec Ideal S4096x512 .bf16) (ix2 k q) = w (ix3 0 k q) := by
  unfold k0_pay2
  pointwise

/-! ## The windows' blocks -/

variable (m : (ℓ : Loc nD τ sig) → Buf (Elt Ideal) ℓ)

theorem idx : ∀ t : Fin cfg0.N, win0_0.index t = ![t.val % 16, 0] ∧ win0_1.index t = ![t.val % 16, 0] ∧ win0_2.index t = ![0, 0, t.val / 16] ∧ win0_3.index t = ![t.val % 16, t.val / 16]
    ∧ win0_4.index t = ![t.val % 16 / 4, 0, t.val / 16] ∧ win0_5.index t = ![0, 0] ∧ win0_6.index t = ![0, 0] ∧ win0_7.index t = ![0, t.val / 16] ∧ win0_8.index t = ![0, 0, t.val / 16]
    ∧ win0_9.index t = ![t.val % 16, t.val / 16] ∧ win0_10.index t = ![0, t.val / 16] :=
  (by decide +kernel : ∀ t : Fin grid0.N, _)

/-- The prompt's gates, as the host prepares them. -/
theorem v2_at (c : Dev nD) (b : Fin 4) (q : Fin 4096) :
    (V m c main_v2 : FVec Ideal S4x1x4096 .f32) (ix3 b 0 q) = (m ((c : Thread nD τ).loc main_arg7) : FVec Ideal S4x9x4096 .f32) (ix3 b 5 q) := by
  entry_read
  pointwise
/-- The sample's, one to a token. -/
theorem v7_at (c : Dev nD) (p : Fin 128) (q : Fin 4096) :
    (V m c main_v7 : FVec Ideal S1x128x4096 .f32) (ix3 0 p q) = (m ((c : Thread nD τ).loc main_arg8) : FVec Ideal S8x9x4096 .f32) (ix3 (⟨p.val / 16, by omega⟩ : Fin 8) 5 q) := by
  entry_read
  pointwise

theorem blk0_at (c : Dev nD) (t : Fin cfg0.N) (ht : t.val < 128) (p : Fin 1024) (k : Fin 2048) :
    (iblk m c 0 t : Vec Ideal S1024x2048 .bf16) (ix2 p k)
      = (m ((c : Thread nD τ).loc main_arg0) : FVec Ideal S16384x2048 .bf16) (ix2 (⟨1024 * (t.val % 16) + p.val, by omega⟩ : Fin 16384) k) := by
  rw [← V_main_arg0 m c]
  blk_ext [iblk, idx t]

theorem blk1_at (c : Dev nD) (t : Fin cfg0.N) (ht : t.val < 128) (p : Fin 1024) (k : Fin 2048) :
    (iblk m c 1 t : Vec Ideal S1024x2048 .bf16) (ix2 p k)
      = (m ((c : Thread nD τ).loc main_arg1) : FVec Ideal S16384x2048 .bf16) (ix2 (⟨1024 * (t.val % 16) + p.val, by omega⟩ : Fin 16384) k) := by
  rw [← V_main_arg1 m c]
  blk_ext [iblk, idx t]

theorem blk2_at (c : Dev nD) (t : Fin cfg0.N) (ht : t.val < 128) (k : Fin 4096) (q : Fin 512) :
    (iblk m c 2 t : Vec Ideal S1x4096x512 .f32) (ix3 0 k q)
      = (m ((c : Thread nD τ).loc main_arg4) : FVec Ideal S1x4096x4096 .f32) (ix3 0 k (⟨512 * (t.val / 16) + q.val, by omega⟩ : Fin 4096)) := by
  rw [← V_main_arg4 m c]
  blk_ext [iblk, idx t]

theorem blk3_at (c : Dev nD) (t : Fin cfg0.N) (ht : t.val < 128) (p : Fin 1024) (q : Fin 512) :
    (iblk m c 3 t : Vec Ideal S1024x512 .f32) (ix2 p q)
      = (m ((c : Thread nD τ).loc main_arg5) : FVec Ideal S16384x4096 .f32) (ix2 (⟨1024 * (t.val % 16) + p.val, by omega⟩ : Fin 16384) (⟨512 * (t.val / 16) + q.val, by omega⟩ : Fin 4096)) := by
  rw [← V_main_arg5 m c]
  blk_ext [iblk, idx t]

theorem blk4_at (c : Dev nD) (t : Fin cfg0.N) (ht : t.val < 128) (q : Fin 512) :
    (iblk m c 4 t : Vec Ideal S1x1x512 .f32) (ix3 0 0 q)
      = (V m c main_v2 : FVec Ideal S4x1x4096 .f32) (ix3 (⟨t.val % 16 / 4, by omega⟩ : Fin 4) 0 (⟨512 * (t.val / 16) + q.val, by omega⟩ : Fin 4096)) := by
  blk_ext [iblk, idx t]

theorem blk5_at (c : Dev nD) (t : Fin cfg0.N) (ht : t.val < 128) (p : Fin 128) (k : Fin 2048) :
    (iblk m c 5 t : Vec Ideal S128x2048 .bf16) (ix2 p k)
      = (m ((c : Thread nD τ).loc main_arg2) : FVec Ideal S128x2048 .bf16) (ix2 p k) := by
  rw [← V_main_arg2 m c]
  blk_ext [iblk, idx t]

theorem blk6_at (c : Dev nD) (t : Fin cfg0.N) (ht : t.val < 128) (p : Fin 128) (k : Fin 2048) :
    (iblk m c 6 t : Vec Ideal S128x2048 .bf16) (ix2 p k)
      = (m ((c : Thread nD τ).loc main_arg3) : FVec Ideal S128x2048 .bf16) (ix2 p k) := by
  rw [← V_main_arg3 m c]
  blk_ext [iblk, idx t]

theorem blk7_at (c : Dev nD) (t : Fin cfg0.N) (ht : t.val < 128) (p : Fin 128) (q : Fin 512) :
    (iblk m c 7 t : Vec Ideal S128x512 .f32) (ix2 p q)
      = (m ((c : Thread nD τ).loc main_arg6) : FVec Ideal S128x4096 .f32) (ix2 p (⟨512 * (t.val / 16) + q.val, by omega⟩ : Fin 4096)) := by
  rw [← V_main_arg6 m c]
  blk_ext [iblk, idx t]

theorem blk8_at (c : Dev nD) (t : Fin cfg0.N) (ht : t.val < 128) (p : Fin 128) (q : Fin 512) :
    (iblk m c 8 t : Vec Ideal S1x128x512 .f32) (ix3 0 p q)
      = (V m c main_v7 : FVec Ideal S1x128x4096 .f32) (ix3 0 p (⟨512 * (t.val / 16) + q.val, by omega⟩ : Fin 4096)) := by
  blk_ext [iblk, idx t]

theorem top_div (n : ℕ) (hn : n < 8) : (top n).val / 16 = n := by
  show 16 * n % 128 / 16 = n; omega
theorem top_lt (n : ℕ) : (top n).val < 128 := Nat.mod_lt _ (by decide)

theorem wA_at (c : Dev nD) (n : ℕ) (hn : n < 8) (k : Fin 4096) (q : Fin 512) :
    wA m c n (ix2 k q) = (m ((c : Thread nD τ).loc main_arg4) : FVec Ideal S1x4096x4096 .f32) (ix3 0 k (⟨512 * n + q.val, by omega⟩ : Fin 4096)) := by
  unfold wA
  refine (weight_at _ k q).trans ((blk2_at m c (top n) (top_lt n) k q).trans ?_)
  congr 3
  rw [top_div n hn]

/-! ## The arrays -/

theorem outAt_at (c : Dev nD) (t : Fin cfg0.N) (ht : t.val < 128) (p : Fin 1024) (q : Fin 512) :
    outAt m c t (ix2 p q) = mixedAt 16384 4 4096 rfl (m ((c : Thread nD τ).loc main_arg0)) (m ((c : Thread nD τ).loc main_arg1)) (m ((c : Thread nD τ).loc main_arg4)) (m ((c : Thread nD τ).loc main_arg5)) (m ((c : Thread nD τ).loc main_arg7))
      (⟨1024 * (t.val % 16) + p.val, by omega⟩ : Fin 16384) (⟨512 * (t.val / 16) + q.val, by omega⟩ : Fin 4096) := by
  unfold outAt
  refine (outBlk_at _ _ _ _ _ p q).trans ?_
  unfold mixedAt
  have hn : t.val / 16 < 8 := by omega
  refine mixed_congr (blk3_at m c t ht p q) ?_ (fun k => blk0_at m c t ht p k) (fun k => blk1_at m c t ht p k) (fun k => wA_at m c _ hn _ q) (fun k => wA_at m c _ hn _ q)
  refine (blk4_at m c t ht q).trans ((v2_at m c _ _).trans ?_)
  refine congrArg (fun z : Fin 4 => (m ((c : Thread nD τ).loc main_arg7) : FVec Ideal S4x9x4096 .f32) (ix3 z 5 _)) (Fin.ext ?_)
  have hp := p.isLt
  show t.val % 16 / 4 = (1024 * (t.val % 16) + p.val) / 4096
  omega

theorem outAt2_at (c : Dev nD) (n : ℕ) (hn : n < 8) (p : Fin 128) (q : Fin 512) :
    outAt2 m c n (ix2 p q) = mixedAt 128 8 16 rfl (m ((c : Thread nD τ).loc main_arg2)) (m ((c : Thread nD τ).loc main_arg3)) (m ((c : Thread nD τ).loc main_arg4)) (m ((c : Thread nD τ).loc main_arg6)) (m ((c : Thread nD τ).loc main_arg8))
      p (⟨512 * n + q.val, by omega⟩ : Fin 4096) := by
  unfold outAt2
  refine (outBlk2_at _ _ _ _ _ p q).trans ?_
  unfold mixedAt
  have e : ∀ h, (⟨512 * ((top n).val / 16) + q.val, h⟩ : Fin 4096) = ⟨512 * n + q.val, by omega⟩ := fun h => Fin.ext (show 512 * ((top n).val / 16) + q.val = _ by rw [top_div n hn])
  refine mixed_congr ((blk7_at m c _ (top_lt n) p q).trans ?_) ((blk8_at m c _ (top_lt n) p q).trans ((v7_at m c _ _).trans ?_)) (fun k => blk5_at m c _ (top_lt n) p k) (fun k => blk6_at m c _ (top_lt n) p k) (fun k => wA_at m c n hn _ q) (fun k => wA_at m c n hn _ q)
  · rw [e]
  · rw [e]

theorem final_out (c : Dev nD) : (dats m 0 c).arrAt 9 (cfgs 0).N = mixedArr 16384 4 4096 rfl (m ((c : Thread nD τ).loc main_arg0)) (m ((c : Thread nD τ).loc main_arg1)) (m ((c : Thread nD τ).loc main_arg4)) (m ((c : Thread nD τ).loc main_arg5)) (m ((c : Thread nD τ).loc main_arg7)) := by
  refine (dats m 0 c).arrAt_eq_of_covers 9 _ (by decide +kernel) fun t hf y => ?_
  blk_simp
  have ht : t.val < 128 := lt_of_lt_of_eq t.isLt N_0
  refine Eq.trans ?_ ((outAt_at m c t ht (y 0) (y 1)).trans ?_)
  · exact congrArg (outAt m c t) (funext fun d => by fin_cases d <;> rfl)
  · unfold mixedArr
    refine congr (congrArg (mixedAt 16384 4 4096 rfl _ _ _ _ _) (Fin.ext ?_)) (Fin.ext ?_)
    all_goals (blk_simp [idx t]; try exact congrArg (· + _) (Nat.mul_comm _ _))

theorem final_out2 (c : Dev nD) : (dats m 0 c).arrAt 10 (cfgs 0).N = mixedArr 128 8 16 rfl (m ((c : Thread nD τ).loc main_arg2)) (m ((c : Thread nD τ).loc main_arg3)) (m ((c : Thread nD τ).loc main_arg4)) (m ((c : Thread nD τ).loc main_arg6)) (m ((c : Thread nD τ).loc main_arg8)) := by
  refine (dats m 0 c).arrAt_eq_of_covers 10 _ (by decide +kernel) fun t hf y => ?_
  blk_simp
  have ht : t.val < 128 := lt_of_lt_of_eq t.isLt N_0
  refine Eq.trans ?_ ((outAt2_at m c (t.val / 16) (by omega) (y 0) (y 1)).trans ?_)
  · exact congrArg (outAt2 m c _) (funext fun d => by fin_cases d <;> rfl)
  · unfold mixedArr
    refine congr (congrArg (mixedAt 128 8 16 rfl _ _ _ _ _) (Fin.ext ?_)) (Fin.ext ?_)
    all_goals (blk_simp [idx t]; try exact congrArg (· + _) (Nat.mul_comm _ _))

/-- The projection's run: its results and its arguments at the end. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = mixedArr 16384 4 4096 rfl (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7))
      ∧ r.2.mem ((c.tc : Thread nD τ).loc main_v8_1) = mixedArr 128 8 16 rfl (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (θ_run_and (run_main m ρ) (unchanged m ρ)) fun r h c =>
    ⟨((h.1 c).1 9).trans (final_out m c), ((h.1 c).1 10).trans (final_out2 m c), h.2 c⟩

end Cert.Proof.OddOutIdeal

end

end
-- ==== Proof.OddOutSame.lean ====
/- The odd layers' output projection's results and the reference's are the same. -/
module

public import proofs.«01_k».proof.Defs
public import proofs.«01_k».proof.Proof.OddOutValue
public import proofs.«01_k».proof.Proof.Gen.OddOutRefIdeal
public import proofs.«01_k».proof.Proof.Gen.OddOutRefIdeal.Run
public import Idealize.ShloMosaic.Lib.Quiescent

@[expose] public section

set_option maxRecDepth 16384

noncomputable section

namespace Cert.Proof.OddOutRef

open Cert.OddOutRefIdeal Cert.OddOutRefIdeal.Gen
open Idealize.ShloMosaic Idealize.ShloMosaic.TcCoe

/-- The weight's matrix. -/
theorem weight_at (w : FVec Ideal S1x4096x4096 .f32) (k : Fin 4096) (q : Fin 4096) :
    shapeCast S4096x4096 w shapeCasts_S1x4096x4096_S4096x4096 (ix2 k q) = w (ix3 0 k q) := by
  pointwise

/-- A product over 4096 channels, in two halves. -/
theorem sum_halves (f : Fin 4096 → EReal) : ∑ k, f k = ∑ k : Fin 2048, f (⟨k.val, by omega⟩ : Fin 4096) + ∑ k : Fin 2048, f (⟨2048 + k.val, by omega⟩ : Fin 4096) :=
  Fin.sum_univ_add (a := 2048) (b := 2048) f

/-! ## The prompt's rows -/

theorem prompt_flat (x : FVec Ideal S4x4096x4096 .f32) (p : Fin 16384) (q : Fin 4096) :
    shapeCast S16384x4096 x shapeCasts_S4x4096x4096_S16384x4096 (ix2 p q) = x (ix3 (⟨p.val / 4096, by omega⟩ : Fin 4) (⟨p.val % 4096, by omega⟩ : Fin 4096) q) := by
  pointwise

theorem prompt_split (y : FVec Ideal S16384x4096 .f32) (p : Fin 16384) (q : Fin 4096) :
    shapeCast S4x4096x4096 y shapeCasts_S16384x4096_S4x4096x4096 (ix3 (⟨p.val / 4096, by omega⟩ : Fin 4) (⟨p.val % 4096, by omega⟩ : Fin 4096) q) = y (ix2 p q) := by
  have e : ∀ (a : Fin 4) (b : Fin 4096), shapeCast S4x4096x4096 y shapeCasts_S16384x4096_S4x4096x4096 (ix3 a b q) = y (ix2 (⟨a.val * 4096 + b.val, by omega⟩ : Fin 16384) q) := fun a b => by pointwise
  exact (e _ _).trans (congrArg (fun z : Fin 16384 => y (ix2 z q)) (Fin.ext (show p.val / 4096 * 4096 + p.val % 4096 = p.val by omega)))

/-- The two mixers' outputs side by side. -/
theorem prompt_left (x y : FVec Ideal S16384x2048 .bf16) (p : Fin 16384) (k : Fin 2048) :
    extf (F := Ideal) .f32 (concatenate S16384x4096 1 [⟨S16384x2048, x⟩, ⟨S16384x2048, y⟩] concatenates_S16384x2048_S16384x2048_S16384x4096_d1) bitsLt_bf16_f32 (ix2 p (⟨k.val, by omega⟩ : Fin 4096)) = x (ix2 p k) :=
  concatenate_pair_apply_left 1 x y concatenates_S16384x2048_S16384x2048_S16384x4096_d1 _ rfl (ix2 p k) fun b => by fin_cases b <;> rfl

theorem prompt_right (x y : FVec Ideal S16384x2048 .bf16) (p : Fin 16384) (k : Fin 2048) :
    extf (F := Ideal) .f32 (concatenate S16384x4096 1 [⟨S16384x2048, x⟩, ⟨S16384x2048, y⟩] concatenates_S16384x2048_S16384x2048_S16384x4096_d1) bitsLt_bf16_f32 (ix2 p (⟨2048 + k.val, by omega⟩ : Fin 4096)) = y (ix2 p k) :=
  concatenate_pair_apply_right 1 x y concatenates_S16384x2048_S16384x2048_S16384x4096_d1 _ rfl rfl (ix2 p k)
    (fun b hb => by fin_cases b; · rfl
                    · exact absurd rfl hb)
    (show k.val + 2048 = 2048 + k.val by omega)

theorem prompt_gate (g : FVec Ideal S4x9x4096 .f32) (a : Fin 4) (b : Fin 4096) (q : Fin 4096) :
    broadcastInDim S4x4096x4096 ![0, 1, 2] bcast_S4x1x4096_S4x4096x4096_0_1_2 (broadcastInDim S4x1x4096 ![0, 2] bcast_S4x4096_S4x1x4096_0_2 (shapeCast S4x4096 (extractStridedSlice S4x1x4096 ![0, 5, 0] g slices_S4x9x4096_S4x1x4096_0_5_0) shapeCasts_S4x1x4096_S4x4096)) (ix3 a b q)
      = g (ix3 a 5 q) := by
  pointwise

theorem prompt_dot (x : FVec Ideal S4x4096x4096 .f32) (w : FVec Ideal S4096x4096 .f32) (a : Fin 4) (b : Fin 4096) (q : Fin 4096) :
    Host.dotGeneral dot_S4x4096x4096_S4096x4096_S4x4096x4096_2_0_01_1_n_n none x w (ix3 a b q) = ∑ k, x (ix3 a b k) * w (ix2 k q) := by
  pointwise

/-! ## The sample's rows -/

theorem sample_flat (x : FVec Ideal S8x16x4096 .f32) (p : Fin 128) (q : Fin 4096) :
    shapeCast S128x4096 x shapeCasts_S8x16x4096_S128x4096 (ix2 p q) = x (ix3 (⟨p.val / 16, by omega⟩ : Fin 8) (⟨p.val % 16, by omega⟩ : Fin 16) q) := by
  pointwise

theorem sample_split (y : FVec Ideal S128x4096 .f32) (p : Fin 128) (q : Fin 4096) :
    shapeCast S8x16x4096 y shapeCasts_S128x4096_S8x16x4096 (ix3 (⟨p.val / 16, by omega⟩ : Fin 8) (⟨p.val % 16, by omega⟩ : Fin 16) q) = y (ix2 p q) := by
  have e : ∀ (a : Fin 8) (b : Fin 16), shapeCast S8x16x4096 y shapeCasts_S128x4096_S8x16x4096 (ix3 a b q) = y (ix2 (⟨a.val * 16 + b.val, by omega⟩ : Fin 128) q) := fun a b => by pointwise
  exact (e _ _).trans (congrArg (fun z : Fin 128 => y (ix2 z q)) (Fin.ext (show p.val / 16 * 16 + p.val % 16 = p.val by omega)))

/-- The two mixers' outputs side by side. -/
theorem sample_left (x y : FVec Ideal S128x2048 .bf16) (p : Fin 128) (k : Fin 2048) :
    extf (F := Ideal) .f32 (concatenate S128x4096 1 [⟨S128x2048, x⟩, ⟨S128x2048, y⟩] concatenates_S128x2048_S128x2048_S128x4096_d1) bitsLt_bf16_f32 (ix2 p (⟨k.val, by omega⟩ : Fin 4096)) = x (ix2 p k) :=
  concatenate_pair_apply_left 1 x y concatenates_S128x2048_S128x2048_S128x4096_d1 _ rfl (ix2 p k) fun b => by fin_cases b <;> rfl

theorem sample_right (x y : FVec Ideal S128x2048 .bf16) (p : Fin 128) (k : Fin 2048) :
    extf (F := Ideal) .f32 (concatenate S128x4096 1 [⟨S128x2048, x⟩, ⟨S128x2048, y⟩] concatenates_S128x2048_S128x2048_S128x4096_d1) bitsLt_bf16_f32 (ix2 p (⟨2048 + k.val, by omega⟩ : Fin 4096)) = y (ix2 p k) :=
  concatenate_pair_apply_right 1 x y concatenates_S128x2048_S128x2048_S128x4096_d1 _ rfl rfl (ix2 p k)
    (fun b hb => by fin_cases b; · rfl
                    · exact absurd rfl hb)
    (show k.val + 2048 = 2048 + k.val by omega)

theorem sample_gate (g : FVec Ideal S8x9x4096 .f32) (a : Fin 8) (b : Fin 16) (q : Fin 4096) :
    broadcastInDim S8x16x4096 ![0, 1, 2] bcast_S8x1x4096_S8x16x4096_0_1_2 (broadcastInDim S8x1x4096 ![0, 2] bcast_S8x4096_S8x1x4096_0_2 (shapeCast S8x4096 (extractStridedSlice S8x1x4096 ![0, 5, 0] g slices_S8x9x4096_S8x1x4096_0_5_0) shapeCasts_S8x1x4096_S8x4096)) (ix3 a b q)
      = g (ix3 a 5 q) := by
  pointwise

theorem sample_dot (x : FVec Ideal S8x16x4096 .f32) (w : FVec Ideal S4096x4096 .f32) (a : Fin 8) (b : Fin 16) (q : Fin 4096) :
    Host.dotGeneral dot_S8x16x4096_S4096x4096_S8x16x4096_2_0_01_1_n_n none x w (ix3 a b q) = ∑ k, x (ix3 a b k) * w (ix2 k q) := by
  pointwise

/-! ## The run -/

/-- The reference's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v12) = mixedArr 16384 4 4096 rfl (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7))
      ∧ r.2.mem ((c.tc : Thread nD τ).loc main_v25) = mixedArr 128 8 16 rfl (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (Cert.OddOutRefIdeal.Value.run m ρ) fun r h c => by
    refine ⟨(h c).1.trans ?_, (h c).2.1.trans ?_, (h c).2.2⟩
    · generalize m ((c.tc : Thread nD τ).loc main_arg0) = x, m ((c.tc : Thread nD τ).loc main_arg1) = x', m ((c.tc : Thread nD τ).loc main_arg4) = w, m ((c.tc : Thread nD τ).loc main_arg5) = y, m ((c.tc : Thread nD τ).loc main_arg7) = g
      funext i
      obtain ⟨p, q, rfl⟩ : ∃ (p : Fin 16384) (q : Fin 4096), i = ix2 p q := ⟨i 0, i 1, ValueIdx.eq_ix2 i⟩
      show _ = mixedAt 16384 4 4096 rfl x x' w y g p q
      refine (prompt_flat _ p q).trans ?_
      exact congrArg₂ (· + ·) (prompt_split y p q) (congrArg₂ (· * ·) (prompt_gate g _ _ q)
        (((prompt_dot _ _ _ _ q).trans (Finset.sum_congr rfl fun k _ => congrArg₂ (· * ·) (prompt_split _ p k) (weight_at w k q))).trans ((sum_halves _).trans (congrArg₂ (· + ·)
          (Finset.sum_congr rfl fun k _ => congrArg (· * _) (prompt_left x x' p k)) (Finset.sum_congr rfl fun k _ => congrArg (· * _) (prompt_right x x' p k))))))
    · generalize m ((c.tc : Thread nD τ).loc main_arg2) = x, m ((c.tc : Thread nD τ).loc main_arg3) = x', m ((c.tc : Thread nD τ).loc main_arg4) = w, m ((c.tc : Thread nD τ).loc main_arg6) = y, m ((c.tc : Thread nD τ).loc main_arg8) = g
      funext i
      obtain ⟨p, q, rfl⟩ : ∃ (p : Fin 128) (q : Fin 4096), i = ix2 p q := ⟨i 0, i 1, ValueIdx.eq_ix2 i⟩
      show _ = mixedAt 128 8 16 rfl x x' w y g p q
      refine (sample_flat _ p q).trans ?_
      exact congrArg₂ (· + ·) (sample_split y p q) (congrArg₂ (· * ·) (sample_gate g _ _ q)
        (((sample_dot _ _ _ _ q).trans (Finset.sum_congr rfl fun k _ => congrArg₂ (· * ·) (sample_split _ p k) (weight_at w k q))).trans ((sum_halves _).trans (congrArg₂ (· + ·)
          (Finset.sum_congr rfl fun k _ => congrArg (· * _) (sample_left x x' p k)) (Finset.sum_congr rfl fun k _ => congrArg (· * _) (sample_right x x' p k))))))

/-- Every run of the reference ends, its arguments as they were and every counter at zero (it has no counter). -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_mono (run m ρ) fun r h => ⟨fun c => (h c).2.2, sem_eq_zero_of_no_sems (by decide) r.2⟩

end Cert.Proof.OddOutRef

namespace Cert.Proof

open Idealize.ShloMosaic Idealize.ShloMosaic.TcCoe

theorem odd_out_same : Cert.algebraic_OddOutIdeal_OddOutRefIdeal (hOddOutIdeal := Cert.OddOutIdeal.Gen.facts) (hOddOutRefIdeal := Cert.OddOutRefIdeal.Gen.facts) := by
  intro m g m' g' _ hagree
  refine ⟨fun c => mixedArr 16384 4 4096 rfl (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5)) (m ((c.tc : Thread Cert.OddOutIdeal.nD Cert.OddOutIdeal.τ).loc Cert.OddOutIdeal.main_arg7)),
    fun c => mixedArr 128 8 16 rfl (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg6)) (m ((c.tc : Thread Cert.OddOutIdeal.nD Cert.OddOutIdeal.τ).loc Cert.OddOutIdeal.main_arg8)),
    OddOutIdeal.run m g, ?_⟩
  refine θ_run_mono (OddOutRef.run m' g') fun r h c => ?_
  obtain ⟨h0, h1, h2⟩ := h c
  obtain ⟨e0, e1, e2, e3, e4, e5, e6, e7, e8⟩ := hagree c
  refine ⟨h0.trans ?_, h1.trans ?_, h2⟩
  · rw [e0, e1, e4, e5, e7]
  · rw [e2, e3, e4, e6, e8]

end Cert.Proof

end

end
-- ==== Proof.EvenOutIdealFrame.lean ====
/- The output projection of the even layers: one grid point, the grid, and the run. -/
module

public import proofs.«01_k».proof.Proof.OddOutIdealFrame
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import Idealize.ShloMosaic.Lib.Pipeline.FrameBody
public import Idealize.ShloMosaic.Lib.WordCmp
public import Idealize.ShloMosaic.Lib.Claim

@[expose] public section

set_option maxRecDepth 16384

noncomputable section

namespace Cert.Proof.EvenOutIdeal

open Cert.EvenOutIdeal Cert.EvenOutIdeal.Gen
open Idealize.ShloMosaic Idealize.ShloMosaic.TcCoe Idealize.ShloMosaic.Tactic
open Cert.Proof.OddOutIdeal (tile outBlk outBlk2)
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

/-! ## One grid point -/

section

variable (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S4096x512 .f32) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x512 .f32) (harg9 : arg9.IsWhole) (arg10 : Memref sig .tc .vmem S1x128x512 .f32) (harg10 : arg10.IsWhole) (arg11 : Memref sig .tc .vmem S1024x512 .f32) (harg11 : arg11.IsWhole) (arg12 : Memref sig .tc .vmem S128x512 .f32) (harg12 : arg12.IsWhole) (arg13 : Memref sig .tc .vmem S4096x512 .bf16) (harg13 : arg13.IsWhole)

set_option maxHeartbeats 4000000 in
/-- Inside a column of weights: the weights are read from scratch, the second batch's output is left alone. -/
theorem run_later (hc : ¬ (k0_cond1 i = 1#1))
    (x : Vec F S1024x2048 .bf16) (x' : Vec F S1024x2048 .bf16) (w : Vec F S4096x512 .f32) (y : Vec F S1024x512 .f32) (g : Vec F S1x1x512 .f32) (x2 : Vec F S128x2048 .bf16) (x2' : Vec F S128x2048 .bf16) (y2 : Vec F S128x512 .f32) (g2 : Vec F S1x128x512 .f32) (z2 : Vec F S128x512 .f32) (a : Vec F S4096x512 .bf16) (K : PUnit → sProp 𝕄) :
    iprop(owns (c : Thread nD τ) arg2 fullShare x ∗ owns (c : Thread nD τ) arg3 fullShare x' ∗ owns (c : Thread nD τ) arg4 fullShare w ∗ owns (c : Thread nD τ) arg5 fullShare y ∗ owns (c : Thread nD τ) arg6 fullShare g ∗ owns (c : Thread nD τ) arg7 fullShare x2 ∗ owns (c : Thread nD τ) arg8 fullShare x2' ∗ owns (c : Thread nD τ) arg9 fullShare y2 ∗ owns (c : Thread nD τ) arg10 fullShare g2 ∗ (∃ d, owns (c : Thread nD τ) arg11 fullShare d) ∗ owns (c : Thread nD τ) arg12 fullShare z2 ∗ owns (c : Thread nD τ) arg13 fullShare a
        ∗ (iprop(owns (c : Thread nD τ) arg2 fullShare x ∗ owns (c : Thread nD τ) arg3 fullShare x' ∗ owns (c : Thread nD τ) arg4 fullShare w ∗ owns (c : Thread nD τ) arg5 fullShare y ∗ owns (c : Thread nD τ) arg6 fullShare g ∗ owns (c : Thread nD τ) arg7 fullShare x2 ∗ owns (c : Thread nD τ) arg8 fullShare x2' ∗ owns (c : Thread nD τ) arg9 fullShare y2 ∗ owns (c : Thread nD τ) arg10 fullShare g2 ∗ owns (c : Thread nD τ) arg11 fullShare (outBlk x x' a g y) ∗ owns (c : Thread nD τ) arg12 fullShare z2 ∗ owns (c : Thread nD τ) arg13 fullShare a) -∗ K ⟨⟩))
      ⊢ wp frame (wpE (defs₀ (F := F)) Variants.none c none) Set.univ (cc0_matmul_res i arg2 harg2 arg3 harg3 arg4 harg4 arg5 harg5 arg6 harg6 arg7 harg7 arg8 harg8 arg9 harg9 arg10 harg10 arg11 harg11 arg12 harg12 arg13 harg13) K := by
  simp only [cc0_matmul_res_eq_skeleton]; unfold cc0_matmul_res_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
  sl_exec (disch := first | sl_exact hc)
  sl_step
  have hx : ∀ (r : ℕ) (hr : r < 4) (o : ℕ) (ho : o = 256 * r) inb, View.readAt (Elt F) arg2.view (Rect.unit (s := S1024x2048) ![o, 0] S256x2048.size inb).toLoadRect (harg2.unread x) = rowsAt x r := fun r hr o ho inb => read_rows arg2 harg2 x (by decide) r (by omega) o ho inb
  have hx' : ∀ (r : ℕ) (hr : r < 4) (o : ℕ) (ho : o = 256 * r) inb, View.readAt (Elt F) arg3.view (Rect.unit (s := S1024x2048) ![o, 0] S256x2048.size inb).toLoadRect (harg3.unread x') = rowsAt x' r := fun r hr o ho inb => read_rows arg3 harg3 x' (by decide) r (by omega) o ho inb
  have hy : ∀ (r : ℕ) (hr : r < 4) (o : ℕ) (ho : o = 256 * r) inb, View.readAt (Elt F) arg5.view (Rect.unit (s := S1024x512) ![o, 0] S256x512.size inb).toLoadRect (harg5.unread y) = rowsAt y r := fun r hr o ho inb => read_rows arg5 harg5 y (by decide) r (by omega) o ho inb
  have hg : ∀ inb, View.readAt (Elt F) arg6.view (Rect.unit (s := S1x1x512) ![0, 0, 0] S1x1x512.size inb).toLoadRect (harg6.unread g) = g := fun inb => read_full_unread arg6 harg6 g (by decide) inb
  have ha0 : ∀ inb, View.readAt (Elt F) arg13.view (Rect.unit (s := S4096x512) ![0, 0] S2048x512.size inb).toLoadRect (harg13.unread a) = halfAt a 0 := fun inb => (read_half arg13 _ 0 (by decide) 0 rfl inb).trans (congrArg (halfAt · 0) (harg13.read_unread a))
  have ha1 : ∀ inb, View.readAt (Elt F) arg13.view (Rect.unit (s := S4096x512) ![2048, 0] S2048x512.size inb).toLoadRect (harg13.unread a) = halfAt a 1 := fun inb => (read_half arg13 _ 1 (by decide) 2048 rfl inb).trans (congrArg (halfAt · 1) (harg13.read_unread a))
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine read_four arg11 f11 (fun r => tile (rowsAt x r) (rowsAt x' r) a g (rowsAt y r)) _ _ _ _ ?_ ?_ ?_ ?_ _ _ _ _
    · rw [hx 0 (by decide) 0 rfl, hx' 0 (by decide) 0 rfl, hy 0 (by decide) 0 rfl, ha0, ha1, hg]; rfl
    · unfold run_later.sl.r; rw [hx 1 (by decide) 256 rfl, hx' 1 (by decide) 256 rfl, hy 1 (by decide) 256 rfl, ha0, ha1, hg]; rfl
    · rw [hx 2 (by decide) 512 rfl, hx' 2 (by decide) 512 rfl, hy 2 (by decide) 512 rfl, ha0, ha1, hg]; rfl
    · unfold run_later.sl.r_1 run_later.sl.r_2; rw [hx 3 (by decide) 768 rfl, hx' 3 (by decide) 768 rfl, hy 3 (by decide) 768 rfl, ha0, ha1, hg]; rfl
  isplitl [H12]
  · iexists _; isplitr; · ipureintro; exact harg12.read_unread _
    iexact H12
  iexists _; isplitr; · ipureintro; exact harg13.read_unread _
  iexact H13

set_option maxHeartbeats 4000000 in
/-- At the start of a column of weights: they are cast to scratch, and the second batch's output is computed. -/
theorem run_first (hc : k0_cond1 i = 1#1)
    (x : Vec F S1024x2048 .bf16) (x' : Vec F S1024x2048 .bf16) (w : Vec F S4096x512 .f32) (y : Vec F S1024x512 .f32) (g : Vec F S1x1x512 .f32) (x2 : Vec F S128x2048 .bf16) (x2' : Vec F S128x2048 .bf16) (y2 : Vec F S128x512 .f32) (g2 : Vec F S1x128x512 .f32) (K : PUnit → sProp 𝕄) :
    iprop(owns (c : Thread nD τ) arg2 fullShare x ∗ owns (c : Thread nD τ) arg3 fullShare x' ∗ owns (c : Thread nD τ) arg4 fullShare w ∗ owns (c : Thread nD τ) arg5 fullShare y ∗ owns (c : Thread nD τ) arg6 fullShare g ∗ owns (c : Thread nD τ) arg7 fullShare x2 ∗ owns (c : Thread nD τ) arg8 fullShare x2' ∗ owns (c : Thread nD τ) arg9 fullShare y2 ∗ owns (c : Thread nD τ) arg10 fullShare g2 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x ∗ owns (c : Thread nD τ) arg3 fullShare x' ∗ owns (c : Thread nD τ) arg4 fullShare w ∗ owns (c : Thread nD τ) arg5 fullShare y ∗ owns (c : Thread nD τ) arg6 fullShare g ∗ owns (c : Thread nD τ) arg7 fullShare x2 ∗ owns (c : Thread nD τ) arg8 fullShare x2' ∗ owns (c : Thread nD τ) arg9 fullShare y2 ∗ owns (c : Thread nD τ) arg10 fullShare g2 ∗ owns (c : Thread nD τ) arg11 fullShare (outBlk x x' (k0_pay2 w) g y) ∗ owns (c : Thread nD τ) arg12 fullShare (outBlk2 x2 x2' (k0_pay2 w) g2 y2) ∗ owns (c : Thread nD τ) arg13 fullShare (k0_pay2 w)) -∗ K ⟨⟩))
      ⊢ wp frame (wpE (defs₀ (F := F)) Variants.none c none) Set.univ (cc0_matmul_res i arg2 harg2 arg3 harg3 arg4 harg4 arg5 harg5 arg6 harg6 arg7 harg7 arg8 harg8 arg9 harg9 arg10 harg10 arg11 harg11 arg12 harg12 arg13 harg13) K := by
  simp only [cc0_matmul_res_eq_skeleton]; unfold cc0_matmul_res_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc)
  sl_step
  have hx : ∀ (r : ℕ) (hr : r < 4) (o : ℕ) (ho : o = 256 * r) inb, View.readAt (Elt F) arg2.view (Rect.unit (s := S1024x2048) ![o, 0] S256x2048.size inb).toLoadRect (harg2.unread x) = rowsAt x r := fun r hr o ho inb => read_rows arg2 harg2 x (by decide) r (by omega) o ho inb
  have hx' : ∀ (r : ℕ) (hr : r < 4) (o : ℕ) (ho : o = 256 * r) inb, View.readAt (Elt F) arg3.view (Rect.unit (s := S1024x2048) ![o, 0] S256x2048.size inb).toLoadRect (harg3.unread x') = rowsAt x' r := fun r hr o ho inb => read_rows arg3 harg3 x' (by decide) r (by omega) o ho inb
  have hy : ∀ (r : ℕ) (hr : r < 4) (o : ℕ) (ho : o = 256 * r) inb, View.readAt (Elt F) arg5.view (Rect.unit (s := S1024x512) ![o, 0] S256x512.size inb).toLoadRect (harg5.unread y) = rowsAt y r := fun r hr o ho inb => read_rows arg5 harg5 y (by decide) r (by omega) o ho inb
  have hg : ∀ inb, View.readAt (Elt F) arg6.view (Rect.unit (s := S1x1x512) ![0, 0, 0] S1x1x512.size inb).toLoadRect (harg6.unread g) = g := fun inb => read_full_unread arg6 harg6 g (by decide) inb
  have e13 : run_first.sl.H13_1 c arg4 harg4 w = [⟨Rect.unit (s := S4096x512) ![0, 0] S4096x512.size inb_S4096x512_S4096x512_0_0, k0_pay2 w⟩] := by
    unfold run_first.sl.H13_1
    rw [read_full_unread arg4 harg4 w (by decide)]
  have hw : View.read (Elt F) arg13.view (arg13.view.writes (Elt F) f13 [⟨Rect.unit (s := S4096x512) ![0, 0] S4096x512.size inb_S4096x512_S4096x512_0_0, k0_pay2 w⟩]) = k0_pay2 w := read_stored arg13 f13 (by decide) inb_S4096x512_S4096x512_0_0 _
  have ha0 : run_first.sl.v73 c arg4 harg4 arg13 w = halfAt (k0_pay2 w) 0 := by
    unfold run_first.sl.v73
    rw [e13]
    exact (read_half arg13 _ 0 (by decide) 0 rfl _).trans (congrArg (halfAt · 0) (read_stored arg13 _ (by decide) inb_S4096x512_S4096x512_0_0 _))
  have ha1 : run_first.sl.v76 c arg4 harg4 arg13 w = halfAt (k0_pay2 w) 1 := by
    unfold run_first.sl.v76
    rw [e13]
    exact (read_half arg13 _ 1 (by decide) 2048 rfl _).trans (congrArg (halfAt · 1) (read_stored arg13 _ (by decide) inb_S4096x512_S4096x512_0_0 _))
  have ha2 : run_first.sl.v55 c arg4 harg4 arg13 w = halfAt (k0_pay2 w) 1 := ha1
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine read_four arg11 f11 (fun r => tile (rowsAt x r) (rowsAt x' r) (k0_pay2 w) g (rowsAt y r)) _ _ _ _ ?_ ?_ ?_ ?_ _ _ _ _
    · rw [hx 0 (by decide) 0 rfl, hx' 0 (by decide) 0 rfl, hy 0 (by decide) 0 rfl, ha0, ha1, hg]; rfl
    · unfold run_first.sl.r; rw [hx 1 (by decide) 256 rfl, hx' 1 (by decide) 256 rfl, hy 1 (by decide) 256 rfl, ha0, ha1, hg]; rfl
    · rw [hx 2 (by decide) 512 rfl, hx' 2 (by decide) 512 rfl, hy 2 (by decide) 512 rfl, ha0, ha1, hg]; rfl
    · unfold run_first.sl.r_1; rw [hx 3 (by decide) 768 rfl, hx' 3 (by decide) 768 rfl, hy 3 (by decide) 768 rfl, ha0, ha2, hg]; rfl
  isplitl [H12]
  · iexists _; isplitr; swap; · iexact H12
    ipureintro
    rw [ha0, ha1, read_full_unread arg7 harg7 x2 (by decide), read_full_unread arg8 harg8 x2' (by decide), read_full_unread arg9 harg9 y2 (by decide), read_full_unread arg10 harg10 g2 (by decide)]
    exact read_stored arg12 f12 (by decide) inb_S128x512_S128x512_0_0 _
  iexists _; isplitr; swap; · iexact H13
  ipureintro
  rw [e13]; exact hw

end

variable (m : (ℓ : Loc nD τ sig) → Buf (Elt F) ℓ) (ρ : Dev nD → PrngReg)

/-! ## A column of weights -/

/-- The first grid point of the `n`-th column of weights. -/
def top (n : ℕ) : Fin cfg0.N := ⟨16 * n % 128, lt_of_lt_of_eq (Nat.mod_lt _ (by decide)) N_0.symm⟩

theorem top_self (t : Fin cfg0.N) (h : t.val % 16 = 0) : top (t.val / 16) = t := by
  have hN : t.val < 128 := lt_of_lt_of_eq t.isLt N_0
  apply Fin.ext
  show 16 * (t.val / 16) % 128 = t.val
  omega

/-- The weights of the `n`-th column, as scratch holds them. -/
def wA (c : Dev nD) (n : ℕ) : Vec F S4096x512 .bf16 := k0_pay2 (iblk m c 2 (top n) : Vec F S4096x512 .f32)

/-- The output block of grid point `t`. -/
def outAt (c : Dev nD) (t : Fin cfg0.N) : Vec F S1024x512 .f32 := outBlk (iblk m c 0 t) (iblk m c 1 t) (wA m c (t.val / 16)) (iblk m c 4 t) (iblk m c 3 t)
/-- The second batch's output block of the `n`-th column. -/
def outAt2 (c : Dev nD) (n : ℕ) : Vec F S128x512 .f32 := outBlk2 (iblk m c 5 (top n)) (iblk m c 6 (top n)) (wA m c n) (iblk m c 8 (top n)) (iblk m c 7 (top n))

/-! ## The proof data -/

/-- Inside the `n`-th column scratch holds its weights. -/
def held (c : Dev nD) (n : ℕ) : sProp 𝕄 :=
  iprop(owns (c : Thread nD τ) (Memref.whole cc0_scratch0 : Memref sig .tc .vmem S4096x512 .bf16) fullShare (wA m c n) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨10, _⟩ => outAt2 m c (t.val / 16)
  Φ t := if t.val % 16 = 0 then Pipeline.ΦA spec0 c else held m c (t.val / 16)
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d
theorem before0_5 (c : Dev nD) (t : Fin cfg0.N) (d) : (dats m 0 c).before 5 t d = iblk m c 5 t :=
  before0_5_of m (dats m 0 c) (A_eq m c 5) (fun _ => rfl) t d
theorem before0_6 (c : Dev nD) (t : Fin cfg0.N) (d) : (dats m 0 c).before 6 t d = iblk m c 6 t :=
  before0_6_of m (dats m 0 c) (A_eq m c 6) (fun _ => rfl) t d

theorem before0_7 (c : Dev nD) (t : Fin cfg0.N) (d) : (dats m 0 c).before 7 t d = iblk m c 7 t :=
  before0_7_of m (dats m 0 c) (A_eq m c 7) (fun _ => rfl) t d
theorem before0_8 (c : Dev nD) (t : Fin cfg0.N) (d) : (dats m 0 c).before 8 t d = iblk m c 8 t :=
  before0_8_of m (dats m 0 c) (A_eq m c 8) (fun _ => rfl) t d

/-- The body casts the weights at the start of each column. -/
theorem hcond : ∀ t : Fin grid0.N, k0_cond1 (grid0.coords t) = 1#1 ↔ t.val % 16 = 0 := fun t => by
  have ht : t.val < 128 := Nat.lt_of_lt_of_eq t.isLt N_0
  have e1 : (grid0.coords t 1).val = t.val / 1 % 16 := Pipeline.Grid.coords_val t 1 (by decide) rfl
  unfold k0_cond1
  rw [e1]
  word_cmp

theorem live_first (t : Fin cfg0.N) (h : t.val % 16 = 0) : cfg0.idle 10 (grid0.coords t) = false := by
  show (!(k0_cond1 (grid0.coords t) == 1#1)) = false
  rw [(hcond t).mpr h]; rfl
theorem idle_later (t : Fin cfg0.N) (h : ¬ t.val % 16 = 0) : cfg0.idle 10 (grid0.coords t) = true := by
  show (!(k0_cond1 (grid0.coords t) == 1#1)) = true
  rw [Bool.not_eq_true', beq_eq_false_iff_ne]
  exact fun e => h ((hcond t).mp e)

/-- Inside a column the second batch's block is the one computed at its start. -/
theorem before0_10 (c : Dev nD) (n : ℕ) : ∀ (t : Fin cfg0.N), t.val = n → ¬ n % 16 = 0 → ∀ d, (dats m 0 c).before 10 t d = outAt2 m c (t.val / 16) := by
  induction n with
  | zero => intro t _ h; exact absurd rfl h
  | succ n ih =>
    intro t hn h d
    have hN : t.val < 128 := lt_of_lt_of_eq t.isLt N_0
    have hfl : (cfg0.win 10).flush ⟨t.val - 1, Nat.lt_of_le_of_lt (Nat.sub_le _ _) t.isLt⟩ = false := by
      refine Bool.eq_false_iff.mpr fun hf => ?_
      have e := (flush0_10 _).mp hf
      change (t.val - 1) % 16 = 15 at e
      omega
    rw [(dats m 0 c).before_of_pos 10 t (by omega) ((cfg0.win 10).fetch_out rfl t), hfl, if_neg Bool.false_ne_true]
    unfold Dat.left
    by_cases h0 : n % 16 = 0
    · rw [live_first ⟨t.val - 1, Nat.lt_of_le_of_lt (Nat.sub_le _ _) t.isLt⟩ (show (t.val - 1) % 16 = 0 by omega)]
      show (dats m 0 c).kept 10 _ d = _
      unfold Dat.kept
      rw [Pipeline.fill_of_clip_none 10 _ (fun _ => rfl) d ((dats m 0 c).after 10 _), Window.fill_cut]
      exact congrArg (outAt2 m c) (show (t.val - 1) / 16 = t.val / 16 by omega)
    · rw [idle_later ⟨t.val - 1, Nat.lt_of_le_of_lt (Nat.sub_le _ _) t.isLt⟩ (show ¬ (t.val - 1) % 16 = 0 by omega)]
      exact (ih ⟨t.val - 1, Nat.lt_of_le_of_lt (Nat.sub_le _ _) t.isLt⟩ (show t.val - 1 = n by omega) h0 d).trans
        (congrArg (outAt2 m c) (show (t.val - 1) / 16 = t.val / 16 by omega))

theorem PhiA0_eq (c : Dev nD) :
    (Pipeline.ΦA spec0 c : sProp 𝕄)
      = iprop((∃ d, owns (c : Thread nD τ) (Memref.whole cc0_scratch0 : Memref sig .tc .vmem S4096x512 .bf16) fullShare d) ∗ (∃ r, prngReg c r)) := by
  unfold Pipeline.ΦA; rw [scopedRest0_eq]; simp only [owns_whole]; try rfl

theorem held_forget (c : Dev nD) (n : ℕ) : held m c n ⊢ Pipeline.ΦA spec0 c := by
  rw [PhiA0_eq]; unfold held
  iintro ⟨H0, Hg⟩
  isplitl [H0]
  · iexists _; iexact H0
  iexact Hg

/-- What a grid point leaves in scratch is what the next one starts with. -/
theorem held_next (c : Dev nD) (t : Fin cfg0.N) : held m c (t.val / 16) ⊢ (dats m 0 c).Φ t.succ := by
  have e : (dats m 0 c).Φ t.succ = if (t.val + 1) % 16 = 0 then Pipeline.ΦA spec0 c else held m c ((t.val + 1) / 16) := rfl
  rw [e]
  by_cases h : (t.val + 1) % 16 = 0
  · rw [if_pos h]; exact held_forget m c _
  · rw [if_neg h, show (t.val + 1) / 16 = t.val / 16 by omega]

theorem Φ_first (c : Dev nD) (t : Fin cfg0.N) (h : t.val % 16 = 0) : (dats m 0 c).Φ t.castSucc = Pipeline.ΦA spec0 c := if_pos h
theorem Φ_later (c : Dev nD) (t : Fin cfg0.N) (h : ¬ t.val % 16 = 0) : (dats m 0 c).Φ t.castSucc = held m c (t.val / 16) := if_neg h

/-! ## The body at every grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0_0 (c : Dev nD) (t : Fin cfg0.N) : (dats m 0 c).leavesExact 0 t = owns (c : Thread nD τ) (st0_0 t) fullShare (iblk m c 0 t) := rfl
theorem leaves0_1 (c : Dev nD) (t : Fin cfg0.N) : (dats m 0 c).leavesExact 1 t = owns (c : Thread nD τ) (st0_1 t) fullShare (iblk m c 1 t) := rfl
theorem leaves0_2 (c : Dev nD) (t : Fin cfg0.N) : (dats m 0 c).leavesExact 2 t = owns (c : Thread nD τ) (st0_2 t) fullShare (iblk m c 2 t) := rfl
theorem leaves0_3 (c : Dev nD) (t : Fin cfg0.N) : (dats m 0 c).leavesExact 3 t = owns (c : Thread nD τ) (st0_3 t) fullShare (iblk m c 3 t) := rfl
theorem leaves0_4 (c : Dev nD) (t : Fin cfg0.N) : (dats m 0 c).leavesExact 4 t = owns (c : Thread nD τ) (st0_4 t) fullShare (iblk m c 4 t) := rfl
theorem leaves0_5 (c : Dev nD) (t : Fin cfg0.N) : (dats m 0 c).leavesExact 5 t = owns (c : Thread nD τ) (st0_5 t) fullShare (iblk m c 5 t) := rfl
theorem leaves0_6 (c : Dev nD) (t : Fin cfg0.N) : (dats m 0 c).leavesExact 6 t = owns (c : Thread nD τ) (st0_6 t) fullShare (iblk m c 6 t) := rfl
theorem leaves0_7 (c : Dev nD) (t : Fin cfg0.N) : (dats m 0 c).leavesExact 7 t = owns (c : Thread nD τ) (st0_7 t) fullShare (iblk m c 7 t) := rfl
theorem leaves0_8 (c : Dev nD) (t : Fin cfg0.N) : (dats m 0 c).leavesExact 8 t = owns (c : Thread nD τ) (st0_8 t) fullShare (iblk m c 8 t) := rfl
theorem leaves0_9 (c : Dev nD) (t : Fin cfg0.N) : (dats m 0 c).leavesExact 9 t = owns (c : Thread nD τ) (st0_9 t) fullShare (outAt m c t) := rfl
/-- The second batch's block as a grid point leaves it, whether it stores it, keeps it or has it written back. -/
theorem leaves0_10 (c : Dev nD) (t : Fin cfg0.N) : owns (c : Thread nD τ) (st0_10 t) fullShare (outAt2 m c (t.val / 16)) ⊢ (dats m 0 c).leavesExact 10 t := by
  by_cases h0 : t.val % 16 = 0
  · unfold Dat.leavesExact; rw [live_first t h0]; exact .rfl
  · by_cases hf : (cfg0.win 10).flush t = true
    · unfold Dat.leavesExact; rw [idle_later t h0, hf]; exact .rfl
    · rw [Bool.not_eq_true] at hf
      rw [(dats m 0 c).leavesExact_idle 10 t (idle_later t h0) hf]
      simp only [before0_10 m c t.val t rfl h0]
      iintro H
      iexists (outAt2 m c (t.val / 16))
      iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves0_0, leaves0_1, leaves0_2, leaves0_3, leaves0_4, leaves0_5, leaves0_6, leaves0_7, leaves0_8, leaves0_9]
  rw [show (dats m 0 c).owesAt () t.succ = (dats m 0 c).owesAt () t.castSucc from rfl]
  by_cases h0 : t.val % 16 = 0
  · rw [Φ_first m c t h0, PhiA0_eq]
    have eA : k0_pay2 (iblk m c 2 t : Vec F S4096x512 .f32) = wA m c (t.val / 16) := by unfold wA; rw [top_self t h0]
    have e7 : outAt m c t = outBlk (iblk m c 0 t) (iblk m c 1 t) (k0_pay2 (iblk m c 2 t : Vec F S4096x512 .f32)) (iblk m c 4 t) (iblk m c 3 t) := by rw [eA]; rfl
    have e8 : outAt2 m c (t.val / 16) = outBlk2 (iblk m c 5 t) (iblk m c 6 t) (k0_pay2 (iblk m c 2 t : Vec F S4096x512 .f32)) (iblk m c 8 t) (iblk m c 7 t) := by
      rw [eA]; unfold outAt2; rw [top_self t h0]
    rw [e7]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    rw [← e8, eA]
    iintro ⟨H0, H1, H2, H3, H4, H5, H6, H7, H8, H9, H10, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves0_10 m c t)
    iexact H10
  · rw [Φ_later m c t h0]
    simp only [before0_10 m c t.val t rfl h0]
    unfold held outAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_later c (grid0.coords t) _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (outAt2 m c (t.val / 16)) (wA m c (t.val / 16)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, H9, H10, HS0⟩
    isplitl [HS0 Hg]
    · iapply (held_next m c t)
      unfold held
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves0_10 m c t)
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : Pipeline.ΦA spec0 c ⊢ (dats (F := F) m 0 c).Φ 0 := .rfl
theorem Φ_out (c : Dev nD) : (dats (F := F) m 0 c).Φ (Fin.last cfg0.N) ⊢ Pipeline.ΦA spec0 c := by
  have e : (dats (F := F) m 0 c).Φ (Fin.last cfg0.N) = if grid0.N % 16 = 0 then Pipeline.ΦA spec0 c else held m c (grid0.N / 16) := rfl
  rw [e, if_pos (by rw [N_0])]

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- Every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Proof.EvenOutIdeal

end

end
-- ==== Proof.EvenOutFrame.lean ====
/- The even layers' output projection as compiled: its frame, from the frame of its ideal reading, the same program at every instance. -/
module

public import proofs.«01_k».proof.Proof.EvenOutIdealFrame
public import proofs.«01_k».proof.Proof.Gen.EvenOut

@[expose] public section

set_option maxRecDepth 16384

noncomputable section

namespace Cert.Proof.EvenOut

open Cert.EvenOut Cert.EvenOut.Gen
open Idealize.ShloMosaic Idealize.ShloMosaic.TcCoe

variable {F : FTy → Type} [FloatOps F]

theorem defs₀_same : Cert.EvenOutIdeal.defs₀ (F := F) = defs₀ := by
  unfold defs₀ Cert.EvenOutIdeal.defs₀
  refine congrArg Defs.onTc (funext fun ℓ => funext fun x => ?_)
  match ℓ, x with
  | 0, (t, s) => rfl
  | ⟨_ + 1, h⟩, _ => exact absurd h (Nat.not_lt.2 (Nat.le_add_left _ _))

theorem defs_same : Cert.EvenOutIdeal.defs (F := F) = defs := congrArg (Pipeline.defs _) defs₀_same

/-- Every run ends, the arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [← defs_same]
  exact Cert.Proof.EvenOutIdeal.frame (F := F) m ρ

end Cert.Proof.EvenOut

end

end
-- ==== Proof.EvenOutValue.lean ====
/- The even layers' output projection's results at the extended reals. -/
module

public import proofs.«01_k».proof.Proof.EvenOutIdealFrame
public import proofs.«01_k».proof.Proof.OddOutValue
public import Idealize.ShloMosaic.Lib.Claim
public import Idealize.ShloMosaic.Lib.Pointwise
public import Idealize.ShloMosaic.Lib.Pipeline.ValueKit

@[expose] public section

set_option maxRecDepth 16384

noncomputable section

namespace Cert.Proof

open Idealize.ShloMosaic

/-- A weight's matrix as a stack of one. -/
def stacked (W : Shape.Idx ⟨2, ![4096, 4096]⟩ → EReal) : Shape.Idx ⟨3, ![1, 4096, 4096]⟩ → EReal := fun j => W (ix2 (j 1 : Fin 4096) (j 2 : Fin 4096))

end Cert.Proof

namespace Cert.Proof.EvenOutIdeal

open Cert.EvenOutIdeal Cert.EvenOutIdeal.Gen
open Cert.Proof.OddOutIdeal (mixed_congr outBlk_at outBlk2_at outBlk outBlk2)
open Idealize.ShloMosaic Idealize.ShloMosaic.TcCoe

/-! ## The body's blocks -/

theorem weight_at (w : Vec Ideal S4096x512 .f32) (k : Fin 4096) (q : Fin 512) :
    (k0_pay2 w : FVec Ideal S4096x512 .bf16) (ix2 k q) = w (ix2 k q) := by
  unfold k0_pay2
  pointwise

/-! ## The windows' blocks -/

variable (m : (ℓ : Loc nD τ sig) → Buf (Elt Ideal) ℓ)

theorem idx : ∀ t : Fin cfg0.N, win0_0.index t = ![t.val % 16, 0] ∧ win0_1.index t = ![t.val % 16, 0] ∧ win0_2.index t = ![0, t.val / 16] ∧ win0_3.index t = ![t.val % 16, t.val / 16]
    ∧ win0_4.index t = ![t.val % 16 / 4, 0, t.val / 16] ∧ win0_5.index t = ![0, 0] ∧ win0_6.index t = ![0, 0] ∧ win0_7.index t = ![0, t.val / 16] ∧ win0_8.index t = ![0, 0, t.val / 16]
    ∧ win0_9.index t = ![t.val % 16, t.val / 16] ∧ win0_10.index t = ![0, t.val / 16] :=
  (by decide +kernel : ∀ t : Fin grid0.N, _)

/-- The prompt's gates, as the host prepares them. -/
theorem v2_at (c : Dev nD) (b : Fin 4) (q : Fin 4096) :
    (V m c main_v2 : FVec Ideal S4x1x4096 .f32) (ix3 b 0 q) = (m ((c : Thread nD τ).loc main_arg7) : FVec Ideal S4x9x4096 .f32) (ix3 b 5 q) := by
  entry_read
  pointwise
/-- The sample's, one to a token. -/
theorem v7_at (c : Dev nD) (p : Fin 128) (q : Fin 4096) :
    (V m c main_v7 : FVec Ideal S1x128x4096 .f32) (ix3 0 p q) = (m ((c : Thread nD τ).loc main_arg8) : FVec Ideal S8x9x4096 .f32) (ix3 (⟨p.val / 16, by omega⟩ : Fin 8) 5 q) := by
  entry_read
  pointwise

theorem blk0_at (c : Dev nD) (t : Fin cfg0.N) (ht : t.val < 128) (p : Fin 1024) (k : Fin 2048) :
    (iblk m c 0 t : Vec Ideal S1024x2048 .bf16) (ix2 p k)
      = (m ((c : Thread nD τ).loc main_arg0) : FVec Ideal S16384x2048 .bf16) (ix2 (⟨1024 * (t.val % 16) + p.val, by omega⟩ : Fin 16384) k) := by
  rw [← V_main_arg0 m c]
  blk_ext [iblk, idx t]

theorem blk1_at (c : Dev nD) (t : Fin cfg0.N) (ht : t.val < 128) (p : Fin 1024) (k : Fin 2048) :
    (iblk m c 1 t : Vec Ideal S1024x2048 .bf16) (ix2 p k)
      = (m ((c : Thread nD τ).loc main_arg1) : FVec Ideal S16384x2048 .bf16) (ix2 (⟨1024 * (t.val % 16) + p.val, by omega⟩ : Fin 16384) k) := by
  rw [← V_main_arg1 m c]
  blk_ext [iblk, idx t]

theorem blk2_at (c : Dev nD) (t : Fin cfg0.N) (ht : t.val < 128) (k : Fin 4096) (q : Fin 512) :
    (iblk m c 2 t : Vec Ideal S4096x512 .f32) (ix2 k q)
      = (m ((c : Thread nD τ).loc main_arg4) : FVec Ideal S4096x4096 .f32) (ix2 k (⟨512 * (t.val / 16) + q.val, by omega⟩ : Fin 4096)) := by
  rw [← V_main_arg4 m c]
  blk_ext [iblk, idx t]

theorem blk3_at (c : Dev nD) (t : Fin cfg0.N) (ht : t.val < 128) (p : Fin 1024) (q : Fin 512) :
    (iblk m c 3 t : Vec Ideal S1024x512 .f32) (ix2 p q)
      = (m ((c : Thread nD τ).loc main_arg5) : FVec Ideal S16384x4096 .f32) (ix2 (⟨1024 * (t.val % 16) + p.val, by omega⟩ : Fin 16384) (⟨512 * (t.val / 16) + q.val, by omega⟩ : Fin 4096)) := by
  rw [← V_main_arg5 m c]
  blk_ext [iblk, idx t]

theorem blk4_at (c : Dev nD) (t : Fin cfg0.N) (ht : t.val < 128) (q : Fin 512) :
    (iblk m c 4 t : Vec Ideal S1x1x512 .f32) (ix3 0 0 q)
      = (V m c main_v2 : FVec Ideal S4x1x4096 .f32) (ix3 (⟨t.val % 16 / 4, by omega⟩ : Fin 4) 0 (⟨512 * (t.val / 16) + q.val, by omega⟩ : Fin 4096)) := by
  blk_ext [iblk, idx t]

theorem blk5_at (c : Dev nD) (t : Fin cfg0.N) (ht : t.val < 128) (p : Fin 128) (k : Fin 2048) :
    (iblk m c 5 t : Vec Ideal S128x2048 .bf16) (ix2 p k)
      = (m ((c : Thread nD τ).loc main_arg2) : FVec Ideal S128x2048 .bf16) (ix2 p k) := by
  rw [← V_main_arg2 m c]
  blk_ext [iblk, idx t]

theorem blk6_at (c : Dev nD) (t : Fin cfg0.N) (ht : t.val < 128) (p : Fin 128) (k : Fin 2048) :
    (iblk m c 6 t : Vec Ideal S128x2048 .bf16) (ix2 p k)
      = (m ((c : Thread nD τ).loc main_arg3) : FVec Ideal S128x2048 .bf16) (ix2 p k) := by
  rw [← V_main_arg3 m c]
  blk_ext [iblk, idx t]

theorem blk7_at (c : Dev nD) (t : Fin cfg0.N) (ht : t.val < 128) (p : Fin 128) (q : Fin 512) :
    (iblk m c 7 t : Vec Ideal S128x512 .f32) (ix2 p q)
      = (m ((c : Thread nD τ).loc main_arg6) : FVec Ideal S128x4096 .f32) (ix2 p (⟨512 * (t.val / 16) + q.val, by omega⟩ : Fin 4096)) := by
  rw [← V_main_arg6 m c]
  blk_ext [iblk, idx t]

theorem blk8_at (c : Dev nD) (t : Fin cfg0.N) (ht : t.val < 128) (p : Fin 128) (q : Fin 512) :
    (iblk m c 8 t : Vec Ideal S1x128x512 .f32) (ix3 0 p q)
      = (V m c main_v7 : FVec Ideal S1x128x4096 .f32) (ix3 0 p (⟨512 * (t.val / 16) + q.val, by omega⟩ : Fin 4096)) := by
  blk_ext [iblk, idx t]

theorem top_div (n : ℕ) (hn : n < 8) : (top n).val / 16 = n := by
  show 16 * n % 128 / 16 = n; omega
theorem top_lt (n : ℕ) : (top n).val < 128 := Nat.mod_lt _ (by decide)

theorem wA_at (c : Dev nD) (n : ℕ) (hn : n < 8) (k : Fin 4096) (q : Fin 512) :
    wA m c n (ix2 k q) = (m ((c : Thread nD τ).loc main_arg4) : FVec Ideal S4096x4096 .f32) (ix2 k (⟨512 * n + q.val, by omega⟩ : Fin 4096)) := by
  unfold wA
  refine (weight_at _ k q).trans ((blk2_at m c (top n) (top_lt n) k q).trans ?_)
  congr 3
  rw [top_div n hn]

/-! ## The arrays -/

theorem outAt_at (c : Dev nD) (t : Fin cfg0.N) (ht : t.val < 128) (p : Fin 1024) (q : Fin 512) :
    outAt m c t (ix2 p q) = mixedAt 16384 4 4096 rfl (m ((c : Thread nD τ).loc main_arg0)) (m ((c : Thread nD τ).loc main_arg1)) (stacked (m ((c : Thread nD τ).loc main_arg4))) (m ((c : Thread nD τ).loc main_arg5)) (m ((c : Thread nD τ).loc main_arg7))
      (⟨1024 * (t.val % 16) + p.val, by omega⟩ : Fin 16384) (⟨512 * (t.val / 16) + q.val, by omega⟩ : Fin 4096) := by
  unfold outAt
  refine (outBlk_at _ _ _ _ _ p q).trans ?_
  unfold mixedAt
  have hn : t.val / 16 < 8 := by omega
  refine mixed_congr (blk3_at m c t ht p q) ?_ (fun k => blk0_at m c t ht p k) (fun k => blk1_at m c t ht p k) (fun k => wA_at m c _ hn _ q) (fun k => wA_at m c _ hn _ q)
  refine (blk4_at m c t ht q).trans ((v2_at m c _ _).trans ?_)
  refine congrArg (fun z : Fin 4 => (m ((c : Thread nD τ).loc main_arg7) : FVec Ideal S4x9x4096 .f32) (ix3 z 5 _)) (Fin.ext ?_)
  have hp := p.isLt
  show t.val % 16 / 4 = (1024 * (t.val % 16) + p.val) / 4096
  omega

theorem outAt2_at (c : Dev nD) (n : ℕ) (hn : n < 8) (p : Fin 128) (q : Fin 512) :
    outAt2 m c n (ix2 p q) = mixedAt 128 8 16 rfl (m ((c : Thread nD τ).loc main_arg2)) (m ((c : Thread nD τ).loc main_arg3)) (stacked (m ((c : Thread nD τ).loc main_arg4))) (m ((c : Thread nD τ).loc main_arg6)) (m ((c : Thread nD τ).loc main_arg8))
      p (⟨512 * n + q.val, by omega⟩ : Fin 4096) := by
  unfold outAt2
  refine (outBlk2_at _ _ _ _ _ p q).trans ?_
  unfold mixedAt
  have e : ∀ h, (⟨512 * ((top n).val / 16) + q.val, h⟩ : Fin 4096) = ⟨512 * n + q.val, by omega⟩ := fun h => Fin.ext (show 512 * ((top n).val / 16) + q.val = _ by rw [top_div n hn])
  refine mixed_congr ((blk7_at m c _ (top_lt n) p q).trans ?_) ((blk8_at m c _ (top_lt n) p q).trans ((v7_at m c _ _).trans ?_)) (fun k => blk5_at m c _ (top_lt n) p k) (fun k => blk6_at m c _ (top_lt n) p k) (fun k => wA_at m c n hn _ q) (fun k => wA_at m c n hn _ q)
  · rw [e]
  · rw [e]

theorem final_out (c : Dev nD) : (dats m 0 c).arrAt 9 (cfgs 0).N = mixedArr 16384 4 4096 rfl (m ((c : Thread nD τ).loc main_arg0)) (m ((c : Thread nD τ).loc main_arg1)) (stacked (m ((c : Thread nD τ).loc main_arg4))) (m ((c : Thread nD τ).loc main_arg5)) (m ((c : Thread nD τ).loc main_arg7)) := by
  refine (dats m 0 c).arrAt_eq_of_covers 9 _ (by decide +kernel) fun t hf y => ?_
  blk_simp
  have ht : t.val < 128 := lt_of_lt_of_eq t.isLt N_0
  refine Eq.trans ?_ ((outAt_at m c t ht (y 0) (y 1)).trans ?_)
  · exact congrArg (outAt m c t) (funext fun d => by fin_cases d <;> rfl)
  · unfold mixedArr
    refine congr (congrArg (mixedAt 16384 4 4096 rfl _ _ _ _ _) (Fin.ext ?_)) (Fin.ext ?_)
    all_goals (blk_simp [idx t]; try exact congrArg (· + _) (Nat.mul_comm _ _))

theorem final_out2 (c : Dev nD) : (dats m 0 c).arrAt 10 (cfgs 0).N = mixedArr 128 8 16 rfl (m ((c : Thread nD τ).loc main_arg2)) (m ((c : Thread nD τ).loc main_arg3)) (stacked (m ((c : Thread nD τ).loc main_arg4))) (m ((c : Thread nD τ).loc main_arg6)) (m ((c : Thread nD τ).loc main_arg8)) := by
  refine (dats m 0 c).arrAt_eq_of_covers 10 _ (by decide +kernel) fun t hf y => ?_
  blk_simp
  have ht : t.val < 128 := lt_of_lt_of_eq t.isLt N_0
  refine Eq.trans ?_ ((outAt2_at m c (t.val / 16) (by omega) (y 0) (y 1)).trans ?_)
  · exact congrArg (outAt2 m c _) (funext fun d => by fin_cases d <;> rfl)
  · unfold mixedArr
    refine congr (congrArg (mixedAt 128 8 16 rfl _ _ _ _ _) (Fin.ext ?_)) (Fin.ext ?_)
    all_goals (blk_simp [idx t]; try exact congrArg (· + _) (Nat.mul_comm _ _))

/-- The projection's run: its results and its arguments at the end. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = mixedArr 16384 4 4096 rfl (m ((c.tc : Thread nD τ).loc main_arg0)) (m ((c.tc : Thread nD τ).loc main_arg1)) (stacked (m ((c.tc : Thread nD τ).loc main_arg4))) (m ((c.tc : Thread nD τ).loc main_arg5)) (m ((c.tc : Thread nD τ).loc main_arg7))
      ∧ r.2.mem ((c.tc : Thread nD τ).loc main_v8_1) = mixedArr 128 8 16 rfl (m ((c.tc : Thread nD τ).loc main_arg2)) (m ((c.tc : Thread nD τ).loc main_arg3)) (stacked (m ((c.tc : Thread nD τ).loc main_arg4))) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (θ_run_and (run_main m ρ) (unchanged m ρ)) fun r h c =>
    ⟨((h.1 c).1 9).trans (final_out m c), ((h.1 c).1 10).trans (final_out2 m c), h.2 c⟩

end Cert.Proof.EvenOutIdeal

end

end
-- ==== Proof.EvenOutSame.lean ====
/- The even layers' output projection's results and the reference's are the same. -/
module

public import proofs.«01_k».proof.Defs
public import proofs.«01_k».proof.Proof.EvenOutValue
public import proofs.«01_k».proof.Proof.OddOutSame
public import proofs.«01_k».proof.Proof.Gen.EvenOutRefIdeal
public import proofs.«01_k».proof.Proof.Gen.EvenOutRefIdeal.Run
public import Idealize.ShloMosaic.Lib.Quiescent

@[expose] public section

set_option maxRecDepth 16384

noncomputable section

namespace Cert.Proof.EvenOutRef

open Cert.EvenOutRefIdeal Cert.EvenOutRefIdeal.Gen
open Cert.Proof.OddOutRef (sum_halves prompt_flat prompt_split prompt_left prompt_right prompt_gate prompt_dot sample_flat sample_split sample_left sample_right sample_gate sample_dot)
open Idealize.ShloMosaic Idealize.ShloMosaic.TcCoe

/-! ## The run -/

/-- The reference's run: its results and its arguments at the end. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v11) = mixedArr 16384 4 4096 rfl (m ((c.tc : Thread nD τ).loc main_arg0)) (m ((c.tc : Thread nD τ).loc main_arg1)) (stacked (m ((c.tc : Thread nD τ).loc main_arg4))) (m ((c.tc : Thread nD τ).loc main_arg5)) (m ((c.tc : Thread nD τ).loc main_arg7))
      ∧ r.2.mem ((c.tc : Thread nD τ).loc main_v23) = mixedArr 128 8 16 rfl (m ((c.tc : Thread nD τ).loc main_arg2)) (m ((c.tc : Thread nD τ).loc main_arg3)) (stacked (m ((c.tc : Thread nD τ).loc main_arg4))) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (Cert.EvenOutRefIdeal.Value.run m ρ) fun r h c => by
    refine ⟨(h c).1.trans ?_, (h c).2.1.trans ?_, (h c).2.2⟩
    · generalize m ((c.tc : Thread nD τ).loc main_arg0) = x, m ((c.tc : Thread nD τ).loc main_arg1) = x', m ((c.tc : Thread nD τ).loc main_arg4) = w, m ((c.tc : Thread nD τ).loc main_arg5) = y, m ((c.tc : Thread nD τ).loc main_arg7) = g
      funext i
      obtain ⟨p, q, rfl⟩ : ∃ (p : Fin 16384) (q : Fin 4096), i = ix2 p q := ⟨i 0, i 1, ValueIdx.eq_ix2 i⟩
      show _ = mixedAt 16384 4 4096 rfl x x' (stacked w) y g p q
      refine (prompt_flat _ p q).trans ?_
      exact congrArg₂ (· + ·) (prompt_split y p q) (congrArg₂ (· * ·) (prompt_gate g _ _ q)
        (((prompt_dot _ _ _ _ q).trans (Finset.sum_congr rfl fun k _ => congrArg₂ (· * ·) (prompt_split _ p k) rfl)).trans ((sum_halves _).trans (congrArg₂ (· + ·)
          (Finset.sum_congr rfl fun k _ => congrArg (· * _) (prompt_left x x' p k)) (Finset.sum_congr rfl fun k _ => congrArg (· * _) (prompt_right x x' p k))))))
    · generalize m ((c.tc : Thread nD τ).loc main_arg2) = x, m ((c.tc : Thread nD τ).loc main_arg3) = x', m ((c.tc : Thread nD τ).loc main_arg4) = w, m ((c.tc : Thread nD τ).loc main_arg6) = y, m ((c.tc : Thread nD τ).loc main_arg8) = g
      funext i
      obtain ⟨p, q, rfl⟩ : ∃ (p : Fin 128) (q : Fin 4096), i = ix2 p q := ⟨i 0, i 1, ValueIdx.eq_ix2 i⟩
      show _ = mixedAt 128 8 16 rfl x x' (stacked w) y g p q
      refine (sample_flat _ p q).trans ?_
      exact congrArg₂ (· + ·) (sample_split y p q) (congrArg₂ (· * ·) (sample_gate g _ _ q)
        (((sample_dot _ _ _ _ q).trans (Finset.sum_congr rfl fun k _ => congrArg₂ (· * ·) (sample_split _ p k) rfl)).trans ((sum_halves _).trans (congrArg₂ (· + ·)
          (Finset.sum_congr rfl fun k _ => congrArg (· * _) (sample_left x x' p k)) (Finset.sum_congr rfl fun k _ => congrArg (· * _) (sample_right x x' p k))))))

/-- Every run of the reference ends, its arguments as they were and every counter at zero (it has no counter). -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_mono (run m ρ) fun r h => ⟨fun c => (h c).2.2, sem_eq_zero_of_no_sems (by decide) r.2⟩

end Cert.Proof.EvenOutRef

namespace Cert.Proof

open Idealize.ShloMosaic Idealize.ShloMosaic.TcCoe

theorem even_out_same : Cert.algebraic_EvenOutIdeal_EvenOutRefIdeal (hEvenOutIdeal := Cert.EvenOutIdeal.Gen.facts) (hEvenOutRefIdeal := Cert.EvenOutRefIdeal.Gen.facts) := by
  intro m g m' g' _ hagree
  refine ⟨fun c => mixedArr 16384 4 4096 rfl (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (stacked (m ((c.tc : Thread Cert.EvenOutIdeal.nD Cert.EvenOutIdeal.τ).loc Cert.EvenOutIdeal.main_arg4))) (m ((c.tc : Thread Cert.EvenOutIdeal.nD Cert.EvenOutIdeal.τ).loc Cert.EvenOutIdeal.main_arg5)) (m ((c.tc : Thread Cert.EvenOutIdeal.nD Cert.EvenOutIdeal.τ).loc Cert.EvenOutIdeal.main_arg7)),
    fun c => mixedArr 128 8 16 rfl (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (stacked (m ((c.tc : Thread Cert.EvenOutIdeal.nD Cert.EvenOutIdeal.τ).loc Cert.EvenOutIdeal.main_arg4))) (m ((c.tc : Thread Cert.EvenOutIdeal.nD Cert.EvenOutIdeal.τ).loc Cert.EvenOutIdeal.main_arg6)) (m ((c.tc : Thread Cert.EvenOutIdeal.nD Cert.EvenOutIdeal.τ).loc Cert.EvenOutIdeal.main_arg8)),
    EvenOutIdeal.run m g, ?_⟩
  refine θ_run_mono (EvenOutRef.run m' g') fun r h c => ?_
  obtain ⟨h0, h1, h2⟩ := h c
  obtain ⟨e0, e1, e2, e3, e4, e5, e6, e7, e8⟩ := hagree c
  refine ⟨h0.trans ?_, h1.trans ?_, h2⟩
  · rw [e0, e1, e4, e5, e7]
  · rw [e2, e3, e4, e6, e8]

end Cert.Proof

end

end
-- ==== Proof.lean ====
module

public import proofs.«01_k».proof.Defs
public import proofs.«01_k».proof.Proof.Gen.Scan
public import proofs.«01_k».proof.Proof.Gen.ScanIdeal
public import proofs.«01_k».proof.Proof.ScanFrame
public import proofs.«01_k».proof.Proof.ScanIdealFrame
public import proofs.«01_k».proof.Proof.Gen.ScanRefIdeal
public import proofs.«01_k».proof.Proof.Gen.ScanRefIdeal.Run
public import proofs.«01_k».proof.Proof.ScanSame
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.FfnInFrame
public import proofs.«01_k».proof.Proof.FfnInSame
public import proofs.«01_k».proof.Proof.Gen.FfnInRefIdeal
public import proofs.«01_k».proof.Proof.Gen.FfnInRefIdeal.Run
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.FfnOutFrame
public import proofs.«01_k».proof.Proof.FfnOutSame
public import proofs.«01_k».proof.Proof.Gen.FfnOutRefIdeal
public import proofs.«01_k».proof.Proof.Gen.FfnOutRefIdeal.Run
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.OddInFrame
public import proofs.«01_k».proof.Proof.OddInSame
public import proofs.«01_k».proof.Proof.Gen.OddInRefIdeal
public import proofs.«01_k».proof.Proof.Gen.OddInRefIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.EvenInFrame
public import proofs.«01_k».proof.Proof.EvenInSame
public import proofs.«01_k».proof.Proof.Gen.EvenInRefIdeal
public import proofs.«01_k».proof.Proof.Gen.EvenInRefIdeal.Run
public import proofs.«01_k».proof.Proof.Gen.OddOut
public import proofs.«01_k».proof.Proof.Gen.OddOut.Frame
public import proofs.«01_k».proof.Proof.Gen.OddOutIdeal
public import proofs.«01_k».proof.Proof.Gen.OddOutIdeal.Frame
public import proofs.«01_k».proof.Proof.OddOutFrame
public import proofs.«01_k».proof.Proof.OddOutSame
public import proofs.«01_k».proof.Proof.Gen.OddOutRefIdeal
public import proofs.«01_k».proof.Proof.Gen.OddOutRefIdeal.Run
public import proofs.«01_k».proof.Proof.Gen.EvenOut
public import proofs.«01_k».proof.Proof.Gen.EvenOut.Frame
public import proofs.«01_k».proof.Proof.Gen.EvenOutIdeal
public import proofs.«01_k».proof.Proof.Gen.EvenOutIdeal.Frame
public import proofs.«01_k».proof.Proof.EvenOutFrame
public import proofs.«01_k».proof.Proof.EvenOutSame
public import proofs.«01_k».proof.Proof.Gen.EvenOutRefIdeal
public import proofs.«01_k».proof.Proof.Gen.EvenOutRefIdeal.Run
public import Idealize.ShloMosaic.Adequacy
public import Idealize.ShloMosaic.Init

@[expose] public section

noncomputable section

namespace Cert.Proof

theorem claim : Cert.Claim := ⟨Cert.Scan.Gen.facts, Cert.ScanIdeal.Gen.facts, Cert.ScanRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.OddIn.Gen.facts, Cert.OddInIdeal.Gen.facts, Cert.OddInRefIdeal.Gen.facts,
  Cert.EvenIn.Gen.facts, Cert.EvenInIdeal.Gen.facts, Cert.EvenInRefIdeal.Gen.facts,
  Cert.OddOut.Gen.facts, Cert.OddOutIdeal.Gen.facts, Cert.OddOutRefIdeal.Gen.facts,
  Cert.EvenOut.Gen.facts, Cert.EvenOutIdeal.Gen.facts, Cert.EvenOutRefIdeal.Gen.facts,
  fun m ρ _ => Cert.Proof.Scan.frame m ρ, fun m ρ _ => Cert.Proof.ScanIdeal.frame m ρ, fun m ρ _ => Cert.Proof.ScanRef.frame m ρ,
  fun m ρ _ => Cert.Proof.FfnIn.frame m ρ, fun m ρ _ => Cert.Proof.FfnInIdeal.frame m ρ, fun m ρ _ => Cert.Proof.FfnInRef.frame m ρ,
  fun m ρ _ => Cert.Proof.FfnOut.frame m ρ, fun m ρ _ => Cert.Proof.FfnOutIdeal.frame m ρ, fun m ρ _ => Cert.Proof.FfnOutRef.frame m ρ,
  fun m ρ _ => Cert.Proof.OddIn.frame m ρ, fun m ρ _ => Cert.Proof.OddInIdeal.frame m ρ, fun m ρ _ => Cert.Proof.OddInRef.frame m ρ,
  fun m ρ _ => Cert.Proof.EvenIn.frame m ρ, fun m ρ _ => Cert.Proof.EvenInIdeal.frame m ρ, fun m ρ _ => Cert.Proof.EvenInRef.frame m ρ,
  fun m ρ _ => Cert.Proof.OddOut.frame m ρ, fun m ρ _ => Cert.Proof.OddOutIdeal.frame m ρ, fun m ρ _ => Cert.Proof.OddOutRef.frame m ρ,
  fun m ρ _ => Cert.Proof.EvenOut.frame m ρ, fun m ρ _ => Cert.Proof.EvenOutIdeal.frame m ρ, fun m ρ _ => Cert.Proof.EvenOutRef.frame m ρ,
  trivial, scan_same, trivial, ffn_in_same, trivial, ffn_out_same, trivial, odd_in_same, trivial, even_in_same, trivial, odd_out_same, trivial, even_out_same⟩

end Cert.Proof

end

end
